-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v28_0)) (v1 : (c : Dev Cert.Kernel6Ideal.nD) → Buf (Elt Ideal) ((c.tc : Thread Cert.Kernel6Ideal.nD Cert.Kernel6Ideal.τ).loc Cert.Kernel6Ideal.main_v28_1)) (v2 : (c : Dev Cert.Kernel6Ideal.nD) → Buf (Elt Ideal) ((c.tc : Thread Cert.Kernel6Ideal.nD Cert.Kernel6Ideal.τ).loc Cert.Kernel6Ideal.main_v28_2)) (v3 : (c : Dev Cert.Kernel6Ideal.nD) → Buf (Elt Ideal) ((c.tc : Thread Cert.Kernel6Ideal.nD Cert.Kernel6Ideal.τ).loc Cert.Kernel6Ideal.main_v28_3)) (v4 : (c : Dev Cert.Kernel6Ideal.nD) → Buf (Elt Ideal) ((c.tc : Thread Cert.Kernel6Ideal.nD Cert.Kernel6Ideal.τ).loc Cert.Kernel6Ideal.main_v28_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28_0) = v0 c
          ∧ r.2.mem ((c.tc : Thread Cert.Kernel6Ideal.nD Cert.Kernel6Ideal.τ).loc Cert.Kernel6Ideal.main_v28_1) = v1 c
          ∧ r.2.mem ((c.tc : Thread Cert.Kernel6Ideal.nD Cert.Kernel6Ideal.τ).loc Cert.Kernel6Ideal.main_v28_2) = v2 c
          ∧ r.2.mem ((c.tc : Thread Cert.Kernel6Ideal.nD Cert.Kernel6Ideal.τ).loc Cert.Kernel6Ideal.main_v28_3) = v3 c
          ∧ r.2.mem ((c.tc : Thread Cert.Kernel6Ideal.nD Cert.Kernel6Ideal.τ).loc Cert.Kernel6Ideal.main_v28_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v80) = v1 c
          ∧ r.2.mem ((c.tc : Thread Cert.Reference6Ideal.nD Cert.Reference6Ideal.τ).loc Cert.Reference6Ideal.main_v60) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_v37) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S8192x8x64 : Shape := ⟨3, ![8192, 8, 64]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel

variable [Facts]

def fn_part1 {F : FTy → Type} [FloatOps F] (main_v8 : IVec S_ 1) (main_v12 : IVec S_ 1) (main_v15 : IVec S8192x8x64 1) (main_c_5 : IVec S_ 1) : IVec S_ 1 :=
  let main_v16 : IVec S_ 1 := (fun x v => Host.reduce IntOp.andi x v reducesTo_S8192x8x64_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S8192x8x64 .f32) (main_arg1 : FVec F S8192x8x64 .f32) (main_arg2 : FVec F S8192x8x64 .f32) (main_arg3 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : FVec F S8192x8x64 .f32 := Host.absf main_arg3
  let main_cst_4 : FVec F S_ .f32 := constant S_ .f32 0x7F800000#32
  let main_v14 : FVec F S8192x8x64 .f32 := broadcastInDim S8192x8x64 ![] bcast_S_S8192x8x64 main_cst_4
  let main_v15 : IVec S8192x8x64 1 := cmpf .olt main_v13 main_v14
  let main_c_5 : IVec S_ 1 := constantI S_ 1 1#1
  fn_part1 (F := F) main_v8 main_v12 main_v15 main_c_5
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v8 : IVec S_ 1) (main_v12 : IVec S_ 1) (main_v15 : IVec S8192x1024 1) (main_c_5 : IVec S_ 1) : IVec S_ 1 :=
  let main_v16 : IVec S_ 1 := (fun x v => Host.reduce IntOp.andi x v reducesTo_S8192x1024_S_d0_1 h_S_) main_v15 main_c_5
  let main_v17 : IVec S_ 1 := andi main_v12 main_v16
  let main_v18 : IVec S_ 1 := andi main_v8 main_v17
  main_v18

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : FVec F S8192x1024 .f32 := Host.absf main_arg3
  let main_cst_4 : FVec F S_ .f32 := constant S_ .f32 0x7F800000#32
  let main_v14 : FVec F S8192x1024 .f32 := broadcastInDim S8192x1024 ![] bcast_S_S8192x1024 main_cst_4
  let main_v15 : IVec S8192x1024 1 := cmpf .olt main_v13 main_v14
  let main_c_5 : IVec S_ 1 := constantI S_ 1 1#1
  fn_part1 (F := F) main_v8 main_v12 main_v15 main_c_5
-- ==== Pre_finite3.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S1x1024 .f32) (main_v8 : IVec S_ 1) (main_v12 : IVec S_ 1) (main_v15 : IVec S8192x1024 1) (main_c_5 : IVec S_ 1) : IVec S_ 1 :=
  let main_v16 : IVec S_ 1 := (fun x v => Host.reduce IntOp.andi x v reducesTo_S8192x1024_S_d0_1 h_S_) main_v15 main_c_5
  let main_v17 : IVec S_ 1 := andi main_v12 main_v16
  let main_v18 : IVec S_ 1 := andi main_v8 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : IVec S_ 1 := andi main_v22 main_v26
  let main_v28 : IVec S_ 1 := andi main_v18 main_v27
  main_v28

def fn {F : FTy → Type} [FloatOps F] (main_arg0 : FVec F S8192x2816 .f32) (main_arg1 : FVec F S8192x2816 .f32) (main_arg2 : FVec F S1024x5632 .f32) (main_arg3 : FVec F S8192x1024 .f32) (main_arg4 : FVec F S8192x1024 .f32) (main_arg5 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : FVec F S8192x1024 .f32 := Host.absf main_arg3
  let main_cst_4 : FVec F S_ .f32 := constant S_ .f32 0x7F800000#32
  let main_v14 : FVec F S8192x1024 .f32 := broadcastInDim S8192x1024 ![] bcast_S_S8192x1024 main_cst_4
  let main_v15 : IVec S8192x1024 1 := cmpf .olt main_v13 main_v14
  let main_c_5 : IVec S_ 1 := constantI S_ 1 1#1
  fn_part1 (F := F) main_arg4 main_arg5 main_v8 main_v12 main_v15 main_c_5
-- ==== Pre_finite5.lean ====
abbrev S8192x512 : Shape := ⟨2, ![8192, 512]⟩
abbrev S8192x256 : Shape := ⟨2, ![8192, 256]⟩
abbrev S1024x2304 : Shape := ⟨2, ![1024, 2304]⟩
abbrev S8192x1024 : Shape := ⟨2, ![8192, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x2304 : S_.BroadcastsInDim S1024x2304 (![] : Fin 0 → Fin S1024x2304.rank)
  reducesTo_S1024x2304_S_d0_1 : S1024x2304.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v18 : IVec S_ 1) (main_v27 : IVec S_ 1) (main_v31 : IVec S_ 1) (main_v32 : FVec F S8192x1024 .f32) (main_cst_12 : FVec F S_ .f32) : IVec S_ 1 :=
  let main_v33 : FVec F S8192x1024 .f32 := broadcastInDim S8192x1024 ![] bcast_S_S8192x1024 main_cst_12
  let main_v34 : IVec S8192x1024 1 := cmpf .olt main_v32 main_v33
  let main_c_13 : IVec S_ 1 := constantI S_ 1 1#1
  let main_v35 : IVec S_ 1 := (fun x v => Host.reduce IntOp.andi x v reducesTo_S8192x1024_S_d0_1 h_S_) main_v34 main_c_13
  let main_v36 : FVec F S1x1024 .f32 := Host.absf main_arg8
  let main_cst_14 : FVec F S_ .f32 := constant S_ .f32 0x7F800000#32
  let main_v37 : FVec F S1x1024 .f32 := broadcastInDim S1x1024 ![] bcast_S_S1x1024 main_cst_14
  let main_v38 : IVec S1x1024 1 := cmpf .olt main_v36 main_v37
  let main_c_15 : IVec S_ 1 := constantI S_ 1 1#1
  let main_v39 : IVec S_ 1 := (fun x v => Host.reduce IntOp.andi x v reducesTo_S1x1024_S_d0_1 h_S_) main_v38 main_c_15
  let main_v40 : IVec S_ 1 := andi main_v35 main_v39
  let main_v41 : IVec S_ 1 := andi main_v31 main_v40
  let main_v42 : IVec S_ 1 := andi main_v27 main_v41
  let main_v43 : IVec S_ 1 := andi main_v18 main_v42
  main_v43

def fn_part1 {F : FTy → Type} [FloatOps F] (main_arg4 : FVec F S8192x256 .f32) (main_arg5 : FVec F S1024x2304 .f32) (main_arg6 : FVec F S8192x1024 .f32) (main_arg7 : FVec F S8192x1024 .f32) (main_arg8 : FVec F S1x1024 .f32) (main_v8 : IVec S_ 1) (main_v12 : IVec S_ 1) (main_v15 : IVec S8192x512 1) (main_c_5 : IVec S_ 1) : IVec S_ 1 :=
  let main_v16 : IVec S_ 1 := (fun x v => Host.reduce IntOp.andi x v reducesTo_S8192x512_S_d0_1 h_S_) main_v15 main_c_5
  let main_v17 : IVec S_ 1 := andi main_v12 main_v16
  let main_v18 : IVec S_ 1 := andi main_v8 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : FVec F S1024x2304 .f32 := Host.absf main_arg5
  let main_cst_8 : FVec F S_ .f32 := constant S_ .f32 0x7F800000#32
  let main_v24 : FVec F S1024x2304 .f32 := broadcastInDim S1024x2304 ![] bcast_S_S1024x2304 main_cst_8
  let main_v25 : IVec S1024x2304 1 := cmpf .olt main_v23 main_v24
  let main_c_9 : IVec S_ 1 := constantI S_ 1 1#1
  let main_v26 : IVec S_ 1 := (fun x v => Host.reduce IntOp.andi x v reducesTo_S1024x2304_S_d0_1 h_S_) main_v25 main_c_9
  let main_v27 : IVec S_ 1 := andi main_v22 main_v26
  let main_v28 : FVec F S8192x1024 .f32 := Host.absf main_arg6
  let main_cst_10 : FVec F S_ .f32 := constant S_ .f32 0x7F800000#32
  let main_v29 : FVec F S8192x1024 .f32 := broadcastInDim S8192x1024 ![] bcast_S_S8192x1024 main_cst_10
  let main_v30 : IVec S8192x1024 1 := cmpf .olt main_v28 main_v29
  let main_c_11 : IVec S_ 1 := constantI S_ 1 1#1
  let main_v31 : IVec S_ 1 := (fun x v => Host.reduce IntOp.andi x v reducesTo_S8192x1024_S_d0_1 h_S_) main_v30 main_c_11
  let main_v32 : FVec F S8192x1024 .f32 := Host.absf main_arg7
  let main_cst_12 : FVec F S_ .f32 := constant S_ .f32 0x7F800000#32
  fn_part2 (F := F) main_arg8 main_v18 main_v27 main_v31 main_v32 main_cst_12

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x256 .f32) (main_arg5 : FVec F S1024x2304 .f32) (main_arg6 : FVec F S8192x1024 .f32) (main_arg7 : FVec F S8192x1024 .f32) (main_arg8 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : FVec F S8192x512 .f32 := Host.absf main_arg3
  let main_cst_4 : FVec F S_ .f32 := constant S_ .f32 0x7F800000#32
  let main_v14 : FVec F S8192x512 .f32 := broadcastInDim S8192x512 ![] bcast_S_S8192x512 main_cst_4
  let main_v15 : IVec S8192x512 1 := cmpf .olt main_v13 main_v14
  let main_c_5 : IVec S_ 1 := constantI S_ 1 1#1
  fn_part1 (F := F) main_arg4 main_arg5 main_arg6 main_arg7 main_arg8 main_v8 main_v12 main_v15 main_c_5
-- ==== Pre_finite7.lean ====
abbrev S8192x1024 : Shape := ⟨2, ![8192, 1024]⟩
abbrev S1024x5632 : Shape := ⟨2, ![1024, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8192x1024 .f32) (main_arg1 : FVec F S1024x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Kernel.lean ====
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x32 : Shape := ⟨3, ![8, 8192, 32]⟩
abbrev S8x32x256x32 : Shape := ⟨4, ![8, 32, 256, 32]⟩
abbrev S8x32x32x256 : Shape := ⟨4, ![8, 32, 32, 256]⟩
abbrev S8x32x32x1x256 : Shape := ⟨5, ![8, 32, 32, 1, 256]⟩
abbrev S8x32x32x8x256 : Shape := ⟨5, ![8, 32, 32, 8, 256]⟩
abbrev S1x32x8x128 : Shape := ⟨4, ![1, 32, 8, 128]⟩
abbrev S8x64x8192 : Shape := ⟨3, ![8, 64, 8192]⟩
abbrev S32x256x8x64 : Shape := ⟨4, ![32, 256, 8, 64]⟩
abbrev S8x32x256x64 : Shape := ⟨4, ![8, 32, 256, 64]⟩
abbrev S8x32x64x256 : Shape := ⟨4, ![8, 32, 64, 256]⟩
abbrev S8192x512 : Shape := ⟨2, ![8192, 512]⟩
abbrev S4x64x256 : Shape := ⟨3, ![4, 64, 256]⟩
abbrev S4x32x256x64 : Shape := ⟨4, ![4, 32, 256, 64]⟩
abbrev S4x32x64x256 : Shape := ⟨4, ![4, 32, 64, 256]⟩
abbrev S4x1x32x8x256 : Shape := ⟨5, ![4, 1, 32, 8, 256]⟩
abbrev S1x1x8x128 : Shape := ⟨4, ![1, 1, 8, 128]⟩
abbrev S256x256 : Shape := ⟨2, ![256, 256]⟩
abbrev S8192x256 : Shape := ⟨2, ![8192, 256]⟩
abbrev S32x256x256 : Shape := ⟨3, ![32, 256, 256]⟩
abbrev S1x64x256 : Shape := ⟨3, ![1, 64, 256]⟩
abbrev S64x256 : Shape := ⟨2, ![64, 256]⟩
abbrev S8x128 : Shape := ⟨2, ![8, 128]⟩
abbrev S1x1 : Shape := ⟨2, ![1, 1]⟩
abbrev S1x1x1 : Shape := ⟨3, ![1, 1, 1]⟩
abbrev S1 : Shape := ⟨1, ![1]⟩
abbrev S1x256 : Shape := ⟨2, ![1, 256]⟩
abbrev S1x1x256x64 : Shape := ⟨4, ![1, 1, 256, 64]⟩
abbrev S256x64 : Shape := ⟨2, ![256, 64]⟩
abbrev S1x1x1x8x256 : Shape := ⟨5, ![1, 1, 1, 8, 256]⟩
abbrev S8x256 : Shape := ⟨2, ![8, 256]⟩
abbrev S1x1x64x256 : Shape := ⟨4, ![1, 1, 64, 256]⟩
abbrev S256 : Shape := ⟨1, ![256]⟩
abbrev S1x256x256 : Shape := ⟨3, ![1, 256, 256]⟩

abbrev nBuf : Space → Nat
  | .hbm => 63
  | .vmem => 17
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S_, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S_, .f32⟩
  | .hbm, ⟨38, _⟩ => ⟨S8x8192x8192, .f32⟩
  | .hbm, ⟨39, _⟩ => ⟨S8x8192x8192, .f32⟩
  | .hbm, ⟨40, _⟩ => ⟨S8x8192x32, .f32⟩
  | .hbm, ⟨41, _⟩ => ⟨S8x32x256x32, .f32⟩
  | .hbm, ⟨42, _⟩ => ⟨S8x32x32x256, .f32⟩
  | .hbm, ⟨43, _⟩ => ⟨S8x32x32x1x256, .f32⟩
  | .hbm, ⟨44, _⟩ => ⟨S8x32x32x8x256, .f32⟩
  | .hbm, ⟨45, _⟩ => ⟨S_, .f32⟩
  | .hbm, ⟨46, _⟩ => ⟨S1x32x8x128, .f32⟩
  | .hbm, ⟨47, _⟩ => ⟨S8x64x8192, .f32⟩
  | .hbm, ⟨48, _⟩ => ⟨S8x64x8192, .bf16⟩
  | .hbm, ⟨49, _⟩ => ⟨S32x256x8x64, .f32⟩
  | .hbm, ⟨50, _⟩ => ⟨S8x32x256x64, .f32⟩
  | .hbm, ⟨51, _⟩ => ⟨S8x32x256x64, .bf16⟩
  | .hbm, ⟨52, _⟩ => ⟨S32x256x8x64, .f32⟩
  | .hbm, ⟨53, _⟩ => ⟨S8x32x64x256, .f32⟩
  | .hbm, ⟨54, _⟩ => ⟨S8x32x64x256, .bf16⟩
  | .hbm, ⟨55, _⟩ => ⟨S32x256x8x64, .f32⟩
  | .hbm, ⟨56, _⟩ => ⟨S8x32x256x64, .f32⟩
  | .hbm, ⟨57, _⟩ => ⟨S8x32x256x64, .bf16⟩
  | .hbm, ⟨58, _⟩ => ⟨S8x64x8192, .f32⟩
  | .hbm, ⟨59, _⟩ => ⟨S8x64x8192, .bf16⟩
  | .hbm, ⟨60, _⟩ => ⟨S8192x512, .bf16⟩
  | .hbm, ⟨61, _⟩ => ⟨S8192x512, .bf16⟩
  | .hbm, ⟨62, _⟩ => ⟨S8192x512, .bf16⟩
  | .local _ .vmem, ⟨0, _⟩ => ⟨S4x64x256, .bf16⟩
  | .local _ .vmem, ⟨1, _⟩ => ⟨S4x64x256, .bf16⟩
  | .local _ .vmem, ⟨2, _⟩ => ⟨S4x32x256x64, .bf16⟩
  | .local _ .vmem, ⟨3, _⟩ => ⟨S4x32x64x256, .bf16⟩
  | .local _ .vmem, ⟨4, _⟩ => ⟨S4x32x256x64, .bf16⟩
  | .local _ .vmem, ⟨5, _⟩ => ⟨S4x64x256, .bf16⟩
  | .local _ .vmem, ⟨6, _⟩ => ⟨S4x64x256, .bf16⟩
  | .local _ .vmem, ⟨7, _⟩ => ⟨S4x1x32x8x256, .f32⟩
  | .local _ .vmem, ⟨8, _⟩ => ⟨S4x1x32x8x256, .f32⟩
  | .local _ .vmem, ⟨9, _⟩ => ⟨S1x1x8x128, .f32⟩
  | .local _ .vmem, ⟨10, _⟩ => ⟨S1x1x8x128, .f32⟩
  | .local _ .vmem, ⟨11, _⟩ => ⟨S256x256, .bf16⟩
  | .local _ .vmem, ⟨12, _⟩ => ⟨S256x256, .bf16⟩
  | .local _ .vmem, ⟨13, _⟩ => ⟨S8192x256, .bf16⟩
  | .local _ .vmem, ⟨14, _⟩ => ⟨S8192x256, .bf16⟩
  | .local _ .vmem, ⟨15, _⟩ => ⟨S32x256x256, .f32⟩
  | .local _ .vmem, ⟨16, _⟩ => ⟨S32x256x256, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_call2_cst : Ref sig .tc := ⟨.hbm, 36, rfl⟩
abbrev main_call2_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33_0 : Ref sig .tc := ⟨.hbm, 60, rfl⟩
abbrev main_v33_1 : Ref sig .tc := ⟨.hbm, 61, rfl⟩
abbrev main_v33_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![2, 32], ![false, false]⟩

@[reducible] def k0_t1_loop (i : grid0.Coords) (v53 : BitVec 32) : Scf.Loop 32 :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_38 : BitVec 32 := 1#32
  ⟨v55, v68, c1_i32_38⟩

def k0_off1 (i : grid0.Coords) (v53 : BitVec 32) (k0_t1 : Fin (k0_t1_loop i v53).trips) : Fin 4 → Nat :=
  let c0_189 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v404 : Index := Scalar.indexCast arg14
  let c0_190 : Index := 0#32
  let c0_191 : Index := 0#32
  ![0, v404.toNat, 0, 0]
def k0_off2 (i : grid0.Coords) (v53 : BitVec 32) (k0_t1 : Fin (k0_t1_loop i v53).trips) : Fin 4 → Nat :=
  let c1_193 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v408 : Index := Scalar.indexCast arg14
  let c0_194 : Index := 0#32
  let c0_195 : Index := 0#32
  ![1, v408.toNat, 0, 0]
def k0_off3 (i : grid0.Coords) (v53 : BitVec 32) (k0_t1 : Fin (k0_t1_loop i v53).trips) : Fin 4 → Nat :=
  let c2_197 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v412 : Index := Scalar.indexCast arg14
  let c0_198 : Index := 0#32
  let c0_199 : Index := 0#32
  ![2, v412.toNat, 0, 0]
def k0_off4 (i : grid0.Coords) (v53 : BitVec 32) (k0_t1 : Fin (k0_t1_loop i v53).trips) : Fin 4 → Nat :=
  let c3_201 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v416 : Index := Scalar.indexCast arg14
  let c0_202 : Index := 0#32
  let c0_203 : Index := 0#32
  ![3, v416.toNat, 0, 0]
def k0_off5 (i : grid0.Coords) (v53 : BitVec 32) (k0_t1 : Fin (k0_t1_loop i v53).trips) : Fin 5 → Nat :=
  let c0_241 : Index := 0#32
  let c0_242 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v508 : Index := Scalar.indexCast arg14
  let c0_243 : Index := 0#32
  let c0_244 : Index := 0#32
  ![0, 0, v508.toNat, 0, 0]
def k0_off6 (i : grid0.Coords) (v53 : BitVec 32) (k0_t1 : Fin (k0_t1_loop i v53).trips) : Fin 5 → Nat :=
  let c1_245 : Index := 1#32
  let c0_246 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v516 : Index := Scalar.indexCast arg14
  let c0_247 : Index := 0#32
  let c0_248 : Index := 0#32
  ![1, 0, v516.toNat, 0, 0]
def k0_off7 (i : grid0.Coords) (v53 : BitVec 32) (k0_t1 : Fin (k0_t1_loop i v53).trips) : Fin 5 → Nat :=
  let c2_249 : Index := 2#32
  let c0_250 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v524 : Index := Scalar.indexCast arg14
  let c0_251 : Index := 0#32
  let c0_252 : Index := 0#32
  ![2, 0, v524.toNat, 0, 0]
def k0_off8 (i : grid0.Coords) (v53 : BitVec 32) (k0_t1 : Fin (k0_t1_loop i v53).trips) : Fin 5 → Nat :=
  let c3_253 : Index := 3#32
  let c0_254 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v532 : Index := Scalar.indexCast arg14
  let c0_255 : Index := 0#32
  let c0_256 : Index := 0#32
  ![3, 0, v532.toNat, 0, 0]
def k0_off9 (i : grid0.Coords) (v53 : BitVec 32) (k0_t1 : Fin (k0_t1_loop i v53).trips) : Fin 4 → Nat :=
  let c0_269 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v608 : Index := Scalar.indexCast arg14
  let c0_270 : Index := 0#32
  let c0_271 : Index := 0#32
  ![0, v608.toNat, 0, 0]
def k0_off10 (i : grid0.Coords) (v53 : BitVec 32) (k0_t1 : Fin (k0_t1_loop i v53).trips) : Fin 4 → Nat :=
  let c1_273 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v613 : Index := Scalar.indexCast arg14
  let c0_274 : Index := 0#32
  let c0_275 : Index := 0#32
  ![1, v613.toNat, 0, 0]
def k0_off11 (i : grid0.Coords) (v53 : BitVec 32) (k0_t1 : Fin (k0_t1_loop i v53).trips) : Fin 4 → Nat :=
  let c2_277 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v618 : Index := Scalar.indexCast arg14
  let c0_278 : Index := 0#32
  let c0_279 : Index := 0#32
  ![2, v618.toNat, 0, 0]
def k0_off12 (i : grid0.Coords) (v53 : BitVec 32) (k0_t1 : Fin (k0_t1_loop i v53).trips) : Fin 4 → Nat :=
  let c3_281 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v623 : Index := Scalar.indexCast arg14
  let c0_282 : Index := 0#32
  let c0_283 : Index := 0#32
  ![3, v623.toNat, 0, 0]
def k0_off13 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v628 : Index := Scalar.indexCast arg14
  let c0_285 : Index := 0#32
  let c0_286 : Index := 0#32
  ![v628.toNat, 0, 0]
def k0_off14 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v637 : Index := Scalar.indexCast arg14
  let c64_290 : Index := 64#32
  let c0_291 : Index := 0#32
  ![v637.toNat, 64, 0]
def k0_off15 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v646 : Index := Scalar.indexCast arg14
  let c128_295 : Index := 128#32
  let c0_296 : Index := 0#32
  ![v646.toNat, 128, 0]
def k0_off16 (i : grid0.Coords) (v53 : BitVec 32) (k0_t1 : Fin (k0_t1_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let c1_i32_38 : BitVec 32 := 1#32
  let arg14 : BitVec 32 := Scf.iv v55 c1_i32_38 k0_t1
  let v655 : Index := Scalar.indexCast arg14
  let c192_300 : Index := 192#32
  let c0_301 : Index := 0#32
  ![v655.toNat, 192, 0]
@[reducible] def k0_t2_loop (i : grid0.Coords) (v53 : BitVec 32) : Scf.Loop 32 :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let v65 : BitVec 32 := Scalar.addi v55 v64
  let c1_i32_39 : BitVec 32 := 1#32
  ⟨v68, v65, c1_i32_39⟩
def k0_off17 (i : grid0.Coords) (v53 : BitVec 32) (k0_t2 : Fin (k0_t2_loop i v53).trips) : Fin 4 → Nat :=
  let c0_189 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v404 : Index := Scalar.indexCast arg14
  let c0_190 : Index := 0#32
  let c0_191 : Index := 0#32
  ![0, v404.toNat, 0, 0]
def k0_off18 (i : grid0.Coords) (v53 : BitVec 32) (k0_t2 : Fin (k0_t2_loop i v53).trips) : Fin 4 → Nat :=
  let c1_193 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v408 : Index := Scalar.indexCast arg14
  let c0_194 : Index := 0#32
  let c0_195 : Index := 0#32
  ![1, v408.toNat, 0, 0]
def k0_off19 (i : grid0.Coords) (v53 : BitVec 32) (k0_t2 : Fin (k0_t2_loop i v53).trips) : Fin 4 → Nat :=
  let c2_197 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v412 : Index := Scalar.indexCast arg14
  let c0_198 : Index := 0#32
  let c0_199 : Index := 0#32
  ![2, v412.toNat, 0, 0]
def k0_off20 (i : grid0.Coords) (v53 : BitVec 32) (k0_t2 : Fin (k0_t2_loop i v53).trips) : Fin 4 → Nat :=
  let c3_201 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v416 : Index := Scalar.indexCast arg14
  let c0_202 : Index := 0#32
  let c0_203 : Index := 0#32
  ![3, v416.toNat, 0, 0]
def k0_off21 (i : grid0.Coords) (v53 : BitVec 32) (k0_t2 : Fin (k0_t2_loop i v53).trips) : Fin 5 → Nat :=
  let c0_241 : Index := 0#32
  let c0_242 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v508 : Index := Scalar.indexCast arg14
  let c0_243 : Index := 0#32
  let c0_244 : Index := 0#32
  ![0, 0, v508.toNat, 0, 0]
def k0_off22 (i : grid0.Coords) (v53 : BitVec 32) (k0_t2 : Fin (k0_t2_loop i v53).trips) : Fin 5 → Nat :=
  let c1_245 : Index := 1#32
  let c0_246 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v516 : Index := Scalar.indexCast arg14
  let c0_247 : Index := 0#32
  let c0_248 : Index := 0#32
  ![1, 0, v516.toNat, 0, 0]
def k0_off23 (i : grid0.Coords) (v53 : BitVec 32) (k0_t2 : Fin (k0_t2_loop i v53).trips) : Fin 5 → Nat :=
  let c2_249 : Index := 2#32
  let c0_250 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v524 : Index := Scalar.indexCast arg14
  let c0_251 : Index := 0#32
  let c0_252 : Index := 0#32
  ![2, 0, v524.toNat, 0, 0]
def k0_off24 (i : grid0.Coords) (v53 : BitVec 32) (k0_t2 : Fin (k0_t2_loop i v53).trips) : Fin 5 → Nat :=
  let c3_253 : Index := 3#32
  let c0_254 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v532 : Index := Scalar.indexCast arg14
  let c0_255 : Index := 0#32
  let c0_256 : Index := 0#32
  ![3, 0, v532.toNat, 0, 0]
def k0_off25 (i : grid0.Coords) (v53 : BitVec 32) (k0_t2 : Fin (k0_t2_loop i v53).trips) : Fin 4 → Nat :=
  let c0_269 : Index := 0#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v608 : Index := Scalar.indexCast arg14
  let c0_270 : Index := 0#32
  let c0_271 : Index := 0#32
  ![0, v608.toNat, 0, 0]
def k0_off26 (i : grid0.Coords) (v53 : BitVec 32) (k0_t2 : Fin (k0_t2_loop i v53).trips) : Fin 4 → Nat :=
  let c1_273 : Index := 1#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v613 : Index := Scalar.indexCast arg14
  let c0_274 : Index := 0#32
  let c0_275 : Index := 0#32
  ![1, v613.toNat, 0, 0]
def k0_off27 (i : grid0.Coords) (v53 : BitVec 32) (k0_t2 : Fin (k0_t2_loop i v53).trips) : Fin 4 → Nat :=
  let c2_277 : Index := 2#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v618 : Index := Scalar.indexCast arg14
  let c0_278 : Index := 0#32
  let c0_279 : Index := 0#32
  ![2, v618.toNat, 0, 0]
def k0_off28 (i : grid0.Coords) (v53 : BitVec 32) (k0_t2 : Fin (k0_t2_loop i v53).trips) : Fin 4 → Nat :=
  let c3_281 : Index := 3#32
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v623 : Index := Scalar.indexCast arg14
  let c0_282 : Index := 0#32
  let c0_283 : Index := 0#32
  ![3, v623.toNat, 0, 0]
def k0_off29 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v628 : Index := Scalar.indexCast arg14
  let c0_285 : Index := 0#32
  let c0_286 : Index := 0#32
  ![v628.toNat, 0, 0]
def k0_off30 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v637 : Index := Scalar.indexCast arg14
  let c64_290 : Index := 64#32
  let c0_291 : Index := 0#32
  ![v637.toNat, 64, 0]
def k0_off31 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v646 : Index := Scalar.indexCast arg14
  let c128_295 : Index := 128#32
  let c0_296 : Index := 0#32
  ![v646.toNat, 128, 0]
def k0_off32 (i : grid0.Coords) (v53 : BitVec 32) (k0_t2 : Fin (k0_t2_loop i v53).trips) : Fin 3 → Nat :=
  let arg1 : BitVec 32 := BitVec.ofNat 32 (i 1).val
  let c0_i32_29 : BitVec 32 := 0#32
  let v54 : BitVec 32 := Scalar.maxsi c0_i32_29 v53
  let v55 : BitVec 32 := Scalar.minsi arg1 v54
  let v64 : BitVec 32 := Scalar.subi arg1 v55
  let c1_i32 : BitVec 32 := 1#32
  let v66 : BitVec 32 := Scalar.divsi v64 c1_i32
  let v67 : BitVec 32 := Scalar.muli v66 c1_i32
  let v68 : BitVec 32 := Scalar.addi v55 v67
  let c1_i32_39 : BitVec 32 := 1#32
  let arg14 : BitVec 32 := Scf.iv v68 c1_i32_39 k0_t2
  let v655 : Index := Scalar.indexCast arg14
  let c192_300 : Index := 192#32
  let c0_301 : Index := 0#32
  ![v655.toNat, 192, 0]

def k0_chk1_0 (i : grid0.Coords) (v53 : BitVec 32) : Prop :=
  ((k0_t1_loop i v53).OK) ∧
  (∀ k0_t1 : Fin (k0_t1_loop i v53).trips, ∀ a, (k0_off1 i v53 k0_t1) a + S1x1x256x64.size a ≤ S4x32x256x64.size a) ∧
  (∀ k0_t1 : Fin (k0_t1_loop i v53).trips, ∀ a, (k0_off2 i v53 k0_t1) a + S1x1x256x64.size a ≤ S4x32x256x64.size a) ∧
  (∀ k0_t1 : Fin (k0_t1_loop i v53).trips, ∀ a, (k0_off3 i v53 k0_t1) a + S1x1x256x64.size a ≤ S4x32x256x64.size a) ∧
  (∀ k0_t1 : Fin (k0_t1_loop i v53).trips, ∀ a, (k0_off4 i v53 k0_t1) a + S1x1x256x64.size a ≤ S4x32x256x64.size a) ∧
  (∀ k0_t1 : Fin (k0_t1_loop i v53).trips, ∀ a, (k0_off5 i v53 k0_t1) a + S1x1x1x8x256.size a ≤ S4x1x32x8x256.size a) ∧
  (∀ k0_t1 : Fin (k0_t1_loop i v53).trips, ∀ a, (k0_off6 i v53 k0_t1) a + S1x1x1x8x256.size a ≤ S4x1x32x8x256.size a) ∧
  (∀ k0_t1 : Fin (k0_t1_loop i v53).trips, ∀ a, (k0_off7 i v53 k0_t1) a + S1x1x1x8x256.size a ≤ S4x1x32x8x256.size a) ∧
  (∀ k0_t1 : Fin (k0_t1_loop i v53).trips, ∀ a, (k0_off8 i v53 k0_t1) a + S1x1x1x8x256.size a ≤ S4x1x32x8x256.size a) ∧
  (∀ k0_t1 : Fin (k0_t1_loop i v53).trips, ∀ a, (k0_off9 i v53 k0_t1) a + S1x1x64x256.size a ≤ S4x32x64x256.size a) ∧
  (∀ k0_t1 : Fin (k0_t1_loop i v53).trips, ∀ a, (k0_off10 i v53 k0_t1) a + S1x1x64x256.size a ≤ S4x32x64x256.size a) ∧
  (∀ k0_t1 : Fin (k0_t1_loop i v53).trips, ∀ a, (k0_off11 i v53 k0_t1) a + S1x1x64x256.size a ≤ S4x32x64x256.size a) ∧
  (∀ k0_t1 : Fin (k0_t1_loop i v53).trips, ∀ a, (k0_off12 i v53 k0_t1) a + S1x1x64x256.size a ≤ S4x32x64x256.size a) ∧
  (∀ k0_t1 : Fin (k0_t1_loop i v53).trips, ∀ a, (k0_off13 i v53 k0_t1) a + S1x64x256.size a ≤ S32x256x256.size a) ∧
  (∀ k0_t1 : Fin (k0_t1_loop i v53).trips, ∀ a, (k0_off14 i v53 k0_t1) a + S1x64x256.size a ≤ S32x256x256.size a) ∧
  (∀ k0_t1 : Fin (k0_t1_loop i v53).trips, ∀ a, (k0_off15 i v53 k0_t1) a + S1x64x256.size a ≤ S32x256x256.size a) ∧
  (∀ k0_t1 : Fin (k0_t1_loop i v53).trips, ∀ a, (k0_off16 i v53 k0_t1) a + S1x64x256.size a ≤ S32x256x256.size a) ∧
  ((k0_t2_loop i v53).OK) ∧
  (∀ k0_t2 : Fin (k0_t2_loop i v53).trips, ∀ a, (k0_off17 i v53 k0_t2) a + S1x1x256x64.size a ≤ S4x32x256x64.size a) ∧
  (∀ k0_t2 : Fin (k0_t2_loop i v53).trips, ∀ a, (k0_off18 i v53 k0_t2) a + S1x1x256x64.size a ≤ S4x32x256x64.size a) ∧
  (∀ k0_t2 : Fin (k0_t2_loop i v53).trips, ∀ a, (k0_off19 i v53 k0_t2) a + S1x1x256x64.size a ≤ S4x32x256x64.size a) ∧
  (∀ k0_t2 : Fin (k0_t2_loop i v53).trips, ∀ a, (k0_off20 i v53 k0_t2) a + S1x1x256x64.size a ≤ S4x32x256x64.size a) ∧
  (∀ k0_t2 : Fin (k0_t2_loop i v53).trips, ∀ a, (k0_off21 i v53 k0_t2) a + S1x1x1x8x256.size a ≤ S4x1x32x8x256.size a) ∧
  (∀ k0_t2 : Fin (k0_t2_loop i v53).trips, ∀ a, (k0_off22 i v53 k0_t2) a + S1x1x1x8x256.size a ≤ S4x1x32x8x256.size a) ∧
  (∀ k0_t2 : Fin (k0_t2_loop i v53).trips, ∀ a, (k0_off23 i v53 k0_t2) a + S1x1x1x8x256.size a ≤ S4x1x32x8x256.size a) ∧
  (∀ k0_t2 : Fin (k0_t2_loop i v53).trips, ∀ a, (k0_off24 i v53 k0_t2) a + S1x1x1x8x256.size a ≤ S4x1x32x8x256.size a) ∧
  (∀ k0_t2 : Fin (k0_t2_loop i v53).trips, ∀ a, (k0_off25 i v53 k0_t2) a + S1x1x64x256.size a ≤ S4x32x64x256.size a) ∧
  (∀ k0_t2 : Fin (k0_t2_loop i v53).trips, ∀ a, (k0_off26 i v53 k0_t2) a + S1x1x64x256.size a ≤ S4x32x64x256.size a) ∧
  (∀ k0_t2 : Fin (k0_t2_loop i v53).trips, ∀ a, (k0_off27 i v53 k0_t2) a + S1x1x64x256.size a ≤ S4x32x64x256.size a) ∧
  (∀ k0_t2 : Fin (k0_t2_loop i v53).trips, ∀ a, (k0_off28 i v53 k0_t2) a + S1x1x64x256.size a ≤ S4x32x64x256.size a) ∧
  (∀ k0_t2 : Fin (k0_t2_loop i v53).trips, ∀ a, (k0_off29 i v53 k0_t2) a + S1x64x256.size a ≤ S32x256x256.size a) ∧
  (∀ k0_t2 : Fin (k0_t2_loop i v53).trips, ∀ a, (k0_off30 i v53 k0_t2) a + S1x64x256.size a ≤ S32x256x256.size a)
def k0_chk1_1 (i : grid0.Coords) (v53 : BitVec 32) : Prop :=
  (∀ k0_t2 : Fin (k0_t2_loop i v53).trips, ∀ a, (k0_off31 i v53 k0_t2) a + S1x64x256.size a ≤ S32x256x256.size a) ∧
  (∀ k0_t2 : Fin (k0_t2_loop i v53).trips, ∀ a, (k0_off32 i v53 k0_t2) a + S1x64x256.size a ≤ S32x256x256.size a)
def k0_chk1 (i : grid0.Coords) (v53 : BitVec 32) : Prop :=
  k0_chk1_0 i v53 ∧
  k0_chk1_1 i v53
theorem k0_t1_ok : ∀ (i : grid0.Coords) (v53 : BitVec 32) (k0_hw1 : k0_chk1 i v53), (k0_t1_loop i v53).OK := fun i v53 k0_hw1 => k0_hw1.1.1
theorem k0_off1_inb : ∀ (i : grid0.Coords) (v53 : BitVec 32) (k0_hw1 : k0_chk1 i v53) (k0_t1 : Fin (k0_t1_loop i v53).trips), ∀ a, (k0_off1 i v53 k0_t1) a + S1x1x256x64.size a ≤ S4x32x256x64.size a := fun i v53 k0_hw1 k0_t1 => k0_hw1.1.2.1 k0_t1
theorem k0_off2_inb : ∀ (i : grid0.Coords) (v53 : BitVec 32) (k0_hw1 : k0_chk1 i v53) (k0_t1 : Fin (k0_t1_loop i v53).trips), ∀ a, (k0_off2 i v53 k0_t1) a + S1x1x256x64.size a ≤ S4x32x256x64.size a := fun i v53 k0_hw1 k0_t1 => k0_hw1.1.2.2.1 k0_t1
theorem k0_off3_inb : ∀ (i : grid0.Coords) (v53 : BitVec 32) (k0_hw1 : k0_chk1 i v53) (k0_t1 : Fin (k0_t1_loop i v53).trips), ∀ a, (k0_off3 i v53 k0_t1) a + S1x1x256x64.size a ≤ S4x32x256x64.size a := fun i v53 k0_hw1 k0_t1 => k0_hw1.1.2.2.2.1 k0_t1
theorem k0_off4_inb : ∀ (i : grid0.Coords) (v53 : BitVec 32) (k0_hw1 : k0_chk1 i v53) (k0_t1 : Fin (k0_t1_loop i v53).trips), ∀ a, (k0_off4 i v53 k0_t1) a + S1x1x256x64.size a ≤ S4x32x256x64.size a := fun i v53 k0_hw1 k0_t1 => k0_hw1.1.2.2.2.2.1 k0_t1
theorem k0_off5_inb : ∀ (i : grid0.Coords) (v53 : BitVec 32) (k0_hw1 : k0_chk1 i v53) (k0_t1 : Fin (k0_t1_loop i v53).trips), ∀ a, (k0_off5 i v53 k0_t1) a + S1x1x1x8x256.size a ≤ S4x1x32x8x256.size a := fun i v53 k0_hw1 k0_t1 => k0_hw1.1.2.2.2.2.2.1 k0_t1
theorem k0_off6_inb : ∀ (i : grid0.Coords) (v53 : BitVec 32) (k0_hw1 : k0_chk1 i v53) (k0_t1 : Fin (k0_t1_loop i v53).trips), ∀ a, (k0_off6 i v53 k0_t1) a + S1x1x1x8x256.size a ≤ S4x1x32x8x256.size a := fun i v53 k0_hw1 k0_t1 => k0_hw1.1.2.2.2.2.2.2.1 k0_t1
theorem k0_off7_inb : ∀ (i : grid0.Coords) (v53 : BitVec 32) (k0_hw1 : k0_chk1 i v53) (k0_t1 : Fin (k0_t1_loop i v53).trips), ∀ a, (k0_off7 i v53 k0_t1) a + S1x1x1x8x256.size a ≤ S4x1x32x8x256.size a := fun i v53 k0_hw1 k0_t1 => k0_hw1.1.2.2.2.2.2.2.2.1 k0_t1
theorem k0_off8_inb : ∀ (i : grid0.Coords) (v53 : BitVec 32) (k0_hw1 : k0_chk1 i v53) (k0_t1 : Fin (k0_t1_loop i v53).trips), ∀ a, (k0_off8 i v53 k0_t1) a + S1x1x1x8x256.size a ≤ S4x1x32x8x256.size a := fun i v53 k0_hw1 k0_t1 => k0_hw1.1.2.2.2.2.2.2.2.2.1 k0_t1
theorem k0_off9_inb : ∀ (i : grid0.Coords) (v53 : BitVec 32) (k0_hw1 : k0_chk1 i v53) (k0_t1 : Fin (k0_t1_loop i v53).trips), ∀ a, (k0_off9 i v53 k0_t1) a + S1x1x64x256.size a ≤ S4x32x64x256.size a := fun i v53 k0_hw1 k0_t1 => k0_hw1.1.2.2.2.2.2.2.2.2.2.1 k0_t1
theorem k0_off10_inb : ∀ (i : grid0.Coords) (v53 : BitVec 32) (k0_hw1 : k0_chk1 i v53) (k0_t1 : Fin (k0_t1_loop i v53).trips), ∀ a, (k0_off10 i v53 k0_t1) a + S1x1x64x256.size a ≤ S4x32x64x256.size a := fun i v53 k0_hw1 k0_t1 => k0_hw1.1.2.2.2.2.2.2.2.2.2.2.1 k0_t1
theorem k0_off11_inb : ∀ (i : grid0.Coords) (v53 : BitVec 32) (k0_hw1 : k0_chk1 i v53) (k0_t1 : Fin (k0_t1_loop i v53).trips), ∀ a, (k0_off11 i v53 k0_t1) a + S1x1x64x256.size a ≤ S4x32x64x256.size a := fun i v53 k0_hw1 k0_t1 => k0_hw1.1.2.2.2.2.2.2.2.2.2.2.2.1 k0_t1
theorem k0_off12_inb : ∀ (i : grid0.Coords) (v53 : BitVec 32) (k0_hw1 : k0_chk1 i v53) (k0_t1 : Fin (k0_t1_loop i v53).trips), ∀ a, (k0_off12 i v53 k0_t1) a + S1x1x64x256.size a ≤ S4x32x64x256.size a := fun i v53 k0_hw1 k0_t1 => k0_hw1.1.2.2.2.2.2.2.2.2.2.2.2.2.1 k0_t1
theorem k0_off13_inb : ∀ (i : grid0.Coords) (v53 : BitVec 32) (k0_hw1 : k0_chk1 i v53) (k0_t1 : Fin (k0_t1_loop i v53).trips), ∀ a, (k0_off13 i v53 k0_t1) a + S1x64x256.size a ≤ S32x256x256.size a := fun i v53 k0_hw1 k0_t1 => k0_hw1.1.2.2.2.2.2.2.2.2.2.2.2.2.2.1 k0_t1
theorem k0_off14_inb : ∀ (i : grid0.Coords) (v53 : BitVec 32) (k0_hw1 : k0_chk1 i v53) (k0_t1 : Fin (k0_t1_loop i v53).trips), ∀ a, (k0_off14 i v53 k0_t1) a + S1x64x256.size a ≤ S32x256x256.size a := fun i v53 k0_hw1 k0_t1 => k0_hw1.1.2.2.2.2.2.2.2.2.2.2.2.2.2.2.1 k0_t1
theorem k0_off15_inb : ∀ (i : grid0.Coords) (v53 : BitVec 32) (k0_hw1 : k0_chk1 i v53) (k0_t1 : Fin (k0_t1_loop i v53).trips), ∀ a, (k0_off15 i v53 k0_t1) a + S1x64x256.size a ≤ S32x256x256.size a := fun i v53 k0_hw1 k0_t1 => k0_hw1.1.2.2.2.2.2.2.2.2.2.2.2.2.2.2.2.1 k0_t1
theorem k0_off16_inb : ∀ (i : grid0.Coords) (v53 : BitVec 32) (k0_hw1 : k0_chk1 i v53) (k0_t1 : Fin (k0_t1_loop i v53).trips), ∀ a, (k0_off16 i v53 k0_t1) a + S1x64x256.size a ≤ S32x256x256.size a := fun i v53 k0_hw1 k0_t1 => k0_hw1.1.2.2.2.2.2.2.2.2.2.2.2.2.2.2.2.2.1 k0_t1
theorem k0_t2_ok : ∀ (i : grid0.Coords) (v53 : BitVec 32) (k0_hw1 : k0_chk1 i v53), (k0_t2_loop i v53).OK := fun i v53 k0_hw1 => k0_hw1.1.2.2.2.2.2.2.2.2.2.2.2.2.2.2.2.2.2.1
theorem k0_off17_inb : ∀ (i : grid0.Coords) (v53 : BitVec 32) (k0_hw1 : k0_chk1 i v53) (k0_t2 : Fin (k0_t2_loop i v53).trips), ∀ a, (k0_off17 i v53 k0_t2) a + S1x1x256x64.size a ≤ S4x32x256x64.size a := fun i v53 k0_hw1 k0_t2 => k0_hw1.1.2.2.2.2.2.2.2.2.2.2.2.2.2.2.2.2.2.2.1 k0_t2
theorem k0_off18_inb : ∀ (i : grid0.Coords) (v53 : BitVec 32) (k0_hw1 : k0_chk1 i v53) (k0_t2 : Fin (k0_t2_loop i v53).trips), ∀ a, (k0_off18 i v53 k0_t2) a + S1x1x256x64.size a ≤ S4x32x256x64.size a := fun i v53 k0_hw1 k0_t2 => k0_hw1.1.2.2.2.2.2.2.2.2.2.2.2.2.2.2.2.2.2.2.2.1 k0_t2
theorem k0_off19_inb : ∀ (i : grid0.Coords) (v53 : BitVec 32) (k0_hw1 : k0_chk1 i v53) (k0_t2 : Fin (k0_t2_loop i v53).trips), ∀ a, (k0_off19 i v53 k0_t2) a + S1x1x256x64.size a ≤ S4x32x256x64.size a := fun i v53 k0_hw1 k0_t2 => k0_hw1.1.2.2.2.2.2.2.2.2.2.2.2.2.2.2.2.2.2.2.2.2.1 k0_t2
theorem k0_off20_inb : ∀ (i : grid0.Coords) (v53 : BitVec 32) (k0_hw1 : k0_chk1 i v53) (k0_t2 : Fin (k0_t2_loop i v53).trips), ∀ a, (k0_off20 i v53 k0_t2) a + S1x1x256x64.size a ≤ S4x32x256x64.size a := fun i v53 k0_hw1 k0_t2 => k0_hw1.1.2.2.2.2.2.2.2.2.2.2.2.2.2.2.2.2.2.2.2.2.2.1 k0_t2
theorem k0_off21_inb : ∀ (i : grid0.Coords) (v53 : BitVec 32) (k0_hw1 : k0_chk1 i v53) (k0_t2 : Fin (k0_t2_loop i v53).trips), ∀ a, (k0_off21 i v53 k0_t2) a + S1x1x1x8x256.size a ≤ S4x1x32x8x256.size a := fun i v53 k0_hw1 k0_t2 => k0_hw1.1.2.2.2.2.2.2.2.2.2.2.2.2.2.2.2.2.2.2.2.2.2.2.1 k0_t2
theorem k0_off22_inb : ∀ (i : grid0.Coords) (v53 : BitVec 32) (k0_hw1 : k0_chk1 i v53) (k0_t2 : Fin (k0_t2_loop i v53).trips), ∀ a, (k0_off22 i v53 k0_t2) a + S1x1x1x8x256.size a ≤ S4x1x32x8x256.size a := fun i v53 k0_hw1 k0_t2 => k0_hw1.1.2.2.2.2.2.2.2.2.2.2.2.2.2.2.2.2.2.2.2.2.2.2.2.1 k0_t2
theorem k0_off23_inb : ∀ (i : grid0.Coords) (v53 : BitVec 32) (k0_hw1 : k0_chk1 i v53) (k0_t2 : Fin (k0_t2_loop i v53).trips), ∀ a, (k0_off23 i v53 k0_t2) a + S1x1x1x8x256.size a ≤ S4x1x32x8x256.size a := fun i v53 k0_hw1 k0_t2 => k0_hw1.1.2.2.2.2.2.2.2.2.2.2.2.2.2.2.2.2.2.2.2.2.2.2.2.2.1 k0_t2
theorem k0_off24_inb : ∀ (i : grid0.Coords) (v53 : BitVec 32) (k0_hw1 : k0_chk1 i v53) (k0_t2 : Fin (k0_t2_loop i v53).trips), ∀ a, (k0_off24 i v53 k0_t2) a + S1x1x1x8x256.size a ≤ S4x1x32x8x256.size a := fun i v53 k0_hw1 k0_t2 => k0_hw1.1.2.2.2.2.2.2.2.2.2.2.2.2.2.2.2.2.2.2.2.2.2.2.2.2.2.1 k0_t2
theorem k0_off25_inb : ∀ (i : grid0.Coords) (v53 : BitVec 32) (k0_hw1 : k0_chk1 i v53) (k0_t2 : Fin (k0_t2_loop i v53).trips), ∀ a, (k0_off25 i v53 k0_t2) a + S1x1x64x256.size a ≤ S4x32x64x256.size a := fun i v53 k0_hw1 k0_t2 => k0_hw1.1.2.2.2.2.2.2.2.2.2.2.2.2.2.2.2.2.2.2.2.2.2.2.2.2.2.2.1 k0_t2
theorem k0_off26_inb : ∀ (i : grid0.Coords) (v53 : BitVec 32) (k0_hw1 : k0_chk1 i v53) (k0_t2 : Fin (k0_t2_loop i v53).trips), ∀ a, (k0_off26 i v53 k0_t2) a + S1x1x64x256.size a ≤ S4x32x64x256.size a := fun i v53 k0_hw1 k0_t2 => k0_hw1.1.2.2.2.2.2.2.2.2.2.2.2.2.2.2.2.2.2.2.2.2.2.2.2.2.2.2.2.1 k0_t2
theorem k0_off27_inb : ∀ (i : grid0.Coords) (v53 : BitVec 32) (k0_hw1 : k0_chk1 i v53) (k0_t2 : Fin (k0_t2_loop i v53).trips), ∀ a, (k0_off27 i v53 k0_t2) a + S1x1x64x256.size a ≤ S4x32x64x256.size a := fun i v53 k0_hw1 k0_t2 => k0_hw1.1.2.2.2.2.2.2.2.2.2.2.2.2.2.2.2.2.2.2.2.2.2.2.2.2.2.2.2.2.1 k0_t2
theorem k0_off28_inb : ∀ (i : grid0.Coords) (v53 : BitVec 32) (k0_hw1 : k0_chk1 i v53) (k0_t2 : Fin (k0_t2_loop i v53).trips), ∀ a, (k0_off28 i v53 k0_t2) a + S1x1x64x256.size a ≤ S4x32x64x256.size a := fun i v53 k0_hw1 k0_t2 => k0_hw1.1.2.2.2.2.2.2.2.2.2.2.2.2.2.2.2.2.2.2.2.2.2.2.2.2.2.2.2.2.2.1 k0_t2
theorem k0_off29_inb : ∀ (i : grid0.Coords) (v53 : BitVec 32) (k0_hw1 : k0_chk1 i v53) (k0_t2 : Fin (k0_t2_loop i v53).trips), ∀ a, (k0_off29 i v53 k0_t2) a + S1x64x256.size a ≤ S32x256x256.size a := fun i v53 k0_hw1 k0_t2 => k0_hw1.1.2.2.2.2.2.2.2.2.2.2.2.2.2.2.2.2.2.2.2.2.2.2.2.2.2.2.2.2.2.2.1 k0_t2
theorem k0_off30_inb : ∀ (i : grid0.Coords) (v53 : BitVec 32) (k0_hw1 : k0_chk1 i v53) (k0_t2 : Fin (k0_t2_loop i v53).trips), ∀ a, (k0_off30 i v53 k0_t2) a + S1x64x256.size a ≤ S32x256x256.size a := fun i v53 k0_hw1 k0_t2 => k0_hw1.1.2.2.2.2.2.2.2.2.2.2.2.2.2.2.2.2.2.2.2.2.2.2.2.2.2.2.2.2.2.2.2 k0_t2
theorem k0_off31_inb : ∀ (i : grid0.Coords) (v53 : BitVec 32) (k0_hw1 : k0_chk1 i v53) (k0_t2 : Fin (k0_t2_loop i v53).trips), ∀ a, (k0_off31 i v53 k0_t2) a + S1x64x256.size a ≤ S32x256x256.size a := fun i v53 k0_hw1 k0_t2 => k0_hw1.2.1 k0_t2
theorem k0_off32_inb : ∀ (i : grid0.Coords) (v53 : BitVec 32) (k0_hw1 : k0_chk1 i v53) (k0_t2 : Fin (k0_t2_loop i v53).trips), ∀ a, (k0_off32 i v53 k0_t2) a + S1x64x256.size a ≤ S32x256x256.size a := fun i v53 k0_hw1 k0_t2 => k0_hw1.2.2 k0_t2

def k0_off33 (i : grid0.Coords) : Fin 4 → Nat :=
  let c0_40 : Index := 0#32
  let arg1 : BitVec 32 := BitVec.ofNat 32 (i 1).val
  let v71 : Index := Scalar.indexCast arg1
  let c0_41 : Index := 0#32
  let c0_42 : Index := 0#32
  ![0, v71.toNat, 0, 0]
def k0_off34 (i : grid0.Coords) : Fin 4 → Nat :=
  let c1_44 : Index := 1#32
  let arg1 : BitVec 32 := BitVec.ofNat 32 (i 1).val
  let v75 : Index := Scalar.indexCast arg1
  let c0_45 : Index := 0#32
  let c0_46 : Index := 0#32
  ![1, v75.toNat, 0, 0]
def k0_off35 (i : grid0.Coords) : Fin 4 → Nat :=
  let c2_48 : Index := 2#32
  let arg1 : BitVec 32 := BitVec.ofNat 32 (i 1).val
  let v79 : Index := Scalar.indexCast arg1
  let c0_49 : Index := 0#32
  let c0_50 : Index := 0#32
  ![2, v79.toNat, 0, 0]
def k0_off36 (i : grid0.Coords) : Fin 4 → Nat :=
  let c3_52 : Index := 3#32
  let arg1 : BitVec 32 := BitVec.ofNat 32 (i 1).val
  let v83 : Index := Scalar.indexCast arg1
  let c0_53 : Index := 0#32
  let c0_54 : Index := 0#32
  ![3, v83.toNat, 0, 0]
def k0_off37 (i : grid0.Coords) : Fin 5 → Nat :=
  let c0_96 : Index := 0#32
  let c0_97 : Index := 0#32
  let arg1 : BitVec 32 := BitVec.ofNat 32 (i 1).val
  let v183 : Index := Scalar.indexCast arg1
  let c0_98 : Index := 0#32
  let c0_99 : Index := 0#32
  ![0, 0, v183.toNat, 0, 0]
def k0_off38 (i : grid0.Coords) : Fin 5 → Nat :=
  let c1_101 : Index := 1#32
  let c0_102 : Index := 0#32
  let arg1 : BitVec 32 := BitVec.ofNat 32 (i 1).val
  let v193 : Index := Scalar.indexCast arg1
  let c0_103 : Index := 0#32
  let c0_104 : Index := 0#32
  ![1, 0, v193.toNat, 0, 0]
def k0_off39 (i : grid0.Coords) : Fin 5 → Nat :=
  let c2_106 : Index := 2#32
  let c0_107 : Index := 0#32
  let arg1 : BitVec 32 := BitVec.ofNat 32 (i 1).val
  let v203 : Index := Scalar.indexCast arg1
  let c0_108 : Index := 0#32
  let c0_109 : Index := 0#32
  ![2, 0, v203.toNat, 0, 0]
def k0_off40 (i : grid0.Coords) : Fin 5 → Nat :=
  let c3_111 : Index := 3#32
  let c0_112 : Index := 0#32
  let arg1 : BitVec 32 := BitVec.ofNat 32 (i 1).val
  let v213 : Index := Scalar.indexCast arg1
  let c0_113 : Index := 0#32
  let c0_114 : Index := 0#32
  ![3, 0, v213.toNat, 0, 0]
def k0_off41 (i : grid0.Coords) : Fin 4 → Nat :=
  let c0_132 : Index := 0#32
  let arg1 : BitVec 32 := BitVec.ofNat 32 (i 1).val
  let v299 : Index := Scalar.indexCast arg1
  let c0_133 : Index := 0#32
  let c0_134 : Index := 0#32
  ![0, v299.toNat, 0, 0]
def k0_off42 (i : grid0.Coords) : Fin 4 → Nat :=
  let c1_136 : Index := 1#32
  let arg1 : BitVec 32 := BitVec.ofNat 32 (i 1).val
  let v304 : Index := Scalar.indexCast arg1
  let c0_137 : Index := 0#32
  let c0_138 : Index := 0#32
  ![1, v304.toNat, 0, 0]
def k0_off43 (i : grid0.Coords) : Fin 4 → Nat :=
  let c2_140 : Index := 2#32
  let arg1 : BitVec 32 := BitVec.ofNat 32 (i 1).val
  let v309 : Index := Scalar.indexCast arg1
  let c0_141 : Index := 0#32
  let c0_142 : Index := 0#32
  ![2, v309.toNat, 0, 0]
def k0_off44 (i : grid0.Coords) : Fin 4 → Nat :=
  let c3_144 : Index := 3#32
  let arg1 : BitVec 32 := BitVec.ofNat 32 (i 1).val
  let v314 : Index := Scalar.indexCast arg1
  let c0_145 : Index := 0#32
  let c0_146 : Index := 0#32
  ![3, v314.toNat, 0, 0]
def k0_off45 (i : grid0.Coords) : Fin 3 → Nat :=
  let arg1 : BitVec 32 := BitVec.ofNat 32 (i 1).val
  let v319 : Index := Scalar.indexCast arg1
  let c0_148 : Index := 0#32
  let c0_149 : Index := 0#32
  ![v319.toNat, 0, 0]
def k0_off46 (i : grid0.Coords) : Fin 3 → Nat :=
  let arg1 : BitVec 32 := BitVec.ofNat 32 (i 1).val
  let v328 : Index := Scalar.indexCast arg1
  let c64 : Index := 64#32
  let c0_153 : Index := 0#32
  ![v328.toNat, 64, 0]
def k0_off47 (i : grid0.Coords) : Fin 3 → Nat :=
  let arg1 : BitVec 32 := BitVec.ofNat 32 (i 1).val
  let v337 : Index := Scalar.indexCast arg1
  let c128 : Index := 128#32
  let c0_157 : Index := 0#32
  ![v337.toNat, 128, 0]
def k0_off48 (i : grid0.Coords) : Fin 3 → Nat :=
  let arg1 : BitVec 32 := BitVec.ofNat 32 (i 1).val
  let v346 : Index := Scalar.indexCast arg1
  let c192 : Index := 192#32
  let c0_161 : Index := 0#32
  ![v346.toNat, 192, 0]
def k0_cond2 (i : grid0.Coords) : BitVec 1 :=
  let arg1 : BitVec 32 := BitVec.ofNat 32 (i 1).val
  let c31_i32 : BitVec 32 := 31#32
  let v401 : BitVec 1 := Scalar.cmpi .eq arg1 c31_i32
  let v402 : BitVec 32 := Scalar.extui v401
  let c0_i32_188 : BitVec 32 := 0#32
  let v403 : BitVec 1 := Scalar.cmpi .ne v402 c0_i32_188
  v403

@[reducible] def k0_t3_loop : Scf.Loop 32 :=
  let c0_i32_189 : BitVec 32 := 0#32
  let c32_i32 : BitVec 32 := 32#32
  let v404 : BitVec 32 := Scalar.addi c0_i32_189 c32_i32
  let c1_i32_190 : BitVec 32 := 1#32
  ⟨c0_i32_189, v404, c1_i32_190⟩
def k0_mult1 (k0_t3 : Fin k0_t3_loop.trips) : BitVec 32 :=
  let c0_i32_189 : BitVec 32 := 0#32
  let c1_i32_190 : BitVec 32 := 1#32
  let arg14 : BitVec 32 := Scf.iv c0_i32_189 c1_i32_190 k0_t3
  let c256_i32 : BitVec 32 := 256#32
  let v405 : BitVec 32 := Scalar.muli arg14 c256_i32
  v405
def k0_off49 (k0_t3 : Fin k0_t3_loop.trips) : Fin 3 → Nat :=
  let c0_i32_189 : BitVec 32 := 0#32
  let c1_i32_190 : BitVec 32 := 1#32
  let arg14 : BitVec 32 := Scf.iv c0_i32_189 c1_i32_190 k0_t3
  let v407 : Index := Scalar.indexCast arg14
  let c0_192 : Index := 0#32
  let c0_193 : Index := 0#32
  ![v407.toNat, 0, 0]
def k0_off50 (k0_t3 : Fin k0_t3_loop.trips) : Fin 2 → Nat :=
  let c0_i32_189 : BitVec 32 := 0#32
  let c1_i32_190 : BitVec 32 := 1#32
  let arg14 : BitVec 32 := Scf.iv c0_i32_189 c1_i32_190 k0_t3
  let c256_i32 : BitVec 32 := 256#32
  let v405 : BitVec 32 := Scalar.muli arg14 c256_i32
  let v406 : BitVec 32 := v405
  let v412 : Index := Scalar.indexCast v406
  let c0_194 : Index := 0#32
  ![v412.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, arg1.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x32x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x32x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x32x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x32x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8192x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8192x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩
abbrev S8192x512 : Shape := ⟨2, ![8192, 512]⟩

abbrev nBuf : Space → Nat
  | .hbm => 170
  | .vmem => 0
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8x64, .f32⟩
  | 4 => ⟨S8x8192x8192, .f32⟩
  | 5 => ⟨S_, .f32⟩
  | 6 => ⟨S8x8192x8192, .f32⟩
  | 7 => ⟨S8x8192x8192, .f32⟩
  | 8 => ⟨S8192, .i32⟩
  | 9 => ⟨S1x8192, .i32⟩
  | 10 => ⟨S8192x1, .i32⟩
  | 11 => ⟨S8192x8192, .i32⟩
  | 12 => ⟨S8192x8192, .i32⟩
  | 13 => ⟨S8192x8192, .i1⟩
  | 14 => ⟨S8x8192x8192, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .i1⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S_, .f32⟩
  | 30 => ⟨S8x8192x8192, .f32⟩
  | 31 => ⟨S8x8192x8192, .i1⟩
  | 32 => ⟨S_, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .i1⟩
  | 38 => ⟨S_, .f32⟩
  | 39 => ⟨S8x8192x8192, .f32⟩
  | 40 => ⟨S8x8192x8192, .f32⟩
  | 41 => ⟨S8x8192x8192, .f32⟩
  | 42 => ⟨S8x8192x8192, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S8x8192x8192, .f32⟩
  | 51 => ⟨S8x8192x8192, .i1⟩
  | 52 => ⟨S_, .f32⟩
  | 53 => ⟨S8x8192x8192, .f32⟩
  | 54 => ⟨S8x8192x8192, .f32⟩
  | 55 => ⟨S8x8192x8192, .f32⟩
  | 56 => ⟨S8x8192x8192, .f32⟩
  | 57 => ⟨S8x8192x8192, .f32⟩
  | 58 => ⟨S_, .f32⟩
  | 59 => ⟨S8x8192x8192, .f32⟩
  | 60 => ⟨S8x8192x8192, .f32⟩
  | 61 => ⟨S8x8192x8192, .f32⟩
  | 62 => ⟨S8x8192x8192, .f32⟩
  | 63 => ⟨S8x8192x8192, .f32⟩
  | 64 => ⟨S_, .f32⟩
  | 65 => ⟨S8x8192x8192, .f32⟩
  | 66 => ⟨S8x8192x8192, .f32⟩
  | 67 => ⟨S8x8192x8192, .f32⟩
  | 68 => ⟨S8x8192x8192, .f32⟩
  | 69 => ⟨S8x8192x8192, .i1⟩
  | 70 => ⟨S8x8192x8192, .f32⟩
  | 71 => ⟨S8x8192x8192, .f32⟩
  | 72 => ⟨S8x8192x8192, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .f32⟩
  | 78 => ⟨S_, .f32⟩
  | 79 => ⟨S8x8192x8192, .f32⟩
  | 80 => ⟨S8x8192x8192, .i1⟩
  | 81 => ⟨S_, .f32⟩
  | 82 => ⟨S8x8192x8192, .f32⟩
  | 83 => ⟨S8x8192x8192, .f32⟩
  | 84 => ⟨S_, .f32⟩
  | 85 => ⟨S8x8192x8192, .f32⟩
  | 86 => ⟨S8x8192x8192, .i1⟩
  | 87 => ⟨S_, .f32⟩
  | 88 => ⟨S8x8192x8192, .f32⟩
  | 89 => ⟨S8x8192x8192, .f32⟩
  | 90 => ⟨S8x8192x8192, .f32⟩
  | 91 => ⟨S8x8192x8192, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S8x8192x8192, .f32⟩
  | 100 => ⟨S8x8192x8192, .i1⟩
  | 101 => ⟨S_, .f32⟩
  | 102 => ⟨S8x8192x8192, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S8x8192x8192, .f32⟩
  | 109 => ⟨S8x8192x8192, .f32⟩
  | 110 => ⟨S8x8192x8192, .f32⟩
  | 111 => ⟨S_, .f32⟩
  | 112 => ⟨S_, .f32⟩
  | 113 => ⟨S8x8192x8192, .i1⟩
  | 114 => ⟨S8x8192x8192, .f32⟩
  | 115 => ⟨S8x8192x8192, .f32⟩
  | 116 => ⟨S_, .f32⟩
  | 117 => ⟨S8x8192x8192, .f32⟩
  | 118 => ⟨S_, .f32⟩
  | 119 => ⟨S_, .f32⟩
  | 120 => ⟨S8x8192x8192, .f32⟩
  | 121 => ⟨S8x8192x8192, .f32⟩
  | 122 => ⟨S8x8192x8192, .f32⟩
  | 123 => ⟨S8x8192x8192, .f32⟩
  | 124 => ⟨S_, .f32⟩
  | 125 => ⟨S_, .f32⟩
  | 126 => ⟨S8x8192x8192, .i1⟩
  | 127 => ⟨S8x8192x8192, .f32⟩
  | _ => ⟨S8192x8x64, .f32⟩

abbrev hbmTy0_1 (i : Nat) : BufTy := match i % 128 with
  | 0 => ⟨S8x8192x8192, .f32⟩
  | 1 => ⟨S_, .f32⟩
  | 2 => ⟨S8x8192x8192, .f32⟩
  | 3 => ⟨S8x64x8192, .f32⟩
  | 4 => ⟨S8192x8x64, .f32⟩
  | 5 => ⟨S8x64x8192, .f32⟩
  | 6 => ⟨S8x8192x8192, .f32⟩
  | 7 => ⟨S8x64x8192, .f32⟩
  | 8 => ⟨S8192x8x64, .f32⟩
  | 9 => ⟨S_, .f32⟩
  | 10 => ⟨S8x8192x8192, .f32⟩
  | 11 => ⟨S8x8192x8192, .f32⟩
  | 12 => ⟨S8x8192x8192, .f32⟩
  | 13 => ⟨S8x8192x8192, .f32⟩
  | 14 => ⟨S_, .f32⟩
  | 15 => ⟨S_, .f32⟩
  | 16 => ⟨S8x8192x8192, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S_, .f32⟩
  | 30 => ⟨S8x8192x8192, .f32⟩
  | 31 => ⟨S8x8192x8192, .f32⟩
  | 32 => ⟨S8x8192x64, .f32⟩
  | 33 => ⟨S8192x8x64, .f32⟩
  | 34 => ⟨S8x8192x64, .f32⟩
  | 35 => ⟨S8192x8x64, .f32⟩
  | 36 => ⟨S8192x512, .f32⟩
  | 37 => ⟨S8192x512, .bf16⟩
  | 38 => ⟨S8192x512, .f32⟩
  | 39 => ⟨S8192x512, .bf16⟩
  | 40 => ⟨S8192x512, .f32⟩
  | 41 => ⟨S8192x512, .bf16⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_v10 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1_0 : Ref sig .tc := ⟨.hbm, 77, rfl⟩
abbrev main_call1_call0_cst_0 : Ref sig .tc := ⟨.hbm, 78, rfl⟩
abbrev main_call1_call0_v13 : Ref sig .tc := ⟨.hbm, 79, rfl⟩
abbrev main_call1_call0_v14 : Ref sig .tc := ⟨.hbm, 80, rfl⟩
abbrev main_call1_call0_cst_1 : Ref sig .tc := ⟨.hbm, 81, rfl⟩
abbrev main_call1_call0_v15 : Ref sig .tc := ⟨.hbm, 82, rfl⟩
abbrev main_call1_call0_v16 : Ref sig .tc := ⟨.hbm, 83, rfl⟩
abbrev main_call1_call0_cst_2 : Ref sig .tc := ⟨.hbm, 84, rfl⟩
abbrev main_call1_call0_v17 : Ref sig .tc := ⟨.hbm, 85, rfl⟩
abbrev main_call1_call0_v18 : Ref sig .tc := ⟨.hbm, 86, rfl⟩
abbrev main_call1_call0_cst_3 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_v21 : Ref sig .tc := ⟨.hbm, 90, rfl⟩
abbrev main_v11_1 : Ref sig .tc := ⟨.hbm, 91, rfl⟩
abbrev main_call1_call0_cst_4 : Ref sig .tc := ⟨.hbm, 92, rfl⟩
abbrev main_call1_call0_cst_5 : Ref sig .tc := ⟨.hbm, 93, rfl⟩
abbrev main_call1_call0_v23 : Ref sig .tc := ⟨.hbm, 94, rfl⟩
abbrev main_call1_call0_cst_6 : Ref sig .tc := ⟨.hbm, 95, rfl⟩
abbrev main_call1_call0_cst_7 : Ref sig .tc := ⟨.hbm, 96, rfl⟩
abbrev main_call1_call0_v24 : Ref sig .tc := ⟨.hbm, 97, rfl⟩
abbrev main_call1_call0_cst_8 : Ref sig .tc := ⟨.hbm, 98, rfl⟩
abbrev main_call1_call0_v25 : Ref sig .tc := ⟨.hbm, 99, rfl⟩
abbrev main_call1_call0_v26 : Ref sig .tc := ⟨.hbm, 100, rfl⟩
abbrev main_call1_call0_cst_9 : Ref sig .tc := ⟨.hbm, 101, rfl⟩
abbrev main_call1_call0_v27 : Ref sig .tc := ⟨.hbm, 102, rfl⟩
abbrev main_call1_call0_v28 : Ref sig .tc := ⟨.hbm, 103, rfl⟩
abbrev main_call1_call0_v29 : Ref sig .tc := ⟨.hbm, 104, rfl⟩
abbrev main_call1_call0_v30 : Ref sig .tc := ⟨.hbm, 105, rfl⟩
abbrev main_call1_call0_v31 : Ref sig .tc := ⟨.hbm, 106, rfl⟩
abbrev main_call1_call0_cst_10 : Ref sig .tc := ⟨.hbm, 107, rfl⟩
abbrev main_call1_call0_v32 : Ref sig .tc := ⟨.hbm, 108, rfl⟩
abbrev main_v11_2 : Ref sig .tc := ⟨.hbm, 109, rfl⟩
abbrev main_v11_0 : Ref sig .tc := ⟨.hbm, 110, rfl⟩
abbrev main_cst_0 : Ref sig .tc := ⟨.hbm, 111, rfl⟩
abbrev main_call2_v0 : Ref sig .tc := ⟨.hbm, 112, rfl⟩
abbrev main_v12_1 : Ref sig .tc := ⟨.hbm, 113, rfl⟩
abbrev main_call2_v2 : Ref sig .tc := ⟨.hbm, 114, rfl⟩
abbrev main_v12_0 : Ref sig .tc := ⟨.hbm, 115, rfl⟩
abbrev main_call2_cst : Ref sig .tc := ⟨.hbm, 116, rfl⟩
abbrev main_v12_2 : Ref sig .tc := ⟨.hbm, 117, rfl⟩
abbrev main_call3_cst : Ref sig .tc := ⟨.hbm, 118, rfl⟩
abbrev main_call3_v0 : Ref sig .tc := ⟨.hbm, 119, rfl⟩
abbrev main_v13 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_call5_cst : Ref sig .tc := ⟨.hbm, 137, rfl⟩
abbrev main_call5_v0 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_call6_cst : Ref sig .tc := ⟨.hbm, 142, rfl⟩
abbrev main_call6_v0 : Ref sig .tc := ⟨.hbm, 143, rfl⟩
abbrev main_v27 : Ref sig .tc := ⟨.hbm, 144, rfl⟩
abbrev main_v28 : Ref sig .tc := ⟨.hbm, 145, rfl⟩
abbrev main_call7_cst : Ref sig .tc := ⟨.hbm, 146, rfl⟩
abbrev main_call7_v0 : Ref sig .tc := ⟨.hbm, 147, rfl⟩
abbrev main_v29 : Ref sig .tc := ⟨.hbm, 148, rfl⟩
abbrev main_call8_v0 : Ref sig .tc := ⟨.hbm, 149, rfl⟩
abbrev main_call8_v1 : Ref sig .tc := ⟨.hbm, 150, rfl⟩
abbrev main_v30 : Ref sig .tc := ⟨.hbm, 151, rfl⟩
abbrev main_v31 : Ref sig .tc := ⟨.hbm, 152, rfl⟩
abbrev main_call9_v0 : Ref sig .tc := ⟨.hbm, 153, rfl⟩
abbrev main_call9_v1 : Ref sig .tc := ⟨.hbm, 154, rfl⟩
abbrev main_v32 : Ref sig .tc := ⟨.hbm, 155, rfl⟩
abbrev main_v33 : Ref sig .tc := ⟨.hbm, 156, rfl⟩
abbrev main_cst_2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 30
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | .hbm, ⟨23, _⟩ => ⟨S8192x2816, .f32⟩
  | .hbm, ⟨24, _⟩ => ⟨S8192x2816, .bf16⟩
  | .hbm, ⟨25, _⟩ => ⟨S8192x1024, .bf16⟩
  | .hbm, ⟨26, _⟩ => ⟨S2816x1024, .bf16⟩
  | .hbm, ⟨27, _⟩ => ⟨S8192x2816, .bf16⟩
  | .hbm, ⟨28, _⟩ => ⟨S8192x2816, .bf16⟩
  | .hbm, ⟨29, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S1408x1024, .f32⟩
  | .local _ .vmem, ⟨15, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S1024x2816, .f32⟩
  | .hbm, ⟨20, _⟩ => ⟨S2816x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S256x2816 : Shape := ⟨2, ![256, 2816]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S8192x2816, .bf16⟩
  | .hbm, ⟨10, _⟩ => ⟨S8192x2816, .bf16⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x2816 : Shape := ⟨2, ![8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x5632, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x5632, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S8192x2816, .bf16⟩
  | .hbm, ⟨6, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | .local _ .vmem, ⟨7, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg1.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x5632 : Shape := ⟨2, ![1024, 5632]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S8192x512 : Shape := ⟨2, ![8192, 512]⟩
abbrev S8192x256 : Shape := ⟨2, ![8192, 256]⟩
abbrev S1024x2304 : Shape := ⟨2, ![1024, 2304]⟩
abbrev S8192x1024 : Shape := ⟨2, ![8192, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S1024x512 : Shape := ⟨2, ![1024, 512]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 18
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x256, .f32⟩
  | .hbm, ⟨5, _⟩ => ⟨S1024x2304, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x256, .bf16⟩
  | .hbm, ⟨14, _⟩ => ⟨S1024x2304, .bf16⟩
  | .hbm, ⟨15, _⟩ => ⟨S8192x1024, .f32⟩
  | .hbm, ⟨16, _⟩ => ⟨S1x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S1024x2304, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S8192x512 : Shape := ⟨2, ![8192, 512]⟩
abbrev S8192x256 : Shape := ⟨2, ![8192, 256]⟩
abbrev S1024x2304 : Shape := ⟨2, ![1024, 2304]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x256, .f32⟩
  | .hbm, ⟨5, _⟩ => ⟨S1024x2304, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2304, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2304, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8x64x8192 : Shape := ⟨3, ![8, 64, 8192]⟩
abbrev S8x8192x64 : Shape := ⟨3, ![8, 8192, 64]⟩
abbrev S512x1024 : Shape := ⟨2, ![512, 1024]⟩
abbrev S512x512 : Shape := ⟨2, ![512, 512]⟩
abbrev S8x64x512 : Shape := ⟨3, ![8, 64, 512]⟩
abbrev S8x512x64 : Shape := ⟨3, ![8, 512, 64]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩

abbrev nBuf : Space → Nat
  | .hbm => 45
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S1024x1024, .bf16⟩
  | .hbm, ⟨40, _⟩ => ⟨S8x64x8192, .bf16⟩
  | .hbm, ⟨41, _⟩ => ⟨S8x8192x64, .bf16⟩
  | .hbm, ⟨42, _⟩ => ⟨S1x512, .f32⟩
  | .hbm, ⟨43, _⟩ => ⟨S1x512, .f32⟩
  | .hbm, ⟨44, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S8x64x512, .bf16⟩
  | .local _ .vmem, ⟨12, _⟩ => ⟨S8x64x512, .bf16⟩
  | .local _ .vmem, ⟨13, _⟩ => ⟨S8x512x64, .bf16⟩
  | .local _ .vmem, ⟨14, _⟩ => ⟨S8x512x64, .bf16⟩
  | .local _ .vmem, ⟨15, _⟩ => ⟨S1x512, .f32⟩
  | .local _ .vmem, ⟨16, _⟩ => ⟨S1x512, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩
abbrev S8192x8x64 : Shape := ⟨3, ![8192, 8, 64]⟩
abbrev S8x64x8192 : Shape := ⟨3, ![8, 64, 8192]⟩
abbrev S8x8192x64 : Shape := ⟨3, ![8, 8192, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S1024x1024, .f32⟩
  | .hbm, ⟨54, _⟩ => ⟨S8192x1024, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x512, .f32⟩
  | .hbm, ⟨89, _⟩ => ⟨S8192x512, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x8x64, .f32⟩
  | .hbm, ⟨100, _⟩ => ⟨S8x64x8192, .f32⟩
  | .hbm, ⟨101, _⟩ => ⟨S8x64x8192, .bf16⟩
  | .hbm, ⟨102, _⟩ => ⟨S8192x8x64, .f32⟩
  | .hbm, ⟨103, _⟩ => ⟨S8x8192x64, .f32⟩
  | .hbm, ⟨104, _⟩ => ⟨S8x8192x64, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x2816 : Shape := ⟨2, ![8192, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .bf16⟩
  | .hbm, ⟨24, _⟩ => ⟨S8192x2816, .bf16⟩
  | .hbm, ⟨25, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Check.lean ====
/-
  The side condition the body assumes of the first block it does not skip: the word is clipped between zero and the
  query block's number, so the two loops are meaningful and every block they name is inside its array, whatever the word.
-/
module

public import proofs.«01_k».proof.Proof.Gen.KernelIdeal
public import Idealize.ShloMosaic.Lib.Tactic
public import Idealize.ShloMosaic.Lib.WordArith
public import Idealize.ShloMosaic.Lib.Affine

@[expose] public section

namespace Cert.Proof

open Cert.KernelIdeal Cert.KernelIdeal.Gen
open Idealize.ShloMosaic Idealize.ShloMosaic.Tactic

/-- The first key block a row of blocks visits: the word clipped between zero and the row's number. -/
def lo (i : grid0.Coords) (v53 : BitVec 32) : BitVec 32 :=
  Scalar.minsi (BitVec.ofNat 32 (i 1).val) (Scalar.maxsi 0#32 v53)

theorem lt32 (i : grid0.Coords) : (i 1).val < 32 := (i 1).isLt

theorem toInt_coord (i : grid0.Coords) : (BitVec.ofNat 32 (i 1).val).toInt = (i 1).val :=
  WordArith.toInt_ofNat_small _ (by have := lt32 i; omega)

theorem lo_bounds (i : grid0.Coords) (v53 : BitVec 32) : 0 ≤ (lo i v53).toInt ∧ (lo i v53).toInt ≤ (i 1).val := by
  have h := toInt_coord i
  have h2 := WordArith.toInt_maxsi_zero v53
  have h3 : Scalar.maxsi 0#32 v53 = IntOp.maxsi 0#32 v53 := rfl
  unfold lo
  rw [h3]
  show 0 ≤ (if _ then _ else _ : BitVec 32).toInt ∧ (if _ then _ else _ : BitVec 32).toInt ≤ _
  split
  · rw [h]; omega
  · rename_i hh
    rw [BitVec.slt_iff_toInt_lt] at hh
    rw [h] at hh
    omega

theorem t1_loop_eq (i : grid0.Coords) (v53 : BitVec 32) :
    k0_t1_loop i v53 = ⟨lo i v53, BitVec.ofNat 32 (i 1).val, 1#32⟩ := by
  have h : ∀ a b : BitVec 32, Scalar.addi a (Scalar.muli (Scalar.divsi (Scalar.subi b a) 1#32) 1#32) = b := by
    intro a b
    rw [show Scalar.divsi (Scalar.subi b a) 1#32 = Scalar.subi b a from WordArith.divsi_one _ _]
    show a + (b - a) * 1#32 = b
    rw [BitVec.mul_one]
    rw [BitVec.add_comm, BitVec.sub_add_cancel]
  unfold k0_t1_loop
  show Scf.Loop.mk (lo i v53) (Scalar.addi (lo i v53) (Scalar.muli (Scalar.divsi (Scalar.subi (BitVec.ofNat 32 (i 1).val) (lo i v53)) 1#32) 1#32)) 1#32 = _
  rw [h]

theorem t2_loop_eq (i : grid0.Coords) (v53 : BitVec 32) :
    k0_t2_loop i v53 = ⟨BitVec.ofNat 32 (i 1).val, BitVec.ofNat 32 (i 1).val, 1#32⟩ := by
  have h : ∀ a b : BitVec 32, Scalar.addi a (Scalar.muli (Scalar.divsi (Scalar.subi b a) 1#32) 1#32) = b := by
    intro a b
    rw [show Scalar.divsi (Scalar.subi b a) 1#32 = Scalar.subi b a from WordArith.divsi_one _ _]
    show a + (b - a) * 1#32 = b
    rw [BitVec.mul_one]
    rw [BitVec.add_comm, BitVec.sub_add_cancel]
  have h' : ∀ a b : BitVec 32, Scalar.addi a (Scalar.subi b a) = b := by
    intro a b
    show a + (b - a) = b
    rw [BitVec.add_comm, BitVec.sub_add_cancel]
  unfold k0_t2_loop
  show Scf.Loop.mk (Scalar.addi (lo i v53) (Scalar.muli (Scalar.divsi (Scalar.subi (BitVec.ofNat 32 (i 1).val) (lo i v53)) 1#32) 1#32)) (Scalar.addi (lo i v53) (Scalar.subi (BitVec.ofNat 32 (i 1).val) (lo i v53))) 1#32 = _
  rw [h, h']

theorem trips_t1 (i : grid0.Coords) (v53 : BitVec 32) : (k0_t1_loop i v53).trips = (i 1).val - (lo i v53).toNat := by
  rw [t1_loop_eq]
  have h := lo_bounds i v53
  have h1 := toInt_coord i
  have h2 : ((lo i v53).toNat : Int) = (lo i v53).toInt := by
    rw [BitVec.toInt_eq_toNat_of_lt]
    have := BitVec.toInt_eq_toNat_cond (lo i v53)
    split at this <;> omega
  show Scf.trips (lo i v53) (BitVec.ofNat 32 (i 1).val) 1#32 = _
  rw [Scf.trips, h1, show (1#32 : BitVec 32).toInt = 1 from rfl]
  omega

theorem trips_t2 (i : grid0.Coords) (v53 : BitVec 32) : (k0_t2_loop i v53).trips = 0 := by
  rw [t2_loop_eq]
  show Scf.trips (BitVec.ofNat 32 (i 1).val) (BitVec.ofNat 32 (i 1).val) 1#32 = _
  rw [Scf.trips, show (1#32 : BitVec 32).toInt = 1 from rfl]
  omega

theorem iv_t1 (i : grid0.Coords) (v53 : BitVec 32) (k : Nat) (hk : k < (k0_t1_loop i v53).trips) :
    (Scf.iv (Scalar.minsi (BitVec.ofNat 32 (i 1).val) (Scalar.maxsi 0#32 v53)) 1#32 k).toNat = (lo i v53).toNat + k := by
  rw [trips_t1] at hk
  have h := lt32 i
  show (lo i v53 + BitVec.ofNat 32 k * 1#32).toNat = _
  rw [BitVec.mul_one, BitVec.toNat_add, BitVec.toNat_ofNat]
  omega

section Offsets

variable (i : grid0.Coords) (v53 : BitVec 32) (k : Fin (k0_t1_loop i v53).trips)

theorem off1_eq : k0_off1 i v53 k = ![0, (lo i v53).toNat + k, 0, 0] := by
  rw [← iv_t1 i v53 k k.isLt]; rfl
theorem off2_eq : k0_off2 i v53 k = ![1, (lo i v53).toNat + k, 0, 0] := by
  rw [← iv_t1 i v53 k k.isLt]; rfl
theorem off3_eq : k0_off3 i v53 k = ![2, (lo i v53).toNat + k, 0, 0] := by
  rw [← iv_t1 i v53 k k.isLt]; rfl
theorem off4_eq : k0_off4 i v53 k = ![3, (lo i v53).toNat + k, 0, 0] := by
  rw [← iv_t1 i v53 k k.isLt]; rfl
theorem off5_eq : k0_off5 i v53 k = ![0, 0, (lo i v53).toNat + k, 0, 0] := by
  rw [← iv_t1 i v53 k k.isLt]; rfl
theorem off6_eq : k0_off6 i v53 k = ![1, 0, (lo i v53).toNat + k, 0, 0] := by
  rw [← iv_t1 i v53 k k.isLt]; rfl
theorem off7_eq : k0_off7 i v53 k = ![2, 0, (lo i v53).toNat + k, 0, 0] := by
  rw [← iv_t1 i v53 k k.isLt]; rfl
theorem off8_eq : k0_off8 i v53 k = ![3, 0, (lo i v53).toNat + k, 0, 0] := by
  rw [← iv_t1 i v53 k k.isLt]; rfl
theorem off9_eq : k0_off9 i v53 k = ![0, (lo i v53).toNat + k, 0, 0] := by
  rw [← iv_t1 i v53 k k.isLt]; rfl
theorem off10_eq : k0_off10 i v53 k = ![1, (lo i v53).toNat + k, 0, 0] := by
  rw [← iv_t1 i v53 k k.isLt]; rfl
theorem off11_eq : k0_off11 i v53 k = ![2, (lo i v53).toNat + k, 0, 0] := by
  rw [← iv_t1 i v53 k k.isLt]; rfl
theorem off12_eq : k0_off12 i v53 k = ![3, (lo i v53).toNat + k, 0, 0] := by
  rw [← iv_t1 i v53 k k.isLt]; rfl
theorem off13_eq : k0_off13 i v53 k = ![(lo i v53).toNat + k, 0, 0] := by
  rw [← iv_t1 i v53 k k.isLt]; rfl
theorem off14_eq : k0_off14 i v53 k = ![(lo i v53).toNat + k, 64, 0] := by
  rw [← iv_t1 i v53 k k.isLt]; rfl
theorem off15_eq : k0_off15 i v53 k = ![(lo i v53).toNat + k, 128, 0] := by
  rw [← iv_t1 i v53 k k.isLt]; rfl
theorem off16_eq : k0_off16 i v53 k = ![(lo i v53).toNat + k, 192, 0] := by
  rw [← iv_t1 i v53 k k.isLt]; rfl

end Offsets

theorem ok_of (a b : BitVec 32) (ha : 0 ≤ a.toInt) (hb : b.toInt < 32) (hb' : 0 ≤ b.toInt) (hab : a.toInt ≤ b.toInt) : Scf.OK a b 1#32 := by
  refine ⟨by decide, ?_⟩
  rw [Scf.trips, show (1#32 : BitVec 32).toInt = 1 from rfl]
  omega

theorem chk_all (i : grid0.Coords) (v53 : BitVec 32) : k0_chk1 i v53 := by
  have h := lt32 i
  have hb := lo_bounds i v53
  have hc := toInt_coord i
  have key : ∀ k : Fin (k0_t1_loop i v53).trips, (Scf.iv (Scalar.minsi (BitVec.ofNat 32 (i 1).val) (Scalar.maxsi 0#32 v53)) 1#32 k).toNat < 32 := by
    intro k
    rw [iv_t1 i v53 k k.isLt]
    have := lt_of_lt_of_eq k.isLt (trips_t1 i v53)
    omega
  have none : ∀ {P : Fin (k0_t2_loop i v53).trips → Prop}, ∀ k, P k := fun {P} k => absurd (lt_of_lt_of_eq k.isLt (trips_t2 i v53)) (Nat.not_lt_zero _)
  have h1 : (k0_t1_loop i v53).OK := by
    rw [t1_loop_eq]
    show Scf.OK (lo i v53) (BitVec.ofNat 32 (i 1).val) 1#32
    exact ok_of _ _ hb.1 (by omega) (by omega) (by omega)
  have h2 : (k0_t2_loop i v53).OK := by
    rw [t2_loop_eq]
    show Scf.OK (BitVec.ofNat 32 (i 1).val) (BitVec.ofNat 32 (i 1).val) 1#32
    exact ok_of _ _ (by omega) (by omega) (by omega) (le_refl _)
  unfold k0_chk1 k0_chk1_0 k0_chk1_1
  refine ⟨⟨h1, ?_, ?_, ?_, ?_, ?_, ?_, ?_, ?_, ?_, ?_, ?_, ?_, ?_, ?_, ?_, ?_, h2, none, none, none, none, none, none, none, none, none, none, none, none, none, none⟩, none, none⟩
  all_goals
    intro k a
    have := key k
    rw [iv_t1 i v53 k k.isLt] at this
    simp only [off1_eq, off2_eq, off3_eq, off4_eq, off5_eq, off6_eq, off7_eq, off8_eq, off9_eq, off10_eq, off11_eq,
      off12_eq, off13_eq, off14_eq, off15_eq, off16_eq]
    fin_cases a <;> simp <;> omega

end Cert.Proof
-- ==== Proof.Run.lean ====
/-
  One grid point of the gradient kernel, run: the body from its input blocks at any contents and its scratch buffers at
  any contents leaves the inputs as they were and the scratch buffers and the outputs with the pieces the run finds. Three
  cases of the point: the first of a row of 32 (the scratch buffers are cleared), the last (they are written out), and
  the others.
-/
module

public import proofs.«01_k».proof.Proof.Gen.KernelIdeal.Loops
public import proofs.«01_k».proof.Proof.Check
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)

/-- What a point holds: the input blocks at their contents, the output blocks and the scratch buffers at any. -/
abbrev Pt (c : Dev nD) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- The question of the kernel's first conditional: is this the row's first point. -/
abbrev cond1 (i : grid0.Coords) : Prop := (Scalar.cmpi .ne (Scalar.extui (Scalar.cmpi .eq (BitVec.ofNat 32 (i 1).val) 0#32) : BitVec 32) 0#32 : BitVec 1) = 1#1

set_option maxHeartbeats 4000000 in
/-- The first point of a row. -/
@[irreducible] def runA (𝒱 : Variants) (c : Dev nD) (bd : Option 𝒱.V) (i : grid0.Coords) (hc1 : cond1 i) (hc2 : ¬ k0_cond2 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    Σ' (P9 : S256x256.Idx → Elt F .bf16) (G12 : BufTy.Contents (Elt F) arg12.view.ty), { G13 : BufTy.Contents (Elt F) arg13.view.ty // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      Pt (F := F) arg2 arg3 arg4 arg5 arg6 arg7 arg8 arg9 arg10 arg11 arg12 arg13 c X2 X3 X4 X5 X6 X7 X8 f9 f10 f11 f12 f13
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10 arg11 harg11 arg12 harg12 arg13 harg13)
          (fun _ => Pt (F := F) arg2 arg3 arg4 arg5 arg6 arg7 arg8 arg9 arg10 arg11 arg12 arg13 c X2 X3 X4 X5 X6 X7 X8 (arg9.view.writes (Elt F) f9 [⟨Rect.unit ![0, 0] S256x256.size inb_S256x256_S256x256_0_0, P9⟩]) f10 f11 G12 G13) } := by
  refine ⟨?_, ?_, ?_, fun E f9 f10 f11 f12 f13 => ?run⟩
  case run =>
    simp only [cc0_sb_bwd_eq_skeleton]
    unfold cc0_sb_bwd_skel
    iintro ⟨H2, H3, H4, H5, H6, H7, H8, H9, H10, H11, H12, H13⟩
    sl_exec (disch := first | exact hc1 | exact hc2 | exact chk_all _ _)
    sl_step
    sl_close

set_option maxHeartbeats 4000000 in
/-- The middle point of a row. -/
@[irreducible] def runB (𝒱 : Variants) (c : Dev nD) (bd : Option 𝒱.V) (i : grid0.Coords) (hc1 : ¬ cond1 i) (hc2 : ¬ k0_cond2 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    Σ' (P9 : BufTy.Contents (Elt F) arg12.view.ty → BufTy.Contents (Elt F) arg13.view.ty → S256x256.Idx → Elt F .bf16) (G12 : BufTy.Contents (Elt F) arg12.view.ty → BufTy.Contents (Elt F) arg13.view.ty → BufTy.Contents (Elt F) arg12.view.ty), { G13 : BufTy.Contents (Elt F) arg12.view.ty → BufTy.Contents (Elt F) arg13.view.ty → BufTy.Contents (Elt F) arg13.view.ty // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      Pt (F := F) arg2 arg3 arg4 arg5 arg6 arg7 arg8 arg9 arg10 arg11 arg12 arg13 c X2 X3 X4 X5 X6 X7 X8 f9 f10 f11 f12 f13
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10 arg11 harg11 arg12 harg12 arg13 harg13)
          (fun _ => Pt (F := F) arg2 arg3 arg4 arg5 arg6 arg7 arg8 arg9 arg10 arg11 arg12 arg13 c X2 X3 X4 X5 X6 X7 X8 (arg9.view.writes (Elt F) f9 [⟨Rect.unit ![0, 0] S256x256.size inb_S256x256_S256x256_0_0, (P9 f12 f13)⟩]) f10 f11 (G12 f12 f13) (G13 f12 f13)) } := by
  refine ⟨?_, ?_, ?_, fun E f9 f10 f11 f12 f13 => ?run⟩
  case run =>
    simp only [cc0_sb_bwd_eq_skeleton]
    unfold cc0_sb_bwd_skel
    iintro ⟨H2, H3, H4, H5, H6, H7, H8, H9, H10, H11, H12, H13⟩
    sl_exec (disch := first | exact hc1 | exact hc2 | exact chk_all _ _)
    sl_step
    sl_close

set_option maxHeartbeats 4000000 in
/-- The last point of a row. -/
@[irreducible] def runC (𝒱 : Variants) (c : Dev nD) (bd : Option 𝒱.V) (i : grid0.Coords) (hc1 : ¬ cond1 i) (hc2 : k0_cond2 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) :
    Σ' (P9 : BufTy.Contents (Elt F) arg12.view.ty → BufTy.Contents (Elt F) arg13.view.ty → S256x256.Idx → Elt F .bf16) (G12 : BufTy.Contents (Elt F) arg12.view.ty → BufTy.Contents (Elt F) arg13.view.ty → BufTy.Contents (Elt F) arg12.view.ty), { G13 : BufTy.Contents (Elt F) arg12.view.ty → BufTy.Contents (Elt F) arg13.view.ty → BufTy.Contents (Elt F) arg13.view.ty // ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      Pt (F := F) arg2 arg3 arg4 arg5 arg6 arg7 arg8 arg9 arg10 arg11 arg12 arg13 c X2 X3 X4 X5 X6 X7 X8 f9 f10 f11 f12 f13
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10 arg11 harg11 arg12 harg12 arg13 harg13)
          (fun _ => Pt (F := F) arg2 arg3 arg4 arg5 arg6 arg7 arg8 arg9 arg10 arg11 arg12 arg13 c X2 X3 X4 X5 X6 X7 X8 (arg9.view.writes (Elt F) arg9.view.junk [⟨Rect.unit ![0, 0] S256x256.size inb_S256x256_S256x256_0_0, (P9 f12 f13)⟩]) (arg10.view.writes (Elt F) f10 (pb_k0_t3 (F := F) 𝒱 c bd i arg2 harg2 arg3 harg3 arg4 harg4 arg5 harg5 arg6 harg6 arg7 harg7 arg8 harg8 arg9 harg9 arg10 harg10 arg11 harg11 arg12 harg12 arg13 harg13 hc2 (G12 f12 f13) (G13 f12 f13) k0_t3_loop.trips).1) (arg11.view.writes (Elt F) f11 (pb_k0_t3 (F := F) 𝒱 c bd i arg2 harg2 arg3 harg3 arg4 harg4 arg5 harg5 arg6 harg6 arg7 harg7 arg8 harg8 arg9 harg9 arg10 harg10 arg11 harg11 arg12 harg12 arg13 harg13 hc2 (G12 f12 f13) (G13 f12 f13) k0_t3_loop.trips).2) (G12 f12 f13) (G13 f12 f13)) } := by
  refine ⟨?_, ?_, ?_, fun E f9 f10 f11 f12 f13 => ?run⟩
  case run =>
    simp only [cc0_sb_bwd_eq_skeleton]
    unfold cc0_sb_bwd_skel
    iintro ⟨H2, H3, H4, H5, H6, H7, H8, H9, H10, H11, H12, H13⟩
    sl_exec (disch := first | exact hc1 | exact hc2 | exact chk_all _ _)
    sl_step
    sl_close

end Cert.Proof

end
-- ==== Proof.Flush.lean ====
/-
  A row's end: the loop that writes the two scratch buffers out leaves, in the result's rows of key block `k`, the
  transpose of the scratch buffer's slab `k`.
-/
module

public import proofs.«01_k».proof.Proof.Run
public import Idealize.ShloMosaic.Lib.WritesUnit
public import Idealize.ShloMosaic.Lib.Pipeline.Value
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- A store over a whole buffer leaves its payload. -/
theorem read_whole_store (a : Memref sig .tc .vmem S256x256 .bf16) (f : BufTy.Contents (Elt F) a.view.ty) (w : S256x256.Idx → Elt F .bf16)
    (inb : ∀ x, (![0, 0] : Fin 2 → ℕ) x + S256x256.size x ≤ S256x256.size x) :
    a.view.read (Elt F) (a.view.writes (Elt F) f [⟨Rect.unit ![0, 0] S256x256.size inb, w⟩]) = w := by
  funext y
  exact View.read_writes_cons_unit_of_mem (s := S256x256) a.view f inb w [] y y rfl (fun x => by fin_cases x <;> simp)

theorem trips3 : k0_t3_loop.trips = 32 := by decide

/-- Slab `k` of a scratch buffer. -/
def slab (X : S32x256x256.Idx → Elt F .f32) (k : Fin 32) : Vec F S1x256x256 .f32 := fun x => X (ix3 k (x 1) (x 2))

/-- The rows the loop leaves: row `256 k + r` is row `r` of what `pay` makes of slab `k`. -/
def flushed (pay : Vec F S1x256x256 .f32 → FVec F S256x256 .bf16) (X : S32x256x256.Idx → Elt F .f32) : S8192x256.Idx → Elt F .bf16 := fun y =>
  pay (slab X ⟨(y 0).val / 256, by have : (y 0).val < 8192 := (y 0).isLt; omega⟩) (ix2 (⟨(y 0).val % 256, Nat.mod_lt _ (by norm_num)⟩ : Fin 256) (y 1))

/-- A list of stores, the newest in front, of which trip `k` stored rows `256 k` to `256 k + 255`, read at a row stored. -/
theorem read_rows (v : View sig .tc .vmem S8192x256 .bf16) (f : v.ty.Contents (Elt F)) (L : ℕ → List (View.Piece (Elt F) S8192x256 .bf16))
    (G : S8192x256.Idx → Elt F .bf16)
    (h0 : L 0 = [])
    (hs : ∀ k < 32, ∃ (off : Fin 2 → ℕ) (inb : ∀ a, off a + S256x256.size a ≤ S8192x256.size a) (w : S256x256.Idx → Elt F .bf16),
      off = ![256 * k, 0] ∧ L (k + 1) = ⟨Rect.unit off S256x256.size inb, w⟩ :: L k
      ∧ ∀ (y : S8192x256.Idx) (x : S256x256.Idx), (y 0).val = 256 * k + (x 0).val → (y 1).val = (x 1).val → w x = G y)
    : v.read (Elt F) (v.writes (Elt F) f (L 32)) = G := by
  have key : ∀ n ≤ 32, ∀ y : S8192x256.Idx, (y 0).val < 256 * n → v.read (Elt F) (v.writes (Elt F) f (L n)) y = G y := by
    intro n
    induction n with
    | zero => intro _ y hy; omega
    | succ k ih =>
      intro hk y hy
      obtain ⟨off, inb, w, hoff, hL, hw⟩ := hs k (by omega)
      have hy1 : (y 1).val < 256 := (y 1).isLt
      rw [hL]
      by_cases hlt : (y 0).val < 256 * k
      · rw [View.read_writes_cons_unit_of_not_mem v f inb w (L k) y hoff 0 (Or.inl hlt)]
        exact ih (by omega) y hlt
      · let x : S256x256.Idx := ix2 (⟨(y 0).val - 256 * k, by omega⟩ : Fin 256) (y 1)
        have h0' : (y 0).val = 256 * k + (x 0).val := by show _ = 256 * k + ((y 0).val - 256 * k); omega
        have h1' : (y 1).val = (x 1).val := rfl
        rw [View.read_writes_cons_unit_of_mem v f inb w (L k) y x hoff
          (fun a => by
            match a with
            | 0 => exact h0'
            | 1 => show (y 1).val = 0 + (x 1).val; omega)]
        exact hw y x h0' h1'
  funext y
  exact key 32 le_rfl y (by have : (y 0).val < 8192 := (y 0).isLt; omega)

/-- A rectangle of a view read at one of its indices. -/
theorem readAt_at {s : Shape} {ety : EltTy} (v : View sig .tc .vmem s ety) (X : v.ty.Contents (Elt F)) (off off' : Fin s.rank → ℕ) (sz : Fin s.rank → ℕ)
    (inb : ∀ a, off a + sz a ≤ s.size a) (x : (Rect.unit off sz inb).shape.Idx) (y : s.Idx) (heq : off = off')
    (h : ∀ d, (y d).val = off' d + (x d).val) : View.readAt (Elt F) v (Rect.unit off sz inb).toLoadRect X x = v.read (Elt F) X y := by
  subst heq
  show v.read (Elt F) X _ = v.read (Elt F) X _
  congr 1
  funext d
  apply Fin.ext
  show off d + 1 * (x d).val = (y d).val
  rw [h d]; omega

/-- A slab of a whole buffer read at the loop's rectangle. -/
theorem readAt_slab (a : Memref sig .tc .vmem S32x256x256 .f32) (X : BufTy.Contents (Elt F) a.view.ty) (k : Fin k0_t3_loop.trips)
    (inb : ∀ x, (k0_off49 k) x + S1x256x256.size x ≤ S32x256x256.size x) :
    View.readAt (Elt F) a.view (Rect.unit (s := S32x256x256) (k0_off49 k) S1x256x256.size inb).toLoadRect X
      = slab (a.view.read (Elt F) X) (k.cast trips3) := by
  funext x
  refine readAt_at a.view X (k0_off49 k) ![k.val, 0, 0] _ inb x (ix3 (k.cast trips3) (x 1) (x 2)) (k0_off49_eq k) (fun d => ?_)
  have hx0 : (x 0).val < 1 := (x 0).isLt
  match d with
  | 0 => show k.val = k.val + (x 0).val; omega
  | 1 => show (x 1).val = 0 + (x 1).val; omega
  | 2 => show (x 2).val = 0 + (x 2).val; omega

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)

theorem trip10 (𝒱 : Variants) (c : Dev nD) (bd : Option 𝒱.V) (i : grid0.Coords) (h2 : k0_cond2 i = 1#1)
    (X12 : BufTy.Contents (Elt F) arg12.view.ty) (X13 : BufTy.Contents (Elt F) arg13.view.ty) (k : Fin k0_t3_loop.trips) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 k).1
      = [⟨Rect.unit (s := S8192x256) (k0_off50 k) S256x256.size (k0_off50_inb i k h2), k0_pay3 (View.readAt (Elt F) arg12.view (Rect.unit (s := S32x256x256) (k0_off49 k) S1x256x256.size (k0_off49_inb i k h2)).toLoadRect X12)⟩] := by
  unfold trip_k0_t3; rfl

theorem read_flush10 (𝒱 : Variants) (c : Dev nD) (bd : Option 𝒱.V) (i : grid0.Coords) (h2 : k0_cond2 i = 1#1)
    (X12 : BufTy.Contents (Elt F) arg12.view.ty) (X13 : BufTy.Contents (Elt F) arg13.view.ty) (f : BufTy.Contents (Elt F) arg10.view.ty) :
    arg10.view.read (Elt F) (arg10.view.writes (Elt F) f (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 k0_t3_loop.trips).1)
      = flushed k0_pay3 (arg12.view.read (Elt F) X12) := by
  rw [trips3]
  refine read_rows arg10.view f (fun n => (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 n).1) _ rfl (fun k hk => ?_)
  have hk' : k < k0_t3_loop.trips := by rw [trips3]; exact hk
  refine ⟨k0_off50 ⟨k, hk'⟩, k0_off50_inb i ⟨k, hk'⟩ h2, k0_pay3 (View.readAt (Elt F) arg12.view (Rect.unit (s := S32x256x256) (k0_off49 ⟨k, hk'⟩) S1x256x256.size (k0_off49_inb i ⟨k, hk'⟩ h2)).toLoadRect X12), k0_off50_eq ⟨k, hk'⟩, ?_, ?_⟩
  · show (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 ((⟨k, hk'⟩ : Fin k0_t3_loop.trips).val + 1)).1 = _
    rw [pb_k0_t3_succ]
    show (trip_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 ⟨k, hk'⟩).1 ++ _ = _
    rw [trip10]; rfl
  · intro y x h0 h1
    rw [readAt_slab]
    have hx : (x 0).val < 256 := (x 0).isLt
    unfold flushed
    congr 1
    · congr 2; apply Fin.ext; show k = (y 0).val / 256; omega
    · funext d
      apply Fin.ext
      match d with
      | 0 => show (x 0).val = (y 0).val % 256; omega
      | 1 => exact h1.symm

theorem trip11 (𝒱 : Variants) (c : Dev nD) (bd : Option 𝒱.V) (i : grid0.Coords) (h2 : k0_cond2 i = 1#1)
    (X12 : BufTy.Contents (Elt F) arg12.view.ty) (X13 : BufTy.Contents (Elt F) arg13.view.ty) (k : Fin k0_t3_loop.trips) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 k).2.1
      = [⟨Rect.unit (s := S8192x256) (k0_off50 k) S256x256.size (k0_off50_inb i k h2), k0_pay4 (View.readAt (Elt F) arg13.view (Rect.unit (s := S32x256x256) (k0_off49 k) S1x256x256.size (k0_off49_inb i k h2)).toLoadRect X13)⟩] := by
  unfold trip_k0_t3; rfl

theorem read_flush11 (𝒱 : Variants) (c : Dev nD) (bd : Option 𝒱.V) (i : grid0.Coords) (h2 : k0_cond2 i = 1#1)
    (X12 : BufTy.Contents (Elt F) arg12.view.ty) (X13 : BufTy.Contents (Elt F) arg13.view.ty) (f : BufTy.Contents (Elt F) arg11.view.ty) :
    arg11.view.read (Elt F) (arg11.view.writes (Elt F) f (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 k0_t3_loop.trips).2)
      = flushed k0_pay4 (arg13.view.read (Elt F) X13) := by
  rw [trips3]
  refine read_rows arg11.view f (fun n => (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 n).2) _ rfl (fun k hk => ?_)
  have hk' : k < k0_t3_loop.trips := by rw [trips3]; exact hk
  refine ⟨k0_off50 ⟨k, hk'⟩, k0_off50_inb i ⟨k, hk'⟩ h2, k0_pay4 (View.readAt (Elt F) arg13.view (Rect.unit (s := S32x256x256) (k0_off49 ⟨k, hk'⟩) S1x256x256.size (k0_off49_inb i ⟨k, hk'⟩ h2)).toLoadRect X13), k0_off50_eq ⟨k, hk'⟩, ?_, ?_⟩
  · show (pb_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 ((⟨k, hk'⟩ : Fin k0_t3_loop.trips).val + 1)).2 = _
    rw [pb_k0_t3_succ]
    show (trip_k0_t3 (F := F) 𝒱 c bd i arg2 harg2 arg3 harg3 arg4 harg4 arg5 harg5 arg6 harg6 arg7 harg7 arg8 harg8 arg9 harg9 arg10 harg10 arg11 harg11 arg12 harg12 arg13 harg13 h2 X12 X13 ⟨k, hk'⟩).2.1 ++ _ = _
    rw [trip11]; rfl
  · intro y x h0 h1
    rw [readAt_slab]
    have hx : (x 0).val < 256 := (x 0).isLt
    unfold flushed
    congr 1
    · congr 2; apply Fin.ext; show k = (y 0).val / 256; omega
    · funext d
      apply Fin.ext
      match d with
      | 0 => show (x 0).val = (y 0).val % 256; omega
      | 1 => exact h1.symm

end Cert.Proof

end
-- ==== Proof.Body.lean ====
/-
  The kernel's run: what each grid point leaves (from its input blocks and what the two scratch buffers hold), the
  invariant that carries the scratch buffers from point to point, the body's obligation at every point, and the run of the
  whole program from it.
-/
module

public import proofs.«01_k».proof.Proof.Flush
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's case -/

theorem cond1_iff : ∀ t : Fin cfg0.N, cond1 (grid0.coords t) ↔ t.val % 32 = 0 :=
  (by decide +kernel : ∀ t : Fin 64, cond1 (grid0.coords t) ↔ t.val % 32 = 0)

theorem cond2_iff : ∀ t : Fin cfg0.N, k0_cond2 (grid0.coords t) = 1#1 ↔ t.val % 32 = 31 :=
  (by decide +kernel : ∀ t : Fin 64, k0_cond2 (grid0.coords t) = 1#1 ↔ t.val % 32 = 31)

/-! ## The buffers of a point -/

abbrev b2 (t : Fin cfg0.N) : Memref sig .tc .vmem S4x64x256 .bf16 := win0_0.stage (cfg0.slots t 0)
abbrev hb2 (t : Fin cfg0.N) : (b2 t).IsWhole := hstage0_0 ((cfg0.slots t 0).cast nbuf0_0)
abbrev b3 (t : Fin cfg0.N) : Memref sig .tc .vmem S4x32x256x64 .bf16 := win0_1.stage (cfg0.slots t 1)
abbrev hb3 (t : Fin cfg0.N) : (b3 t).IsWhole := hstage0_1 ((cfg0.slots t 1).cast nbuf0_1)
abbrev b4 (t : Fin cfg0.N) : Memref sig .tc .vmem S4x32x64x256 .bf16 := win0_2.stage (cfg0.slots t 2)
abbrev hb4 (t : Fin cfg0.N) : (b4 t).IsWhole := hstage0_2 ((cfg0.slots t 2).cast nbuf0_2)
abbrev b5 (t : Fin cfg0.N) : Memref sig .tc .vmem S4x32x256x64 .bf16 := win0_3.stage (cfg0.slots t 3)
abbrev hb5 (t : Fin cfg0.N) : (b5 t).IsWhole := hstage0_3 ((cfg0.slots t 3).cast nbuf0_3)
abbrev b6 (t : Fin cfg0.N) : Memref sig .tc .vmem S4x64x256 .bf16 := win0_4.stage (cfg0.slots t 4)
abbrev hb6 (t : Fin cfg0.N) : (b6 t).IsWhole := hstage0_4 ((cfg0.slots t 4).cast nbuf0_4)
abbrev b7 (t : Fin cfg0.N) : Memref sig .tc .vmem S4x1x32x8x256 .f32 := win0_5.stage (cfg0.slots t 5)
abbrev hb7 (t : Fin cfg0.N) : (b7 t).IsWhole := hstage0_5 ((cfg0.slots t 5).cast nbuf0_5)
abbrev b8 (t : Fin cfg0.N) : Memref sig .tc .vmem S1x1x8x128 .f32 := win0_6.stage (cfg0.slots t 6)
abbrev hb8 (t : Fin cfg0.N) : (b8 t).IsWhole := hstage0_6 ((cfg0.slots t 6).cast nbuf0_6)
abbrev b9 (t : Fin cfg0.N) : Memref sig .tc .vmem S256x256 .bf16 := win0_7.stage (cfg0.slots t 7)
abbrev hb9 (t : Fin cfg0.N) : (b9 t).IsWhole := hstage0_7 ((cfg0.slots t 7).cast nbuf0_7)
abbrev b10 (t : Fin cfg0.N) : Memref sig .tc .vmem S8192x256 .bf16 := win0_8.stage (cfg0.slots t 8)
abbrev hb10 (t : Fin cfg0.N) : (b10 t).IsWhole := hstage0_8 ((cfg0.slots t 8).cast nbuf0_8)
abbrev b11 (t : Fin cfg0.N) : Memref sig .tc .vmem S8192x256 .bf16 := win0_9.stage (cfg0.slots t 9)
abbrev hb11 (t : Fin cfg0.N) : (b11 t).IsWhole := hstage0_9 ((cfg0.slots t 9).cast nbuf0_9)
abbrev b12 : Memref sig .tc .vmem S32x256x256 .f32 := Memref.whole cc0_scratch0
abbrev b13 : Memref sig .tc .vmem S32x256x256 .f32 := Memref.whole cc0_scratch1

/-- What a scratch buffer holds. -/
abbrev Scr : Type := BufTy.Contents (Elt F) (b12).view.ty

/-- An input block as the contents of its buffer. -/
abbrev x2 (c : Dev nD) (t : Fin cfg0.N) : BufTy.Contents (Elt F) (b2 t).view.ty := (hb2 t).unread (iblk m c 0 t)
abbrev x3 (c : Dev nD) (t : Fin cfg0.N) : BufTy.Contents (Elt F) (b3 t).view.ty := (hb3 t).unread (iblk m c 1 t)
abbrev x4 (c : Dev nD) (t : Fin cfg0.N) : BufTy.Contents (Elt F) (b4 t).view.ty := (hb4 t).unread (iblk m c 2 t)
abbrev x5 (c : Dev nD) (t : Fin cfg0.N) : BufTy.Contents (Elt F) (b5 t).view.ty := (hb5 t).unread (iblk m c 3 t)
abbrev x6 (c : Dev nD) (t : Fin cfg0.N) : BufTy.Contents (Elt F) (b6 t).view.ty := (hb6 t).unread (iblk m c 4 t)
abbrev x7 (c : Dev nD) (t : Fin cfg0.N) : BufTy.Contents (Elt F) (b7 t).view.ty := (hb7 t).unread (iblk m c 5 t)
abbrev x8 (c : Dev nD) (t : Fin cfg0.N) : BufTy.Contents (Elt F) (b8 t).view.ty := (hb8 t).unread (iblk m c 6 t)

/-! ## What a point leaves -/

abbrev pointA (c : Dev nD) (t : Fin cfg0.N) (h : t.val % 32 = 0) :=
  runA (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) ((cond1_iff t).2 h) (fun hh => by have := (cond2_iff t).1 hh; omega) (x2 m c t) (x3 m c t) (x4 m c t) (x5 m c t) (x6 m c t) (x7 m c t) (x8 m c t)

abbrev pointB (c : Dev nD) (t : Fin cfg0.N) (h : ¬ t.val % 32 = 0) (h2 : ¬ t.val % 32 = 31) :=
  runB (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) (fun hh => h ((cond1_iff t).1 hh)) (fun hh => h2 ((cond2_iff t).1 hh)) (x2 m c t) (x3 m c t) (x4 m c t) (x5 m c t) (x6 m c t) (x7 m c t) (x8 m c t)

abbrev pointC (c : Dev nD) (t : Fin cfg0.N) (h : ¬ t.val % 32 = 0) (h2 : t.val % 32 = 31) :=
  runC (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) (fun hh => h ((cond1_iff t).1 hh)) ((cond2_iff t).2 h2) (x2 m c t) (x3 m c t) (x4 m c t) (x5 m c t) (x6 m c t) (x7 m c t) (x8 m c t)

/-- What the point leaves: its block of the first result, and the two scratch buffers' contents. -/
def res (c : Dev nD) (t : Fin cfg0.N) (s : Scr (F := F) × Scr (F := F)) : (S256x256.Idx → Elt F .bf16) × Scr (F := F) × Scr (F := F) :=
  if h : t.val % 32 = 0 then ((pointA m c t h).1, (pointA m c t h).2.1, (pointA m c t h).2.2.1)
  else if h2 : t.val % 32 = 31 then ((pointC m c t h h2).1 s.1 s.2, (pointC m c t h h2).2.1 s.1 s.2, (pointC m c t h h2).2.2.1 s.1 s.2)
  else ((pointB m c t h h2).1 s.1 s.2, (pointB m c t h h2).2.1 s.1 s.2, (pointB m c t h h2).2.2.1 s.1 s.2)

theorem res_A (c : Dev nD) (t : Fin cfg0.N) (s) (h : t.val % 32 = 0) :
    res m c t s = ((pointA m c t h).1, (pointA m c t h).2.1, (pointA m c t h).2.2.1) := by
  unfold res; rw [dif_pos h]
theorem res_C (c : Dev nD) (t : Fin cfg0.N) (s) (h : ¬ t.val % 32 = 0) (h2 : t.val % 32 = 31) :
    res m c t s = ((pointC m c t h h2).1 s.1 s.2, (pointC m c t h h2).2.1 s.1 s.2, (pointC m c t h h2).2.2.1 s.1 s.2) := by
  unfold res; rw [dif_neg h, dif_pos h2]
theorem res_B (c : Dev nD) (t : Fin cfg0.N) (s) (h : ¬ t.val % 32 = 0) (h2 : ¬ t.val % 32 = 31) :
    res m c t s = ((pointB m c t h h2).1 s.1 s.2, (pointB m c t h h2).2.1 s.1 s.2, (pointB m c t h h2).2.2.1 s.1 s.2) := by
  unfold res; rw [dif_neg h, dif_neg h2]

/-- What the scratch buffers hold before point `n` (before the first point of a row, what the row before left). -/
def scr (c : Dev nD) : ℕ → Scr (F := F) × Scr (F := F)
  | 0 => (b12.view.junk, b12.view.junk)
  | n + 1 => if h : n < cfg0.N then (res m c ⟨n, h⟩ (scr c n)).2 else scr c n

theorem scr_succ (c : Dev nD) (t : Fin cfg0.N) : scr m c (t.val + 1) = (res m c t (scr m c t.val)).2 := by
  rw [scr, dif_pos t.isLt]

/-- What the point leaves in the first result's block, and the two others at a row's end. -/
def aft7 (c : Dev nD) (t : Fin cfg0.N) : S256x256.Idx → Elt F .bf16 := (res m c t (scr m c t.val)).1
def aft8 (c : Dev nD) (t : Fin cfg0.N) : S8192x256.Idx → Elt F .bf16 := flushed k0_pay3 (scr m c (t.val + 1)).1
def aft9 (c : Dev nD) (t : Fin cfg0.N) : S8192x256.Idx → Elt F .bf16 := flushed k0_pay4 (scr m c (t.val + 1)).2

/-! ## The invariant and the proof data -/

/-- Before point `n` the scratch buffers hold what the points of the row so far left; at a row's start, anything. -/
def Inv (c : Dev nD) (n : ℕ) : sProp 𝕄 :=
  iprop((∃ f12 f13 : Scr (F := F), ⌜n % 32 ≠ 0 → f12 = (scr m c n).1 ∧ f13 = (scr m c n).2⌝
      ∗ (b12.view.loc (c : Thread nD τ) ↦[b12.view.set]{fullShare} f12) ∗ (b13.view.loc (c : Thread nD τ) ↦[b13.view.set]{fullShare} f13))
    ∗ ∃ r, prngReg c r)

def dats (_ : Fin 1) (c : Dev nD) : Dat τ (Elt F) Unit ℕ (UR sig nD τ) ℕ cfg0 c where
  A w := V m c (Pipeline.arrRef spec0 w)
  after := fun
    | 0 => iblk m c 0
    | 1 => iblk m c 1
    | 2 => iblk m c 2
    | 3 => iblk m c 3
    | 4 => iblk m c 4
    | 5 => iblk m c 5
    | 6 => iblk m c 6
    | 7 => aft7 m c
    | 8 => aft8 m c
    | 9 => aft9 m c
  Φ t := Inv m c t.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d

/-- What the body is called with at point `t`. -/
def pre (c : Dev nD) (t : Fin cfg0.N) : sProp 𝕄 :=
  iprop(Inv m c t.val ∗ (dats m 0 c).owesAt () t.castSucc ∗ (∃ d, owns (c : Thread nD τ) (b2 t) fullShare ((dats m 0 c).before 0 t d)) ∗ (∃ d, owns (c : Thread nD τ) (b3 t) fullShare ((dats m 0 c).before 1 t d)) ∗ (∃ d, owns (c : Thread nD τ) (b4 t) fullShare ((dats m 0 c).before 2 t d)) ∗ (∃ d, owns (c : Thread nD τ) (b5 t) fullShare ((dats m 0 c).before 3 t d)) ∗ (∃ d, owns (c : Thread nD τ) (b6 t) fullShare ((dats m 0 c).before 4 t d)) ∗ (∃ d, owns (c : Thread nD τ) (b7 t) fullShare ((dats m 0 c).before 5 t d)) ∗ (∃ d, owns (c : Thread nD τ) (b8 t) fullShare ((dats m 0 c).before 6 t d)) ∗ (∃ d, owns (c : Thread nD τ) (b9 t) fullShare ((dats m 0 c).before 7 t d)) ∗ (∃ d, owns (c : Thread nD τ) (b10 t) fullShare ((dats m 0 c).before 8 t d)) ∗ (∃ d, owns (c : Thread nD τ) (b11 t) fullShare ((dats m 0 c).before 9 t d)))

/-- What it returns where it leaves the last two results alone. -/
def postAB (c : Dev nD) (t : Fin cfg0.N) : sProp 𝕄 :=
  iprop(Inv m c (t.val + 1) ∗ (dats m 0 c).owesAt () t.castSucc ∗ owns (c : Thread nD τ) (b2 t) fullShare (iblk m c 0 t) ∗ owns (c : Thread nD τ) (b3 t) fullShare (iblk m c 1 t) ∗ owns (c : Thread nD τ) (b4 t) fullShare (iblk m c 2 t) ∗ owns (c : Thread nD τ) (b5 t) fullShare (iblk m c 3 t) ∗ owns (c : Thread nD τ) (b6 t) fullShare (iblk m c 4 t) ∗ owns (c : Thread nD τ) (b7 t) fullShare (iblk m c 5 t) ∗ owns (c : Thread nD τ) (b8 t) fullShare (iblk m c 6 t) ∗ owns (c : Thread nD τ) (b9 t) fullShare (aft7 m c t)
    ∗ (∃ d, owns (c : Thread nD τ) (b10 t) fullShare ((dats m 0 c).before 8 t d)) ∗ (∃ d, owns (c : Thread nD τ) (b11 t) fullShare ((dats m 0 c).before 9 t d)))

/-- What it returns at a row's last point. -/
def postC (c : Dev nD) (t : Fin cfg0.N) : sProp 𝕄 :=
  iprop(Inv m c (t.val + 1) ∗ (dats m 0 c).owesAt () t.castSucc ∗ owns (c : Thread nD τ) (b2 t) fullShare (iblk m c 0 t) ∗ owns (c : Thread nD τ) (b3 t) fullShare (iblk m c 1 t) ∗ owns (c : Thread nD τ) (b4 t) fullShare (iblk m c 2 t) ∗ owns (c : Thread nD τ) (b5 t) fullShare (iblk m c 3 t) ∗ owns (c : Thread nD τ) (b6 t) fullShare (iblk m c 4 t) ∗ owns (c : Thread nD τ) (b7 t) fullShare (iblk m c 5 t) ∗ owns (c : Thread nD τ) (b8 t) fullShare (iblk m c 6 t) ∗ owns (c : Thread nD τ) (b9 t) fullShare (aft7 m c t)
    ∗ owns (c : Thread nD τ) (b10 t) fullShare (aft8 m c t) ∗ owns (c : Thread nD τ) (b11 t) fullShare (aft9 m c t))

set_option maxHeartbeats 4000000 in
theorem soundA (c : Dev nD) (t : Fin cfg0.N) (h : t.val % 32 = 0) :
    pre m c t ⊢ wp frame (wpE (defs₀ (F := F)) Variants.none c none) Set.univ (bodyAt0 t) (fun _ => postAB m c t) := by
  unfold pre postAB Inv owns
  iintro ⟨⟨⟨%f12, %f13, %hs, H12, H13⟩, Hg⟩, HO, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  rw [before_0] at e2
  obtain rfl : f2 = x2 m c t := (hb2 t).eq_unread e2
  rw [before_1] at e3
  obtain rfl : f3 = x3 m c t := (hb3 t).eq_unread e3
  rw [before_2] at e4
  obtain rfl : f4 = x4 m c t := (hb4 t).eq_unread e4
  rw [before_3] at e5
  obtain rfl : f5 = x5 m c t := (hb5 t).eq_unread e5
  rw [before_4] at e6
  obtain rfl : f6 = x6 m c t := (hb6 t).eq_unread e6
  rw [before_5] at e7
  obtain rfl : f7 = x7 m c t := (hb7 t).eq_unread e7
  rw [before_6] at e8
  obtain rfl : f8 = x8 m c t := (hb8 t).eq_unread e8
  have hres := res_A m c t (scr m c t.val) h
  rcases hp : pointA m c t h with ⟨P9, G12, ⟨G13, hrun⟩⟩
  rw [hp] at hres
  iapply (wp_wand_r Idealize.ShloMosaic.frame (wpE (defs₀ (F := F)) Variants.none (c : Thread nD τ) none) Set.univ)
  isplitl [H2 H3 H4 H5 H6 H7 H8 H9 H10 H11 H12 H13]
  · iapply (hrun Set.univ f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H2, H3, H4, H5, H6, H7, H8, H9, H10, H11, H12, H13⟩
  isplitl [H12 H13 Hg]
  · isplitl [H12 H13]
    · iexists _, _; isplitr; swap
      · isplitl [H12]; · iexact H12
        iexact H13
      ipureintro; intro _
      rw [scr_succ, hres]
      exact ⟨rfl, rfl⟩
    iexact Hg
  isplitl [HO]; · iexact HO
  isplitl [H2]
  · iexists _; isplitr; swap
    · iexact H2
    ipureintro; exact (hb2 t).read_unread _
  isplitl [H3]
  · iexists _; isplitr; swap
    · iexact H3
    ipureintro; exact (hb3 t).read_unread _
  isplitl [H4]
  · iexists _; isplitr; swap
    · iexact H4
    ipureintro; exact (hb4 t).read_unread _
  isplitl [H5]
  · iexists _; isplitr; swap
    · iexact H5
    ipureintro; exact (hb5 t).read_unread _
  isplitl [H6]
  · iexists _; isplitr; swap
    · iexact H6
    ipureintro; exact (hb6 t).read_unread _
  isplitl [H7]
  · iexists _; isplitr; swap
    · iexact H7
    ipureintro; exact (hb7 t).read_unread _
  isplitl [H8]
  · iexists _; isplitr; swap
    · iexact H8
    ipureintro; exact (hb8 t).read_unread _
  isplitl [H9]
  · iexists _; isplitr; swap; · iexact H9
    ipureintro; rw [read_whole_store]; unfold aft7; rw [hres]
  isplitl [H10]
  · iexists d10, _; isplitr; swap
    · iexact H10
    ipureintro; exact e10
  iexists d11, _; isplitr; swap
  · iexact H11
  ipureintro; exact e11

set_option maxHeartbeats 4000000 in
theorem soundB (c : Dev nD) (t : Fin cfg0.N) (h : ¬ t.val % 32 = 0) (h2 : ¬ t.val % 32 = 31) :
    pre m c t ⊢ wp frame (wpE (defs₀ (F := F)) Variants.none c none) Set.univ (bodyAt0 t) (fun _ => postAB m c t) := by
  unfold pre postAB Inv owns
  iintro ⟨⟨⟨%f12, %f13, %hs, H12, H13⟩, Hg⟩, HO, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  rw [before_0] at e2
  obtain rfl : f2 = x2 m c t := (hb2 t).eq_unread e2
  rw [before_1] at e3
  obtain rfl : f3 = x3 m c t := (hb3 t).eq_unread e3
  rw [before_2] at e4
  obtain rfl : f4 = x4 m c t := (hb4 t).eq_unread e4
  rw [before_3] at e5
  obtain rfl : f5 = x5 m c t := (hb5 t).eq_unread e5
  rw [before_4] at e6
  obtain rfl : f6 = x6 m c t := (hb6 t).eq_unread e6
  rw [before_5] at e7
  obtain rfl : f7 = x7 m c t := (hb7 t).eq_unread e7
  rw [before_6] at e8
  obtain rfl : f8 = x8 m c t := (hb8 t).eq_unread e8
  obtain ⟨rfl, rfl⟩ := hs h
  have hres := res_B m c t (scr m c t.val) h h2
  rcases hp : pointB m c t h h2 with ⟨P9, G12, ⟨G13, hrun⟩⟩
  rw [hp] at hres
  iapply (wp_wand_r Idealize.ShloMosaic.frame (wpE (defs₀ (F := F)) Variants.none (c : Thread nD τ) none) Set.univ)
  isplitl [H2 H3 H4 H5 H6 H7 H8 H9 H10 H11 H12 H13]
  · iapply (hrun Set.univ f9 f10 f11 (scr m c t.val).1 (scr m c t.val).2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H2, H3, H4, H5, H6, H7, H8, H9, H10, H11, H12, H13⟩
  isplitl [H12 H13 Hg]
  · isplitl [H12 H13]
    · iexists _, _; isplitr; swap
      · isplitl [H12]; · iexact H12
        iexact H13
      ipureintro; intro _
      rw [scr_succ, hres]
      exact ⟨rfl, rfl⟩
    iexact Hg
  isplitl [HO]; · iexact HO
  isplitl [H2]
  · iexists _; isplitr; swap
    · iexact H2
    ipureintro; exact (hb2 t).read_unread _
  isplitl [H3]
  · iexists _; isplitr; swap
    · iexact H3
    ipureintro; exact (hb3 t).read_unread _
  isplitl [H4]
  · iexists _; isplitr; swap
    · iexact H4
    ipureintro; exact (hb4 t).read_unread _
  isplitl [H5]
  · iexists _; isplitr; swap
    · iexact H5
    ipureintro; exact (hb5 t).read_unread _
  isplitl [H6]
  · iexists _; isplitr; swap
    · iexact H6
    ipureintro; exact (hb6 t).read_unread _
  isplitl [H7]
  · iexists _; isplitr; swap
    · iexact H7
    ipureintro; exact (hb7 t).read_unread _
  isplitl [H8]
  · iexists _; isplitr; swap
    · iexact H8
    ipureintro; exact (hb8 t).read_unread _
  isplitl [H9]
  · iexists _; isplitr; swap; · iexact H9
    ipureintro; rw [read_whole_store]; unfold aft7; rw [hres]
  isplitl [H10]
  · iexists d10, _; isplitr; swap
    · iexact H10
    ipureintro; exact e10
  iexists d11, _; isplitr; swap
  · iexact H11
  ipureintro; exact e11

set_option maxHeartbeats 4000000 in
theorem soundC (c : Dev nD) (t : Fin cfg0.N) (h : ¬ t.val % 32 = 0) (h2 : t.val % 32 = 31) :
    pre m c t ⊢ wp frame (wpE (defs₀ (F := F)) Variants.none c none) Set.univ (bodyAt0 t) (fun _ => postC m c t) := by
  unfold pre postC Inv owns
  iintro ⟨⟨⟨%f12, %f13, %hs, H12, H13⟩, Hg⟩, HO, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩⟩
  rw [before_0] at e2
  obtain rfl : f2 = x2 m c t := (hb2 t).eq_unread e2
  rw [before_1] at e3
  obtain rfl : f3 = x3 m c t := (hb3 t).eq_unread e3
  rw [before_2] at e4
  obtain rfl : f4 = x4 m c t := (hb4 t).eq_unread e4
  rw [before_3] at e5
  obtain rfl : f5 = x5 m c t := (hb5 t).eq_unread e5
  rw [before_4] at e6
  obtain rfl : f6 = x6 m c t := (hb6 t).eq_unread e6
  rw [before_5] at e7
  obtain rfl : f7 = x7 m c t := (hb7 t).eq_unread e7
  rw [before_6] at e8
  obtain rfl : f8 = x8 m c t := (hb8 t).eq_unread e8
  obtain ⟨rfl, rfl⟩ := hs h
  have hres := res_C m c t (scr m c t.val) h h2
  rcases hp : pointC m c t h h2 with ⟨P9, G12, ⟨G13, hrun⟩⟩
  rw [hp] at hres
  iapply (wp_wand_r Idealize.ShloMosaic.frame (wpE (defs₀ (F := F)) Variants.none (c : Thread nD τ) none) Set.univ)
  isplitl [H2 H3 H4 H5 H6 H7 H8 H9 H10 H11 H12 H13]
  · iapply (hrun Set.univ f9 f10 f11 (scr m c t.val).1 (scr m c t.val).2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %_ ⟨H2, H3, H4, H5, H6, H7, H8, H9, H10, H11, H12, H13⟩
  isplitl [H12 H13 Hg]
  · isplitl [H12 H13]
    · iexists _, _; isplitr; swap
      · isplitl [H12]; · iexact H12
        iexact H13
      ipureintro; intro _
      rw [scr_succ, hres]
      exact ⟨rfl, rfl⟩
    iexact Hg
  isplitl [HO]; · iexact HO
  isplitl [H2]
  · iexists _; isplitr; swap
    · iexact H2
    ipureintro; exact (hb2 t).read_unread _
  isplitl [H3]
  · iexists _; isplitr; swap
    · iexact H3
    ipureintro; exact (hb3 t).read_unread _
  isplitl [H4]
  · iexists _; isplitr; swap
    · iexact H4
    ipureintro; exact (hb4 t).read_unread _
  isplitl [H5]
  · iexists _; isplitr; swap
    · iexact H5
    ipureintro; exact (hb5 t).read_unread _
  isplitl [H6]
  · iexists _; isplitr; swap
    · iexact H6
    ipureintro; exact (hb6 t).read_unread _
  isplitl [H7]
  · iexists _; isplitr; swap
    · iexact H7
    ipureintro; exact (hb7 t).read_unread _
  isplitl [H8]
  · iexists _; isplitr; swap
    · iexact H8
    ipureintro; exact (hb8 t).read_unread _
  isplitl [H9]
  · iexists _; isplitr; swap; · iexact H9
    ipureintro; rw [read_whole_store]; unfold aft7; rw [hres]
  isplitl [H10]
  · iexists _; isplitr; swap; · iexact H10
    ipureintro; unfold aft8; rw [scr_succ, hres]; exact read_flush10 ..
  iexists _; isplitr; swap; · iexact H11
  ipureintro; unfold aft9; rw [scr_succ, hres]; exact read_flush11 ..

end Cert.Proof

end
-- ==== Proof.Obligation.lean ====
/-
  The body's obligation at every grid point.
-/
module

public import proofs.«01_k».proof.Proof.Body
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

theorem idle8 (t : Fin cfg0.N) (h : ¬ t.val % 32 = 31) : cfg0.idle 8 (cfg0.grid.coords t) = true := by
  have := fun hh => h ((cond2_iff t).1 hh)
  show (!(k0_cond2 (grid0.coords t) == 1#1)) = true
  simpa using this
theorem idle9 (t : Fin cfg0.N) (h : ¬ t.val % 32 = 31) : cfg0.idle 9 (cfg0.grid.coords t) = true := idle8 t h
theorem live8 (t : Fin cfg0.N) (h : t.val % 32 = 31) : cfg0.idle 8 (cfg0.grid.coords t) = false := by
  have := (cond2_iff t).2 h
  show (!(k0_cond2 (grid0.coords t) == 1#1)) = false
  simpa using this
theorem live9 (t : Fin cfg0.N) (h : t.val % 32 = 31) : cfg0.idle 9 (cfg0.grid.coords t) = false := live8 t h

set_option maxHeartbeats 8000000 in
theorem body_obligation (c : Dev nD) : BodyObligation (dats (F := F) m 0 c) (defs₀ (F := F)) Variants.none () Set.univ := fun t => by
  rw [bigSep_W0, bigSep_W0, defs₀_row]
  by_cases h2 : t.val % 32 = 31
  · have h : ¬ t.val % 32 = 0 := by omega
    rw [live8 t h2]; try rw [live9 t h2]
    exact triple_restated (soundC m c t h h2) rfl .rfl fun _ => .rfl
  · have hf8 : (cfg0.win 8).flush t = false := by
      rcases hh : (cfg0.win 8).flush t with _ | _
      · rfl
      · exact absurd ((flush0_8 t).1 hh) h2
    have hf9 : (cfg0.win 9).flush t = false := by
      rcases hh : (cfg0.win 9).flush t with _ | _
      · rfl
      · exact absurd ((flush0_9 t).1 hh) h2
    rw [idle8 t h2]; try rw [idle9 t h2]
    rw [hf8]; try rw [hf9]
    by_cases h : t.val % 32 = 0
    · exact triple_restated (soundA m c t h) rfl .rfl fun _ => .rfl
    · exact triple_restated (soundB m c t h h2) rfl .rfl fun _ => .rfl

end Cert.Proof

end
-- ==== Proof.Main.lean ====
/-
  The run of the whole program from the body's obligation, and the frame read from it.
-/
module

public import proofs.«01_k».proof.Proof.Obligation
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

theorem inv_in (c : Dev nD) : Pipeline.ΦA spec0 c ⊢ (Inv m c 0 : sProp 𝕄) := by
  unfold Pipeline.ΦA Inv
  rw [scopedRest0_eq]
  iintro ⟨⟨⟨%f, H12⟩, ⟨%g, H13⟩⟩, Hg⟩
  isplitl [H12 H13]
  · iexists f, g; isplitr
    · ipureintro; intro hh; exact absurd rfl hh
    simp only [Memref.view_whole, View.set_whole]
    isplitl [H12]; · iexact H12
    iexact H13
  iexact Hg

theorem inv_out (c : Dev nD) (n : ℕ) : (Inv m c n : sProp 𝕄) ⊢ Pipeline.ΦA spec0 c := by
  unfold Pipeline.ΦA Inv
  rw [scopedRest0_eq]
  simp only [Memref.view_whole, View.set_whole]
  iintro ⟨⟨%f, %g, -, H12, H13⟩, Hg⟩
  isplitl [H12 H13]
  · isplitl [H12]; · iexists f; iexact H12
    iexists g; iexact H13
  iexact Hg

set_option backward.isDefEq.respectTransparency.types false in
/-- From any memory with zero counters the program terminates with the counters at zero again and the results assembled
    from what the points leave. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := fun c => inv_out m c _)

/-- The frame: the program terminates without fault, leaves its arguments as they were and every counter at zero, over any
    arithmetic. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof

end
-- ==== Proof.Same.lean ====
/-
  The two kernel programs have one text: their body tables and their main functions are equal.
-/
module

public import proofs.«01_k».proof.Proof.Gen.Kernel.Launch
public import proofs.«01_k».proof.Proof.Gen.KernelIdeal.Launch

@[expose] public section

set_option maxRecDepth 16384
set_option maxHeartbeats 4000000

noncomputable section

namespace Cert.Proof

open Idealize.ShloMosaic Idealize.SL.Sem

variable {F : FTy → Type} [FloatOps F]

/-- The kernels' body tables are equal. -/
theorem same_bodies : @Cert.Kernel.defs₀ F _ _ = @Cert.KernelIdeal.defs₀ F _ _ := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | ⟨0, _⟩, (t, s) => rfl
  | ⟨n + 1, h⟩, _ => exact absurd h (Nat.not_lt.2 (Nat.le_add_left _ _))

/-- So are the programs' body tables. -/
theorem same_defs : @Cert.Kernel.defs F _ _ = @Cert.KernelIdeal.defs F _ _ := by
  unfold Cert.Kernel.defs Cert.KernelIdeal.defs
  exact congrArg (Pipeline.defs (Cert.KernelIdeal.pcfgs (F := F))) same_bodies

/-- And their main functions. -/
theorem same_main : @Cert.Kernel.main F _ _ = @Cert.KernelIdeal.main F _ _ := rfl

end Cert.Proof

end
-- ==== Proof.Block.lean ====
/-
  One block of the backward pass, for one head: 256 queries against 256 keys. The block's operations under names of
  their own, so that each head's payloads, in the loop over the blocks below the diagonal and in the diagonal block,
  are the same functions of what they read.
-/
module

public import proofs.«01_k».proof.Proof.Gen.KernelIdeal.Skeleton
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

variable {F : FTy → Type} [FloatOps F]

/-- What a block does with its mask: nothing below the diagonal, zero where the key is not before the query on it. -/
abbrev Sel (F : FTy → Type) := FVec F S256x256 .f32 → FVec F S256x256 .f32

/-- A block below the diagonal keeps every entry. -/
def keep : Sel F := fun x => x

/-- The diagonal block keeps the entries whose key comes before the query. -/
def causal : Sel F := fun x => select k0_pay115 x (broadcast S256x256 (Scalar.ofBits .f32 0x00000000#32))

/-- The queries of one head, scaled. -/
def scaleQ (q : Vec F S1x64x256 .bf16) : FVec F S64x256 .bf16 := k0_pay105 q

/-- One head of the gradient of the output. -/
def plainC (c : Vec F S1x64x256 .bf16) : FVec F S64x256 .bf16 := k0_pay109 c

/-- Keys (or values) against queries (or output gradients). -/
def scores (q : FVec F S64x256 .bf16) (k : Vec F S1x1x256x64 .bf16) : FVec F S256x256 .f32 :=
  matmul dot_S256x64_S64x256_S256x256_1_0_0_1_n_n none (shapeCast S256x64 k shapeCasts_S1x1x256x64_S256x64) q (constant S256x256 .f32 0x00000000#32)

/-- The logarithm of the logistic of a score. -/
def logSig (z : FVec F S256x256 .f32) : FVec F S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- A triangle of ones times `x`, with `x` in two parts. -/
def triMul (tri : FVec F S256x256 .bf16) (x : FVec F S256x256 .f32) : FVec F S256x256 .f32 :=
  addf (matmul dot_S256x256_S256x256_S256x256_1_0_0_1_n_n none tri (truncf .bf16 x bitsLt_bf16_f32) (constant S256x256 .f32 0x00000000#32))
    (matmul dot_S256x256_S256x256_S256x256_1_0_0_1_n_n none tri (truncf .bf16 (subf x (extf .f32 (truncf .bf16 x bitsLt_bf16_f32) bitsLt_bf16_f32)) bitsLt_bf16_f32) (constant S256x256 .f32 0x00000000#32))

/-- The row of sums over the later blocks, spread over the keys. -/
def later (rs : Vec F S1x1x1x8x256 .f32) : FVec F S256x256 .f32 :=
  broadcastTo S256x256 (extractStridedSlice S1x256 ![0, 0] (shapeCast S8x256 rs shapeCasts_S1x1x1x8x256_S8x256) slices_S8x256_o0_0_S1x256) broadcasts_S1x256_S256x256

/-- The weights of the block, from the scores. -/
def wts (sel : Sel F) (z : FVec F S256x256 .f32) (rs : Vec F S1x1x1x8x256 .f32) : FVec F S256x256 .f32 :=
  sel (exp (addf (logSig z) (addf (later rs) (triMul k0_pay113 (sel (subf (logSig z) z))))))

/-- The gradient of the logarithms of the weights. -/
def ets (sel : Sel F) (z da : FVec F S256x256 .f32) (rs : Vec F S1x1x1x8x256 .f32) : FVec F S256x256 .f32 := mulf da (wts sel z rs)

/-- The gradient of the scores, with the sums over the earlier blocks carried in. -/
def dzs (sel : Sel F) (z da : FVec F S256x256 .f32) (rs : Vec F S1x1x1x8x256 .f32) (carry : FVec F S1x256 .f32) : FVec F S256x256 .bf16 :=
  truncf .bf16 (sel (subf (mulf (ets sel z da rs) (subf (broadcast S256x256 (Scalar.ofBits .f32 0x3F800000#32)) (exp (logSig z))))
    (mulf (addf (broadcastTo S256x256 carry broadcasts_S1x256_S256x256) (triMul k0_pay114 (ets sel z da rs))) (exp (logSig z))))) bitsLt_bf16_f32

/-- The carried sums after the block. -/
def carried (carry : FVec F S1x256 .f32) (e : FVec F S256x256 .f32) : FVec F S1x256 .f32 :=
  addf carry (shapeCast S1x256 (multiReduction .add [0] S256 e 0x00000000#32 reduces_S256x256_S256 (.inl rfl) rfl) shapeCasts_S256_S1x256)

/-- The gradient of the queries after the block. -/
def dqs (dq : FVec F S64x256 .f32) (kT : Vec F S1x1x64x256 .bf16) (dz : FVec F S256x256 .bf16) : FVec F S64x256 .f32 :=
  addf dq (matmul dot_S64x256_S256x256_S64x256_1_0_0_1_n_n none (shapeCast S64x256 kT shapeCasts_S1x1x64x256_S64x256) dz (constant S64x256 .f32 0x00000000#32))

/-- What a block adds to one head's rows of a scratch buffer. -/
def addTo (q : FVec F S64x256 .bf16) (w : FVec F S256x256 .bf16) (old : Vec F S1x64x256 .f32) : FVec F S1x64x256 .f32 :=
  shapeCast S1x64x256 (addf (shapeCast S64x256 old shapeCasts_S1x64x256_S64x256) (matmul dot_S64x256_S256x256_S64x256_1_1_0_0_n_n none q w (constant S64x256 .f32 0x00000000#32))) shapeCasts_S64x256_S1x64x256

/-- The weights as the products take them. -/
def narrow (w : FVec F S256x256 .f32) : FVec F S256x256 .bf16 := truncf .bf16 w bitsLt_bf16_f32

end Cert.Proof

end
-- ==== Proof.Trip.lean ====
/-
  One trip of the loop over the blocks below the diagonal: what it carries on and what it stores, for each of the four
  heads, in the terms of `Block`.
-/
module

public import proofs.«01_k».proof.Proof.Block
public import proofs.«01_k».proof.Proof.Gen.KernelIdeal.Loops

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- What one head carries through a block: the sums over the keys, and the gradient of the queries. -/
abbrev Carry (F : FTy → Type) := FVec F S1x256 .f32 × FVec F S64x256 .f32

/-- What a head reads for a block. -/
structure Reads (F : FTy → Type) where
  q : FVec F S64x256 .bf16
  ct : FVec F S64x256 .bf16
  k : Vec F S1x1x256x64 .bf16
  v : Vec F S1x1x256x64 .bf16
  kT : Vec F S1x1x64x256 .bf16
  rs : Vec F S1x1x1x8x256 .f32

namespace Reads

/-- The weights of the block. -/
def A (r : Reads F) (sel : Sel F) : FVec F S256x256 .f32 := wts sel (scores r.q r.k) r.rs

/-- The gradient of the block's scores. -/
def dz (r : Reads F) (sel : Sel F) (carry : FVec F S1x256 .f32) : FVec F S256x256 .bf16 := dzs sel (scores r.q r.k) (scores r.ct r.v) r.rs carry

/-- What the head carries on from the block. -/
def next (r : Reads F) (sel : Sel F) (a : Carry F) : Carry F :=
  (carried a.1 (ets sel (scores r.q r.k) (scores r.ct r.v) r.rs), dqs a.2 r.kT (r.dz sel a.1))

/-- The rows of the key gradient's buffer after the block. -/
def addK (r : Reads F) (sel : Sel F) (carry : FVec F S1x256 .f32) (old : Vec F S1x64x256 .f32) : FVec F S1x64x256 .f32 := addTo r.q (r.dz sel carry) old

/-- The rows of the value gradient's buffer after the block. -/
def addV (r : Reads F) (sel : Sel F) (old : Vec F S1x64x256 .f32) : FVec F S1x64x256 .f32 := addTo r.ct (narrow (r.A sel)) old

end Reads

/-- A head's place in a scratch buffer. -/
structure Spot where
  off : Fin 3 → ℕ
  inb : ∀ a, off a + S1x64x256.size a ≤ S32x256x256.size a

/-- The four heads' stores into a scratch buffer after those of `L`, each made from what it finds at its place, the newest in front. -/
def chain (v : View sig .tc .vmem S32x256x256 .f32) (f : BufTy.Contents (Elt F) v.ty) (L : List (View.Piece (Elt F) S32x256x256 .f32)) (spot : Fin 4 → Spot) (pay : Fin 4 → Vec F S1x64x256 .f32 → FVec F S1x64x256 .f32) :
    ℕ → List (View.Piece (Elt F) S32x256x256 .f32)
  | 0 => L
  | n + 1 => if h : n < 4 then ⟨Rect.unit (s := S32x256x256) (spot ⟨n, h⟩).off S1x64x256.size (spot ⟨n, h⟩).inb,
      pay ⟨n, h⟩ (View.readAt (Elt F) v (Rect.unit (s := S32x256x256) (spot ⟨n, h⟩).off S1x64x256.size (spot ⟨n, h⟩).inb).toLoadRect (v.writes (Elt F) f (chain v f L spot pay n)))⟩ :: chain v f L spot pay n
    else chain v f L spot pay n

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
variable (𝒱 : Variants) (c : Dev nD) (bd : Option 𝒱.V) (i : grid0.Coords) (arg1 : BitVec 32) (v8 v14 v20 v26 v28 v30 : FVec F S64x256 .bf16) (v31 v33 : Vec F S1x64x256 .bf16) (v53 : BitVec 32) (k0_hw1 : k0_chk1 i v53) (v55 : BitVec 32) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin (k0_t1_loop i v53).trips)

/-- What the four heads read on trip `k`. -/
def tripReads : Fin 4 → Reads F
  | 0 => ⟨v8, v28, (View.readAt (Elt F) arg3.view (Rect.unit (s := S4x32x256x64) (k0_off1 i v53 k) S1x1x256x64.size (k0_off1_inb i v53 k0_hw1 k)).toLoadRect X_arg3), (View.readAt (Elt F) arg5.view (Rect.unit (s := S4x32x256x64) (k0_off1 i v53 k) S1x1x256x64.size (k0_off1_inb i v53 k0_hw1 k)).toLoadRect X_arg5),
    (View.readAt (Elt F) arg4.view (Rect.unit (s := S4x32x64x256) (k0_off9 i v53 k) S1x1x64x256.size (k0_off9_inb i v53 k0_hw1 k)).toLoadRect X_arg4), (View.readAt (Elt F) arg7.view (Rect.unit (s := S4x1x32x8x256) (k0_off5 i v53 k) S1x1x1x8x256.size (k0_off5_inb i v53 k0_hw1 k)).toLoadRect X_arg7)⟩
  | 1 => ⟨v14, v30, (View.readAt (Elt F) arg3.view (Rect.unit (s := S4x32x256x64) (k0_off2 i v53 k) S1x1x256x64.size (k0_off2_inb i v53 k0_hw1 k)).toLoadRect X_arg3), (View.readAt (Elt F) arg5.view (Rect.unit (s := S4x32x256x64) (k0_off2 i v53 k) S1x1x256x64.size (k0_off2_inb i v53 k0_hw1 k)).toLoadRect X_arg5),
    (View.readAt (Elt F) arg4.view (Rect.unit (s := S4x32x64x256) (k0_off10 i v53 k) S1x1x64x256.size (k0_off10_inb i v53 k0_hw1 k)).toLoadRect X_arg4), (View.readAt (Elt F) arg7.view (Rect.unit (s := S4x1x32x8x256) (k0_off6 i v53 k) S1x1x1x8x256.size (k0_off6_inb i v53 k0_hw1 k)).toLoadRect X_arg7)⟩
  | 2 => ⟨v20, (plainC v31), (View.readAt (Elt F) arg3.view (Rect.unit (s := S4x32x256x64) (k0_off3 i v53 k) S1x1x256x64.size (k0_off3_inb i v53 k0_hw1 k)).toLoadRect X_arg3), (View.readAt (Elt F) arg5.view (Rect.unit (s := S4x32x256x64) (k0_off3 i v53 k) S1x1x256x64.size (k0_off3_inb i v53 k0_hw1 k)).toLoadRect X_arg5),
    (View.readAt (Elt F) arg4.view (Rect.unit (s := S4x32x64x256) (k0_off11 i v53 k) S1x1x64x256.size (k0_off11_inb i v53 k0_hw1 k)).toLoadRect X_arg4), (View.readAt (Elt F) arg7.view (Rect.unit (s := S4x1x32x8x256) (k0_off7 i v53 k) S1x1x1x8x256.size (k0_off7_inb i v53 k0_hw1 k)).toLoadRect X_arg7)⟩
  | 3 => ⟨v26, (plainC v33), (View.readAt (Elt F) arg3.view (Rect.unit (s := S4x32x256x64) (k0_off4 i v53 k) S1x1x256x64.size (k0_off4_inb i v53 k0_hw1 k)).toLoadRect X_arg3), (View.readAt (Elt F) arg5.view (Rect.unit (s := S4x32x256x64) (k0_off4 i v53 k) S1x1x256x64.size (k0_off4_inb i v53 k0_hw1 k)).toLoadRect X_arg5),
    (View.readAt (Elt F) arg4.view (Rect.unit (s := S4x32x64x256) (k0_off12 i v53 k) S1x1x64x256.size (k0_off12_inb i v53 k0_hw1 k)).toLoadRect X_arg4), (View.readAt (Elt F) arg7.view (Rect.unit (s := S4x1x32x8x256) (k0_off8 i v53 k) S1x1x1x8x256.size (k0_off8_inb i v53 k0_hw1 k)).toLoadRect X_arg7)⟩

/-- The four heads' places on trip `k`. -/
def tripSpot : Fin 4 → Spot
  | 0 => ⟨k0_off13 i v53 k, k0_off13_inb i v53 k0_hw1 k⟩
  | 1 => ⟨k0_off14 i v53 k, k0_off14_inb i v53 k0_hw1 k⟩
  | 2 => ⟨k0_off15 i v53 k, k0_off15_inb i v53 k0_hw1 k⟩
  | 3 => ⟨k0_off16 i v53 k, k0_off16_inb i v53 k0_hw1 k⟩

/-- What the loop carries, from what each head carries. -/
abbrev packed (a : Fin 4 → Carry F) : FVec F S1x256 .f32 × FVec F S64x256 .f32 × FVec F S1x256 .f32 × FVec F S64x256 .f32 × FVec F S1x256 .f32 × FVec F S64x256 .f32 × FVec F S1x256 .f32 × FVec F S64x256 .f32 :=
  ((a 0).1, (a 0).2, (a 1).1, (a 1).2, (a 2).1, (a 2).2, (a 3).1, (a 3).2)

set_option maxHeartbeats 1600000 in
theorem trip_carry (a : Fin 4 → Carry F) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k).1 (packed a) f12 f13
      = packed (fun g => (tripReads arg3 arg4 arg5 arg7 i v8 v14 v20 v26 v28 v30 v31 v33 v53 k0_hw1 X_arg3 X_arg4 X_arg5 X_arg7 k g).next keep (a g)) := by
  unfold trip_k0_t1; rfl

set_option maxHeartbeats 1600000 in
theorem trip_rows12 (a : Fin 4 → Carry F) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k).2.1 (packed a) f12 f13
      = chain arg12.view f12 [] (tripSpot i v53 k0_hw1 k) (fun g old => (tripReads arg3 arg4 arg5 arg7 i v8 v14 v20 v26 v28 v30 v31 v33 v53 k0_hw1 X_arg3 X_arg4 X_arg5 X_arg7 k g).addK keep (a g).1 old) 4 := by
  unfold trip_k0_t1; rfl

set_option maxHeartbeats 1600000 in
theorem trip_rows13 (a : Fin 4 → Carry F) (f12 : BufTy.Contents (Elt F) arg12.view.ty) (f13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k).2.2.1 (packed a) f12 f13
      = chain arg13.view f13 [] (tripSpot i v53 k0_hw1 k) (fun g old => (tripReads arg3 arg4 arg5 arg7 i v8 v14 v20 v26 v28 v30 v31 v33 v53 k0_hw1 X_arg3 X_arg4 X_arg5 X_arg7 k g).addV keep old) 4 := by
  unfold trip_k0_t1; rfl

end Cert.Proof

end
-- ==== Proof.Chain.lean ====
/-
  Four heads' stores into slab `j` of a scratch buffer, read: each head's 64 rows of the slab hold what the head made of
  them, and the other slabs are as they were.
-/
module

public import proofs.«01_k».proof.Proof.Trip
public import proofs.«01_k».proof.Proof.Flush

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- The head of a row of a slab. -/
abbrev headOf (r : Fin 256) : Fin 4 := ⟨r.val / 64, by omega⟩

/-- The row within its head. -/
abbrev rowOf (r : Fin 256) : Fin 64 := ⟨r.val % 64, by omega⟩

/-- One head's rows of slab `j`. -/
def rowsOf (X : S32x256x256.Idx → Elt F .f32) (j : Fin 32) (g : Fin 4) : Vec F S1x64x256 .f32 :=
  fun x => X (ix3 j (⟨64 * g.val + (x 1).val, by have : (x 1).val < 64 := (x 1).isLt; omega⟩ : Fin 256) (x 2))

/-- What the stores of one block leave: slab `j` remade head by head, the rest as it was. -/
def remade (X : S32x256x256.Idx → Elt F .f32) (j : Fin 32) (pay : Fin 4 → Vec F S1x64x256 .f32 → FVec F S1x64x256 .f32) : S32x256x256.Idx → Elt F .f32 :=
  fun y => if (y 0).val = j.val then pay (headOf (y 1)) (rowsOf X j (headOf (y 1))) (ix3 (0 : Fin 1) (rowOf (y 1)) (y 2)) else X y

theorem read_chain (v : View sig .tc .vmem S32x256x256 .f32) (f : BufTy.Contents (Elt F) v.ty) (L : List (View.Piece (Elt F) S32x256x256 .f32))
    (spot : Fin 4 → Spot) (pay : Fin 4 → Vec F S1x64x256 .f32 → FVec F S1x64x256 .f32) (j : Fin 32)
    (hs : ∀ g : Fin 4, (spot g).off = ![j.val, 64 * g.val, 0]) :
    v.read (Elt F) (v.writes (Elt F) f (chain v f L spot pay 4)) = remade (v.read (Elt F) (v.writes (Elt F) f L)) j pay := by
  have key : ∀ n ≤ 4, ∀ y : S32x256x256.Idx, v.read (Elt F) (v.writes (Elt F) f (chain v f L spot pay n)) y
      = if (y 0).val = j.val ∧ (y 1).val < 64 * n then pay (headOf (y 1)) (rowsOf (v.read (Elt F) (v.writes (Elt F) f L)) j (headOf (y 1))) (ix3 (0 : Fin 1) (rowOf (y 1)) (y 2))
        else v.read (Elt F) (v.writes (Elt F) f L) y := by
    intro n
    induction n with
    | zero => intro _ y; rw [if_neg (by omega)]; rfl
    | succ n ih =>
      intro hn y
      have hn4 : n < 4 := by omega
      have hy1 : (y 1).val < 256 := (y 1).isLt
      have hy2 : (y 2).val < 256 := (y 2).isLt
      have hch : chain v f L spot pay (n + 1) = ⟨Rect.unit (s := S32x256x256) (spot ⟨n, hn4⟩).off S1x64x256.size (spot ⟨n, hn4⟩).inb,
          pay ⟨n, hn4⟩ (View.readAt (Elt F) v (Rect.unit (s := S32x256x256) (spot ⟨n, hn4⟩).off S1x64x256.size (spot ⟨n, hn4⟩).inb).toLoadRect (v.writes (Elt F) f (chain v f L spot pay n)))⟩ :: chain v f L spot pay n := by
        rw [chain]; exact dif_pos hn4
      have hload : View.readAt (Elt F) v (Rect.unit (s := S32x256x256) (spot ⟨n, hn4⟩).off S1x64x256.size (spot ⟨n, hn4⟩).inb).toLoadRect (v.writes (Elt F) f (chain v f L spot pay n))
          = rowsOf (v.read (Elt F) (v.writes (Elt F) f L)) j ⟨n, hn4⟩ := by
        funext x
        have hx0 : (x 0).val < 1 := (x 0).isLt
        have hx1 : (x 1).val < 64 := (x 1).isLt
        rw [readAt_at v _ _ _ _ (spot ⟨n, hn4⟩).inb x (ix3 j (⟨64 * n + (x 1).val, by omega⟩ : Fin 256) (x 2)) (hs ⟨n, hn4⟩) (fun d => by
          match d with
          | 0 => show j.val = j.val + (x 0).val; omega
          | 1 => show 64 * n + (x 1).val = 64 * n + (x 1).val; rfl
          | 2 => show (x 2).val = 0 + (x 2).val; omega)]
        rw [ih (by omega), if_neg]
        · rfl
        · rintro ⟨-, h⟩
          have : 64 * n + (x 1).val < 64 * n := h
          omega
      rw [hch]
      by_cases hin : (y 0).val = j.val ∧ 64 * n ≤ (y 1).val ∧ (y 1).val < 64 * (n + 1)
      · obtain ⟨h0, h1, h2⟩ := hin
        rw [if_pos ⟨h0, h2⟩, hload]
        have hg : headOf (y 1) = ⟨n, hn4⟩ := Fin.ext (by show (y 1).val / 64 = n; omega)
        rw [hg]
        refine View.read_writes_cons_unit_of_mem (s := S32x256x256) v f (spot ⟨n, hn4⟩).inb _ _ y (ix3 (0 : Fin 1) (rowOf (y 1)) (y 2)) (hs ⟨n, hn4⟩) (fun d => ?_)
        match d with
        | 0 => show (y 0).val = j.val + 0; omega
        | 1 => show (y 1).val = 64 * n + (y 1).val % 64; omega
        | 2 => show (y 2).val = 0 + (y 2).val; omega
      · rw [show (if (y 0).val = j.val ∧ (y 1).val < 64 * (n + 1) then pay (headOf (y 1)) (rowsOf (v.read (Elt F) (v.writes (Elt F) f L)) j (headOf (y 1))) (ix3 (0 : Fin 1) (rowOf (y 1)) (y 2)) else v.read (Elt F) (v.writes (Elt F) f L) y)
            = (if (y 0).val = j.val ∧ (y 1).val < 64 * n then pay (headOf (y 1)) (rowsOf (v.read (Elt F) (v.writes (Elt F) f L)) j (headOf (y 1))) (ix3 (0 : Fin 1) (rowOf (y 1)) (y 2)) else v.read (Elt F) (v.writes (Elt F) f L) y) from
            if_congr (by constructor <;> rintro ⟨h, h'⟩ <;> exact ⟨h, by omega⟩) rfl rfl, ← ih (by omega) y]
        by_cases h0 : (y 0).val = j.val
        · refine View.read_writes_cons_unit_of_not_mem (s := S32x256x256) v f (spot ⟨n, hn4⟩).inb _ _ y (hs ⟨n, hn4⟩) 1 ?_
          show (y 1).val < 64 * n ∨ 64 * n + 64 ≤ (y 1).val
          omega
        · refine View.read_writes_cons_unit_of_not_mem (s := S32x256x256) v f (spot ⟨n, hn4⟩).inb _ _ y (hs ⟨n, hn4⟩) 0 ?_
          show (y 0).val < j.val ∨ j.val + 1 ≤ (y 0).val
          omega
  funext y
  rw [key 4 le_rfl y]
  have hy1 : (y 1).val < 256 := (y 1).isLt
  unfold remade
  exact if_congr (by constructor; exact fun h => h.1; exact fun h => ⟨h, by omega⟩) rfl rfl

end Cert.Proof

end
-- ==== Proof.Loop.lean ====
/-
  The loop over the blocks below the diagonal: what it carries and what it leaves in the scratch buffers after `n` trips,
  as recursions over the blocks.
-/
module

public import proofs.«01_k».proof.Proof.Chain
public import proofs.«01_k».proof.Proof.Check
public import Idealize.ShloMosaic.Lib.WritesUnit

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- A number of blocks as a block's number. -/
abbrev blkNo (n : ℕ) : Fin 32 := ⟨n % 32, by omega⟩

/-- What the heads read for block `j` of the keys, from the input blocks' contents. -/
def blkReads (Q C : Fin 4 → FVec F S64x256 .bf16) (Y3 : S4x32x256x64.Idx → Elt F .bf16) (Y4 : S4x32x64x256.Idx → Elt F .bf16)
    (Y5 : S4x32x256x64.Idx → Elt F .bf16) (Y7 : S4x1x32x8x256.Idx → Elt F .f32) (n : ℕ) (g : Fin 4) : Reads F where
  q := Q g
  ct := C g
  k := fun x => Y3 (ix4 g (blkNo n) (x 2) (x 3))
  v := fun x => Y5 (ix4 g (blkNo n) (x 2) (x 3))
  kT := fun x => Y4 (ix4 g (blkNo n) (x 2) (x 3))
  rs := fun x => Y7 (ix5 g (0 : Fin 1) (blkNo n) (x 3) (x 4))

/-- What each head carries into block `n`. -/
def carryAt (R : ℕ → Fin 4 → Reads F) : ℕ → Fin 4 → Carry F
  | 0 => fun _ => (k0_pay117, k0_pay118)
  | n + 1 => fun g => (R n g).next keep (carryAt R n g)

/-- The key gradient's buffer before block `n`. -/
def bufK (R : ℕ → Fin 4 → Reads F) (X : S32x256x256.Idx → Elt F .f32) : ℕ → S32x256x256.Idx → Elt F .f32
  | 0 => X
  | n + 1 => remade (bufK R X n) (blkNo n) (fun g old => (R n g).addK keep (carryAt R n g).1 old)

/-- The value gradient's buffer before block `n`. -/
def bufV (R : ℕ → Fin 4 → Reads F) (X : S32x256x256.Idx → Elt F .f32) : ℕ → S32x256x256.Idx → Elt F .f32
  | 0 => X
  | n + 1 => remade (bufV R X n) (blkNo n) (fun g old => (R n g).addV keep old)

/-- A block of the keys (or values) of one head, read at its place. -/
theorem read_keys (v : View sig .tc .vmem S4x32x256x64 .bf16) (X : v.ty.Contents (Elt F)) (off : Fin 4 → ℕ) (inb : ∀ a, off a + S1x1x256x64.size a ≤ S4x32x256x64.size a)
    (g : Fin 4) (j : Fin 32) (ho : off = ![g.val, j.val, 0, 0]) :
    View.readAt (Elt F) v (Rect.unit (s := S4x32x256x64) off S1x1x256x64.size inb).toLoadRect X = fun x => v.read (Elt F) X (ix4 g j (x 2) (x 3)) := by
  funext x
  have hx0 : (x 0).val < 1 := (x 0).isLt
  have hx1 : (x 1).val < 1 := (x 1).isLt
  refine readAt_at v X _ _ _ inb x (ix4 g j (x 2) (x 3)) ho (fun d => ?_)
  match d with
  | 0 => show g.val = g.val + (x 0).val; omega
  | 1 => show j.val = j.val + (x 1).val; omega
  | 2 => show (x 2).val = 0 + (x 2).val; omega
  | 3 => show (x 3).val = 0 + (x 3).val; omega

/-- A block of the transposed keys of one head, read at its place. -/
theorem read_keysT (v : View sig .tc .vmem S4x32x64x256 .bf16) (X : v.ty.Contents (Elt F)) (off : Fin 4 → ℕ) (inb : ∀ a, off a + S1x1x64x256.size a ≤ S4x32x64x256.size a)
    (g : Fin 4) (j : Fin 32) (ho : off = ![g.val, j.val, 0, 0]) :
    View.readAt (Elt F) v (Rect.unit (s := S4x32x64x256) off S1x1x64x256.size inb).toLoadRect X = fun x => v.read (Elt F) X (ix4 g j (x 2) (x 3)) := by
  funext x
  have hx0 : (x 0).val < 1 := (x 0).isLt
  have hx1 : (x 1).val < 1 := (x 1).isLt
  refine readAt_at v X _ _ _ inb x (ix4 g j (x 2) (x 3)) ho (fun d => ?_)
  match d with
  | 0 => show g.val = g.val + (x 0).val; omega
  | 1 => show j.val = j.val + (x 1).val; omega
  | 2 => show (x 2).val = 0 + (x 2).val; omega
  | 3 => show (x 3).val = 0 + (x 3).val; omega

/-- The sums over the later blocks of one head, read at their place. -/
theorem read_sums (v : View sig .tc .vmem S4x1x32x8x256 .f32) (X : v.ty.Contents (Elt F)) (off : Fin 5 → ℕ) (inb : ∀ a, off a + S1x1x1x8x256.size a ≤ S4x1x32x8x256.size a)
    (g : Fin 4) (j : Fin 32) (ho : off = ![g.val, 0, j.val, 0, 0]) :
    View.readAt (Elt F) v (Rect.unit (s := S4x1x32x8x256) off S1x1x1x8x256.size inb).toLoadRect X = fun x => v.read (Elt F) X (ix5 g (0 : Fin 1) j (x 3) (x 4)) := by
  funext x
  have hx0 : (x 0).val < 1 := (x 0).isLt
  have hx1 : (x 1).val < 1 := (x 1).isLt
  have hx2 : (x 2).val < 1 := (x 2).isLt
  refine readAt_at v X _ _ _ inb x (ix5 g (0 : Fin 1) j (x 3) (x 4)) ho (fun d => ?_)
  match d with
  | 0 => show g.val = g.val + (x 0).val; omega
  | 1 => show 0 = 0 + (x 1).val; omega
  | 2 => show j.val = j.val + (x 2).val; omega
  | 3 => show (x 3).val = 0 + (x 3).val; omega
  | 4 => show (x 4).val = 0 + (x 4).val; omega

/-- One head's queries (or output gradients), read at their place. -/
theorem read_queries (v : View sig .tc .vmem S4x64x256 .bf16) (X : v.ty.Contents (Elt F)) (off : Fin 3 → ℕ) (inb : ∀ a, off a + S1x64x256.size a ≤ S4x64x256.size a)
    (g : Fin 4) (ho : off = ![g.val, 0, 0]) :
    View.readAt (Elt F) v (Rect.unit (s := S4x64x256) off S1x64x256.size inb).toLoadRect X = fun x => v.read (Elt F) X (ix3 g (x 1) (x 2)) := by
  funext x
  have hx0 : (x 0).val < 1 := (x 0).isLt
  refine readAt_at v X _ _ _ inb x (ix3 g (x 1) (x 2)) ho (fun d => ?_)
  match d with
  | 0 => show g.val = g.val + (x 0).val; omega
  | 1 => show (x 1).val = 0 + (x 1).val; omega
  | 2 => show (x 2).val = 0 + (x 2).val; omega

/-- One thing for each of the four heads. -/
def heads4 {α : Type} (a b c d : α) : Fin 4 → α
  | 0 => a
  | 1 => b
  | 2 => c
  | 3 => d

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
variable (𝒱 : Variants) (c : Dev nD) (bd : Option 𝒱.V) (i : grid0.Coords) (arg1 : BitVec 32) (v8 v14 v20 v26 v28 v30 : FVec F S64x256 .bf16) (v31 v33 : Vec F S1x64x256 .bf16) (v53 : BitVec 32) (k0_hw1 : k0_chk1 i v53) (v55 : BitVec 32) (X_arg3 : BufTy.Contents (Elt F) arg3.view.ty) (X_arg4 : BufTy.Contents (Elt F) arg4.view.ty) (X_arg5 : BufTy.Contents (Elt F) arg5.view.ty) (X_arg7 : BufTy.Contents (Elt F) arg7.view.ty)

theorem tripReads_eq (hlo : (lo i v53).toNat = 0) (k : Fin (k0_t1_loop i v53).trips) (hk : k.val < 32) :
    (tripReads arg3 arg4 arg5 arg7 i v8 v14 v20 v26 v28 v30 v31 v33 v53 k0_hw1 X_arg3 X_arg4 X_arg5 X_arg7 k) = blkReads (heads4 v8 v14 v20 v26) (heads4 v28 v30 (plainC v31) (plainC v33))
      (arg3.view.read (Elt F) X_arg3) (arg4.view.read (Elt F) X_arg4) (arg5.view.read (Elt F) X_arg5) (arg7.view.read (Elt F) X_arg7) k.val := by
  have hb : (lo i v53).toNat + k.val = (blkNo k.val).val := by show _ = k.val % 32; omega
  funext g
  match g with
  | 0 =>
    show Reads.mk _ _ _ _ _ _ = Reads.mk _ _ _ _ _ _
    have h1 := off1_eq i v53 k
    have h9 := off9_eq i v53 k
    have h5 := off5_eq i v53 k
    rw [hb] at h1 h9 h5
    rw [read_keys _ _ _ _ 0 _ h1, read_keys _ _ _ _ 0 _ h1, read_keysT _ _ _ _ 0 _ h9, read_sums _ _ _ _ 0 _ h5]; rfl
  | 1 =>
    show Reads.mk _ _ _ _ _ _ = Reads.mk _ _ _ _ _ _
    have h1 := off2_eq i v53 k
    have h9 := off10_eq i v53 k
    have h5 := off6_eq i v53 k
    rw [hb] at h1 h9 h5
    rw [read_keys _ _ _ _ 1 _ h1, read_keys _ _ _ _ 1 _ h1, read_keysT _ _ _ _ 1 _ h9, read_sums _ _ _ _ 1 _ h5]; rfl
  | 2 =>
    show Reads.mk _ _ _ _ _ _ = Reads.mk _ _ _ _ _ _
    have h1 := off3_eq i v53 k
    have h9 := off11_eq i v53 k
    have h5 := off7_eq i v53 k
    rw [hb] at h1 h9 h5
    rw [read_keys _ _ _ _ 2 _ h1, read_keys _ _ _ _ 2 _ h1, read_keysT _ _ _ _ 2 _ h9, read_sums _ _ _ _ 2 _ h5]; rfl
  | 3 =>
    show Reads.mk _ _ _ _ _ _ = Reads.mk _ _ _ _ _ _
    have h1 := off4_eq i v53 k
    have h9 := off12_eq i v53 k
    have h5 := off8_eq i v53 k
    rw [hb] at h1 h9 h5
    rw [read_keys _ _ _ _ 3 _ h1, read_keys _ _ _ _ 3 _ h1, read_keysT _ _ _ _ 3 _ h9, read_sums _ _ _ _ 3 _ h5]; rfl

theorem tripSpot_off (hlo : (lo i v53).toNat = 0) (k : Fin (k0_t1_loop i v53).trips) (hk : k.val < 32) (g : Fin 4) :
    (tripSpot i v53 k0_hw1 k g).off = ![(blkNo k.val).val, 64 * g.val, 0] := by
  have hb : (blkNo k.val).val = (lo i v53).toNat + k.val := by show k.val % 32 = _; omega
  rw [hb]
  match g with
  | 0 => exact off13_eq i v53 k
  | 1 => exact off14_eq i v53 k
  | 2 => exact off15_eq i v53 k
  | 3 => exact off16_eq i v53 k

/-- The loop after `n` trips. -/
theorem loop_state (hlo : (lo i v53).toNat = 0) (R : ℕ → Fin 4 → Reads F)
    (hR : R = blkReads (heads4 v8 v14 v20 v26) (heads4 v28 v30 (plainC v31) (plainC v33))
      (arg3.view.read (Elt F) X_arg3) (arg4.view.read (Elt F) X_arg4) (arg5.view.read (Elt F) X_arg5) (arg7.view.read (Elt F) X_arg7))
    (G12 : BufTy.Contents (Elt F) arg12.view.ty) (G13 : BufTy.Contents (Elt F) arg13.view.ty) (n : ℕ) (hn : n ≤ (k0_t1_loop i v53).trips) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) n).1 = packed (carryAt R n)
    ∧ arg12.view.read (Elt F) (arg12.view.writes (Elt F) G12 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) n).2.1) = bufK R (arg12.view.read (Elt F) G12) n
    ∧ arg13.view.read (Elt F) (arg13.view.writes (Elt F) G13 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) n).2.2) = bufV R (arg13.view.read (Elt F) G13) n := by
  induction n with
  | zero => exact ⟨rfl, rfl, rfl⟩
  | succ n ih =>
    obtain ⟨h1, h2, h3⟩ := ih (by omega)
    have hlt := lt32 i
    have ht := trips_t1 i v53
    obtain ⟨k, rfl⟩ : ∃ k : Fin (k0_t1_loop i v53).trips, n = k.val := ⟨⟨n, by omega⟩, rfl⟩
    have hk : k.val < 32 := by omega
    rw [st_k0_t1_succ]
    have hrd := (tripReads_eq arg3 arg4 arg5 arg7 i v8 v14 v20 v26 v28 v30 v31 v33 v53 k0_hw1 X_arg3 X_arg4 X_arg5 X_arg7 hlo k hk).trans (congrFun hR k.val).symm
    have hsp := tripSpot_off i v53 k0_hw1 hlo k hk
    refine ⟨?_, ?_, ?_⟩
    · show tripR_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k _ _ _ = _
      rw [h1]
      refine (trip_carry _ _ _ _ _ _ _ _ _ _ _ _ _ _ _ _ _ _ _ _ _ _ _ _ _ _ _ _ _ _ _ _ _ _ _ _ _ _ _ _ _ _ _ _ _ _ _ _).trans ?_
      rw [hrd]; rfl
    · show arg12.view.read (Elt F) (arg12.view.writes (Elt F) G12 ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k _ _ _).1 ++ _)) = _
      rw [h1, View.writes_append]
      rw [show (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k (packed (carryAt R k.val)) (arg12.view.writes (Elt F) G12 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) k.val).2.1) (arg13.view.writes (Elt F) G13 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) k.val).2.2)).1 = _ from
        trip_rows12 _ _ _ _ _ _ _ _ _ _ _ _ _ _ _ _ _ _ _ _ _ _ _ _ _ _ _ _ _ _ _ _ _ _ _ _ _ _ _ _ _ _ _ _ _ _ _ _]
      rw [read_chain _ _ _ _ _ (blkNo k.val) hsp, hrd]
      show remade (arg12.view.read (Elt F) (arg12.view.writes (Elt F) G12 _)) _ _ = _
      rw [h2]; rfl
    · show arg13.view.read (Elt F) (arg13.view.writes (Elt F) G13 ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k _ _ _).2 ++ _)) = _
      rw [h1, View.writes_append]
      rw [show (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 k (packed (carryAt R k.val)) (arg12.view.writes (Elt F) G12 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) k.val).2.1) (arg13.view.writes (Elt F) G13 (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v8 v14 v20 v26 v28 v30 v31 v33 v53 k0_hw1 v55 X_arg3 X_arg4 X_arg5 X_arg7 G12 G13 (packed (carryAt R 0)) k.val).2.2)).2 = _ from
        trip_rows13 _ _ _ _ _ _ _ _ _ _ _ _ _ _ _ _ _ _ _ _ _ _ _ _ _ _ _ _ _ _ _ _ _ _ _ _ _ _ _ _ _ _ _ _ _ _ _ _]
      rw [read_chain _ _ _ _ _ (blkNo k.val) hsp, hrd]
      show remade (arg13.view.read (Elt F) (arg13.view.writes (Elt F) G13 _)) _ _ = _
      rw [h3]; rfl

end Cert.Proof

end
-- ==== Proof.Point.lean ====
/-
  One grid point, valued: the loop over the blocks below the diagonal, then the diagonal block. What the point stores and
  what it leaves in the scratch buffers, in each of its three cases.
-/
module

public import proofs.«01_k».proof.Proof.Loop
public import proofs.«01_k».proof.Proof.Run

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- What each head carries into the first block. -/
abbrev zeroCarry : Fin 4 → Carry F := fun _ => (k0_pay117, k0_pay118)

/-- What a point stores of the query gradient, from what each head carries out of the diagonal block. -/
def outQ (a : Fin 4 → Carry F) : FVec F S256x256 .bf16 := k0_pay2 (a 0).2 (a 1).2 (a 2).2 (a 3).2

/-- What each head carries, from what the loop carries. -/
def heads (S : FVec F S1x256 .f32 × FVec F S64x256 .f32 × FVec F S1x256 .f32 × FVec F S64x256 .f32 × FVec F S1x256 .f32 × FVec F S64x256 .f32 × FVec F S1x256 .f32 × FVec F S64x256 .f32) : Fin 4 → Carry F
  | 0 => (S.1, S.2.1)
  | 1 => (S.2.2.1, S.2.2.2.1)
  | 2 => (S.2.2.2.2.1, S.2.2.2.2.2.1)
  | 3 => (S.2.2.2.2.2.2.1, S.2.2.2.2.2.2.2)

/-- One store more of the chain. -/
theorem chain_step {v : View sig .tc .vmem S32x256x256 .f32} {f : BufTy.Contents (Elt F) v.ty} {L : List (View.Piece (Elt F) S32x256x256 .f32)} {spot : Fin 4 → Spot}
    {pay : Fin 4 → Vec F S1x64x256 .f32 → FVec F S1x64x256 .f32} (n : Fin 4) {L' : List (View.Piece (Elt F) S32x256x256 .f32)} {off : Fin 3 → ℕ}
    {inb : ∀ a, off a + S1x64x256.size a ≤ S32x256x256.size a} {p : FVec F S1x64x256 .f32} (ho : (spot n).off = off) (h : L' = chain v f L spot pay n.val)
    (hp : p = pay n (View.readAt (Elt F) v (Rect.unit (s := S32x256x256) off S1x64x256.size inb).toLoadRect (v.writes (Elt F) f L'))) :
    (⟨Rect.unit (s := S32x256x256) off S1x64x256.size inb, p⟩ :: L' : List (View.Piece (Elt F) S32x256x256 .f32)) = chain v f L spot pay (n.val + 1) := by
  subst h; subst hp; subst ho
  rw [chain, dif_pos n.isLt]

theorem heads_packed (a : Fin 4 → Carry F) : heads (packed a) = a := by
  funext g
  match g with
  | 0 => rfl
  | 1 => rfl
  | 2 => rfl
  | 3 => rfl

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)

/-- The number the first block's test is made of. -/
abbrev first8 (X8 : BufTy.Contents (Elt F) arg8.view.ty) : BitVec 32 :=
  Scalar.fptosi 32 (k0_pay116 (View.readAt (Elt F) arg8.view (Rect.unit (s := S1x1x8x128) ![0, 0, 0, 0] S1x1x8x128.size inb_S1x1x8x128_S1x1x8x128_0_0_0_0).toLoadRect X8))

variable (𝒱 : Variants) (c : Dev nD) (bd : Option 𝒱.V) (i : grid0.Coords)
variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- The loop over the blocks below the diagonal, to its end. -/
abbrev loop1 (G12 : BufTy.Contents (Elt F) arg12.view.ty) (G13 : BufTy.Contents (Elt F) arg13.view.ty) :=
  st_k0_t1 (F := F) 𝒱 c bd i arg2 harg2 arg3 harg3 arg4 harg4 arg5 harg5 arg6 harg6 arg7 harg7 arg8 harg8 arg9 harg9 arg10 harg10 arg11 harg11 arg12 harg12 arg13 harg13 (BitVec.ofNat 32 (i 1).val) (scaleQ (View.readAt (Elt F) arg2.view (Rect.unit (s := S4x64x256) ![0, 0, 0] S1x64x256.size inb_S4x64x256_S1x64x256_0_0_0).toLoadRect X2)) (scaleQ (View.readAt (Elt F) arg2.view (Rect.unit (s := S4x64x256) ![1, 0, 0] S1x64x256.size inb_S4x64x256_S1x64x256_1_0_0).toLoadRect X2)) (scaleQ (View.readAt (Elt F) arg2.view (Rect.unit (s := S4x64x256) ![2, 0, 0] S1x64x256.size inb_S4x64x256_S1x64x256_2_0_0).toLoadRect X2)) (scaleQ (View.readAt (Elt F) arg2.view (Rect.unit (s := S4x64x256) ![3, 0, 0] S1x64x256.size inb_S4x64x256_S1x64x256_3_0_0).toLoadRect X2)) (plainC (View.readAt (Elt F) arg6.view (Rect.unit (s := S4x64x256) ![0, 0, 0] S1x64x256.size inb_S4x64x256_S1x64x256_0_0_0).toLoadRect X6)) (plainC (View.readAt (Elt F) arg6.view (Rect.unit (s := S4x64x256) ![1, 0, 0] S1x64x256.size inb_S4x64x256_S1x64x256_1_0_0).toLoadRect X6)) (View.readAt (Elt F) arg6.view (Rect.unit (s := S4x64x256) ![2, 0, 0] S1x64x256.size inb_S4x64x256_S1x64x256_2_0_0).toLoadRect X6) (View.readAt (Elt F) arg6.view (Rect.unit (s := S4x64x256) ![3, 0, 0] S1x64x256.size inb_S4x64x256_S1x64x256_3_0_0).toLoadRect X6) (first8 arg8 X8) (chk_all i (first8 arg8 X8)) (Scalar.minsi (BitVec.ofNat 32 (i 1).val) (Scalar.maxsi 0#32 (first8 arg8 X8))) X3 X4 X5 X7 G12 G13 (packed zeroCarry) (k0_t1_loop i (first8 arg8 X8)).trips

/-- The loop after it, which makes no trip. -/
abbrev loop2 (G12 : BufTy.Contents (Elt F) arg12.view.ty) (G13 : BufTy.Contents (Elt F) arg13.view.ty)
    (S : FVec F S1x256 .f32 × FVec F S64x256 .f32 × FVec F S1x256 .f32 × FVec F S64x256 .f32 × FVec F S1x256 .f32 × FVec F S64x256 .f32 × FVec F S1x256 .f32 × FVec F S64x256 .f32) :=
  st_k0_t2 (F := F) 𝒱 c bd i arg2 harg2 arg3 harg3 arg4 harg4 arg5 harg5 arg6 harg6 arg7 harg7 arg8 harg8 arg9 harg9 arg10 harg10 arg11 harg11 arg12 harg12 arg13 harg13 (BitVec.ofNat 32 (i 1).val) (scaleQ (View.readAt (Elt F) arg2.view (Rect.unit (s := S4x64x256) ![0, 0, 0] S1x64x256.size inb_S4x64x256_S1x64x256_0_0_0).toLoadRect X2)) (scaleQ (View.readAt (Elt F) arg2.view (Rect.unit (s := S4x64x256) ![1, 0, 0] S1x64x256.size inb_S4x64x256_S1x64x256_1_0_0).toLoadRect X2)) (scaleQ (View.readAt (Elt F) arg2.view (Rect.unit (s := S4x64x256) ![2, 0, 0] S1x64x256.size inb_S4x64x256_S1x64x256_2_0_0).toLoadRect X2)) (scaleQ (View.readAt (Elt F) arg2.view (Rect.unit (s := S4x64x256) ![3, 0, 0] S1x64x256.size inb_S4x64x256_S1x64x256_3_0_0).toLoadRect X2)) (plainC (View.readAt (Elt F) arg6.view (Rect.unit (s := S4x64x256) ![0, 0, 0] S1x64x256.size inb_S4x64x256_S1x64x256_0_0_0).toLoadRect X6)) (plainC (View.readAt (Elt F) arg6.view (Rect.unit (s := S4x64x256) ![1, 0, 0] S1x64x256.size inb_S4x64x256_S1x64x256_1_0_0).toLoadRect X6)) (plainC (View.readAt (Elt F) arg6.view (Rect.unit (s := S4x64x256) ![2, 0, 0] S1x64x256.size inb_S4x64x256_S1x64x256_2_0_0).toLoadRect X6)) (plainC (View.readAt (Elt F) arg6.view (Rect.unit (s := S4x64x256) ![3, 0, 0] S1x64x256.size inb_S4x64x256_S1x64x256_3_0_0).toLoadRect X6)) k0_pay113 k0_pay114 (first8 arg8 X8) (chk_all i (first8 arg8 X8)) (Scalar.addi (lo i (first8 arg8 X8)) (Scalar.muli (Scalar.divsi (Scalar.subi (BitVec.ofNat 32 (i 1).val) (lo i (first8 arg8 X8))) 1#32) 1#32)) S.1 S.2.1 S.2.2.1 S.2.2.2.1 S.2.2.2.2.1 S.2.2.2.2.2.1 S.2.2.2.2.2.2.1 S.2.2.2.2.2.2.2 X3 X4 X5 X7 G12 G13 S (k0_t2_loop i (first8 arg8 X8)).trips

theorem loop2_eq (G12 : BufTy.Contents (Elt F) arg12.view.ty) (G13 : BufTy.Contents (Elt F) arg13.view.ty) (S) :
    loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 G12 G13 S = (S, [], []) := by
  unfold loop2; rw [trips_t2]; rfl

/-- What the four heads read for the diagonal block. -/
def diagReads : Fin 4 → Reads F
  | 0 => ⟨(scaleQ (View.readAt (Elt F) arg2.view (Rect.unit (s := S4x64x256) ![0, 0, 0] S1x64x256.size inb_S4x64x256_S1x64x256_0_0_0).toLoadRect X2)), (plainC (View.readAt (Elt F) arg6.view (Rect.unit (s := S4x64x256) ![0, 0, 0] S1x64x256.size inb_S4x64x256_S1x64x256_0_0_0).toLoadRect X6)), (View.readAt (Elt F) arg3.view (Rect.unit (s := S4x32x256x64) (k0_off33 i) S1x1x256x64.size (k0_off33_inb i)).toLoadRect X3), (View.readAt (Elt F) arg5.view (Rect.unit (s := S4x32x256x64) (k0_off33 i) S1x1x256x64.size (k0_off33_inb i)).toLoadRect X5),
    (View.readAt (Elt F) arg4.view (Rect.unit (s := S4x32x64x256) (k0_off41 i) S1x1x64x256.size (k0_off41_inb i)).toLoadRect X4), (View.readAt (Elt F) arg7.view (Rect.unit (s := S4x1x32x8x256) (k0_off37 i) S1x1x1x8x256.size (k0_off37_inb i)).toLoadRect X7)⟩
  | 1 => ⟨(scaleQ (View.readAt (Elt F) arg2.view (Rect.unit (s := S4x64x256) ![1, 0, 0] S1x64x256.size inb_S4x64x256_S1x64x256_1_0_0).toLoadRect X2)), (plainC (View.readAt (Elt F) arg6.view (Rect.unit (s := S4x64x256) ![1, 0, 0] S1x64x256.size inb_S4x64x256_S1x64x256_1_0_0).toLoadRect X6)), (View.readAt (Elt F) arg3.view (Rect.unit (s := S4x32x256x64) (k0_off34 i) S1x1x256x64.size (k0_off34_inb i)).toLoadRect X3), (View.readAt (Elt F) arg5.view (Rect.unit (s := S4x32x256x64) (k0_off34 i) S1x1x256x64.size (k0_off34_inb i)).toLoadRect X5),
    (View.readAt (Elt F) arg4.view (Rect.unit (s := S4x32x64x256) (k0_off42 i) S1x1x64x256.size (k0_off42_inb i)).toLoadRect X4), (View.readAt (Elt F) arg7.view (Rect.unit (s := S4x1x32x8x256) (k0_off38 i) S1x1x1x8x256.size (k0_off38_inb i)).toLoadRect X7)⟩
  | 2 => ⟨(scaleQ (View.readAt (Elt F) arg2.view (Rect.unit (s := S4x64x256) ![2, 0, 0] S1x64x256.size inb_S4x64x256_S1x64x256_2_0_0).toLoadRect X2)), (plainC (View.readAt (Elt F) arg6.view (Rect.unit (s := S4x64x256) ![2, 0, 0] S1x64x256.size inb_S4x64x256_S1x64x256_2_0_0).toLoadRect X6)), (View.readAt (Elt F) arg3.view (Rect.unit (s := S4x32x256x64) (k0_off35 i) S1x1x256x64.size (k0_off35_inb i)).toLoadRect X3), (View.readAt (Elt F) arg5.view (Rect.unit (s := S4x32x256x64) (k0_off35 i) S1x1x256x64.size (k0_off35_inb i)).toLoadRect X5),
    (View.readAt (Elt F) arg4.view (Rect.unit (s := S4x32x64x256) (k0_off43 i) S1x1x64x256.size (k0_off43_inb i)).toLoadRect X4), (View.readAt (Elt F) arg7.view (Rect.unit (s := S4x1x32x8x256) (k0_off39 i) S1x1x1x8x256.size (k0_off39_inb i)).toLoadRect X7)⟩
  | 3 => ⟨(scaleQ (View.readAt (Elt F) arg2.view (Rect.unit (s := S4x64x256) ![3, 0, 0] S1x64x256.size inb_S4x64x256_S1x64x256_3_0_0).toLoadRect X2)), (plainC (View.readAt (Elt F) arg6.view (Rect.unit (s := S4x64x256) ![3, 0, 0] S1x64x256.size inb_S4x64x256_S1x64x256_3_0_0).toLoadRect X6)), (View.readAt (Elt F) arg3.view (Rect.unit (s := S4x32x256x64) (k0_off36 i) S1x1x256x64.size (k0_off36_inb i)).toLoadRect X3), (View.readAt (Elt F) arg5.view (Rect.unit (s := S4x32x256x64) (k0_off36 i) S1x1x256x64.size (k0_off36_inb i)).toLoadRect X5),
    (View.readAt (Elt F) arg4.view (Rect.unit (s := S4x32x64x256) (k0_off44 i) S1x1x64x256.size (k0_off44_inb i)).toLoadRect X4), (View.readAt (Elt F) arg7.view (Rect.unit (s := S4x1x32x8x256) (k0_off40 i) S1x1x1x8x256.size (k0_off40_inb i)).toLoadRect X7)⟩

/-- The four heads' places for the diagonal block. -/
def diagSpot : Fin 4 → Spot
  | 0 => ⟨k0_off45 i, k0_off45_inb i⟩
  | 1 => ⟨k0_off46 i, k0_off46_inb i⟩
  | 2 => ⟨k0_off47 i, k0_off47_inb i⟩
  | 3 => ⟨k0_off48 i, k0_off48_inb i⟩

set_option maxHeartbeats 1600000 in
theorem runA_out (hc1 : cond1 i) (hc2 : ¬ k0_cond2 i = 1#1) :
    (runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1
      = outQ (fun g => (diagReads arg2 arg3 arg4 arg5 arg6 arg7 i X2 X3 X4 X5 X6 X7 g).next causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.1 ++ [⟨Rect.unit (s := S32x256x256) ![0, 0, 0] S32x256x256.size inb_S32x256x256_S32x256x256_0_0_0, k0_pay103 (F := F)⟩])) (arg13.view.writes (Elt F) arg13.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.2 ++ [⟨Rect.unit (s := S32x256x256) ![0, 0, 0] S32x256x256.size inb_S32x256x256_S32x256x256_0_0_0, k0_pay104 (F := F)⟩])) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).1).1 g)) := by
  unfold runA; rfl

set_option maxHeartbeats 1600000 in
theorem runA_12 (hc1 : cond1 i) (hc2 : ¬ k0_cond2 i = 1#1) :
    (runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1
      = arg12.view.writes (Elt F) arg12.view.junk (chain arg12.view arg12.view.junk ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.1 ++ [⟨Rect.unit (s := S32x256x256) ![0, 0, 0] S32x256x256.size inb_S32x256x256_S32x256x256_0_0_0, k0_pay103 (F := F)⟩])) (arg13.view.writes (Elt F) arg13.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.2 ++ [⟨Rect.unit (s := S32x256x256) ![0, 0, 0] S32x256x256.size inb_S32x256x256_S32x256x256_0_0_0, k0_pay104 (F := F)⟩])) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).1).2.1 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.1 ++ [⟨Rect.unit (s := S32x256x256) ![0, 0, 0] S32x256x256.size inb_S32x256x256_S32x256x256_0_0_0, k0_pay103 (F := F)⟩])) (diagSpot i)
          (fun g old => (diagReads arg2 arg3 arg4 arg5 arg6 arg7 i X2 X3 X4 X5 X6 X7 g).addK causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.1 ++ [⟨Rect.unit (s := S32x256x256) ![0, 0, 0] S32x256x256.size inb_S32x256x256_S32x256x256_0_0_0, k0_pay103 (F := F)⟩])) (arg13.view.writes (Elt F) arg13.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.2 ++ [⟨Rect.unit (s := S32x256x256) ![0, 0, 0] S32x256x256.size inb_S32x256x256_S32x256x256_0_0_0, k0_pay104 (F := F)⟩])) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).1).1 g).1 old) 4) := by
  unfold runA
  show arg12.view.writes (Elt F) arg12.view.junk _ = _
  refine congrArg (arg12.view.writes (Elt F) arg12.view.junk) (chain_step 3 rfl (chain_step 2 rfl (chain_step 1 rfl (chain_step 0 rfl ?_ ?_) ?_) ?_) ?_)
  · rfl
  · rfl
  · rfl
  · rfl
  · rfl

set_option maxHeartbeats 1600000 in
theorem runA_13 (hc1 : cond1 i) (hc2 : ¬ k0_cond2 i = 1#1) :
    (runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1
      = arg13.view.writes (Elt F) arg13.view.junk (chain arg13.view arg13.view.junk ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.1 ++ [⟨Rect.unit (s := S32x256x256) ![0, 0, 0] S32x256x256.size inb_S32x256x256_S32x256x256_0_0_0, k0_pay103 (F := F)⟩])) (arg13.view.writes (Elt F) arg13.view.junk ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.2 ++ [⟨Rect.unit (s := S32x256x256) ![0, 0, 0] S32x256x256.size inb_S32x256x256_S32x256x256_0_0_0, k0_pay104 (F := F)⟩])) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).1).2.2 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])).2.2 ++ [⟨Rect.unit (s := S32x256x256) ![0, 0, 0] S32x256x256.size inb_S32x256x256_S32x256x256_0_0_0, k0_pay104 (F := F)⟩])) (diagSpot i)
          (fun g old => (diagReads arg2 arg3 arg4 arg5 arg6 arg7 i X2 X3 X4 X5 X6 X7 g).addV causal old) 4) := by
  unfold runA
  show arg13.view.writes (Elt F) arg13.view.junk _ = _
  refine congrArg (arg13.view.writes (Elt F) arg13.view.junk) (chain_step 3 rfl (chain_step 2 rfl (chain_step 1 rfl (chain_step 0 rfl ?_ ?_) ?_) ?_) ?_)
  · rfl
  · rfl
  · rfl
  · rfl
  · rfl

set_option maxHeartbeats 1600000 in
theorem runB_out (hc1 : ¬ cond1 i) (hc2 : ¬ k0_cond2 i = 1#1) (f12 : BufTy.Contents (Elt F) arg12.view.ty) (f13 : BufTy.Contents (Elt F) arg13.view.ty) :
    (runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1 f12 f13
      = outQ (fun g => (diagReads arg2 arg3 arg4 arg5 arg6 arg7 i X2 X3 X4 X5 X6 X7 g).next causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).1 g)) := by
  unfold runB; rfl

set_option maxHeartbeats 1600000 in
theorem runB_12 (hc1 : ¬ cond1 i) (hc2 : ¬ k0_cond2 i = 1#1) (f12 : BufTy.Contents (Elt F) arg12.view.ty) (f13 : BufTy.Contents (Elt F) arg13.view.ty) :
    (runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1 f12 f13
      = arg12.view.writes (Elt F) f12 (chain arg12.view f12 ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).2.1 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (diagSpot i)
          (fun g old => (diagReads arg2 arg3 arg4 arg5 arg6 arg7 i X2 X3 X4 X5 X6 X7 g).addK causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).1 g).1 old) 4) := by
  unfold runB
  show arg12.view.writes (Elt F) f12 _ = _
  refine congrArg (arg12.view.writes (Elt F) f12) (chain_step 3 rfl (chain_step 2 rfl (chain_step 1 rfl (chain_step 0 rfl ?_ ?_) ?_) ?_) ?_)
  · rfl
  · rfl
  · rfl
  · rfl
  · rfl

set_option maxHeartbeats 1600000 in
theorem runB_13 (hc1 : ¬ cond1 i) (hc2 : ¬ k0_cond2 i = 1#1) (f12 : BufTy.Contents (Elt F) arg12.view.ty) (f13 : BufTy.Contents (Elt F) arg13.view.ty) :
    (runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1 f12 f13
      = arg13.view.writes (Elt F) f13 (chain arg13.view f13 ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).2.2 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (diagSpot i)
          (fun g old => (diagReads arg2 arg3 arg4 arg5 arg6 arg7 i X2 X3 X4 X5 X6 X7 g).addV causal old) 4) := by
  unfold runB
  show arg13.view.writes (Elt F) f13 _ = _
  refine congrArg (arg13.view.writes (Elt F) f13) (chain_step 3 rfl (chain_step 2 rfl (chain_step 1 rfl (chain_step 0 rfl ?_ ?_) ?_) ?_) ?_)
  · rfl
  · rfl
  · rfl
  · rfl
  · rfl

set_option maxHeartbeats 1600000 in
theorem runC_out (hc1 : ¬ cond1 i) (hc2 : k0_cond2 i = 1#1) (f12 : BufTy.Contents (Elt F) arg12.view.ty) (f13 : BufTy.Contents (Elt F) arg13.view.ty) :
    (runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1 f12 f13
      = outQ (fun g => (diagReads arg2 arg3 arg4 arg5 arg6 arg7 i X2 X3 X4 X5 X6 X7 g).next causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).1 g)) := by
  unfold runC; rfl

set_option maxHeartbeats 1600000 in
theorem runC_12 (hc1 : ¬ cond1 i) (hc2 : k0_cond2 i = 1#1) (f12 : BufTy.Contents (Elt F) arg12.view.ty) (f13 : BufTy.Contents (Elt F) arg13.view.ty) :
    (runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1 f12 f13
      = arg12.view.writes (Elt F) f12 (chain arg12.view f12 ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).2.1 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (diagSpot i)
          (fun g old => (diagReads arg2 arg3 arg4 arg5 arg6 arg7 i X2 X3 X4 X5 X6 X7 g).addK causal (heads (loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).1 g).1 old) 4) := by
  unfold runC
  show arg12.view.writes (Elt F) f12 _ = _
  refine congrArg (arg12.view.writes (Elt F) f12) (chain_step 3 rfl (chain_step 2 rfl (chain_step 1 rfl (chain_step 0 rfl ?_ ?_) ?_) ?_) ?_)
  · rfl
  · rfl
  · rfl
  · rfl
  · rfl

set_option maxHeartbeats 1600000 in
theorem runC_13 (hc1 : ¬ cond1 i) (hc2 : k0_cond2 i = 1#1) (f12 : BufTy.Contents (Elt F) arg12.view.ty) (f13 : BufTy.Contents (Elt F) arg13.view.ty) :
    (runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1 f12 f13
      = arg13.view.writes (Elt F) f13 (chain arg13.view f13 ((loop2 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 (arg12.view.writes (Elt F) f12 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.1)) (arg13.view.writes (Elt F) f13 ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).1).2.2 ++ ((loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 f12 f13).2.2)) (diagSpot i)
          (fun g old => (diagReads arg2 arg3 arg4 arg5 arg6 arg7 i X2 X3 X4 X5 X6 X7 g).addV causal old) 4) := by
  unfold runC
  show arg13.view.writes (Elt F) f13 _ = _
  refine congrArg (arg13.view.writes (Elt F) f13) (chain_step 3 rfl (chain_step 2 rfl (chain_step 1 rfl (chain_step 0 rfl ?_ ?_) ?_) ?_) ?_)
  · rfl
  · rfl
  · rfl
  · rfl
  · rfl

end Cert.Proof

end
-- ==== Proof.Values.lean ====
/-
  What a grid point computes, in the terms of `Block`: the loop's blocks, then the diagonal block, in each of the point's
  three cases.
-/
module

public import proofs.«01_k».proof.Proof.Point

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

/-- The first block of a row whose word is zero. -/
theorem lo_zero (i : grid0.Coords) : (lo i 0#32).toNat = 0 := by
  have h : ∀ n : Fin 32, (Scalar.minsi (BitVec.ofNat 32 n.val) (Scalar.maxsi 0#32 0#32)).toNat = 0 := by decide +kernel
  exact h ⟨(i 1).val, lt32 i⟩

/-- A store of a whole scratch buffer, read. -/
theorem read_zeroed (a : Memref sig .tc .vmem S32x256x256 .f32) (f : BufTy.Contents (Elt F) a.view.ty) (w : S32x256x256.Idx → Elt F .f32)
    (inb : ∀ x, (![0, 0, 0] : Fin 3 → ℕ) x + S32x256x256.size x ≤ S32x256x256.size x) :
    a.view.read (Elt F) (a.view.writes (Elt F) f [⟨Rect.unit ![0, 0, 0] S32x256x256.size inb, w⟩]) = w := by
  funext y
  exact View.read_writes_cons_unit_of_mem (s := S32x256x256) a.view f inb w [] y y rfl (fun x => by fin_cases x <;> simp)

/-- The key gradient's buffer after row `n` of blocks. -/
def rowK (R : ℕ → Fin 4 → Reads F) (X : S32x256x256.Idx → Elt F .f32) (n : ℕ) : S32x256x256.Idx → Elt F .f32 :=
  remade (bufK R X n) (blkNo n) (fun g old => (R n g).addK causal (carryAt R n g).1 old)

/-- The value gradient's buffer after row `n` of blocks. -/
def rowV (R : ℕ → Fin 4 → Reads F) (X : S32x256x256.Idx → Elt F .f32) (n : ℕ) : S32x256x256.Idx → Elt F .f32 :=
  remade (bufV R X n) (blkNo n) (fun g old => (R n g).addV causal old)

/-- The block of the query gradient row `n` stores. -/
def rowQ (R : ℕ → Fin 4 → Reads F) (n : ℕ) : FVec F S256x256 .bf16 := outQ (fun g => (R n g).next causal (carryAt R n g))

/-- What the four heads read at a point, from the input blocks' contents. -/
def ptReads (Y2 Y6 : S4x64x256.Idx → Elt F .bf16) (Y3 : S4x32x256x64.Idx → Elt F .bf16) (Y4 : S4x32x64x256.Idx → Elt F .bf16)
    (Y5 : S4x32x256x64.Idx → Elt F .bf16) (Y7 : S4x1x32x8x256.Idx → Elt F .f32) : ℕ → Fin 4 → Reads F :=
  blkReads (fun g => scaleQ (fun x => Y2 (ix3 g (x 1) (x 2)))) (fun g => plainC (fun x => Y6 (ix3 g (x 1) (x 2)))) Y3 Y4 Y5 Y7

variable (arg2 : Memref sig .tc .vmem S4x64x256 .bf16) (harg2 : arg2.IsWhole) (arg3 : Memref sig .tc .vmem S4x32x256x64 .bf16) (harg3 : arg3.IsWhole) (arg4 : Memref sig .tc .vmem S4x32x64x256 .bf16) (harg4 : arg4.IsWhole) (arg5 : Memref sig .tc .vmem S4x32x256x64 .bf16) (harg5 : arg5.IsWhole) (arg6 : Memref sig .tc .vmem S4x64x256 .bf16) (harg6 : arg6.IsWhole) (arg7 : Memref sig .tc .vmem S4x1x32x8x256 .f32) (harg7 : arg7.IsWhole) (arg8 : Memref sig .tc .vmem S1x1x8x128 .f32) (harg8 : arg8.IsWhole) (arg9 : Memref sig .tc .vmem S256x256 .bf16) (harg9 : arg9.IsWhole) (arg10 : Memref sig .tc .vmem S8192x256 .bf16) (harg10 : arg10.IsWhole) (arg11 : Memref sig .tc .vmem S8192x256 .bf16) (harg11 : arg11.IsWhole) (arg12 : Memref sig .tc .vmem S32x256x256 .f32) (harg12 : arg12.IsWhole) (arg13 : Memref sig .tc .vmem S32x256x256 .f32) (harg13 : arg13.IsWhole)
variable (𝒱 : Variants) (c : Dev nD) (bd : Option 𝒱.V) (i : grid0.Coords)
variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- What the four heads read at the point. -/
abbrev hereReads : ℕ → Fin 4 → Reads F :=
  ptReads (arg2.view.read (Elt F) X2) (arg6.view.read (Elt F) X6) (arg3.view.read (Elt F) X3) (arg4.view.read (Elt F) X4) (arg5.view.read (Elt F) X5) (arg7.view.read (Elt F) X7)

theorem hereReads_eq : hereReads arg2 arg3 arg4 arg5 arg6 arg7 X2 X3 X4 X5 X6 X7
    = blkReads (heads4 (scaleQ (View.readAt (Elt F) arg2.view (Rect.unit (s := S4x64x256) ![0, 0, 0] S1x64x256.size inb_S4x64x256_S1x64x256_0_0_0).toLoadRect X2)) (scaleQ (View.readAt (Elt F) arg2.view (Rect.unit (s := S4x64x256) ![1, 0, 0] S1x64x256.size inb_S4x64x256_S1x64x256_1_0_0).toLoadRect X2)) (scaleQ (View.readAt (Elt F) arg2.view (Rect.unit (s := S4x64x256) ![2, 0, 0] S1x64x256.size inb_S4x64x256_S1x64x256_2_0_0).toLoadRect X2)) (scaleQ (View.readAt (Elt F) arg2.view (Rect.unit (s := S4x64x256) ![3, 0, 0] S1x64x256.size inb_S4x64x256_S1x64x256_3_0_0).toLoadRect X2))) (heads4 (plainC (View.readAt (Elt F) arg6.view (Rect.unit (s := S4x64x256) ![0, 0, 0] S1x64x256.size inb_S4x64x256_S1x64x256_0_0_0).toLoadRect X6)) (plainC (View.readAt (Elt F) arg6.view (Rect.unit (s := S4x64x256) ![1, 0, 0] S1x64x256.size inb_S4x64x256_S1x64x256_1_0_0).toLoadRect X6)) (plainC (View.readAt (Elt F) arg6.view (Rect.unit (s := S4x64x256) ![2, 0, 0] S1x64x256.size inb_S4x64x256_S1x64x256_2_0_0).toLoadRect X6)) (plainC (View.readAt (Elt F) arg6.view (Rect.unit (s := S4x64x256) ![3, 0, 0] S1x64x256.size inb_S4x64x256_S1x64x256_3_0_0).toLoadRect X6)))
      (arg3.view.read (Elt F) X3) (arg4.view.read (Elt F) X4) (arg5.view.read (Elt F) X5) (arg7.view.read (Elt F) X7) := by
  funext n g
  match g with
  | 0 =>
    show Reads.mk (scaleQ _) (plainC _) _ _ _ _ = Reads.mk (scaleQ _) (plainC _) _ _ _ _
    rw [read_queries arg2.view X2 _ inb_S4x64x256_S1x64x256_0_0_0 0 rfl, read_queries arg6.view X6 _ inb_S4x64x256_S1x64x256_0_0_0 0 rfl]; rfl
  | 1 =>
    show Reads.mk (scaleQ _) (plainC _) _ _ _ _ = Reads.mk (scaleQ _) (plainC _) _ _ _ _
    rw [read_queries arg2.view X2 _ inb_S4x64x256_S1x64x256_1_0_0 1 rfl, read_queries arg6.view X6 _ inb_S4x64x256_S1x64x256_1_0_0 1 rfl]; rfl
  | 2 =>
    show Reads.mk (scaleQ _) (plainC _) _ _ _ _ = Reads.mk (scaleQ _) (plainC _) _ _ _ _
    rw [read_queries arg2.view X2 _ inb_S4x64x256_S1x64x256_2_0_0 2 rfl, read_queries arg6.view X6 _ inb_S4x64x256_S1x64x256_2_0_0 2 rfl]; rfl
  | 3 =>
    show Reads.mk (scaleQ _) (plainC _) _ _ _ _ = Reads.mk (scaleQ _) (plainC _) _ _ _ _
    rw [read_queries arg2.view X2 _ inb_S4x64x256_S1x64x256_3_0_0 3 rfl, read_queries arg6.view X6 _ inb_S4x64x256_S1x64x256_3_0_0 3 rfl]; rfl

theorem blkNo_coord : (blkNo (i 1).val).val = (i 1).val := by
  have := lt32 i
  show (i 1).val % 32 = (i 1).val; omega

theorem diagReads_eq : diagReads arg2 arg3 arg4 arg5 arg6 arg7 i X2 X3 X4 X5 X6 X7 = hereReads arg2 arg3 arg4 arg5 arg6 arg7 X2 X3 X4 X5 X6 X7 (i 1).val := by
  rw [hereReads_eq]
  funext g
  have hb := blkNo_coord i
  match g with
  | 0 =>
    show Reads.mk _ _ _ _ _ _ = Reads.mk _ _ _ _ _ _
    have h1 := k0_off33_eq i
    have h9 := k0_off41_eq i
    have h5 := k0_off37_eq i
    rw [← hb] at h1 h9 h5
    rw [read_keys _ _ _ _ 0 _ h1, read_keys _ _ _ _ 0 _ h1, read_keysT _ _ _ _ 0 _ h9, read_sums _ _ _ _ 0 _ h5]; rfl
  | 1 =>
    show Reads.mk _ _ _ _ _ _ = Reads.mk _ _ _ _ _ _
    have h1 := k0_off34_eq i
    have h9 := k0_off42_eq i
    have h5 := k0_off38_eq i
    rw [← hb] at h1 h9 h5
    rw [read_keys _ _ _ _ 1 _ h1, read_keys _ _ _ _ 1 _ h1, read_keysT _ _ _ _ 1 _ h9, read_sums _ _ _ _ 1 _ h5]; rfl
  | 2 =>
    show Reads.mk _ _ _ _ _ _ = Reads.mk _ _ _ _ _ _
    have h1 := k0_off35_eq i
    have h9 := k0_off43_eq i
    have h5 := k0_off39_eq i
    rw [← hb] at h1 h9 h5
    rw [read_keys _ _ _ _ 2 _ h1, read_keys _ _ _ _ 2 _ h1, read_keysT _ _ _ _ 2 _ h9, read_sums _ _ _ _ 2 _ h5]; rfl
  | 3 =>
    show Reads.mk _ _ _ _ _ _ = Reads.mk _ _ _ _ _ _
    have h1 := k0_off36_eq i
    have h9 := k0_off44_eq i
    have h5 := k0_off40_eq i
    rw [← hb] at h1 h9 h5
    rw [read_keys _ _ _ _ 3 _ h1, read_keys _ _ _ _ 3 _ h1, read_keysT _ _ _ _ 3 _ h9, read_sums _ _ _ _ 3 _ h5]; rfl

theorem diagSpot_off (g : Fin 4) : (diagSpot i g).off = ![(blkNo (i 1).val).val, 64 * g.val, 0] := by
  rw [blkNo_coord i]
  match g with
  | 0 => exact k0_off45_eq i
  | 1 => exact k0_off46_eq i
  | 2 => exact k0_off47_eq i
  | 3 => exact k0_off48_eq i

/-- The loop's state when it ends, for a row whose word is zero. -/
theorem loop1_state (h8 : (first8 arg8 X8) = 0#32) (G12 : BufTy.Contents (Elt F) arg12.view.ty) (G13 : BufTy.Contents (Elt F) arg13.view.ty) :
    (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 G12 G13).1 = packed (carryAt (hereReads arg2 arg3 arg4 arg5 arg6 arg7 X2 X3 X4 X5 X6 X7) (i 1).val)
    ∧ arg12.view.read (Elt F) (arg12.view.writes (Elt F) G12 (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 G12 G13).2.1) = bufK (hereReads arg2 arg3 arg4 arg5 arg6 arg7 X2 X3 X4 X5 X6 X7) (arg12.view.read (Elt F) G12) (i 1).val
    ∧ arg13.view.read (Elt F) (arg13.view.writes (Elt F) G13 (loop1 arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 G12 G13).2.2) = bufV (hereReads arg2 arg3 arg4 arg5 arg6 arg7 X2 X3 X4 X5 X6 X7) (arg13.view.read (Elt F) G13) (i 1).val := by
  have hlo : (lo i (first8 arg8 X8)).toNat = 0 := by rw [h8]; exact lo_zero i
  have ht : (k0_t1_loop i (first8 arg8 X8)).trips = (i 1).val := by rw [trips_t1, hlo]; omega
  have h := loop_state arg2 harg2 arg3 harg3 arg4 harg4 arg5 harg5 arg6 harg6 arg7 harg7 arg8 harg8 arg9 harg9 arg10 harg10 arg11 harg11 arg12 harg12 arg13 harg13 𝒱 c bd i (BitVec.ofNat 32 (i 1).val) (scaleQ (View.readAt (Elt F) arg2.view (Rect.unit (s := S4x64x256) ![0, 0, 0] S1x64x256.size inb_S4x64x256_S1x64x256_0_0_0).toLoadRect X2)) (scaleQ (View.readAt (Elt F) arg2.view (Rect.unit (s := S4x64x256) ![1, 0, 0] S1x64x256.size inb_S4x64x256_S1x64x256_1_0_0).toLoadRect X2)) (scaleQ (View.readAt (Elt F) arg2.view (Rect.unit (s := S4x64x256) ![2, 0, 0] S1x64x256.size inb_S4x64x256_S1x64x256_2_0_0).toLoadRect X2)) (scaleQ (View.readAt (Elt F) arg2.view (Rect.unit (s := S4x64x256) ![3, 0, 0] S1x64x256.size inb_S4x64x256_S1x64x256_3_0_0).toLoadRect X2)) (plainC (View.readAt (Elt F) arg6.view (Rect.unit (s := S4x64x256) ![0, 0, 0] S1x64x256.size inb_S4x64x256_S1x64x256_0_0_0).toLoadRect X6)) (plainC (View.readAt (Elt F) arg6.view (Rect.unit (s := S4x64x256) ![1, 0, 0] S1x64x256.size inb_S4x64x256_S1x64x256_1_0_0).toLoadRect X6)) (View.readAt (Elt F) arg6.view (Rect.unit (s := S4x64x256) ![2, 0, 0] S1x64x256.size inb_S4x64x256_S1x64x256_2_0_0).toLoadRect X6) (View.readAt (Elt F) arg6.view (Rect.unit (s := S4x64x256) ![3, 0, 0] S1x64x256.size inb_S4x64x256_S1x64x256_3_0_0).toLoadRect X6) (first8 arg8 X8) (chk_all i (first8 arg8 X8)) (Scalar.minsi (BitVec.ofNat 32 (i 1).val) (Scalar.maxsi 0#32 (first8 arg8 X8))) X3 X4 X5 X7 hlo
    (hereReads arg2 arg3 arg4 arg5 arg6 arg7 X2 X3 X4 X5 X6 X7) (hereReads_eq arg2 arg3 arg4 arg5 arg6 arg7 X2 X3 X4 X5 X6 X7) G12 G13 (k0_t1_loop i (first8 arg8 X8)).trips le_rfl
  rw [ht] at h
  unfold loop1
  rw [ht]
  exact h

theorem runA_rows (hc1 : cond1 i) (hc2 : ¬ k0_cond2 i = 1#1) (h8 : (first8 arg8 X8) = 0#32) :
    (runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1 = rowQ (hereReads arg2 arg3 arg4 arg5 arg6 arg7 X2 X3 X4 X5 X6 X7) (i 1).val
    ∧ arg12.view.read (Elt F) ((runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1) = rowK (hereReads arg2 arg3 arg4 arg5 arg6 arg7 X2 X3 X4 X5 X6 X7) k0_pay103 (i 1).val
    ∧ arg13.view.read (Elt F) ((runA (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1) = rowV (hereReads arg2 arg3 arg4 arg5 arg6 arg7 X2 X3 X4 X5 X6 X7) k0_pay104 (i 1).val := by
  refine ⟨?_, ?_, ?_⟩
  · rw [runA_out, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])
    rw [h1, heads_packed]; rfl
  · rw [runA_12, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])
    rw [read_chain _ _ _ _ _ (blkNo (i 1).val) (diagSpot_off i), List.nil_append, View.writes_append, h2, read_zeroed, h1, heads_packed]; rfl
  · rw [runA_13, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 (arg12.view.writes (Elt F) arg12.view.junk [⟨Rect.unit (s := S32x256x256) ![0, 0, 0] S32x256x256.size inb_S32x256x256_S32x256x256_0_0_0, k0_pay103 (F := F)⟩]) (arg13.view.writes (Elt F) arg13.view.junk [⟨Rect.unit (s := S32x256x256) ![0, 0, 0] S32x256x256.size inb_S32x256x256_S32x256x256_0_0_0, k0_pay104 (F := F)⟩])
    rw [read_chain _ _ _ _ _ (blkNo (i 1).val) (diagSpot_off i), List.nil_append, View.writes_append, h3, read_zeroed]; rfl

theorem runB_rows (hc1 : ¬ cond1 i) (hc2 : ¬ k0_cond2 i = 1#1) (f12 : BufTy.Contents (Elt F) arg12.view.ty) (f13 : BufTy.Contents (Elt F) arg13.view.ty) (h8 : (first8 arg8 X8) = 0#32) :
    (runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1 f12 f13 = rowQ (hereReads arg2 arg3 arg4 arg5 arg6 arg7 X2 X3 X4 X5 X6 X7) (i 1).val
    ∧ arg12.view.read (Elt F) ((runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1 f12 f13) = rowK (hereReads arg2 arg3 arg4 arg5 arg6 arg7 X2 X3 X4 X5 X6 X7) (arg12.view.read (Elt F) f12) (i 1).val
    ∧ arg13.view.read (Elt F) ((runB (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1 f12 f13) = rowV (hereReads arg2 arg3 arg4 arg5 arg6 arg7 X2 X3 X4 X5 X6 X7) (arg13.view.read (Elt F) f13) (i 1).val := by
  refine ⟨?_, ?_, ?_⟩
  · rw [runB_out, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [h1, heads_packed]; rfl
  · rw [runB_12, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [read_chain _ _ _ _ _ (blkNo (i 1).val) (diagSpot_off i), List.nil_append, h2, h1, heads_packed]; rfl
  · rw [runB_13, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [read_chain _ _ _ _ _ (blkNo (i 1).val) (diagSpot_off i), List.nil_append, h3]; rfl

theorem runC_rows (hc1 : ¬ cond1 i) (hc2 : k0_cond2 i = 1#1) (f12 : BufTy.Contents (Elt F) arg12.view.ty) (f13 : BufTy.Contents (Elt F) arg13.view.ty) (h8 : (first8 arg8 X8) = 0#32) :
    (runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).1 f12 f13 = rowQ (hereReads arg2 arg3 arg4 arg5 arg6 arg7 X2 X3 X4 X5 X6 X7) (i 1).val
    ∧ arg12.view.read (Elt F) ((runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.1 f12 f13) = rowK (hereReads arg2 arg3 arg4 arg5 arg6 arg7 X2 X3 X4 X5 X6 X7) (arg12.view.read (Elt F) f12) (i 1).val
    ∧ arg13.view.read (Elt F) ((runC (F := F) arg2 harg2 arg3 harg3 arg4 harg4 arg5 harg5 arg6 harg6 arg7 harg7 arg8 harg8 arg9 harg9 arg10 harg10 arg11 harg11 arg12 harg12 arg13 harg13 𝒱 c bd i hc1 hc2 X2 X3 X4 X5 X6 X7 X8).2.2.1 f12 f13) = rowV (hereReads arg2 arg3 arg4 arg5 arg6 arg7 X2 X3 X4 X5 X6 X7) (arg13.view.read (Elt F) f13) (i 1).val := by
  refine ⟨?_, ?_, ?_⟩
  · rw [runC_out, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [h1, heads_packed]; rfl
  · rw [runC_12, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [read_chain _ _ _ _ _ (blkNo (i 1).val) (diagSpot_off i), List.nil_append, h2, h1, heads_packed]; rfl
  · rw [runC_13, loop2_eq, diagReads_eq]
    obtain ⟨h1, h2, h3⟩ := loop1_state arg2 harg2 arg3 harg3 arg4 harg4 arg5 harg5 arg6 harg6 arg7 harg7 arg8 harg8 arg9 harg9 arg10 harg10 arg11 harg11 arg12 harg12 arg13 harg13 𝒱 c bd i X2 X3 X4 X5 X6 X7 X8 h8 f12 f13
    rw [read_chain _ _ _ _ _ (blkNo (i 1).val) (diagSpot_off i), List.nil_append, h3]; rfl

end Cert.Proof

end
-- ==== Proof.RealArg.lean ====
/-
  Arguments whose every element is a real number: a finite sum of them, and the precondition's test of one array.
-/
module

public import Idealize.ShloMosaic.Lib.Pointwise
public import Idealize.ShloMosaic.Lib.ReduceAll

@[expose] public section

noncomputable section

namespace Cert.Proof

open Idealize.ShloMosaic Idealize.ShloMosaic.TcCoe

/-- A finite sum of coerced reals. -/
theorem coe_sum {ι : Type} [Fintype ι] (f : ι → ℝ) : (∑ k, ((f k : ℝ) : EReal)) = ((∑ k, f k : ℝ) : EReal) := by
  classical
  exact (map_sum (⟨⟨fun x : ℝ => (x : EReal), EReal.coe_zero⟩, EReal.coe_add⟩ : ℝ →+ EReal) f Finset.univ).symm

/-- A number below infinity in absolute value is real. -/
theorem real_of_abs_lt (x : EReal) (h : Ideal.cmp .olt (max x (-x)) (Ideal.ofBits .f32 0x7F800000#32) = 1#1) : ((x.toReal : ℝ) : EReal) = x := by
  have hb : Ideal.ofBits .f32 0x7F800000#32 = ⊤ := by simp [Ideal.ofBits, Ideal.ieee]
  have h2 : max x (-x) < ⊤ := by rw [hb] at h; exact (Ideal.cmp_olt_eq_one _ _).1 h
  rcases max_lt_iff.1 h2 with ⟨ha, hc⟩
  refine EReal.coe_toReal ha.ne fun hx => ?_
  rw [hx] at hc
  exact absurd hc (by simp)

/-- One argument's test, read. -/
theorem real_of_all {s : Shape} {dims : List (Fin s.rank)} (x : FVec Ideal s .f32) (hb : (⟨0, ![]⟩ : Shape).BroadcastsInDim s (![] : Fin 0 → Fin s.rank))
    (hr : s.ReducesTo dims (⟨0, ![]⟩ : Shape)) (hu : 0 < (⟨0, ![]⟩ : Shape).numel) (j : (⟨0, ![]⟩ : Shape).Idx)
    (h : Host.reduce IntOp.andi (cmpf .olt (Host.absf x) (broadcastInDim s ![] hb (constant (⟨0, ![]⟩ : Shape) .f32 0x7F800000#32))) (constantI (⟨0, ![]⟩ : Shape) 1 1#1) hr hu j = 1#1)
    (i : s.Idx) : (((x i : EReal).toReal : ℝ) : EReal) = x i := by
  haveI : Subsingleton (⟨0, ![]⟩ : Shape).Idx := ⟨fun a b => funext fun k => k.elim0⟩
  exact real_of_abs_lt (x i) (Host.reduce_andi_all _ _ _ _ j h i)

theorem and_one (a b : BitVec 1) (h : a &&& b = 1#1) : a = 1#1 ∧ b = 1#1 := by
  revert a b; decide

end Cert.Proof
-- ==== Proof.Real.lean ====
/-
  One block at the real numbers: with real scores, gradients and sums, the block's operations are real, entry by entry.
-/
module

public import proofs.«01_k».proof.Proof.Trip
public import proofs.«01_k».proof.Proof.RealArg
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic

/-- The logarithm of the logistic function, as the kernel computes it. -/
def logS (x : ℝ) : ℝ := min x 0 - Real.log (1 + Real.exp (-|x|))

/-- The scale of the scores. -/
theorem ofBits_eighth : Ideal.ofBits .f32 0x3E000000#32 = (((1 : ℝ) / 8 : ℝ) : EReal) := by
  simp [Ideal.ofBits, Ideal.ieee, -EReal.coe_mul]; norm_num

/-- A word of a comparison as a number. -/
theorem sitofp_ofBool (p : Prop) [Decidable p] :
    FloatOps.sitofp (F := Ideal) .f32 (BitVec.setWidth 32 (BitVec.ofBool (decide p))) = ((if p then (1 : ℝ) else 0 : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 by decide]; norm_num
  · simp only [h, decide_false, if_false]
    show (((BitVec.setWidth 32 (BitVec.ofBool false)).toInt : ℝ) : EReal) = _
    rw [show (BitVec.setWidth 32 (BitVec.ofBool false)).toInt = 0 by decide]; norm_num

theorem slt_word (a b : Fin 256) : IntOp.cmpi .slt (BitVec.ofNat 32 a.val) (BitVec.ofNat 32 b.val) = BitVec.ofBool (decide (a.val < b.val)) := by
  have := a.isLt; have := b.isLt
  simp (disch := omega) only [hlo_ix]

theorem sgt_word (a b : Fin 256) : IntOp.cmpi .sgt (BitVec.ofNat 32 a.val) (BitVec.ofNat 32 b.val) = BitVec.ofBool (decide (b.val < a.val)) := by
  have := a.isLt; have := b.isLt
  simp (disch := omega) only [hlo_ix]

/-- What a block's mask keeps. -/
def Keeps (sel : Sel Ideal) (P : Fin 256 → Fin 256 → Prop) [∀ r c, Decidable (P r c)] : Prop :=
  ∀ x r c, sel x (ix2 r c) = if P r c then x (ix2 r c) else 0

theorem keeps_keep : Keeps keep (fun _ _ => True) := fun x r c => by simp [keep]

theorem keeps_causal : Keeps causal (fun r c => r.val < c.val) := fun x r c => by
  unfold causal
  pointwise [k0_pay115]
  rw [slt_word]
  by_cases h : r.val < c.val <;> simp [h, Scalar.select]

/-- A score. -/
theorem scores_real (q : FVec Ideal S64x256 .bf16) (k : Vec Ideal S1x1x256x64 .bf16) (qr : Fin 64 → Fin 256 → ℝ) (kr : Fin 256 → Fin 64 → ℝ)
    (hq : ∀ d c, q (ix2 d c) = (qr d c : EReal)) (hk : ∀ r d, k (ix4 (0 : Fin 1) (0 : Fin 1) r d) = (kr r d : EReal)) (r c : Fin 256) :
    scores q k (ix2 r c) = ((∑ d, kr r d * qr d c : ℝ) : EReal) := by
  unfold scores
  pointwise
  simp only [hq, hk, ← EReal.coe_mul, coe_sum]

theorem logSig_real (z : FVec Ideal S256x256 .f32) (r c : Fin 256) (x : ℝ) (hz : z (ix2 r c) = (x : EReal)) : logSig z (ix2 r c) = (logS x : EReal) := by
  unfold logSig
  pointwise
  rw [hz]
  have h1 : FloatOps.absf (F := Ideal) (φ := .f32) ((x : ℝ) : EReal) = ((|x| : ℝ) : EReal) := by
    show max ((x : ℝ) : EReal) (-((x : ℝ) : EReal)) = _
    rw [← EReal.coe_neg, ← EReal.coe_strictMono.monotone.map_max]; rfl
  have h2 : (0 : EReal) - ((|x| : ℝ) : EReal) = ((-|x| : ℝ) : EReal) := by
    rw [← EReal.coe_zero, ← EReal.coe_sub]; norm_num
  have h3 : (1 : EReal) + ((Real.exp (-|x|) : ℝ) : EReal) = ((1 + Real.exp (-|x|) : ℝ) : EReal) := by
    rw [← EReal.coe_one, ← EReal.coe_add]
  rw [h1, h2, Ideal.exp_coe, h3, Ideal.log_coe, if_neg (by have := Real.exp_pos (-|x|); linarith)]
  rw [show min ((x : ℝ) : EReal) 0 = ((min x 0 : ℝ) : EReal) by rw [← EReal.coe_zero, EReal.coe_strictMono.monotone.map_min], ← EReal.coe_sub]
  rfl

/-- A triangle times a real block: its second part vanishes. -/
theorem tri_parts (P : Fin 256 → Prop) [∀ k, Decidable (P k)] (x : Fin 256 → EReal) (xr : Fin 256 → ℝ) (hx : ∀ k, x k = (xr k : EReal)) :
    (∑ k : Fin 256, ((if P k then (1 : ℝ) else 0 : ℝ) : EReal) * x k) + (∑ k : Fin 256, ((if P k then (1 : ℝ) else 0 : ℝ) : EReal) * (x k - x k))
      = ((∑ k : Fin 256, if P k then xr k else 0 : ℝ) : EReal) := by
  simp only [hx, ← EReal.coe_sub, ← EReal.coe_mul, coe_sum, ← EReal.coe_add, sub_self, mul_zero, Finset.sum_const_zero, add_zero, ite_mul, one_mul, zero_mul]

theorem upper_real (x : FVec Ideal S256x256 .f32) (xr : Fin 256 → Fin 256 → ℝ) (hx : ∀ r c, x (ix2 r c) = (xr r c : EReal)) (r c : Fin 256) :
    triMul k0_pay113 x (ix2 r c) = ((∑ k : Fin 256, if r.val < k.val then xr k c else 0 : ℝ) : EReal) := by
  unfold triMul
  pointwise [k0_pay113]
  simp only [sgt_word, slt_word, sitofp_ofBool]
  exact tri_parts (fun k => r.val < k.val) (fun k => x (ix2 k c)) (fun k => xr k c) (fun k => hx k c)

theorem lower_real (x : FVec Ideal S256x256 .f32) (xr : Fin 256 → Fin 256 → ℝ) (hx : ∀ r c, x (ix2 r c) = (xr r c : EReal)) (r c : Fin 256) :
    triMul k0_pay114 x (ix2 r c) = ((∑ k : Fin 256, if k.val < r.val then xr k c else 0 : ℝ) : EReal) := by
  unfold triMul
  pointwise [k0_pay114]
  simp only [sgt_word, slt_word, sitofp_ofBool]
  exact tri_parts (fun k => k.val < r.val) (fun k => x (ix2 k c)) (fun k => xr k c) (fun k => hx k c)

theorem later_apply (rs : Vec Ideal S1x1x1x8x256 .f32) (r c : Fin 256) : later rs (ix2 r c) = rs (ix5 (0 : Fin 1) (0 : Fin 1) (0 : Fin 1) (0 : Fin 8) c) := by
  unfold later
  pointwise

/-- What the weights of a block are, from its scores and the sums over the later blocks. -/
def wtR (P : Fin 256 → Fin 256 → Prop) [∀ r c, Decidable (P r c)] (z : Fin 256 → Fin 256 → ℝ) (rs : Fin 256 → ℝ) (r c : Fin 256) : ℝ :=
  if P r c then Real.exp (logS (z r c) + (rs c + ∑ k : Fin 256, if r.val < k.val then (if P k c then logS (z k c) - z k c else 0) else 0)) else 0

theorem wts_real (sel : Sel Ideal) (P : Fin 256 → Fin 256 → Prop) [∀ r c, Decidable (P r c)] (hs : Keeps sel P) (z : FVec Ideal S256x256 .f32) (zr : Fin 256 → Fin 256 → ℝ)
    (hz : ∀ r c, z (ix2 r c) = (zr r c : EReal)) (rs : Vec Ideal S1x1x1x8x256 .f32) (rsr : Fin 256 → ℝ)
    (hrs : ∀ c, rs (ix5 (0 : Fin 1) (0 : Fin 1) (0 : Fin 1) (0 : Fin 8) c) = (rsr c : EReal)) (r c : Fin 256) :
    wts sel z rs (ix2 r c) = (wtR P zr rsr r c : EReal) := by
  have hl : ∀ r c, logSig z (ix2 r c) = (logS (zr r c) : EReal) := fun r c => logSig_real z r c _ (hz r c)
  have hm : ∀ r c, sel (subf (logSig z) z) (ix2 r c) = ((if P r c then logS (zr r c) - zr r c else 0 : ℝ) : EReal) := by
    intro r c
    rw [hs]
    by_cases h : P r c
    · rw [if_pos h, if_pos h]
      show logSig z (ix2 r c) - z (ix2 r c) = _
      rw [hl, hz, EReal.coe_sub]
    · rw [if_neg h, if_neg h]; rfl
  unfold wts wtR
  rw [hs]
  by_cases h : P r c
  · rw [if_pos h, if_pos h]
    show Ideal.exp (logSig z (ix2 r c) + (later rs (ix2 r c) + triMul k0_pay113 (sel (subf (logSig z) z)) (ix2 r c))) = _
    rw [hl, later_apply, hrs, upper_real _ _ hm, ← EReal.coe_add, ← EReal.coe_add, Ideal.exp_coe]
  · rw [if_neg h, if_neg h]; rfl

theorem addTo_apply (q : FVec Ideal S64x256 .bf16) (w : FVec Ideal S256x256 .bf16) (old : Vec Ideal S1x64x256 .f32) (d : Fin 64) (r : Fin 256) :
    addTo q w old (ix3 (0 : Fin 1) d r) = old (ix3 (0 : Fin 1) d r) + ∑ k : Fin 256, q (ix2 d k) * w (ix2 r k) := by
  unfold addTo
  pointwise

/-- The scaled queries of one head. -/
theorem scaleQ_real (q : Vec Ideal S1x64x256 .bf16) (d : Fin 64) (c : Fin 256) (x : ℝ) (h : q (ix3 (0 : Fin 1) d c) = (x : EReal)) : scaleQ q (ix2 d c) = ((x * (1 / 8) : ℝ) : EReal) := by
  unfold scaleQ
  pointwise [k0_pay105]
  rw [h, ofBits_eighth, ← EReal.coe_mul]

theorem plainC_apply (q : Vec Ideal S1x64x256 .bf16) (d : Fin 64) (c : Fin 256) : plainC q (ix2 d c) = q (ix3 (0 : Fin 1) d c) := by
  unfold plainC
  pointwise [k0_pay109]

end Cert.Proof

end
-- ==== Proof.BlockReal.lean ====
/-
  A head's reads at the real numbers, and what a block makes of them.
-/
module

public import proofs.«01_k».proof.Proof.Real

@[expose] public section

set_option maxRecDepth 16384

noncomputable section

namespace Cert.Proof

open Cert.KernelIdeal Cert.KernelIdeal.Gen
open Idealize.ShloMosaic Idealize.ShloMosaic.TcCoe Idealize.ShloMosaic.Tactic

/-- What a head reads for a block, as real numbers: the scaled queries, the output's gradient, the keys, the values, and
the sums over the later blocks. -/
structure BlockR where
  q : Fin 64 → Fin 256 → ℝ
  ct : Fin 64 → Fin 256 → ℝ
  k : Fin 256 → Fin 64 → ℝ
  v : Fin 256 → Fin 64 → ℝ
  rs : Fin 256 → ℝ

namespace BlockR

variable (b : BlockR) (P : Fin 256 → Fin 256 → Prop) [∀ r c, Decidable (P r c)] (carry : Fin 256 → ℝ)

/-- The scores, keys along the rows. -/
def z (r c : Fin 256) : ℝ := ∑ d, b.k r d * b.q d c
/-- The gradient of the weights. -/
def da (r c : Fin 256) : ℝ := ∑ d, b.v r d * b.ct d c
/-- The weights. -/
def A (r c : Fin 256) : ℝ := wtR P b.z b.rs r c
/-- The gradient of the weights' logarithms. -/
def E (r c : Fin 256) : ℝ := b.da r c * b.A P r c
/-- The gradient of the scores. -/
def dz (r c : Fin 256) : ℝ :=
  if P r c then b.E P r c * (1 - Real.exp (logS (b.z r c))) - (carry c + ∑ k : Fin 256, if k.val < r.val then b.E P k c else 0) * Real.exp (logS (b.z r c)) else 0

end BlockR

/-- What a head reads is real. -/
structure Reads.Holds (r : Reads Ideal) (b : BlockR) : Prop where
  q : ∀ d c, r.q (ix2 d c) = (b.q d c : EReal)
  ct : ∀ d c, r.ct (ix2 d c) = (b.ct d c : EReal)
  k : ∀ x d, r.k (ix4 (0 : Fin 1) (0 : Fin 1) x d) = (b.k x d : EReal)
  v : ∀ x d, r.v (ix4 (0 : Fin 1) (0 : Fin 1) x d) = (b.v x d : EReal)
  kT : ∀ d x, r.kT (ix4 (0 : Fin 1) (0 : Fin 1) d x) = (b.k x d : EReal)
  rs : ∀ c, r.rs (ix5 (0 : Fin 1) (0 : Fin 1) (0 : Fin 1) (0 : Fin 8) c) = (b.rs c : EReal)

variable {r : Reads Ideal} {b : BlockR} (h : r.Holds b) (sel : Sel Ideal) (P : Fin 256 → Fin 256 → Prop) [∀ r c, Decidable (P r c)] (hs : Keeps sel P)
include h hs

theorem Reads.Holds.A (x c : Fin 256) : r.A sel (ix2 x c) = (b.A P x c : EReal) := by
  unfold Reads.A BlockR.A
  exact wts_real sel P hs _ _ (scores_real r.q r.k b.q b.k h.q h.k) r.rs b.rs h.rs x c

theorem Reads.Holds.E (x c : Fin 256) : ets sel (scores r.q r.k) (scores r.ct r.v) r.rs (ix2 x c) = (b.E P x c : EReal) := by
  show scores r.ct r.v (ix2 x c) * r.A sel (ix2 x c) = _
  rw [h.A sel P hs, scores_real r.ct r.v b.ct b.v h.ct h.v, ← EReal.coe_mul]
  rfl

theorem Reads.Holds.dz (carry : FVec Ideal S1x256 .f32) (cr : Fin 256 → ℝ) (hc : ∀ c, carry (ix2 (0 : Fin 1) c) = (cr c : EReal)) (x c : Fin 256) :
    r.dz sel carry (ix2 x c) = (b.dz P cr x c : EReal) := by
  have hl := logSig_real (scores r.q r.k) x c _ (scores_real r.q r.k b.q b.k h.q h.k x c)
  show sel _ (ix2 x c) = _
  rw [hs]
  unfold BlockR.dz
  by_cases hp : P x c
  · rw [if_pos hp, if_pos hp]
    show ets sel (scores r.q r.k) (scores r.ct r.v) r.rs (ix2 x c) * (Ideal.ofBits .f32 0x3F800000#32 - Ideal.exp (logSig (scores r.q r.k) (ix2 x c)))
      - (broadcastTo S256x256 carry broadcasts_S1x256_S256x256 (ix2 x c) + triMul k0_pay114 (ets sel (scores r.q r.k) (scores r.ct r.v) r.rs) (ix2 x c)) * Ideal.exp (logSig (scores r.q r.k) (ix2 x c)) = _
    have hb : broadcastTo S256x256 carry broadcasts_S1x256_S256x256 (ix2 x c) = carry (ix2 (0 : Fin 1) c) := by pointwise
    rw [hb, hc, hl, lower_real _ _ (h.E sel P hs), h.E sel P hs, Ideal.exp_coe, Ideal.ofBits_one_f32, ← EReal.coe_one]
    simp only [← EReal.coe_add, ← EReal.coe_sub, ← EReal.coe_mul]
    rfl
  · rw [if_neg hp, if_neg hp]; rfl

/-- What the head carries on. -/
theorem Reads.Holds.next1 (a : Carry Ideal) (cr : Fin 256 → ℝ) (hc : ∀ c, a.1 (ix2 (0 : Fin 1) c) = (cr c : EReal)) (c : Fin 256) :
    (r.next sel a).1 (ix2 (0 : Fin 1) c) = ((cr c + ∑ x, b.E P x c : ℝ) : EReal) := by
  show carried a.1 _ (ix2 (0 : Fin 1) c) = _
  have hcar : ∀ e : FVec Ideal S256x256 .f32, carried a.1 e (ix2 (0 : Fin 1) c) = a.1 (ix2 (0 : Fin 1) c) + ∑ x : Fin 256, e (ix2 x c) := by
    intro e; unfold carried; pointwise
  rw [hcar, hc]
  simp only [h.E sel P hs, coe_sum, ← EReal.coe_add]

theorem Reads.Holds.next2 (a : Carry Ideal) (cr : Fin 256 → ℝ) (hc : ∀ c, a.1 (ix2 (0 : Fin 1) c) = (cr c : EReal))
    (dq : Fin 64 → Fin 256 → ℝ) (hd : ∀ d c, a.2 (ix2 d c) = (dq d c : EReal)) (d : Fin 64) (c : Fin 256) :
    (r.next sel a).2 (ix2 d c) = ((dq d c + ∑ x, b.k x d * b.dz P cr x c : ℝ) : EReal) := by
  show dqs a.2 r.kT (r.dz sel a.1) (ix2 d c) = _
  have hdq : ∀ w : FVec Ideal S256x256 .bf16, dqs a.2 r.kT w (ix2 d c) = a.2 (ix2 d c) + ∑ x : Fin 256, r.kT (ix4 (0 : Fin 1) (0 : Fin 1) d x) * w (ix2 x c) := by
    intro w; unfold dqs; pointwise
  rw [hdq, hd]
  simp only [h.dz sel P hs a.1 cr hc, h.kT, ← EReal.coe_mul, coe_sum, ← EReal.coe_add]

theorem Reads.Holds.addK (carry : FVec Ideal S1x256 .f32) (cr : Fin 256 → ℝ) (hc : ∀ c, carry (ix2 (0 : Fin 1) c) = (cr c : EReal))
    (old : Vec Ideal S1x64x256 .f32) (d : Fin 64) (x : Fin 256) :
    r.addK sel carry old (ix3 (0 : Fin 1) d x) = old (ix3 (0 : Fin 1) d x) + ((∑ c, b.q d c * b.dz P cr x c : ℝ) : EReal) := by
  unfold Reads.addK
  rw [addTo_apply]
  simp only [h.dz sel P hs carry cr hc, h.q, ← EReal.coe_mul, coe_sum]

theorem Reads.Holds.addV (old : Vec Ideal S1x64x256 .f32) (d : Fin 64) (x : Fin 256) :
    r.addV sel old (ix3 (0 : Fin 1) d x) = old (ix3 (0 : Fin 1) d x) + ((∑ c, b.ct d c * b.A P x c : ℝ) : EReal) := by
  unfold Reads.addV
  rw [addTo_apply]
  have hn : ∀ c, narrow (r.A sel) (ix2 x c) = (b.A P x c : EReal) := h.A sel P hs x
  simp only [hn, h.ct, ← EReal.coe_mul, coe_sum]

end Cert.Proof

end
-- ==== Proof.Rows.lean ====
/-
  A row of blocks at the real numbers: what a grid point adds to the two scratch buffers, and the block of the query
  gradient it stores.
-/
module

public import proofs.«01_k».proof.Proof.BlockReal
public import proofs.«01_k».proof.Proof.Values

@[expose] public section

set_option maxRecDepth 16384

noncomputable section

namespace Cert.Proof

open Cert.KernelIdeal Cert.KernelIdeal.Gen
open Idealize.ShloMosaic Idealize.ShloMosaic.TcCoe Idealize.ShloMosaic.Tactic

/-- The keys of block `j` that come before the queries of block `i`. -/
def PB (i j : ℕ) (r c : Fin 256) : Prop := 256 * j + r.val < 256 * i + c.val

instance (i j : ℕ) (r c : Fin 256) : Decidable (PB i j r c) := inferInstanceAs (Decidable (_ < _))

theorem keeps_below (i j : ℕ) (h : j < i) : Keeps keep (PB i j) := fun x r c => by
  have h1 : PB i j r c := by unfold PB; omega
  rw [if_pos h1]; rfl

theorem keeps_diag (i : ℕ) : Keeps causal (PB i i) := fun x r c => by
  rw [keeps_causal x r c]
  exact if_congr (by unfold PB; omega) rfl rfl

variable (b : ℕ → Fin 4 → BlockR)

/-- What a head carries of the earlier blocks' gradients into block `n`. -/
def cS (i n : ℕ) (g : Fin 4) (c : Fin 256) : ℝ := ∑ j ∈ Finset.range n, ∑ x, (b j g).E (PB i j) x c

/-- What a head carries of the query gradient into block `n`. -/
def qS (i n : ℕ) (g : Fin 4) (d : Fin 64) (c : Fin 256) : ℝ :=
  ∑ j ∈ Finset.range n, ∑ x, (b j g).k x d * (b j g).dz (PB i j) (cS b i j g) x c

variable {b} {R : ℕ → Fin 4 → Reads Ideal} {i : ℕ} (hi : i < 32) (hR : ∀ j ≤ i, ∀ g, (R j g).Holds (b j g))

include hR in
theorem carryAt_real (n : ℕ) (hn : n ≤ i) (g : Fin 4) :
    (∀ c, (carryAt R n g).1 (ix2 (0 : Fin 1) c) = (cS b i n g c : EReal)) ∧ ∀ d c, (carryAt R n g).2 (ix2 d c) = (qS b i n g d c : EReal) := by
  induction n with
  | zero =>
    refine ⟨fun c => ?_, fun d c => ?_⟩
    · show k0_pay117 (F := Ideal) (ix2 (0 : Fin 1) c) = _
      pointwise [k0_pay117]; simp [cS]
    · show k0_pay118 (F := Ideal) (ix2 d c) = _
      pointwise [k0_pay118]; simp [qS]
  | succ n ih =>
    obtain ⟨h1, h2⟩ := ih (by omega)
    have hh := hR n (by omega) g
    have hk := keeps_below i n (by omega)
    refine ⟨fun c => ?_, fun d c => ?_⟩
    · show ((R n g).next keep (carryAt R n g)).1 _ = _
      rw [hh.next1 keep _ hk _ _ h1, cS, cS, Finset.sum_range_succ]
    · show ((R n g).next keep (carryAt R n g)).2 _ = _
      rw [hh.next2 keep _ hk _ _ h1 _ h2, qS, qS, Finset.sum_range_succ]

theorem rowsOf_apply (X : S32x256x256.Idx → Elt Ideal .f32) (j : Fin 32) (row x : Fin 256) :
    rowsOf X j (headOf row) (ix3 (0 : Fin 1) (rowOf row) x) = X (ix3 j row x) := by
  unfold rowsOf
  refine congrArg X ?_
  funext d
  match d with
  | 0 => rfl
  | 1 => exact Fin.ext (by show 64 * (row.val / 64) + row.val % 64 = row.val; omega)
  | 2 => rfl

theorem remade_apply (X : S32x256x256.Idx → Elt Ideal .f32) (j : Fin 32) (pay : Fin 4 → Vec Ideal S1x64x256 .f32 → FVec Ideal S1x64x256 .f32) (j' : Fin 32) (row x : Fin 256) :
    remade X j pay (ix3 j' row x) = if j'.val = j.val then pay (headOf row) (rowsOf X j (headOf row)) (ix3 (0 : Fin 1) (rowOf row) x) else X (ix3 j' row x) := rfl

/-- What block `(i, j)` adds to a row of the value gradient. -/
def addsV (b : ℕ → Fin 4 → BlockR) (i j : ℕ) (row x : Fin 256) : ℝ := ∑ c, (b j (headOf row)).ct (rowOf row) c * (b j (headOf row)).A (PB i j) x c

/-- What block `(i, j)` adds to a row of the key gradient. -/
def addsK (b : ℕ → Fin 4 → BlockR) (i j : ℕ) (row x : Fin 256) : ℝ :=
  ∑ c, (b j (headOf row)).q (rowOf row) c * (b j (headOf row)).dz (PB i j) (cS b i j (headOf row)) x c

include hi hR in
theorem bufV_real (X : S32x256x256.Idx → Elt Ideal .f32) (n : ℕ) (hn : n ≤ i) (j : Fin 32) (row x : Fin 256) :
    bufV R X n (ix3 j row x) = X (ix3 j row x) + ((if j.val < n then addsV b i j.val row x else 0 : ℝ) : EReal) := by
  induction n with
  | zero => simp [bufV]
  | succ n ih =>
    rw [bufV, remade_apply]
    by_cases hj : j.val = n
    · obtain rfl : blkNo n = j := Fin.ext (by show n % 32 = j.val; omega)
      rw [if_pos rfl, if_pos (by omega)]
      show (R n (headOf row)).addV keep _ (ix3 (0 : Fin 1) (rowOf row) x) = _
      rw [(hR n (by omega) (headOf row)).addV keep _ (keeps_below i n (by omega)), rowsOf_apply, ih (by omega), if_neg (by omega), EReal.coe_zero, add_zero, hj]
      rfl
    · rw [if_neg (by show ¬ j.val = n % 32; omega), ih (by omega)]
      exact congrArg (fun v : ℝ => X (ix3 j row x) + (v : EReal)) (if_congr (by omega) rfl rfl)

include hi hR in
theorem bufK_real (X : S32x256x256.Idx → Elt Ideal .f32) (n : ℕ) (hn : n ≤ i) (j : Fin 32) (row x : Fin 256) :
    bufK R X n (ix3 j row x) = X (ix3 j row x) + ((if j.val < n then addsK b i j.val row x else 0 : ℝ) : EReal) := by
  induction n with
  | zero => simp [bufK]
  | succ n ih =>
    rw [bufK, remade_apply]
    by_cases hj : j.val = n
    · obtain rfl : blkNo n = j := Fin.ext (by show n % 32 = j.val; omega)
      rw [if_pos rfl, if_pos (by omega)]
      show (R n (headOf row)).addK keep (carryAt R n (headOf row)).1 _ (ix3 (0 : Fin 1) (rowOf row) x) = _
      rw [(hR n (by omega) (headOf row)).addK keep _ (keeps_below i n (by omega)) _ _ (carryAt_real hR n (by omega) (headOf row)).1, rowsOf_apply, ih (by omega), if_neg (by omega),
        EReal.coe_zero, add_zero, hj]
      rfl
    · rw [if_neg (by show ¬ j.val = n % 32; omega), ih (by omega)]
      exact congrArg (fun v : ℝ => X (ix3 j row x) + (v : EReal)) (if_congr (by omega) rfl rfl)

include hi hR in
/-- What a row of blocks leaves of the value gradient's buffer. -/
theorem rowV_real (X : S32x256x256.Idx → Elt Ideal .f32) (j : Fin 32) (row x : Fin 256) :
    rowV R X i (ix3 j row x) = X (ix3 j row x) + ((if j.val ≤ i then addsV b i j.val row x else 0 : ℝ) : EReal) := by
  rw [rowV, remade_apply]
  by_cases hj : j.val = i
  · obtain rfl : blkNo i = j := Fin.ext (by show i % 32 = j.val; omega)
    rw [if_pos rfl, if_pos (by omega)]
    show (R i (headOf row)).addV causal _ (ix3 (0 : Fin 1) (rowOf row) x) = _
    rw [(hR i le_rfl (headOf row)).addV causal _ (keeps_diag i), rowsOf_apply, bufV_real hi hR X i le_rfl, if_neg (by omega), EReal.coe_zero, add_zero, hj]
    rfl
  · rw [if_neg (by show ¬ j.val = i % 32; omega), bufV_real hi hR X i le_rfl]
    exact congrArg (fun v : ℝ => X (ix3 j row x) + (v : EReal)) (if_congr (by omega) rfl rfl)

include hi hR in
/-- What a row of blocks leaves of the key gradient's buffer. -/
theorem rowK_real (X : S32x256x256.Idx → Elt Ideal .f32) (j : Fin 32) (row x : Fin 256) :
    rowK R X i (ix3 j row x) = X (ix3 j row x) + ((if j.val ≤ i then addsK b i j.val row x else 0 : ℝ) : EReal) := by
  rw [rowK, remade_apply]
  by_cases hj : j.val = i
  · obtain rfl : blkNo i = j := Fin.ext (by show i % 32 = j.val; omega)
    rw [if_pos rfl, if_pos (by omega)]
    show (R i (headOf row)).addK causal (carryAt R i (headOf row)).1 _ (ix3 (0 : Fin 1) (rowOf row) x) = _
    rw [(hR i le_rfl (headOf row)).addK causal _ (keeps_diag i) _ _ (carryAt_real hR i le_rfl (headOf row)).1, rowsOf_apply, bufK_real hi hR X i le_rfl, if_neg (by omega),
      EReal.coe_zero, add_zero, hj]
    rfl
  · rw [if_neg (by show ¬ j.val = i % 32; omega), bufK_real hi hR X i le_rfl]
    exact congrArg (fun v : ℝ => X (ix3 j row x) + (v : EReal)) (if_congr (by omega) rfl rfl)

/-- The stored block of the query gradient, from what the heads carry out. -/
theorem outQ_apply (a : Fin 4 → Carry Ideal) (c col : Fin 256) :
    outQ a (ix2 c col) = (a (headOf col)).2 (ix2 (rowOf col) c) * Ideal.ofBits .f32 0x3E000000#32 := by
  unfold outQ
  pointwise [k0_pay2]
  refine congrArg (· * _) ?_
  have hlt := col.isLt
  have hrd : ∀ (g : Fin 4) (d : Fin 64), 64 * g.val + d.val = col.val → headOf col = g ∧ rowOf col = d := fun g d h =>
    ⟨Fin.ext (by show col.val / 64 = g.val; omega), Fin.ext (by show col.val % 64 = d.val; omega)⟩
  by_cases h1 : col.val < 64
  · rw [dif_pos h1, (hrd 0 ⟨col.val, h1⟩ (by simp)).1, (hrd 0 ⟨col.val, h1⟩ (by simp)).2]
  by_cases h2 : col.val - 64 < 64
  · obtain ⟨e1, e2⟩ := hrd 1 ⟨col.val - 64, h2⟩ (by show 64 * 1 + (col.val - 64) = _; omega)
    rw [dif_neg h1, dif_pos h2, e1, e2]
  by_cases h3 : col.val - 64 - 64 < 64
  · obtain ⟨e1, e2⟩ := hrd 2 ⟨col.val - 64 - 64, h3⟩ (by show 64 * 2 + (col.val - 64 - 64) = _; omega)
    rw [dif_neg h1, dif_neg h2, dif_pos h3, e1, e2]
  · obtain ⟨e1, e2⟩ := hrd 3 ⟨col.val - 64 - 64 - 64, by omega⟩ (by show 64 * 3 + (col.val - 64 - 64 - 64) = _; omega)
    rw [dif_neg h1, dif_neg h2, dif_neg h3, e1, e2]

include hR in
/-- The block of the query gradient a row stores. -/
theorem rowQ_real (c col : Fin 256) :
    rowQ R i (ix2 c col) = ((qS b i (i + 1) (headOf col) (rowOf col) c * (1 / 8) : ℝ) : EReal) := by
  unfold rowQ
  rw [outQ_apply, ofBits_eighth]
  obtain ⟨h1, h2⟩ := carryAt_real hR i le_rfl (headOf col)
  rw [(hR i le_rfl (headOf col)).next2 causal _ (keeps_diag i) _ _ h1 _ h2, ← EReal.coe_mul, qS, qS, Finset.sum_range_succ]

end Cert.Proof

end
-- ==== Proof.Grid.lean ====
/-
  The grid's points, in the terms of `Block`: what each leaves in the first result's block and the two scratch buffers.
-/
module

public import proofs.«01_k».proof.Proof.Values
public import proofs.«01_k».proof.Proof.Rows
public import proofs.«01_k».proof.Proof.Body

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- What a point's heads read, from the point's blocks of the arrays. -/
def gridReads (c : Dev nD) (t : Fin cfg0.N) : ℕ → Fin 4 → Reads F :=
  ptReads (iblk m c 0 t) (iblk m c 4 t) (iblk m c 1 t) (iblk m c 2 t) (iblk m c 3 t) (iblk m c 5 t)

theorem here_grid (c : Dev nD) (t : Fin cfg0.N) :
    hereReads (b2 t) (b3 t) (b4 t) (b5 t) (b6 t) (b7 t) (x2 m c t) (x3 m c t) (x4 m c t) (x5 m c t) (x6 m c t) (x7 m c t) = gridReads m c t := by
  unfold hereReads gridReads
  rw [(hb2 t).read_unread, (hb3 t).read_unread, (hb4 t).read_unread, (hb5 t).read_unread, (hb6 t).read_unread, (hb7 t).read_unread]

theorem coord1 : ∀ t : Fin cfg0.N, (grid0.coords t 1).val = t.val % 32 := (by decide +kernel : ∀ t : Fin grid0.N, _)

/-- What a point leaves, from the scratch buffers it finds. -/
theorem res_rows (c : Dev nD) (t : Fin cfg0.N) (s : Scr (F := F) × Scr (F := F)) (h8 : first8 (b8 t) (x8 m c t) = 0#32) :
    (res m c t s).1 = rowQ (gridReads m c t) (t.val % 32)
    ∧ (b12).view.read (Elt F) (res m c t s).2.1 = rowK (gridReads m c t) (if t.val % 32 = 0 then k0_pay103 else (b12).view.read (Elt F) s.1) (t.val % 32)
    ∧ (b13).view.read (Elt F) (res m c t s).2.2 = rowV (gridReads m c t) (if t.val % 32 = 0 then k0_pay104 else (b13).view.read (Elt F) s.2) (t.val % 32) := by
  rw [← here_grid]
  by_cases h : t.val % 32 = 0
  · rw [res_A m c t s h, if_pos h, if_pos h]
    have key := runA_rows (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) (x2 m c t) (x3 m c t) (x4 m c t) (x5 m c t) (x6 m c t) (x7 m c t) (x8 m c t) ((cond1_iff t).2 h) (fun hh => by have := (cond2_iff t).1 hh; omega) h8
    rw [coord1] at key
    exact key
  by_cases h2 : t.val % 32 = 31
  · rw [res_C m c t s h h2, if_neg h, if_neg h]
    have key := runC_rows (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) (x2 m c t) (x3 m c t) (x4 m c t) (x5 m c t) (x6 m c t) (x7 m c t) (x8 m c t) (fun hh => h ((cond1_iff t).1 hh)) ((cond2_iff t).2 h2) s.1 s.2 h8
    rw [coord1] at key
    exact key
  · rw [res_B m c t s h h2, if_neg h, if_neg h]
    have key := runB_rows (F := F) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) b12 (Memref.isWhole_whole _) b13 (Memref.isWhole_whole _) Variants.none c none (grid0.coords t) (x2 m c t) (x3 m c t) (x4 m c t) (x5 m c t) (x6 m c t) (x7 m c t) (x8 m c t) (fun hh => h ((cond1_iff t).1 hh)) (fun hh => h2 ((cond2_iff t).1 hh)) s.1 s.2 h8
    rw [coord1] at key
    exact key

end Cert.Proof

end

noncomputable section

namespace Cert.Proof

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)
/- What the points' heads read, as real numbers: for each half of the heads and each query block. -/
variable (b : Fin 2 → ℕ → ℕ → Fin 4 → BlockR)

/-- The point of half `hg` and query block `i`. -/
def pointOf (hg : Fin 2) (i : ℕ) (hi : i < 32) : Fin cfg0.N := ⟨32 * hg.val + i, (by have := hg.isLt; omega : 32 * hg.val + i < 64)⟩

variable (h8 : ∀ t, first8 (b8 t) (x8 m c t) = 0#32)
variable (hR : ∀ hg i (hi : i < 32), ∀ j ≤ i, ∀ g, (gridReads m c (pointOf hg i hi) j g).Holds (b hg i j g))

theorem pointOf_mod (hg : Fin 2) (i : ℕ) (hi : i < 32) : (pointOf hg i hi).val % 32 = i := by
  show (32 * hg.val + i) % 32 = i; omega

theorem zerosK (y : S32x256x256.Idx) : k0_pay103 (F := Ideal) y = 0 := by
  rw [eq_ix3 y]; pointwise [k0_pay103]
theorem zerosV (y : S32x256x256.Idx) : k0_pay104 (F := Ideal) y = 0 := by
  rw [eq_ix3 y]; pointwise [k0_pay104]

theorem zeroAdd (x : Elt Ideal .f32) : (0 : EReal) + x = x := zero_add (M := EReal) x

include h8 hR

/-- The scratch buffers after the point of query block `i`: the sums over the query blocks so far. -/
theorem scr_real (hg : Fin 2) (i : ℕ) (hi : i < 32) (j : Fin 32) (row x : Fin 256) :
    (b12).view.read (Elt Ideal) (scr m c (32 * hg.val + i + 1)).1 (ix3 j row x)
      = ((∑ i' ∈ Finset.range (i + 1), if j.val ≤ i' then addsK (b hg i') i' j.val row x else 0 : ℝ) : EReal)
    ∧ (b13).view.read (Elt Ideal) (scr m c (32 * hg.val + i + 1)).2 (ix3 j row x)
      = ((∑ i' ∈ Finset.range (i + 1), if j.val ≤ i' then addsV (b hg i') i' j.val row x else 0 : ℝ) : EReal) := by
  induction i with
  | zero =>
    obtain ⟨-, hk, hv⟩ := res_rows m c (pointOf hg 0 hi) (scr m c (pointOf hg 0 hi).val) (h8 _)
    rw [pointOf_mod, if_pos rfl] at hk hv
    have e : scr m c (32 * hg.val + 0 + 1) = _ := scr_succ m c (pointOf hg 0 hi)
    rw [e, hk, hv, rowK_real hi (hR hg 0 hi), rowV_real hi (hR hg 0 hi), zerosK, zerosV, zeroAdd, zeroAdd, Finset.sum_range_one, Finset.sum_range_one]
    exact ⟨rfl, rfl⟩
  | succ i ih =>
    obtain ⟨-, hk, hv⟩ := res_rows m c (pointOf hg (i + 1) hi) (scr m c (pointOf hg (i + 1) hi).val) (h8 _)
    rw [pointOf_mod, if_neg (Nat.succ_ne_zero i)] at hk hv
    have e : scr m c (32 * hg.val + (i + 1) + 1) = _ := scr_succ m c (pointOf hg (i + 1) hi)
    obtain ⟨ik, iv⟩ := ih (by omega)
    rw [e, hk, hv, rowK_real hi (hR hg (i + 1) hi), rowV_real hi (hR hg (i + 1) hi)]
    refine ⟨?_, ?_⟩
    · rw [Finset.sum_range_succ _ (i + 1), EReal.coe_add, ← ik]; rfl
    · rw [Finset.sum_range_succ _ (i + 1), EReal.coe_add, ← iv]; rfl

theorem aft7_real (hg : Fin 2) (i : ℕ) (hi : i < 32) (x col : Fin 256) :
    aft7 m c (pointOf hg i hi) (ix2 x col) = ((qS (b hg i) i (i + 1) (headOf col) (rowOf col) x * (1 / 8) : ℝ) : EReal) := by
  unfold aft7
  obtain ⟨hq, -, -⟩ := res_rows m c (pointOf hg i hi) (scr m c (pointOf hg i hi).val) (h8 _)
  rw [hq, pointOf_mod]
  exact rowQ_real (hR hg i hi) x col

/-- A position's block and its place there. -/
def posBlk (p : Fin 8192) : Fin 32 := ⟨p.val / 256, by have := p.isLt; omega⟩
def posIn (p : Fin 8192) : Fin 256 := ⟨p.val % 256, Nat.mod_lt _ (by decide)⟩

omit h8 hR in
theorem pay3_apply (v : Vec Ideal S1x256x256 .f32) (r col : Fin 256) : k0_pay3 v (ix2 r col) = v (ix3 (0 : Fin 1) col r) := by
  pointwise [k0_pay3]
omit h8 hR in
theorem pay4_apply (v : Vec Ideal S1x256x256 .f32) (r col : Fin 256) : k0_pay4 v (ix2 r col) = v (ix3 (0 : Fin 1) col r) := by
  pointwise [k0_pay4]

omit h8 hR in
theorem flushed3 (X : S32x256x256.Idx → Elt Ideal .f32) (p : Fin 8192) (col : Fin 256) :
    flushed k0_pay3 X (ix2 p col) = X (ix3 (posBlk p) col (posIn p)) :=
  pay3_apply (slab X (posBlk p)) (posIn p) col
omit h8 hR in
theorem flushed4 (X : S32x256x256.Idx → Elt Ideal .f32) (p : Fin 8192) (col : Fin 256) :
    flushed k0_pay4 X (ix2 p col) = X (ix3 (posBlk p) col (posIn p)) :=
  pay4_apply (slab X (posBlk p)) (posIn p) col

theorem aft8_real (hg : Fin 2) (p : Fin 8192) (col : Fin 256) :
    aft8 m c (pointOf hg 31 (by decide)) (ix2 p col)
      = ((∑ i ∈ Finset.range 32, if (posBlk p).val ≤ i then addsK (b hg i) i (posBlk p).val col (posIn p) else 0 : ℝ) : EReal) := by
  unfold aft8
  rw [flushed3]
  exact (scr_real m c b h8 hR hg 31 (by decide) (posBlk p) col (posIn p)).1

theorem aft9_real (hg : Fin 2) (p : Fin 8192) (col : Fin 256) :
    aft9 m c (pointOf hg 31 (by decide)) (ix2 p col)
      = ((∑ i ∈ Finset.range 32, if (posBlk p).val ≤ i then addsV (b hg i) i (posBlk p).val col (posIn p) else 0 : ℝ) : EReal) := by
  unfold aft9
  rw [flushed4]
  exact (scr_real m c b h8 hR hg 31 (by decide) (posBlk p) col (posIn p)).2

end Cert.Proof
-- ==== Proof.Model.lean ====
/-
  The gradient of stick-breaking attention over the real numbers, one head at a time, and the same numbers as the kernel
  forms them, block by block.
-/
module

public import proofs.«01_k».proof.Proof.Rows

@[expose] public section

set_option maxRecDepth 4096

noncomputable section

namespace Cert.Proof

/-- A head's queries, keys, values and its output's gradient, by position and dimension. -/
structure HeadR where
  q : ℕ → ℕ → ℝ
  k : ℕ → ℕ → ℝ
  v : ℕ → ℕ → ℝ
  ct : ℕ → ℕ → ℝ

namespace HeadR

variable (H : HeadR)

/-- The score of key `s` for query `t`. -/
def z (t s : ℕ) : ℝ := (∑ d : Fin 64, H.q t d.val * H.k s d.val) * (1 / 8)
/-- The logarithm of what key `s` leaves of the stick. -/
def gap (t s : ℕ) : ℝ := if s < t then logS (H.z t s) - H.z t s else 0
/-- What the keys after `s` leave of the stick, in logarithms. -/
def later (t s : ℕ) : ℝ := ∑ s' ∈ Finset.range 8192, if s < s' then H.gap t s' else 0
/-- The weight of key `s`. -/
def w (t s : ℕ) : ℝ := if s < t then Real.exp (logS (H.z t s) + H.later t s) else 0
/-- The gradient of that weight. -/
def dw (t s : ℕ) : ℝ := ∑ d : Fin 64, H.ct t d.val * H.v s d.val
/-- The gradient of its logarithm. -/
def e (t s : ℕ) : ℝ := H.dw t s * H.w t s
/-- The sum of those gradients over the keys before `s`. -/
def earlier (t s : ℕ) : ℝ := ∑ s' ∈ Finset.range 8192, if s' < s then H.e t s' else 0
/-- The gradient of the score. -/
def dz (t s : ℕ) : ℝ := if s < t then H.e t s * (1 - Real.exp (logS (H.z t s))) - H.earlier t s * Real.exp (logS (H.z t s)) else 0
/-- The gradient of the queries. -/
def dq (t d : ℕ) : ℝ := (∑ s ∈ Finset.range 8192, H.dz t s * H.k s d) * (1 / 8)
/-- The gradient of the keys. -/
def dk (s d : ℕ) : ℝ := (∑ t ∈ Finset.range 8192, H.dz t s * H.q t d) * (1 / 8)
/-- The gradient of the values. -/
def dv (s d : ℕ) : ℝ := ∑ t ∈ Finset.range 8192, H.ct t d * H.w t s

/-- What the kernel reads of a head for query block `i` and key block `j`. -/
def blk (i j : ℕ) : BlockR where
  q d c := H.q (256 * i + c.val) d.val * (1 / 8)
  ct d c := H.ct (256 * i + c.val) d.val
  k x d := H.k (256 * j + x.val) d.val
  v x d := H.v (256 * j + x.val) d.val
  rs c := H.later (256 * i + c.val) (256 * j + 255)

end HeadR

/-- A sum over the positions, block by block. -/
theorem sum_blocks (f : ℕ → ℝ) : ∑ s ∈ Finset.range 8192, f s = ∑ j ∈ Finset.range 32, ∑ x : Fin 256, f (256 * j + x.val) := by
  rw [Finset.sum_range, Finset.sum_range]
  refine (Idealize.ShloMosaic.Fin.sum_univ_tiles 32 256 rfl fun k : Fin (32 * 256) => f k.val).trans ?_
  exact Finset.sum_congr rfl fun j _ => Finset.sum_congr rfl fun x _ => congrArg f (by show j.val * 256 + x.val = _; omega)

/-- A sum over the positions after one, from the end of that one's block. -/
theorem sum_after (f : ℕ → ℝ) (j : ℕ) (hj : j < 32) (r : Fin 256) :
    (∑ s ∈ Finset.range 8192, if 256 * j + r.val < s then f s else 0)
      = (∑ s ∈ Finset.range 8192, if 256 * j + 255 < s then f s else 0) + ∑ k : Fin 256, if r.val < k.val then f (256 * j + k.val) else 0 := by
  have h : (∑ k : Fin 256, if r.val < k.val then f (256 * j + k.val) else 0)
      = ∑ J ∈ Finset.range 32, ∑ k : Fin 256, if J = j ∧ r.val < k.val then f (256 * J + k.val) else 0 := by
    rw [Finset.sum_eq_single_of_mem j (Finset.mem_range.2 hj) fun J _ hJ => Finset.sum_eq_zero fun k _ => if_neg fun hh => hJ hh.1]
    exact Finset.sum_congr rfl fun k _ => if_congr (by simp) rfl rfl
  rw [h, sum_blocks, sum_blocks, ← Finset.sum_add_distrib]
  refine Finset.sum_congr rfl fun J _ => ?_
  rw [← Finset.sum_add_distrib]
  refine Finset.sum_congr rfl fun k _ => ?_
  have hk := k.isLt
  have hr := r.isLt
  by_cases h1 : 256 * j + r.val < 256 * J + k.val
  · by_cases h2 : J = j
    · rw [if_pos h1, if_neg (by omega), if_pos (by omega), zero_add]
    · rw [if_pos h1, if_pos (by omega), if_neg (by omega), add_zero]
  · rw [if_neg h1, if_neg (by omega), if_neg (by omega), add_zero]

/-- A sum over the positions before one, from the start of that one's block. -/
theorem sum_before (f : ℕ → ℝ) (j : ℕ) (hj : j < 32) (r : Fin 256) :
    (∑ s ∈ Finset.range 8192, if s < 256 * j + r.val then f s else 0)
      = (∑ J ∈ Finset.range j, ∑ k : Fin 256, f (256 * J + k.val)) + ∑ k : Fin 256, if k.val < r.val then f (256 * j + k.val) else 0 := by
  rw [sum_blocks, ← Finset.sum_subset (Finset.range_mono (show j + 1 ≤ 32 by omega)) fun J _ hJ => Finset.sum_eq_zero fun k _ => if_neg (by
    have := r.isLt; simp only [Finset.mem_range] at hJ; omega), Finset.sum_range_succ]
  refine congrArg₂ (· + ·) (Finset.sum_congr rfl fun J hJ => Finset.sum_congr rfl fun k _ => if_pos ?_) (Finset.sum_congr rfl fun k _ => if_congr (by omega) rfl rfl)
  have := k.isLt; simp only [Finset.mem_range] at hJ; omega

namespace HeadR

variable (H : HeadR) (i j : ℕ)

theorem blk_z (x c : Fin 256) : (H.blk i j).z x c = H.z (256 * i + c.val) (256 * j + x.val) := by
  unfold BlockR.z z blk
  rw [Finset.sum_mul]
  exact Finset.sum_congr rfl fun d _ => by dsimp only; ring

theorem blk_da (x c : Fin 256) : (H.blk i j).da x c = H.dw (256 * i + c.val) (256 * j + x.val) :=
  Finset.sum_congr rfl fun d _ => mul_comm _ _

theorem blk_A (hj : j < 32) (x c : Fin 256) : (H.blk i j).A (PB i j) x c = H.w (256 * i + c.val) (256 * j + x.val) := by
  unfold BlockR.A wtR w
  refine if_congr Iff.rfl ?_ rfl
  rw [blk_z]
  refine congrArg (fun y : ℝ => Real.exp (logS (H.z (256 * i + c.val) (256 * j + x.val)) + y)) ?_
  have hrs : (H.blk i j).rs c = H.later (256 * i + c.val) (256 * j + 255) := by dsimp only [blk]
  rw [hrs, later, later, sum_after _ j hj]
  refine congrArg (_ + ·) (Finset.sum_congr rfl fun k _ => if_congr Iff.rfl ?_ rfl)
  rw [blk_z]
  exact if_congr Iff.rfl rfl rfl

theorem blk_E (hj : j < 32) (x c : Fin 256) : (H.blk i j).E (PB i j) x c = H.e (256 * i + c.val) (256 * j + x.val) := by
  unfold BlockR.E e
  rw [blk_da, blk_A H i j hj]

variable (Hs : Fin 4 → HeadR)

theorem blk_dz (hj : j < 32) (g : Fin 4) (x c : Fin 256) :
    ((Hs g).blk i j).dz (PB i j) (cS (fun j g => (Hs g).blk i j) i j g) x c = (Hs g).dz (256 * i + c.val) (256 * j + x.val) := by
  unfold BlockR.dz dz
  refine if_congr Iff.rfl ?_ rfl
  rw [blk_z, blk_E _ i j hj]
  refine congrArg (fun y : ℝ => (Hs g).e (256 * i + c.val) (256 * j + x.val) * (1 - Real.exp (logS ((Hs g).z (256 * i + c.val) (256 * j + x.val)))) - y * Real.exp (logS ((Hs g).z (256 * i + c.val) (256 * j + x.val)))) ?_
  rw [earlier, sum_before _ j hj]
  refine congrArg₂ (· + ·) (Finset.sum_congr rfl fun J hJ => Finset.sum_congr rfl fun k _ => ?_) (Finset.sum_congr rfl fun k _ => if_congr Iff.rfl ?_ rfl)
  · exact blk_E _ i J (by simp only [Finset.mem_range] at hJ; omega) k c
  · exact blk_E _ i j hj k c

theorem dz_after (t s : ℕ) (h : t ≤ s) : H.dz t s = 0 := if_neg (by omega)
theorem w_after (t s : ℕ) (h : t ≤ s) : H.w t s = 0 := if_neg (by omega)

/-- The query gradient, from the blocks. -/
theorem dq_blocks (hi : i < 32) (g : Fin 4) (d : Fin 64) (c : Fin 256) :
    qS (fun j g => (Hs g).blk i j) i (i + 1) g d c * (1 / 8) = (Hs g).dq (256 * i + c.val) d.val := by
  unfold qS dq
  refine congrArg (· * _) ?_
  rw [sum_blocks, ← Finset.sum_subset (Finset.range_mono (show i + 1 ≤ 32 by omega)) fun J _ hJ => Finset.sum_eq_zero fun k _ => by
    have := c.isLt; simp only [Finset.mem_range] at hJ; rw [dz_after _ _ _ (by omega), zero_mul]]
  refine Finset.sum_congr rfl fun J hJ => Finset.sum_congr rfl fun x _ => ?_
  simp only [Finset.mem_range] at hJ
  rw [blk_dz i J Hs (by omega), mul_comm]
  rfl

/-- The value gradient, from the blocks. -/
theorem dv_blocks (hj : j < 32) (row x : Fin 256) :
    (∑ i ∈ Finset.range 32, if j ≤ i then addsV (fun j g => (Hs g).blk i j) i j row x else 0)
      = (Hs (headOf row)).dv (256 * j + x.val) (rowOf row).val := by
  rw [dv, sum_blocks]
  refine Finset.sum_congr rfl fun i hi => ?_
  split_ifs with h
  · exact Finset.sum_congr rfl fun c _ => by rw [blk_A _ i j hj]; rfl
  · exact (Finset.sum_eq_zero fun c _ => by have := c.isLt; rw [w_after _ _ _ (by omega), mul_zero]).symm

/-- The key gradient, from the blocks. -/
theorem dk_blocks (hj : j < 32) (row x : Fin 256) :
    (∑ i ∈ Finset.range 32, if j ≤ i then addsK (fun j g => (Hs g).blk i j) i j row x else 0)
      = (Hs (headOf row)).dk (256 * j + x.val) (rowOf row).val := by
  rw [dk, sum_blocks, Finset.sum_mul]
  refine Finset.sum_congr rfl fun i hi => ?_
  rw [Finset.sum_mul]
  split_ifs with h
  · refine Finset.sum_congr rfl fun c _ => ?_
    rw [blk_dz i j Hs hj]
    show _ * (1 / 8) * _ = _
    ring
  · exact (Finset.sum_eq_zero fun c _ => by have := c.isLt; rw [dz_after _ _ _ (by omega), zero_mul, zero_mul]).symm

end HeadR

end Cert.Proof
-- ==== Proof.Ref.lean ====
/-
  The reference, step by step: its three results as compositions of named arrays.
-/
module

public import proofs.«01_k».proof.Proof.Gen.ReferenceIdeal.Run

@[expose] public section

set_option maxRecDepth 8192

noncomputable section

namespace Cert.Ref

open Cert.ReferenceIdeal Cert.ReferenceIdeal.Gen Cert.ReferenceIdeal.Value Idealize.ShloMosaic Idealize.ShloMosaic.TcCoe

variable {F : FTy → Type} [FloatOps F]

/-- An array by head, query and key, of one value. -/
def fill (w : BitVec 32) : FVec F S8x8192x8192 .f32 := broadcastInDim S8x8192x8192 ![] bcast_S_S8x8192x8192 (constant S_ .f32 w)
/-- Whether the key comes before the query. -/
def mask : IVec S8x8192x8192 1 :=
  broadcastInDim S8x8192x8192 ![1, 2] bcast_S8192x8192_S8x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logarithm of one plus the exponential. -/
def softplus (x : FVec F S8x8192x8192 .f32) : FVec F S8x8192x8192 .f32 :=
  select (cmpf .une (subf x (fill 0x00000000#32)) (subf x (fill 0x00000000#32))) (addf x (fill 0x00000000#32))
    (addf (maximumf x (fill 0x00000000#32)) (Host.log1p (Host.exp (Host.negf (Host.absf (subf x (fill 0x00000000#32)))))))
/-- Its derivative. -/
def slope (x : FVec F S8x8192x8192 .f32) : FVec F S8x8192x8192 .f32 :=
  Host.exp (subf (select (cmpf .oeq x (fill 0x7F800000#32)) (fill 0x00000000#32) x)
    (select (cmpf .oeq (softplus x) (fill 0x7F800000#32)) (fill 0x00000000#32) (softplus x)))

variable (q k v ct : FVec F S8192x8x64 .f32)

/-- The scores. -/
def z : FVec F S8x8192x8192 .f32 := mulf (Host.dotGeneral dot_S8192x8x64_S8192x8x64_S8x8192x8192_2_2_0_0_1_1 none q k) (fill 0x3E000000#32)
/-- The logarithms of what the keys leave of the stick. -/
def gap : FVec F S8x8192x8192 .f32 :=
  select mask (Host.negf (softplus (Host.negf (Host.negf (z q k))))) (broadcastInDim S8x8192x8192 ![] bcast_S_S8x8192x8192 (id (constant S_ .f32 0x00000000#32)))
/-- Their sums over the later keys. -/
def later : FVec F S8x8192x8192 .f32 :=
  subf (Host.reduceWindowAdd ![1, 1, 8192] ![1, 1, 1] ![0, 0, 0] ![0, 0, 8191] (gap q k) (broadcastInDim S_ ![] bcast_S_S_ (constant S_ .f32 0x00000000#32))
    reduceWindows_S8x8192x8192_S8x8192x8192_w1s1p0_0_w1s1p0_0_w8192s1p0_8191 h_S_) (gap q k)
/-- The weights, of all keys. -/
def wAll : FVec F S8x8192x8192 .f32 := Host.exp (addf (Host.negf (softplus (Host.negf (z q k)))) (later q k))
/-- The weights, of the keys before the query. -/
def w : FVec F S8x8192x8192 .f32 := select mask (wAll q k) (broadcastInDim S8x8192x8192 ![] bcast_S_S8x8192x8192 (id (constant S_ .f32 0x00000000#32)))
/-- The output's gradient, by head and dimension. -/
def ctT : FVec F S8x64x8192 .f32 := transpose S8x64x8192 [1, 2, 0] ct transposes_S8192x8x64_S8x64x8192_1_2_0
/-- The value gradient. -/
def dv : FVec F S8192x8x64 .f32 :=
  transpose S8192x8x64 [2, 0, 1] (Host.dotGeneral dot_S8x64x8192_S8x8192x8192_S8x64x8192_2_1_1_2_0_0 none (ctT ct) (w q k)) transposes_S8x64x8192_S8192x8x64_2_0_1
/-- The gradient of the weights. -/
def dw : FVec F S8x8192x8192 .f32 := Host.dotGeneral dot_S8x64x8192_S8192x8x64_S8x8192x8192_1_2_2_0_0_1 none (ctT ct) v
/-- The gradient of their logarithms. -/
def e : FVec F S8x8192x8192 .f32 := mulf (select mask (dw v ct) (fill 0x00000000#32)) (wAll q k)
/-- Its sums over the earlier keys. -/
def earlier : FVec F S8x8192x8192 .f32 :=
  addf (Host.negf (e q k v ct)) (Host.reduceWindowAdd ![1, 1, 8192] ![1, 1, 1] ![0, 0, 8191] ![0, 0, 0] (e q k v ct)
    (broadcastInDim S_ ![] bcast_S_S_ (constant S_ .f32 0x00000000#32)) reduceWindows_S8x8192x8192_S8x8192x8192_w1s1p0_0_w1s1p0_0_w8192s1p8191_0 h_S_)
/-- The gradient of the scores before their scale. -/
def dz : FVec F S8x8192x8192 .f32 :=
  mulf (addf (Host.negf (Host.negf (mulf (Host.negf (select mask (earlier q k v ct) (fill 0x00000000#32))) (slope (Host.negf (Host.negf (z q k)))))))
    (Host.negf (mulf (Host.negf (e q k v ct)) (slope (Host.negf (z q k)))))) (fill 0x3E000000#32)
/-- The key gradient. -/
def dk : FVec F S8192x8x64 .f32 :=
  transpose S8192x8x64 [1, 0, 2] (Host.dotGeneral dot_S8x8192x8192_S8192x8x64_S8x8192x64_1_0_2_2_0_1 none (dz q k v ct) q) transposes_S8x8192x64_S8192x8x64_1_0_2
/-- The query gradient. -/
def dq : FVec F S8192x8x64 .f32 :=
  transpose S8192x8x64 [1, 0, 2] (Host.dotGeneral dot_S8x8192x8192_S8192x8x64_S8x8192x64_2_0_1_2_0_1 none (dz q k v ct) k) transposes_S8x8192x64_S8192x8x64_1_0_2

/-- A gradient as it is returned. -/
def flat (x : FVec F S8192x8x64 .f32) : FVec F S8192x512 .bf16 := truncf .bf16 (shapeCast S8192x512 x shapeCasts_S8192x8x64_S8192x512) bitsLt_bf16_f32

variable (m : (ℓ : Loc nD τ sig) → Buf (Elt F) ℓ) (c : Dev nD)

theorem out2_eq : res_main_v45 m c = flat (dv (m ((c.tc : Thread nD τ).loc main_arg0)) (m ((c.tc : Thread nD τ).loc main_arg1)) (m ((c.tc : Thread nD τ).loc main_arg3))) := by
  unfold res_main_v45; rfl
theorem out1_eq : res_main_v43 m c = flat (dk (m ((c.tc : Thread nD τ).loc main_arg0)) (m ((c.tc : Thread nD τ).loc main_arg1)) (m ((c.tc : Thread nD τ).loc main_arg2)) (m ((c.tc : Thread nD τ).loc main_arg3))) := by
  unfold res_main_v43; rfl
theorem out0_eq : res_main_v41 m c = flat (dq (m ((c.tc : Thread nD τ).loc main_arg0)) (m ((c.tc : Thread nD τ).loc main_arg1)) (m ((c.tc : Thread nD τ).loc main_arg2)) (m ((c.tc : Thread nD τ).loc main_arg3))) := by
  unfold res_main_v41; rfl

end Cert.Ref
-- ==== Proof.Window.lean ====
/-
  The host's running sums along the last axis, in either direction, over the extended reals.
-/
module

public import proofs.«01_k».proof.Proof.Real

@[expose] public section

noncomputable section

namespace Cert.Proof

open Idealize.ShloMosaic Idealize.ShloMosaic.TcCoe Idealize.ShloMosaic.Tactic

/-- A fold of additions is a sum. -/
theorem foldl_add {ι : Type} (l : List ι) (f : ι → EReal) (v : EReal) : l.foldl (fun r i => r + f i) v = v + (l.map f).sum := by
  induction l generalizing v with
  | nil => simp
  | cons a l ih => rw [List.foldl_cons, ih, List.map_cons, List.sum_cons, add_assoc]

/-- A sum over the positions of a window along the last axis. -/
theorem sum_window {N : ℕ} (g : (⟨3, ![1, 1, N]⟩ : Shape).Idx → EReal) :
    ∑ p, g p = ∑ k : Fin N, g (ix3 (0 : Fin 1) (0 : Fin 1) k) := by
  refine (Fintype.sum_equiv ⟨fun k : Fin N => (ix3 (0 : Fin 1) (0 : Fin 1) k : (⟨3, ![1, 1, N]⟩ : Shape).Idx), fun p => p 2, fun _ => rfl, fun p => ?_⟩ _ _ fun _ => rfl).symm
  funext a
  match a with
  | ⟨0, _⟩ => exact (Subsingleton.elim (α := Fin 1) _ _)
  | ⟨1, _⟩ => exact (Subsingleton.elim (α := Fin 1) _ _)
  | ⟨2, _⟩ => rfl

variable {A B N M : ℕ} (x : FVec Ideal (⟨3, ![A, B, N]⟩ : Shape) .f32) (init : (⟨0, ![]⟩ : Shape).Idx → EReal)

/-- The host's window sum along the last axis, as a sum over the window. -/
theorem window_sum (lo hi : ℕ) (hu : 0 < (⟨0, ![]⟩ : Shape).numel) (hinit : init (Shape.Idx.first hu) = 0)
    (h : (⟨3, ![A, B, N]⟩ : Shape).ReduceWindows (![1, 1, N] : Fin 3 → ℕ) ![1, 1, 1] ![0, 0, lo] ![0, 0, hi] (⟨3, ![A, B, N]⟩ : Shape)) (a : Fin A) (b : Fin B) (j : Fin N) :
    Host.reduceWindowAdd (F := Ideal) (φ := .f32) ![1, 1, N] ![1, 1, 1] ![0, 0, lo] ![0, 0, hi] x init h hu (ix3 a b j)
      = ∑ k : Fin N, if hk : lo ≤ j.val + k.val ∧ j.val + k.val - lo < N then x (ix3 a b ⟨j.val + k.val - lo, hk.2⟩) else 0 := by
  show Ideal.hostReduceWindowAdd ![1, 1, N] ![1, 1, 1] ![0, 0, lo] ![0, 0, hi] h x (init (Shape.Idx.first hu)) (ix3 a b j) = _
  unfold Ideal.hostReduceWindowAdd Host.reduceWindow
  dsimp only
  rw [foldl_add, hinit, zero_add, ← List.ofFn_eq_map, List.sum_ofFn]
  refine (Finset.sum_congr rfl fun i _ => ?_).trans ((Equiv.sum_comp (⟨3, ![1, 1, N]⟩ : Shape).rowMajor.symm (fun p : (⟨3, ![1, 1, N]⟩ : Shape).Idx =>
    if hk : lo ≤ j.val + (p 2).val ∧ j.val + (p 2).val - lo < N then x (ix3 a b ⟨j.val + (p 2).val - lo, hk.2⟩) else (0 : EReal))).trans (sum_window _))
  have h0 : (((⟨3, ![1, 1, N]⟩ : Shape).rowMajor.symm i) 0).val < 1 := (((⟨3, ![1, 1, N]⟩ : Shape).rowMajor.symm i) 0).isLt
  have h1 : (((⟨3, ![1, 1, N]⟩ : Shape).rowMajor.symm i) 1).val < 1 := (((⟨3, ![1, 1, N]⟩ : Shape).rowMajor.symm i) 1).isLt
  by_cases hk : lo ≤ j.val + (((⟨3, ![1, 1, N]⟩ : Shape).rowMajor.symm i) 2).val ∧ j.val + (((⟨3, ![1, 1, N]⟩ : Shape).rowMajor.symm i) 2).val - lo < N
  · rw [dif_pos hk, dif_pos fun a_1 => ?_]
    · refine congrArg x (funext fun a_1 => Fin.ext ?_)
      match a_1 with
      | ⟨0, _⟩ => show a.val * 1 + (((⟨3, ![1, 1, N]⟩ : Shape).rowMajor.symm i) 0).val - 0 = a.val; omega
      | ⟨1, _⟩ => show b.val * 1 + (((⟨3, ![1, 1, N]⟩ : Shape).rowMajor.symm i) 1).val - 0 = b.val; omega
      | ⟨2, _⟩ => show j.val * 1 + (((⟨3, ![1, 1, N]⟩ : Shape).rowMajor.symm i) 2).val - lo = j.val + (((⟨3, ![1, 1, N]⟩ : Shape).rowMajor.symm i) 2).val - lo; omega
    · match a_1 with
      | ⟨0, _⟩ => show 0 ≤ a.val * 1 + (((⟨3, ![1, 1, N]⟩ : Shape).rowMajor.symm i) 0).val ∧ a.val * 1 + (((⟨3, ![1, 1, N]⟩ : Shape).rowMajor.symm i) 0).val - 0 < A; have := a.isLt; omega
      | ⟨1, _⟩ => show 0 ≤ b.val * 1 + (((⟨3, ![1, 1, N]⟩ : Shape).rowMajor.symm i) 1).val ∧ b.val * 1 + (((⟨3, ![1, 1, N]⟩ : Shape).rowMajor.symm i) 1).val - 0 < B; have := b.isLt; omega
      | ⟨2, _⟩ => show lo ≤ j.val * 1 + (((⟨3, ![1, 1, N]⟩ : Shape).rowMajor.symm i) 2).val ∧ j.val * 1 + (((⟨3, ![1, 1, N]⟩ : Shape).rowMajor.symm i) 2).val - lo < N; omega
  · rw [dif_neg hk, dif_neg fun hh => hk ?_]
    have h2 : lo ≤ j.val * 1 + (((⟨3, ![1, 1, N]⟩ : Shape).rowMajor.symm i) 2).val ∧ j.val * 1 + (((⟨3, ![1, 1, N]⟩ : Shape).rowMajor.symm i) 2).val - lo < N := hh 2
    omega

variable (g : ℕ → ℝ) (a : Fin A) (b : Fin B) (hx : ∀ s : Fin N, x (ix3 a b s) = (g s.val : EReal))
include hx

/-- The window's terms as real numbers. -/
theorem window_real (lo hi : ℕ) (hu : 0 < (⟨0, ![]⟩ : Shape).numel) (hinit : init (Shape.Idx.first hu) = 0)
    (h : (⟨3, ![A, B, N]⟩ : Shape).ReduceWindows (![1, 1, N] : Fin 3 → ℕ) ![1, 1, 1] ![0, 0, lo] ![0, 0, hi] (⟨3, ![A, B, N]⟩ : Shape)) (j : Fin N) :
    Host.reduceWindowAdd (F := Ideal) (φ := .f32) ![1, 1, N] ![1, 1, 1] ![0, 0, lo] ![0, 0, hi] x init h hu (ix3 a b j)
      = ((∑ k ∈ Finset.range N, if lo ≤ j.val + k ∧ j.val + k - lo < N then g (j.val + k - lo) else 0 : ℝ) : EReal) := by
  rw [window_sum x init lo hi hu hinit h, Finset.sum_range, ← coe_sum]
  refine Finset.sum_congr rfl fun k _ => ?_
  by_cases hk : lo ≤ j.val + k.val ∧ j.val + k.val - lo < N
  · rw [dif_pos hk, if_pos hk, hx]
  · rw [dif_neg hk, if_neg hk, EReal.coe_zero]

/-- The sum from a position on. -/
theorem window_after (hu : 0 < (⟨0, ![]⟩ : Shape).numel) (hinit : init (Shape.Idx.first hu) = 0)
    (h : (⟨3, ![A, B, N]⟩ : Shape).ReduceWindows (![1, 1, N] : Fin 3 → ℕ) ![1, 1, 1] ![0, 0, 0] ![0, 0, M] (⟨3, ![A, B, N]⟩ : Shape)) (j : Fin N) :
    Host.reduceWindowAdd (F := Ideal) (φ := .f32) ![1, 1, N] ![1, 1, 1] ![0, 0, 0] ![0, 0, M] x init h hu (ix3 a b j)
      = ((∑ s ∈ Finset.range N, if j.val ≤ s then g s else 0 : ℝ) : EReal) := by
  rw [window_real x init g a b hx 0 M hu hinit h]
  refine congrArg (fun y : ℝ => (y : EReal)) ?_
  rw [← Finset.sum_filter, ← Finset.sum_filter]
  refine Finset.sum_bij' (fun k _ => j.val + k) (fun s _ => s - j.val) ?_ ?_ ?_ ?_ ?_
  all_goals
    intro s hs
    simp only [Finset.mem_filter, Finset.mem_range] at hs ⊢
    try omega
  exact congrArg g (by omega)

/-- The sum up to a position. -/
theorem window_upto (hM : M + 1 = N) (hu : 0 < (⟨0, ![]⟩ : Shape).numel) (hinit : init (Shape.Idx.first hu) = 0)
    (h : (⟨3, ![A, B, N]⟩ : Shape).ReduceWindows (![1, 1, N] : Fin 3 → ℕ) ![1, 1, 1] ![0, 0, M] ![0, 0, 0] (⟨3, ![A, B, N]⟩ : Shape)) (j : Fin N) :
    Host.reduceWindowAdd (F := Ideal) (φ := .f32) ![1, 1, N] ![1, 1, 1] ![0, 0, M] ![0, 0, 0] x init h hu (ix3 a b j)
      = ((∑ s ∈ Finset.range N, if s ≤ j.val then g s else 0 : ℝ) : EReal) := by
  rw [window_real x init g a b hx M 0 hu hinit h]
  refine congrArg (fun y : ℝ => (y : EReal)) ?_
  have hj := j.isLt
  rw [← Finset.sum_filter, ← Finset.sum_filter]
  refine Finset.sum_bij' (fun k _ => j.val + k - M) (fun s _ => s + M - j.val) ?_ ?_ ?_ ?_ ?_
  all_goals
    intro s hs
    simp only [Finset.mem_filter, Finset.mem_range] at hs ⊢
    try omega

end Cert.Proof
-- ==== Proof.RefReal.lean ====
/-
  The reference's arrays over the real numbers: each is the model's array of the same name.
-/
module

public import proofs.«01_k».proof.Proof.Ref
public import proofs.«01_k».proof.Proof.Model
public import proofs.«01_k».proof.Proof.Window

@[expose] public section

set_option maxRecDepth 8192

noncomputable section

namespace Cert.Ref

open Cert.ReferenceIdeal Cert.ReferenceIdeal.Gen Cert.ReferenceIdeal.Value Idealize.ShloMosaic Idealize.ShloMosaic.TcCoe Idealize.ShloMosaic.Tactic
open Cert.Proof (HeadR logS coe_sum ofBits_eighth)

/-! ## The scalar functions -/

/-- The logarithm of one plus the exponential. -/
def spR (x : ℝ) : ℝ := max x 0 + Real.log (1 + Real.exp (-|x|))

theorem spR_neg (x : ℝ) : -spR (-x) = logS x := by
  unfold spR logS
  rw [abs_neg]
  rcases le_total x 0 with h | h
  · rw [max_eq_left (by linarith), min_eq_left h]; ring
  · rw [max_eq_right (by linarith), min_eq_right h]; ring

theorem spR_pos (x : ℝ) : -spR x = logS x - x := by
  unfold spR logS
  rcases le_total x 0 with h | h
  · rw [max_eq_right h, min_eq_left h]; ring
  · rw [max_eq_left h, min_eq_right h]; ring

theorem slope_pos (x : ℝ) : Real.exp (x - spR x) = Real.exp (logS x) := by
  congr 1
  have := spR_pos x
  linarith

theorem slope_neg (x : ℝ) : Real.exp (-x - spR (-x)) = 1 - Real.exp (logS x) := by
  have h1 : -x - spR (-x) = logS x - x := by have := spR_neg x; linarith
  rw [h1]
  unfold logS
  have hpos : ∀ y : ℝ, 0 < 1 + Real.exp y := fun y => by positivity
  rcases le_total x 0 with h | h
  · rw [min_eq_left h, abs_of_nonpos h, neg_neg]
    rw [show x - Real.log (1 + Real.exp x) - x = -Real.log (1 + Real.exp x) by ring, Real.exp_neg, Real.exp_sub, Real.exp_log (hpos x)]
    have := hpos x
    field_simp
    ring
  · rw [min_eq_right h, abs_of_nonneg h]
    rw [show 0 - Real.log (1 + Real.exp (-x)) - x = -x - Real.log (1 + Real.exp (-x)) by ring, Real.exp_sub, Real.exp_log (hpos (-x)), zero_sub, Real.exp_neg (Real.log _),
      Real.exp_log (hpos (-x))]
    have := hpos (-x)
    field_simp
    ring

theorem ofBits_inf : Ideal.ofBits .f32 0x7F800000#32 = ⊤ := by simp [Ideal.ofBits, Ideal.ieee]

/-! ## The arrays -/

theorem fill_apply (b : BitVec 32) (y : S8x8192x8192.Idx) : fill (F := Ideal) b y = Ideal.ofBits .f32 b := rfl
theorem fill_zero (y : S8x8192x8192.Idx) : fill (F := Ideal) 0x00000000#32 y = 0 := by
  rw [fill_apply]; simp [Ideal.ofBits, Ideal.ieee]

theorem mask_apply (h : Fin 8) (t s : Fin 8192) : mask (ix3 h t s) = BitVec.ofBool (decide (s.val < t.val)) := by
  have hs := s.isLt
  have ht := t.isLt
  unfold mask
  pointwise
  simp (disch := omega) only [hlo_ix]

theorem select_mask (x y : FVec Ideal S8x8192x8192 .f32) (h : Fin 8) (t s : Fin 8192) :
    select mask x y (ix3 h t s) = if s.val < t.val then x (ix3 h t s) else y (ix3 h t s) := by
  show Scalar.select (mask (ix3 h t s)) _ _ = _
  rw [mask_apply]
  by_cases hh : s.val < t.val <;> simp [hh, Scalar.select]

theorem cmp_une (x : EReal) : Ideal.cmp .une x x = 0#1 := by simp [Ideal.cmp]
theorem cmp_inf (x : ℝ) : Ideal.cmp .oeq (x : EReal) ⊤ = 0#1 := by simp [Ideal.cmp]
theorem sel_zero {α : Type} (x y : α) : Scalar.select (0#1) x y = y := by simp [Scalar.select]

theorem softplus_real (x : FVec Ideal S8x8192x8192 .f32) (y : S8x8192x8192.Idx) (r : ℝ) (hx : x y = (r : EReal)) :
    softplus x y = (spR r : EReal) := by
  show Scalar.select (Ideal.cmp .une (x y - fill (F := Ideal) 0x00000000#32 y) (x y - fill (F := Ideal) 0x00000000#32 y)) (x y + fill (F := Ideal) 0x00000000#32 y)
    (max (x y) (fill (F := Ideal) 0x00000000#32 y) + Ideal.log1p (Ideal.exp (-(max (x y - fill (F := Ideal) 0x00000000#32 y) (-(x y - fill (F := Ideal) 0x00000000#32 y)))))) = _
  rw [cmp_une, sel_zero, fill_zero, hx]
  have h0 : (r : EReal) - (0 : EReal) = (r : EReal) := by rw [← EReal.coe_zero, ← EReal.coe_sub, sub_zero]
  have hm : max (r : EReal) (-(r : EReal)) = ((|r| : ℝ) : EReal) := by rw [← EReal.coe_neg, abs_eq_max_neg]; exact (EReal.coe_strictMono.monotone.map_max).symm
  have hl : ¬ (1 + Real.exp (-|r|) ≤ 0) := not_le.2 (by positivity)
  have hm0 : max (r : EReal) (0 : EReal) = ((max r 0 : ℝ) : EReal) := by rw [EReal.coe_strictMono.monotone.map_max]; rfl
  rw [h0, hm, ← EReal.coe_neg, Ideal.exp_coe, Ideal.log1p, ← EReal.coe_one, ← EReal.coe_add, Ideal.log_coe, if_neg hl, hm0, ← EReal.coe_add]
  rfl

theorem slope_real (x : FVec Ideal S8x8192x8192 .f32) (y : S8x8192x8192.Idx) (r : ℝ) (hx : x y = (r : EReal)) :
    slope x y = (Real.exp (r - spR r) : EReal) := by
  show Ideal.exp (Scalar.select (Ideal.cmp .oeq (x y) (fill (F := Ideal) 0x7F800000#32 y)) (fill (F := Ideal) 0x00000000#32 y) (x y)
    - Scalar.select (Ideal.cmp .oeq (softplus x y) (fill (F := Ideal) 0x7F800000#32 y)) (fill (F := Ideal) 0x00000000#32 y) (softplus x y)) = _
  rw [softplus_real x y r hx, hx, fill_apply, ofBits_inf, cmp_inf, cmp_inf, sel_zero, sel_zero, ← EReal.coe_sub, Ideal.exp_coe]

variable {q k v ct : FVec Ideal S8192x8x64 .f32} {H : Fin 8 → HeadR}
variable (hq : ∀ t h d, q (ix3 t h d) = ((H h).q t.val d.val : EReal)) (hk : ∀ t h d, k (ix3 t h d) = ((H h).k t.val d.val : EReal))
variable (hv : ∀ t h d, v (ix3 t h d) = ((H h).v t.val d.val : EReal)) (hct : ∀ t h d, ct (ix3 t h d) = ((H h).ct t.val d.val : EReal))

include hq hk in
theorem z_real (h : Fin 8) (t s : Fin 8192) : z q k (ix3 h t s) = ((H h).z t.val s.val : EReal) := by
  unfold z
  pointwise [fill]
  simp only [hq, hk, ofBits_eighth, ← EReal.coe_mul, coe_sum]
  rfl

theorem zero_id (y : S8x8192x8192.Idx) : (broadcastInDim S8x8192x8192 ![] bcast_S_S8x8192x8192 (id (constant S_ .f32 0x00000000#32)) : FVec Ideal S8x8192x8192 .f32) y = 0 := fill_zero y

include hq hk in
theorem gap_real (h : Fin 8) (t s : Fin 8192) : gap q k (ix3 h t s) = ((H h).gap t.val s.val : EReal) := by
  have hz := z_real hq hk h t s
  have hn : Host.negf (Host.negf (z q k)) (ix3 h t s) = ((H h).z t.val s.val : EReal) := by
    show - -(z q k (ix3 h t s)) = _
    rw [neg_neg, hz]
  unfold gap HeadR.gap
  rw [select_mask, zero_id]
  show (if s.val < t.val then -(softplus (Host.negf (Host.negf (z q k))) (ix3 h t s)) else 0) = _
  rw [softplus_real _ _ _ hn, ← EReal.coe_neg, spR_pos]
  split_ifs <;> rfl

theorem first_zero : (broadcastInDim S_ ![] bcast_S_S_ (constant (F := Ideal) S_ .f32 0x00000000#32)) (Shape.Idx.first h_S_) = (0 : EReal) := by
  show Ideal.ofBits .f32 0x00000000#32 = 0
  simp [Ideal.ofBits, Ideal.ieee]

include hq hk in
theorem later_real (h : Fin 8) (t s : Fin 8192) : later q k (ix3 h t s) = ((H h).later t.val s.val : EReal) := by
  unfold later
  show Host.reduceWindowAdd ![1, 1, 8192] ![1, 1, 1] ![0, 0, 0] ![0, 0, 8191] (gap q k) _ _ _ (ix3 h t s) - gap q k (ix3 h t s) = _
  rw [Cert.Proof.window_after (gap q k) _ ((H h).gap t.val) h t (fun s => gap_real hq hk h t s) h_S_ first_zero _ s, gap_real hq hk, ← EReal.coe_sub]
  refine congrArg (fun y : ℝ => (y : EReal)) ?_
  unfold HeadR.later
  rw [sub_eq_iff_eq_add, ← Finset.sum_filter, ← Finset.sum_filter, ← Finset.sum_filter_add_sum_filter_not (Finset.filter (fun s' => s.val ≤ s') (Finset.range 8192)) (fun s' => s.val < s'),
    Finset.filter_filter, Finset.filter_filter]
  refine congrArg₂ (· + ·) (Finset.sum_congr (Finset.filter_congr fun x _ => by omega) fun _ _ => rfl) ?_
  rw [Finset.filter_congr (q := fun x => x = s.val) fun x _ => by omega, Finset.filter_eq', if_pos (Finset.mem_range.2 s.isLt), Finset.sum_singleton]

include hq hk in
theorem wAll_real (h : Fin 8) (t s : Fin 8192) :
    wAll q k (ix3 h t s) = (Real.exp (logS ((H h).z t.val s.val) + (H h).later t.val s.val) : EReal) := by
  have hz := z_real hq hk h t s
  have hn : Host.negf (z q k) (ix3 h t s) = ((-(H h).z t.val s.val : ℝ) : EReal) := by
    show -(z q k (ix3 h t s)) = _
    rw [hz, EReal.coe_neg]
  show Ideal.exp (-(softplus (Host.negf (z q k)) (ix3 h t s)) + later q k (ix3 h t s)) = _
  rw [softplus_real _ _ _ hn, later_real hq hk, ← EReal.coe_neg, spR_neg, ← EReal.coe_add, Ideal.exp_coe]

include hq hk in
theorem w_real (h : Fin 8) (t s : Fin 8192) : w q k (ix3 h t s) = ((H h).w t.val s.val : EReal) := by
  unfold w HeadR.w
  rw [select_mask, zero_id, wAll_real hq hk]
  split_ifs <;> rfl

include hct in
theorem ctT_real (h : Fin 8) (d : Fin 64) (t : Fin 8192) : ctT ct (ix3 h d t) = ((H h).ct t.val d.val : EReal) := by
  unfold ctT
  pointwise
  exact hct t h d

include hq hk hct in
theorem dv_real (s : Fin 8192) (h : Fin 8) (d : Fin 64) : dv q k ct (ix3 s h d) = ((H h).dv s.val d.val : EReal) := by
  unfold dv
  pointwise
  simp only [ctT_real hct, w_real hq hk, ← EReal.coe_mul, coe_sum]
  unfold HeadR.dv
  rw [Finset.sum_range]

include hv hct in
theorem dw_real (h : Fin 8) (t s : Fin 8192) : dw v ct (ix3 h t s) = ((H h).dw t.val s.val : EReal) := by
  unfold dw
  pointwise
  simp only [ctT_real hct, hv, ← EReal.coe_mul, coe_sum]
  rfl

include hq hk hv hct in
theorem e_real (h : Fin 8) (t s : Fin 8192) : e q k v ct (ix3 h t s) = ((H h).e t.val s.val : EReal) := by
  show select mask (dw v ct) (fill 0x00000000#32) (ix3 h t s) * wAll q k (ix3 h t s) = _
  rw [select_mask, fill_zero, wAll_real hq hk, dw_real hv hct]
  unfold HeadR.e HeadR.w
  split_ifs
  · rw [← EReal.coe_mul]
  · rw [← EReal.coe_zero, ← EReal.coe_mul, zero_mul, mul_zero]

include hq hk hv hct in
theorem earlier_real (h : Fin 8) (t s : Fin 8192) : earlier q k v ct (ix3 h t s) = ((H h).earlier t.val s.val : EReal) := by
  unfold earlier
  show -(e q k v ct (ix3 h t s)) + Host.reduceWindowAdd ![1, 1, 8192] ![1, 1, 1] ![0, 0, 8191] ![0, 0, 0] (e q k v ct) _ _ _ (ix3 h t s) = _
  rw [Cert.Proof.window_upto (e q k v ct) _ ((H h).e t.val) h t (fun s => e_real hq hk hv hct h t s) rfl h_S_ first_zero _ s, e_real hq hk hv hct, ← EReal.coe_neg, ← EReal.coe_add]
  refine congrArg (fun y : ℝ => (y : EReal)) ?_
  unfold HeadR.earlier
  rw [neg_add_eq_iff_eq_add, add_comm, ← Finset.sum_filter, ← Finset.sum_filter, ← Finset.sum_filter_add_sum_filter_not (Finset.filter (fun s' => s' ≤ s.val) (Finset.range 8192)) (fun s' => s' < s.val),
    Finset.filter_filter, Finset.filter_filter]
  refine congrArg₂ (· + ·) (Finset.sum_congr (Finset.filter_congr fun x _ => by omega) fun _ _ => rfl) ?_
  rw [Finset.filter_congr (q := fun x => x = s.val) fun x _ => by omega, Finset.filter_eq', if_pos (Finset.mem_range.2 s.isLt), Finset.sum_singleton]

include hq hk hv hct in
theorem dz_real (h : Fin 8) (t s : Fin 8192) : dz q k v ct (ix3 h t s) = (((H h).dz t.val s.val * (1 / 8) : ℝ) : EReal) := by
  have hz := z_real hq hk h t s
  have hn : Host.negf (z q k) (ix3 h t s) = ((-(H h).z t.val s.val : ℝ) : EReal) := by
    show -(z q k (ix3 h t s)) = _
    rw [hz, EReal.coe_neg]
  have hnn : Host.negf (Host.negf (z q k)) (ix3 h t s) = ((H h).z t.val s.val : EReal) := by
    show - -(z q k (ix3 h t s)) = _
    rw [neg_neg, hz]
  show (- -(-(select mask (earlier q k v ct) (fill 0x00000000#32) (ix3 h t s)) * slope (Host.negf (Host.negf (z q k))) (ix3 h t s))
    + -(-(e q k v ct (ix3 h t s)) * slope (Host.negf (z q k)) (ix3 h t s))) * fill 0x3E000000#32 (ix3 h t s) = _
  rw [select_mask, fill_zero, fill_apply, ofBits_eighth, slope_real _ _ _ hn, slope_real _ _ _ hnn, slope_pos, slope_neg, earlier_real hq hk hv hct, e_real hq hk hv hct, neg_neg]
  unfold HeadR.dz
  split_ifs with hh
  · rw [← EReal.coe_neg, ← EReal.coe_neg, ← EReal.coe_mul, ← EReal.coe_mul, ← EReal.coe_neg, ← EReal.coe_add, ← EReal.coe_mul]
    refine congrArg (fun y : ℝ => (y : EReal)) ?_
    ring
  · rw [← EReal.coe_zero, ← EReal.coe_neg, ← EReal.coe_neg, ← EReal.coe_mul, ← EReal.coe_mul, ← EReal.coe_neg, ← EReal.coe_add, ← EReal.coe_mul]
    refine congrArg (fun y : ℝ => (y : EReal)) ?_
    have : (H h).e t.val s.val = 0 := by unfold HeadR.e HeadR.w; rw [if_neg hh, mul_zero]
    rw [this]
    ring

include hq hk hv hct in
theorem dk_real (s : Fin 8192) (h : Fin 8) (d : Fin 64) : dk q k v ct (ix3 s h d) = ((H h).dk s.val d.val : EReal) := by
  unfold dk
  pointwise
  simp only [dz_real hq hk hv hct, hq, ← EReal.coe_mul, coe_sum]
  unfold HeadR.dk
  rw [Finset.sum_range, Finset.sum_mul]
  exact congrArg (fun y : ℝ => (y : EReal)) (Finset.sum_congr rfl fun t _ => by ring)

include hq hk hv hct in
theorem dq_real (t : Fin 8192) (h : Fin 8) (d : Fin 64) : dq q k v ct (ix3 t h d) = ((H h).dq t.val d.val : EReal) := by
  unfold dq
  pointwise
  simp only [dz_real hq hk hv hct, hk, ← EReal.coe_mul, coe_sum]
  unfold HeadR.dq
  rw [Finset.sum_range, Finset.sum_mul]
  exact congrArg (fun y : ℝ => (y : EReal)) (Finset.sum_congr rfl fun t _ => by ring)

theorem flat_apply (x : FVec Ideal S8192x8x64 .f32) (t : Fin 8192) (col : Fin 512) :
    flat x (ix2 t col) = x (ix3 t (⟨col.val / 64, by have := col.isLt; omega⟩ : Fin 8) (⟨col.val % 64, Nat.mod_lt _ (by decide)⟩ : Fin 64)) := by
  unfold flat
  pointwise

end Cert.Ref
-- ==== Proof.Host.lean ====
/-
  What the host computes before the launch: the windows' arrays, at an index.
-/
module

public import proofs.«01_k».proof.Proof.RefReal
public import proofs.«01_k».proof.Proof.Gen.KernelIdeal.Frame
public import Idealize.ShloMosaic.Lib.Claim

@[expose] public section

set_option maxRecDepth 8192

noncomputable section

namespace Cert.Proof

open Cert.KernelIdeal Cert.KernelIdeal.Gen
open Idealize.ShloMosaic Idealize.ShloMosaic.TcCoe Idealize.ShloMosaic.Tactic Idealize.ShloMosaic.StableHlo

variable {F : FTy → Type} [FloatOps F]
variable (m : (ℓ : Loc nD τ sig) → Buf (Elt F) ℓ) (c : Dev nD)

/-- A window's array of queries, or of the output's gradient. -/
def colsOf (x : FVec F S8192x8x64 .f32) : FVec F S8x64x8192 .bf16 :=
  truncf .bf16 (transpose S8x64x8192 [1, 2, 0] x transposes_S8192x8x64_S8x64x8192_1_2_0) bitsLt_bf16_f32
/-- A window's array of keys or values. -/
def blocksOf (x : FVec F S8192x8x64 .f32) : FVec F S8x32x256x64 .bf16 :=
  truncf .bf16 (transpose S8x32x256x64 [2, 0, 1, 3] (shapeCast S32x256x8x64 x shapeCasts_S8192x8x64_S32x256x8x64) transposes_S32x256x8x64_S8x32x256x64_2_0_1_3) bitsLt_bf16_f32
/-- The keys' window with the last two axes the other way round. -/
def blocksT (x : FVec F S8192x8x64 .f32) : FVec F S8x32x64x256 .bf16 :=
  truncf .bf16 (transpose S8x32x64x256 [2, 0, 3, 1] (shapeCast S32x256x8x64 x shapeCasts_S8192x8x64_S32x256x8x64) transposes_S32x256x8x64_S8x32x64x256_2_0_3_1) bitsLt_bf16_f32
/-- The sums over the later blocks' keys, as the window holds them. -/
def savedOf (x : FVec F S8x8192x8192 .f32) : FVec F S8x32x32x8x256 .f32 :=
  broadcastInDim S8x32x32x8x256 ![0, 1, 2, 3, 4] bcast_S8x32x32x1x256_S8x32x32x8x256_0_1_2_3_4
    (broadcastInDim S8x32x32x1x256 ![0, 1, 2, 4] bcast_S8x32x32x256_S8x32x32x1x256_0_1_2_4
      (transpose S8x32x32x256 [0, 1, 3, 2] (shapeCast S8x32x256x32 (Host.slice S8x8192x32 ![0, 0, 255] ![1, 1, 256] x slicesBy_S8x8192x8192_S8x8192x32_0s1_0s1_255s256) shapeCasts_S8x8192x32_S8x32x256x32)
        transposes_S8x32x256x32_S8x32x32x256_0_1_3_2))

theorem V_q : V m c main_v21 = colsOf (m ((c.tc : Thread nD τ).loc main_arg0)) := by
  entry_read
  rfl
theorem V_k : V m c main_v24 = blocksOf (m ((c.tc : Thread nD τ).loc main_arg1)) := by
  entry_read
  rfl
theorem V_kT : V m c main_v27 = blocksT (m ((c.tc : Thread nD τ).loc main_arg1)) := by
  entry_read
  rfl
theorem V_v : V m c main_v30 = blocksOf (m ((c.tc : Thread nD τ).loc main_arg2)) := by
  entry_read
  rfl
theorem V_ct : V m c main_v32 = colsOf (m ((c.tc : Thread nD τ).loc main_arg3)) := by
  entry_read
  rfl
theorem V_first : V m c main_v19 = broadcastInDim S1x32x8x128 ![] bcast_S_S1x32x8x128 (constant S_ .f32 0x00000000#32) := by
  entry_read
  rfl
theorem V_saved : V m c main_v18 = savedOf (Cert.Ref.later (m ((c.tc : Thread nD τ).loc main_arg0)) (m ((c.tc : Thread nD τ).loc main_arg1))) := by
  entry_read
  rfl

/-! ## At an index -/

theorem colsOf_apply (x : FVec Ideal S8192x8x64 .f32) (h : Fin 8) (d : Fin 64) (t : Fin 8192) : colsOf x (ix3 h d t) = x (ix3 t h d) := by
  unfold colsOf
  pointwise

theorem blocksOf_apply (x : FVec Ideal S8192x8x64 .f32) (h : Fin 8) (j : Fin 32) (r : Fin 256) (d : Fin 64) :
    blocksOf x (ix4 h j r d) = x (ix3 (⟨256 * j.val + r.val, by have := j.isLt; have := r.isLt; omega⟩ : Fin 8192) h d) := by
  unfold blocksOf
  pointwise
  exact congrArg (fun y => x (ix3 y h d)) (Fin.ext (by show j.val * 256 + r.val = 256 * j.val + r.val; omega))

theorem blocksT_apply (x : FVec Ideal S8192x8x64 .f32) (h : Fin 8) (j : Fin 32) (r : Fin 256) (d : Fin 64) :
    blocksT x (ix4 h j d r) = x (ix3 (⟨256 * j.val + r.val, by have := j.isLt; have := r.isLt; omega⟩ : Fin 8192) h d) := by
  unfold blocksT
  pointwise
  exact congrArg (fun y => x (ix3 y h d)) (Fin.ext (by show j.val * 256 + r.val = 256 * j.val + r.val; omega))

theorem savedOf_apply (x : FVec Ideal S8x8192x8192 .f32) (h : Fin 8) (i j : Fin 32) (e : Fin 8) (r : Fin 256) :
    savedOf x (ix5 h i j e r) = x (ix3 h (⟨256 * i.val + r.val, by have := i.isLt; have := r.isLt; omega⟩ : Fin 8192)
      (⟨256 * j.val + 255, by have := j.isLt; omega⟩ : Fin 8192)) := by
  unfold savedOf
  pointwise
  exact congrArg₂ (fun y y' => x (ix3 h y y')) (Fin.ext (by show i.val * 256 + r.val = 256 * i.val + r.val; omega)) (Fin.ext (by show 255 + 256 * j.val = 256 * j.val + 255; omega))

end Cert.Proof
-- ==== Proof.Arrays.lean ====
/-
  What a point's blocks of the arrays hold, for real arguments.
-/
module

public import proofs.«01_k».proof.Proof.Grid
public import proofs.«01_k».proof.Proof.Model
public import proofs.«01_k».proof.Proof.Host
public import Idealize.ShloMosaic.Lib.Pipeline.ValueKit.Geometry

@[expose] public section

set_option maxRecDepth 8192

noncomputable section

namespace Cert.Proof

open Cert.KernelIdeal Cert.KernelIdeal.Gen
open Idealize.ShloMosaic Idealize.ShloMosaic.TcCoe Idealize.ShloMosaic.Tactic

/-! ## Where the blocks lie -/

theorem at0 : ∀ t : Fin cfg0.N, win0_0.index t = ![t.val / 32, 0, t.val % 32] := (by decide +kernel : ∀ t : Fin grid0.N, _)
theorem at1 : ∀ t : Fin cfg0.N, win0_1.index t = ![t.val / 32, 0, 0, 0] := (by decide +kernel : ∀ t : Fin grid0.N, _)
theorem at2 : ∀ t : Fin cfg0.N, win0_2.index t = ![t.val / 32, 0, 0, 0] := (by decide +kernel : ∀ t : Fin grid0.N, _)
theorem at3 : ∀ t : Fin cfg0.N, win0_3.index t = ![t.val / 32, 0, 0, 0] := (by decide +kernel : ∀ t : Fin grid0.N, _)
theorem at4 : ∀ t : Fin cfg0.N, win0_4.index t = ![t.val / 32, 0, t.val % 32] := (by decide +kernel : ∀ t : Fin grid0.N, _)
theorem at5 : ∀ t : Fin cfg0.N, win0_5.index t = ![t.val / 32, t.val % 32, 0, 0, 0] := (by decide +kernel : ∀ t : Fin grid0.N, _)
theorem at7 : ∀ t : Fin cfg0.N, win0_7.index t = ![t.val % 32, t.val / 32] := (by decide +kernel : ∀ t : Fin grid0.N, _)
theorem at8 : ∀ t : Fin cfg0.N, win0_8.index t = ![0, t.val / 32] := (by decide +kernel : ∀ t : Fin grid0.N, _)
theorem at9 : ∀ t : Fin cfg0.N, win0_9.index t = ![0, t.val / 32] := (by decide +kernel : ∀ t : Fin grid0.N, _)

/-- The head that is number `g` of half `hg`. -/
def headAt (hg : Fin 2) (g : Fin 4) : Fin 8 := ⟨4 * hg.val + g.val, by have := hg.isLt; have := g.isLt; omega⟩
/-- The position that is number `x` of block `i`. -/
def posAt (i : ℕ) (hi : i < 32) (x : Fin 256) : Fin 8192 := ⟨256 * i + x.val, by have := x.isLt; omega⟩

theorem pointOf_div (hg : Fin 2) (i : ℕ) (hi : i < 32) : (pointOf hg i hi).val / 32 = hg.val := by
  show (32 * hg.val + i) / 32 = hg.val; omega

section Reads

variable {F : FTy → Type} [FloatOps F]
variable (m : (ℓ : Loc nD τ sig) → Buf (Elt F) ℓ) (c : Dev nD) (hg : Fin 2) (i : ℕ) (hi : i < 32) (g : Fin 4)

theorem blk0 (d : Fin 64) (x : Fin 256) :
    iblk m c 0 (pointOf hg i hi) (ix3 g d x) = V m c main_v21 (ix3 (headAt hg g) d (posAt i hi x)) := by
  blk_simp [iblk]
  refine congrArg (V m c main_v21) ?_
  blk_ext [at0, pointOf_div, pointOf_mod, headAt, posAt]

theorem blk4 (d : Fin 64) (x : Fin 256) :
    iblk m c 4 (pointOf hg i hi) (ix3 g d x) = V m c main_v32 (ix3 (headAt hg g) d (posAt i hi x)) := by
  blk_simp [iblk]
  refine congrArg (V m c main_v32) ?_
  blk_ext [at4, pointOf_div, pointOf_mod, headAt, posAt]

theorem blk1 (j : Fin 32) (x : Fin 256) (d : Fin 64) :
    iblk m c 1 (pointOf hg i hi) (ix4 g j x d) = V m c main_v24 (ix4 (headAt hg g) j x d) := by
  blk_simp [iblk]
  refine congrArg (V m c main_v24) ?_
  blk_ext [at1, pointOf_div, headAt]

theorem blk2 (j : Fin 32) (d : Fin 64) (x : Fin 256) :
    iblk m c 2 (pointOf hg i hi) (ix4 g j d x) = V m c main_v27 (ix4 (headAt hg g) j d x) := by
  blk_simp [iblk]
  refine congrArg (V m c main_v27) ?_
  blk_ext [at2, pointOf_div, headAt]

theorem blk3 (j : Fin 32) (x : Fin 256) (d : Fin 64) :
    iblk m c 3 (pointOf hg i hi) (ix4 g j x d) = V m c main_v30 (ix4 (headAt hg g) j x d) := by
  blk_simp [iblk]
  refine congrArg (V m c main_v30) ?_
  blk_ext [at3, pointOf_div, headAt]

theorem blk5 (j : Fin 32) (e : Fin 8) (x : Fin 256) :
    iblk m c 5 (pointOf hg i hi) (ix5 g (0 : Fin 1) j e x) = V m c main_v18 (ix5 (headAt hg g) (⟨i, hi⟩ : Fin 32) j e x) := by
  blk_simp [iblk]
  refine congrArg (V m c main_v18) ?_
  blk_ext [at5, pointOf_div, pointOf_mod, headAt]

end Reads

variable (m : (ℓ : Loc nD τ sig) → Buf (Elt Ideal) ℓ) (c : Dev nD)

/-- The first block a query block attends to is the first: nothing is left out. -/
theorem first_zero8 (t : Fin cfg0.N) : first8 (b8 t) (x8 m c t) = 0#32 := by
  have h : iblk m c 6 t = fun _ => (0 : EReal) := by
    funext y
    blk_simp [iblk]
    rw [V_first]
    exact Ideal.ofBits_zero .f32
  have h2 : View.readAt (Elt Ideal) (b8 t).view (Rect.unit (s := S1x1x8x128) ![0, 0, 0, 0] S1x1x8x128.size inb_S1x1x8x128_S1x1x8x128_0_0_0_0).toLoadRect (x8 m c t) = fun _ => (0 : EReal) := by
    unfold x8
    rw [View.readAt_eq_ld, Memref.IsWhole.read_unread, h]
  have h3 : k0_pay116 (F := Ideal) (fun _ => (0 : EReal)) = (0 : EReal) := by
    pointwise [k0_pay116]
    have hb : Ideal.ofBits .f32 4286578688#32 = ⊥ := by simp [Ideal.ofBits, Ideal.ieee]
    rw [hb]
    exact le_antisymm ((Finset.fold_max_le _).2 ⟨bot_le, fun _ _ => le_rfl⟩) ((Finset.le_fold_max _).2 (Or.inr ⟨0, Finset.mem_univ _, le_rfl⟩))
  unfold first8
  rw [h2]
  refine (congrArg (Scalar.fptosi (F := Ideal) (φ := .f32) 32) h3).trans ?_
  show BitVec.ofInt 32 (max (-(2 ^ (32 - 1) : Nat)) (min ((2 ^ (32 - 1) : Nat) - 1) (if (0 : ℝ) ≤ 0 then ⌊(0 : ℝ)⌋ else ⌈(0 : ℝ)⌉))) = 0#32
  simp

section Real

variable {H : Fin 8 → HeadR}
variable (hq : ∀ t h d, m ((c.tc : Thread nD τ).loc main_arg0) (ix3 t h d) = ((H h).q t.val d.val : EReal))
variable (hk : ∀ t h d, m ((c.tc : Thread nD τ).loc main_arg1) (ix3 t h d) = ((H h).k t.val d.val : EReal))
variable (hv : ∀ t h d, m ((c.tc : Thread nD τ).loc main_arg2) (ix3 t h d) = ((H h).v t.val d.val : EReal))
variable (hct : ∀ t h d, m ((c.tc : Thread nD τ).loc main_arg3) (ix3 t h d) = ((H h).ct t.val d.val : EReal))
include hq hk hv hct

theorem grid_holds (hg : Fin 2) (i : ℕ) (hi : i < 32) (j : ℕ) (hj : j ≤ i) (g : Fin 4) :
    (gridReads m c (pointOf hg i hi) j g).Holds ((H (headAt hg g)).blk i j) := by
  have hb : blkNo j = (⟨j, by omega⟩ : Fin 32) := Fin.ext (Nat.mod_eq_of_lt (by omega))
  unfold gridReads ptReads blkReads
  refine ⟨fun d x => ?_, fun d x => ?_, fun x d => ?_, fun x d => ?_, fun d x => ?_, fun x => ?_⟩ <;> dsimp only
  · refine scaleQ_real _ d x _ ?_
    exact (blk0 m c hg i hi g d x).trans (by rw [V_q, colsOf_apply, hq]; rfl)
  · rw [plainC_apply]
    exact (blk4 m c hg i hi g d x).trans (by rw [V_ct, colsOf_apply, hct]; rfl)
  · rw [hb]
    exact (blk1 m c hg i hi g _ x d).trans (by rw [V_k, blocksOf_apply, hk]; rfl)
  · rw [hb]
    exact (blk3 m c hg i hi g _ x d).trans (by rw [V_v, blocksOf_apply, hv]; rfl)
  · rw [hb]
    exact (blk2 m c hg i hi g _ d x).trans (by rw [V_kT, blocksT_apply, hk]; rfl)
  · rw [hb]
    exact (blk5 m c hg i hi g _ 0 x).trans (by rw [V_saved, savedOf_apply, Cert.Ref.later_real hq hk]; dsimp only [HeadR.blk, posAt])

end Real

end Cert.Proof
-- ==== Proof.Results.lean ====
/-
  The three result arrays, for real arguments: the reference's.
-/
module

public import proofs.«01_k».proof.Proof.Arrays

@[expose] public section

set_option maxRecDepth 8192

noncomputable section

namespace Cert.Proof

open Cert.KernelIdeal Cert.KernelIdeal.Gen
open Idealize.ShloMosaic Idealize.ShloMosaic.TcCoe Idealize.ShloMosaic.Tactic

/-- A point, by its half of the heads and its block of queries. -/
theorem exists_point (t : Fin cfg0.N) : ∃ hg i, ∃ hi : i < 32, t = pointOf hg i hi := by
  have ht : t.val < 64 := t.isLt
  exact ⟨⟨t.val / 32, by omega⟩, t.val % 32, by omega, Fin.ext (by show t.val = 32 * (t.val / 32) + t.val % 32; omega)⟩

/-- The column of half `hg` that is number `x` there. -/
def colAt (hg : Fin 2) (x : Fin 256) : Fin 512 := ⟨256 * hg.val + x.val, by have := hg.isLt; have := x.isLt; omega⟩

theorem flat_col (X : FVec Ideal S8192x8x64 .f32) (p : Fin 8192) (hg : Fin 2) (x : Fin 256) :
    Cert.Ref.flat X (ix2 p (colAt hg x)) = X (ix3 p (headAt hg (headOf x)) (rowOf x)) := by
  rw [Cert.Ref.flat_apply]
  refine congrArg₂ (fun h d => X (ix3 p h d)) (Fin.ext ?_) (Fin.ext ?_)
  · show (256 * hg.val + x.val) / 64 = 4 * hg.val + x.val / 64; omega
  · show (256 * hg.val + x.val) % 64 = x.val % 64; omega

variable (m : (ℓ : Loc nD τ sig) → Buf (Elt Ideal) ℓ) (c : Dev nD)
variable {H : Fin 8 → HeadR}
variable (hq : ∀ t h d, m ((c.tc : Thread nD τ).loc main_arg0) (ix3 t h d) = ((H h).q t.val d.val : EReal))
variable (hk : ∀ t h d, m ((c.tc : Thread nD τ).loc main_arg1) (ix3 t h d) = ((H h).k t.val d.val : EReal))
variable (hv : ∀ t h d, m ((c.tc : Thread nD τ).loc main_arg2) (ix3 t h d) = ((H h).v t.val d.val : EReal))
variable (hct : ∀ t h d, m ((c.tc : Thread nD τ).loc main_arg3) (ix3 t h d) = ((H h).ct t.val d.val : EReal))
include hq hk hv hct

theorem final_dq : (dats m 0 c).arrAt 7 cfg0.N = Cert.Ref.flat (F := Ideal) (Cert.Ref.dq (F := Ideal) (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 7 _ (by decide +kernel) fun t hf y => ?_
  obtain ⟨hg, i, hi, rfl⟩ := exists_point t
  blk_simp
  obtain ⟨x, col, rfl⟩ : ∃ (x col : Fin 256), y = ix2 x col := ⟨y 0, y 1, by funext a; match a with | 0 => rfl | 1 => rfl⟩
  have he : (win0_7.blk (pointOf hg i hi)).view.emb (ix2 x col) = ix2 (posAt i hi x) (colAt hg col) := by
    blk_ext [at7, pointOf_div, pointOf_mod, posAt, colAt]
  have key := aft7_real m c (fun hg i j g => (H (headAt hg g)).blk i j) (first_zero8 m c) (grid_holds m c hq hk hv hct) hg i hi x col
  refine Eq.trans key ?_
  rw [he, flat_col, Cert.Ref.dq_real hq hk hv hct, HeadR.dq_blocks i (fun g => H (headAt hg g)) hi]
  rfl

theorem final_dk : (dats m 0 c).arrAt 8 cfg0.N = Cert.Ref.flat (F := Ideal) (Cert.Ref.dk (F := Ideal) (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 8 _ (by decide +kernel) fun t hf y => ?_
  obtain ⟨hg, i, hi, rfl⟩ := exists_point t
  obtain rfl : i = 31 := (pointOf_mod hg i hi).symm.trans ((flush0_8 _).1 hf)
  blk_simp
  obtain ⟨p, col, rfl⟩ : ∃ (p : Fin 8192) (col : Fin 256), y = ix2 p col := ⟨y 0, y 1, by funext a; match a with | 0 => rfl | 1 => rfl⟩
  have he : (win0_8.blk (pointOf hg 31 hi)).view.emb (ix2 p col) = ix2 p (colAt hg col) := by
    blk_ext [at8, pointOf_div, colAt]
  have key := aft8_real m c (fun hg i j g => (H (headAt hg g)).blk i j) (first_zero8 m c) (grid_holds m c hq hk hv hct) hg p col
  refine Eq.trans key ?_
  rw [he, flat_col, Cert.Ref.dk_real hq hk hv hct, HeadR.dk_blocks (posBlk p).val (fun g => H (headAt hg g)) (posBlk p).isLt]
  exact congrArg (fun s : ℕ => ((H (headAt hg (headOf col))).dk s (rowOf col).val : EReal)) (by show 256 * (p.val / 256) + p.val % 256 = p.val; omega)

theorem final_dv : (dats m 0 c).arrAt 9 cfg0.N = Cert.Ref.flat (F := Ideal) (Cert.Ref.dv (F := Ideal) (m ((c.tc : Thread nD τ).loc main_arg0)) (m ((c.tc : Thread nD τ).loc main_arg1)) (m ((c.tc : Thread nD τ).loc main_arg3))) := by
  refine (dats m 0 c).arrAt_eq_of_covers 9 _ (by decide +kernel) fun t hf y => ?_
  obtain ⟨hg, i, hi, rfl⟩ := exists_point t
  obtain rfl : i = 31 := (pointOf_mod hg i hi).symm.trans ((flush0_9 _).1 hf)
  blk_simp
  obtain ⟨p, col, rfl⟩ : ∃ (p : Fin 8192) (col : Fin 256), y = ix2 p col := ⟨y 0, y 1, by funext a; match a with | 0 => rfl | 1 => rfl⟩
  have he : (win0_9.blk (pointOf hg 31 hi)).view.emb (ix2 p col) = ix2 p (colAt hg col) := by
    blk_ext [at9, pointOf_div, colAt]
  have key := aft9_real m c (fun hg i j g => (H (headAt hg g)).blk i j) (first_zero8 m c) (grid_holds m c hq hk hv hct) hg p col
  refine Eq.trans key ?_
  rw [he, flat_col, Cert.Ref.dv_real hq hk hct, HeadR.dv_blocks (posBlk p).val (fun g => H (headAt hg g)) (posBlk p).isLt]
  exact congrArg (fun s : ℕ => ((H (headAt hg (headOf col))).dv s (rowOf col).val : EReal)) (by show 256 * (p.val / 256) + p.val % 256 = p.val; omega)

end Cert.Proof
-- ==== Proof.Finite.lean ====
/-
  What the precondition says: every element of every argument is a real number.
-/
module

public import proofs.«01_k».proof.Defs
public import proofs.«01_k».proof.Proof.Main
public import proofs.«01_k».proof.Proof.Results
public import proofs.«01_k».proof.Proof.RealArg

@[expose] public section

set_option maxRecDepth 8192

noncomputable section

namespace Cert.Proof

open Idealize.ShloMosaic Idealize.ShloMosaic.TcCoe Idealize.ShloMosaic.Tactic Idealize.SL.Sem

/-- The side condition the precondition's text states. -/
theorem facts_pre : Cert.Pre_finite.Facts :=
  { bcast_S_S8192x8x64 := by decide
    reducesTo_S8192x8x64_S_d0_1_2 := by decide
    h_S_ := by decide }

section

open Cert.Pre_finite
variable [Cert.Pre_finite.Facts]

theorem finite_real (q k v ct : FVec Ideal S8192x8x64 .f32) (h : fn (F := Ideal) q k v ct = fun _ => 1#1) :
    (∀ i, (((q i : EReal).toReal : ℝ) : EReal) = q i) ∧ (∀ i, (((k i : EReal).toReal : ℝ) : EReal) = k i)
    ∧ (∀ i, (((v i : EReal).toReal : ℝ) : EReal) = v i) ∧ (∀ i, (((ct i : EReal).toReal : ℝ) : EReal) = ct i) := by
  have hj := congrFun h (Shape.Idx.first Facts.h_S_)
  obtain ⟨h1, h2⟩ := and_one _ _ hj
  obtain ⟨hq, hk⟩ := and_one _ _ h1
  obtain ⟨hv, hct⟩ := and_one _ _ h2
  exact ⟨real_of_all q _ _ _ _ hq, real_of_all k _ _ _ _ hk, real_of_all v _ _ _ _ hv, real_of_all ct _ _ _ _ hct⟩

end

section

open Cert.Pre_finite

/-- An array's numbers of one head, by position and dimension. -/
def realAt (x : FVec Ideal S8192x8x64 .f32) (h : Fin 8) (t d : ℕ) : ℝ :=
  if ht : t < 8192 then if hd : d < 64 then (x (ix3 (⟨t, ht⟩ : Fin 8192) h (⟨d, hd⟩ : Fin 64)) : EReal).toReal else 0 else 0

theorem realAt_eq (x : FVec Ideal S8192x8x64 .f32) (hx : ∀ i, (((x i : EReal).toReal : ℝ) : EReal) = x i) (t : Fin 8192) (h : Fin 8) (d : Fin 64) :
    x (ix3 t h d) = (realAt x h t.val d.val : EReal) := by
  unfold realAt
  rw [dif_pos t.isLt, dif_pos d.isLt]
  exact (hx _).symm

/-- The heads of four arrays. -/
def headsOf (q k v ct : FVec Ideal S8192x8x64 .f32) (h : Fin 8) : HeadR := ⟨realAt q h, realAt k h, realAt v h, realAt ct h⟩

end

/-! ## The claim -/

theorem algebraic : Cert.algebraic_KernelIdeal_ReferenceIdeal_pre_finite (hKernelIdeal := Cert.KernelIdeal.Gen.facts)
    (hReferenceIdeal := Cert.ReferenceIdeal.Gen.facts) (hPre_finite := facts_pre) := by
  intro m ρ m' ρ' hpre hargs
  refine ⟨fun c => (dats m 0 c).arrAt 7 Cert.KernelIdeal.cfg0.N, fun c => (dats m 0 c).arrAt 8 Cert.KernelIdeal.cfg0.N, fun c => (dats m 0 c).arrAt 9 Cert.KernelIdeal.cfg0.N, ?_, ?_⟩
  · refine (θ_run _ _ _).mono (fun r h c => ⟨h.1.out_eq c 7, h.1.out_eq c 8, h.1.out_eq c 9,
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c)⟩) (run_main m ρ)
  · refine (θ_run _ _ _).mono (fun r h c => ?_) (Cert.ReferenceIdeal.Value.run (F := Ideal) m' ρ')
    obtain ⟨e0, e1, e2, hrest⟩ := h c
    obtain ⟨fq, fk, fv, fct⟩ := @finite_real facts_pre _ _ _ _ (hpre c)
    obtain ⟨a0, a1, a2, a3⟩ := hargs c
    have dq := final_dq (H := headsOf _ _ _ _) m c (realAt_eq _ fq) (realAt_eq _ fk) (realAt_eq _ fv) (realAt_eq _ fct)
    have dk := final_dk (H := headsOf _ _ _ _) m c (realAt_eq _ fq) (realAt_eq _ fk) (realAt_eq _ fv) (realAt_eq _ fct)
    have dv := final_dv (H := headsOf _ _ _ _) m c (realAt_eq _ fq) (realAt_eq _ fk) (realAt_eq _ fv) (realAt_eq _ fct)
    refine ⟨e0.trans ?_, e1.trans ?_, e2.trans ?_, hrest⟩
    · rw [Cert.Ref.out0_eq, a0, a1, a2, a3]; exact dq.symm
    · rw [Cert.Ref.out1_eq, a0, a1, a2, a3]; exact dk.symm
    · rw [Cert.Ref.out2_eq, a0, a1, a3]; exact dv.symm

end Cert.Proof
-- ==== Proof.Swiglu.lean ====
/-
  The gradient of the gated feed-forward product (program 2): what each grid point leaves, and the kernel's three arrays at an index.
-/
module

public import proofs.«01_k».proof.Proof.Gen.Kernel2Ideal.Value
public import Idealize.ShloMosaic.Lib.Pipeline.ValueKit.Geometry
public import Idealize.ShloMosaic.Lib.Pointwise
public import Idealize.ShloMosaic.Lib.Claim

@[expose] public section

set_option maxRecDepth 8192

noncomputable section

namespace Cert.Swiglu

open Cert.Kernel2Ideal Cert.Kernel2Ideal.Gen
open Idealize.ShloMosaic Idealize.ShloMosaic.TcCoe Idealize.ShloMosaic.Tactic

/-! ## What the body leaves -/

theorem zero2 : (![0, 0] : Fin 2 → Nat) = fun _ => 0 := funext fun a => by fin_cases a <;> rfl

section Body

variable {F : FTy → Type} [FloatOps F]
variable (c : Dev nD) (i : grid0.Coords)
variable (a0 : Memref sig .tc .vmem S512x1024 .bf16) (h0 : a0.IsWhole)
variable (a1 : Memref sig .tc .vmem S1408x1024 .bf16) (h1 : a1.IsWhole)
variable (a2 : Memref sig .tc .vmem S512x1408 .bf16) (h2 : a2.IsWhole)
variable (a3 : Memref sig .tc .vmem S512x1408 .bf16) (h3 : a3.IsWhole)
variable (a4 : Memref sig .tc .vmem S512x1408 .bf16) (h4 : a4.IsWhole)
variable (a5 : Memref sig .tc .vmem S512x1408 .bf16) (h5 : a5.IsWhole)
variable (a6 : Memref sig .tc .vmem S512x1408 .bf16) (h6 : a6.IsWhole)
variable (a7 : Memref sig .tc .vmem S1408x1024 .f32) (h7 : a7.IsWhole)
variable (x0 : Vec F S512x1024 .bf16) (x1 : Vec F S1408x1024 .bf16) (x2 x3 x4 : Vec F S512x1408 .bf16) (xo : Vec F S1408x1024 .f32)

theorem out_A_5 (hc : cond0_0 i) : out0_A_5 c i a0 h0 a1 h1 a2 h2 a3 h3 a4 h4 a5 h5 a6 h6 a7 h7 hc x0 x1 x2 x3 x4 = k0_pay6 x0 x1 x3 := by
  unfold out0_A_5
  rw [View.read_writes_eq_canon _ _ _ (cover0_A_5 c i a0 h0 a1 h1 a2 h2 a3 h3 a4 h4 a5 h5 a6 h6 a7 h7 hc x0 x1 x2 x3 x4)]
  unfold kernelRun0_A
  dsimp only
  sl_unfold_words
  rw [View.canon_unit_zero zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

theorem out_A_6 (hc : cond0_0 i) : out0_A_6 c i a0 h0 a1 h1 a2 h2 a3 h3 a4 h4 a5 h5 a6 h6 a7 h7 hc x0 x1 x2 x3 x4 = k0_pay5 x0 x1 x2 := by
  unfold out0_A_6
  rw [View.read_writes_eq_canon _ _ _ (cover0_A_6 c i a0 h0 a1 h1 a2 h2 a3 h3 a4 h4 a5 h5 a6 h6 a7 h7 hc x0 x1 x2 x3 x4)]
  unfold kernelRun0_A
  dsimp only
  sl_unfold_words
  rw [View.canon_unit_zero zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

theorem out_A_7 (hc : cond0_0 i) : out0_A_7 c i a0 h0 a1 h1 a2 h2 a3 h3 a4 h4 a5 h5 a6 h6 a7 h7 hc x0 x1 x2 x3 x4 = k0_pay4 x0 k0_pay1 x4 := by
  unfold out0_A_7
  rw [View.read_writes_eq_canon _ _ _ (cover0_A_7 c i a0 h0 a1 h1 a2 h2 a3 h3 a4 h4 a5 h5 a6 h6 a7 h7 hc x0 x1 x2 x3 x4)]
  unfold kernelRun0_A
  dsimp only
  sl_unfold_words
  rw [View.canon_cons_unit_zero (S := S1408x1024) zero2, View.readCov_unit_zero (S := S1408x1024) _ zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

theorem out_B_5 (hc : ¬cond0_0 i) : out0_B_5 c i a0 h0 a1 h1 a2 h2 a3 h3 a4 h4 a5 h5 a6 h6 a7 h7 hc x0 x1 x2 x3 x4 xo = k0_pay6 x0 x1 x3 := by
  unfold out0_B_5
  rw [View.read_writes_eq_canon _ _ _ (cover0_B_5 c i a0 h0 a1 h1 a2 h2 a3 h3 a4 h4 a5 h5 a6 h6 a7 h7 hc x0 x1 x2 x3 x4 xo)]
  unfold kernelRun0_B
  dsimp only
  sl_unfold_words
  rw [View.canon_unit_zero zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

theorem out_B_6 (hc : ¬cond0_0 i) : out0_B_6 c i a0 h0 a1 h1 a2 h2 a3 h3 a4 h4 a5 h5 a6 h6 a7 h7 hc x0 x1 x2 x3 x4 xo = k0_pay5 x0 x1 x2 := by
  unfold out0_B_6
  rw [View.read_writes_eq_canon _ _ _ (cover0_B_6 c i a0 h0 a1 h1 a2 h2 a3 h3 a4 h4 a5 h5 a6 h6 a7 h7 hc x0 x1 x2 x3 x4 xo)]
  unfold kernelRun0_B
  dsimp only
  sl_unfold_words
  rw [View.canon_unit_zero zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

theorem out_B_7 (hc : ¬cond0_0 i) : out0_B_7 c i a0 h0 a1 h1 a2 h2 a3 h3 a4 h4 a5 h5 a6 h6 a7 h7 hc x0 x1 x2 x3 x4 xo = k0_pay4 x0 xo x4 := by
  unfold out0_B_7
  rw [View.read_writes_eq_canon _ _ _ (cover0_B_7 c i a0 h0 a1 h1 a2 h2 a3 h3 a4 h4 a5 h5 a6 h6 a7 h7 hc x0 x1 x2 x3 x4 xo)]
  unfold kernelRun0_B
  dsimp only
  sl_unfold_words
  rw [View.canon_unit_zero zero2]
  simp only [View.readAt_eq_ld, h0.read_unread, h1.read_unread, h2.read_unread, h3.read_unread, h4.read_unread, h7.read_unread, View.ld_unit_zero (S := S512x1024) zero2, View.ld_unit_zero (S := S1408x1024) zero2, View.ld_unit_zero (S := S512x1408) zero2]

end Body

/-! ## Where the blocks lie -/

theorem at0 : ∀ t : Fin cfg0.N, win0_0.index t = ![t.val % 16, 0] := (by decide +kernel : ∀ t : Fin grid0.N, _)
theorem at1 : ∀ t : Fin cfg0.N, win0_1.index t = ![t.val / 16, 0] := (by decide +kernel : ∀ t : Fin grid0.N, _)
theorem at2 : ∀ t : Fin cfg0.N, win0_2.index t = ![t.val % 16, t.val / 16] := (by decide +kernel : ∀ t : Fin grid0.N, _)
theorem at3 : ∀ t : Fin cfg0.N, win0_3.index t = ![t.val % 16, t.val / 16] := (by decide +kernel : ∀ t : Fin grid0.N, _)
theorem at4 : ∀ t : Fin cfg0.N, win0_4.index t = ![t.val % 16, t.val / 16] := (by decide +kernel : ∀ t : Fin grid0.N, _)
theorem at5 : ∀ t : Fin cfg0.N, win0_5.index t = ![t.val % 16, t.val / 16] := (by decide +kernel : ∀ t : Fin grid0.N, _)
theorem at6 : ∀ t : Fin cfg0.N, win0_6.index t = ![t.val % 16, t.val / 16] := (by decide +kernel : ∀ t : Fin grid0.N, _)
theorem at7 : ∀ t : Fin cfg0.N, win0_7.index t = ![t.val / 16, 0] := (by decide +kernel : ∀ t : Fin grid0.N, _)

/-- The row that is number `a` of row block `n`. -/
def rowAt (n : ℕ) (a : Fin 512) : Fin 8192 := ⟨n % 16 * 512 + a.val, by have := a.isLt; omega⟩
/-- The column that is number `b` of column block `n`. -/
def colAt (n : ℕ) (b : Fin 1408) : Fin 2816 := ⟨n / 16 % 2 * 1408 + b.val, by have := b.isLt; omega⟩

theorem point_lt (t : Fin cfg0.N) : t.val < 32 := t.isLt

section Reads

variable {F : FTy → Type} [FloatOps F]
variable (m : (ℓ : Loc nD τ sig) → Buf (Elt F) ℓ) (c : Dev nD) (t : Fin cfg0.N)

theorem blk0 (a : Fin 512) (b : Fin 1024) : iblk m c 0 t (ix2 a b) = V m c main_v6 (ix2 (rowAt t.val a) b) := by
  blk_simp [iblk]
  refine congrArg (V m c main_v6) ?_
  blk_ext [at0, rowAt]

theorem blk1 (a : Fin 1408) (b : Fin 1024) : iblk m c 1 t (ix2 a b) = V m c main_v7 (ix2 (colAt t.val a) b) := by
  have := point_lt t
  blk_simp [iblk]
  refine congrArg (V m c main_v7) ?_
  blk_ext [at1, colAt]
  all_goals omega

theorem blk2 (a : Fin 512) (b : Fin 1408) : iblk m c 2 t (ix2 a b) = V m c main_v1 (ix2 (rowAt t.val a) (colAt t.val b)) := by
  have := point_lt t
  blk_simp [iblk]
  refine congrArg (V m c main_v1) ?_
  blk_ext [at2, rowAt, colAt]
  all_goals omega

theorem blk3 (a : Fin 512) (b : Fin 1408) : iblk m c 3 t (ix2 a b) = V m c main_v3 (ix2 (rowAt t.val a) (colAt t.val b)) := by
  have := point_lt t
  blk_simp [iblk]
  refine congrArg (V m c main_v3) ?_
  blk_ext [at3, rowAt, colAt]
  all_goals omega

theorem blk4 (a : Fin 512) (b : Fin 1408) : iblk m c 4 t (ix2 a b) = V m c main_v5 (ix2 (rowAt t.val a) (colAt t.val b)) := by
  have := point_lt t
  blk_simp [iblk]
  refine congrArg (V m c main_v5) ?_
  blk_ext [at4, rowAt, colAt]
  all_goals omega

theorem after5 : (outsAt0 m c t.val t.isLt).1 = k0_pay6 (iblk m c 0 t) (iblk m c 1 t) (iblk m c 3 t) := by
  by_cases h : t.val % 16 = 0
  · rw [outsAt0_A m c t h]; dsimp only; rw [out_A_5]
  · rw [outsAt0_B m c t h]; dsimp only; rw [out_B_5]

theorem after6 : (outsAt0 m c t.val t.isLt).2.1 = k0_pay5 (iblk m c 0 t) (iblk m c 1 t) (iblk m c 2 t) := by
  by_cases h : t.val % 16 = 0
  · rw [outsAt0_A m c t h]; dsimp only; rw [out_A_6]
  · rw [outsAt0_B m c t h]; dsimp only; rw [out_B_6]

end Reads

/-! ## The stored values at an index -/

theorem dAct_apply (d : Vec Ideal S512x1024 .bf16) (w : Vec Ideal S1408x1024 .bf16) (s : Vec Ideal S512x1408 .bf16) (a : Fin 512) (b : Fin 1408) :
    k0_pay6 d w s (ix2 a b) = (∑ k : Fin 1024, d (ix2 a k) * w (ix2 b k)) * s (ix2 a b) := by
  pointwise [k0_pay6, k0_pay3, k0_pay2]

theorem dAct_apply' (d : Vec Ideal S512x1024 .bf16) (w : Vec Ideal S1408x1024 .bf16) (s : Vec Ideal S512x1408 .bf16) (a : Fin 512) (b : Fin 1408) :
    k0_pay5 d w s (ix2 a b) = (∑ k : Fin 1024, d (ix2 a k) * w (ix2 b k)) * s (ix2 a b) := by
  pointwise [k0_pay5, k0_pay3, k0_pay2]

theorem gw_apply (d : Vec Ideal S512x1024 .bf16) (x : Vec Ideal S1408x1024 .f32) (act : Vec Ideal S512x1408 .bf16) (a : Fin 1408) (b : Fin 1024) :
    k0_pay4 d x act (ix2 a b) = x (ix2 a b) + ∑ k : Fin 512, act (ix2 k a) * d (ix2 k b) := by
  pointwise [k0_pay4, k0_pay2]

variable (m : (ℓ : Loc nD τ sig) → Buf (Elt Ideal) ℓ) (c : Dev nD)

/-- The weight's gradient over one row block. -/
def tile (act : Vec Ideal S8192x2816 .bf16) (d : Vec Ideal S8192x1024 .bf16) (n : ℕ) (a : Fin 1408) (b : Fin 1024) : EReal :=
  ∑ k : Fin 512, act (ix2 (rowAt n k) (colAt n a)) * d (ix2 (rowAt n k) b)

theorem step7 (t : Fin cfg0.N) (x : Vec Ideal S1408x1024 .f32) (a : Fin 1408) (b : Fin 1024) :
    k0_pay4 (iblk m c 0 t) x (iblk m c 4 t) (ix2 a b) = x (ix2 a b) + tile (V m c main_v5) (V m c main_v6) t.val a b := by
  rw [gw_apply]
  refine congrArg (x (ix2 a b) + ·) (Finset.sum_congr rfl fun k _ => ?_)
  rw [blk0, blk4]

/-- The weight's gradient after the row blocks up to a point. -/
theorem after7 (a : Fin 1408) (b : Fin 1024) : ∀ (n : ℕ) (h : n < cfg0.N),
    (outsAt0 m c n h).2.2 (ix2 a b) = ∑ s ∈ Finset.range (n % 16 + 1), tile (V m c main_v5) (V m c main_v6) (n / 16 * 16 + s) a b := by
  intro n
  induction n with
  | zero =>
    intro h
    rw [outsAt0_A m c ⟨0, h⟩ rfl]
    dsimp only
    rw [out_A_7, step7]
    pointwise [k0_pay1]
    simp
  | succ n ih =>
    intro h
    by_cases h0 : (n + 1) % 16 = 0
    · rw [outsAt0_A m c ⟨n + 1, h⟩ h0]
      dsimp only
      rw [out_A_7, step7]
      pointwise [k0_pay1]
      rw [h0, Finset.sum_range_one, show (n + 1) / 16 * 16 + 0 = n + 1 by omega]
    · rw [outsAt0_B m c ⟨n + 1, h⟩ h0]
      dsimp only
      rw [out_B_7, step7]
      show (outsAt0 m c n _).2.2 (ix2 a b) + _ = _
      rw [ih, show (n + 1) % 16 = n % 16 + 1 by omega, Finset.sum_range_succ _ (n % 16 + 1), show (n + 1) / 16 = n / 16 by omega,
        show n / 16 * 16 + (n % 16 + 1) = n + 1 by omega]

end Cert.Swiglu
-- ==== Proof.SwigluClaim.lean ====
/-
  The gradient of the gated feed-forward product (program 2): the kernel's three arrays are the reference's.
-/
module

public import proofs.«01_k».proof.Defs
public import proofs.«01_k».proof.Proof.Swiglu
public import proofs.«01_k».proof.Proof.RealArg
public import proofs.«01_k».proof.Proof.Gen.Reference2Ideal.Run

@[expose] public section

set_option maxRecDepth 8192

noncomputable section

namespace Cert.Swiglu

open Cert.Kernel2Ideal Cert.Kernel2Ideal.Gen
open Idealize.ShloMosaic Idealize.ShloMosaic.TcCoe Idealize.ShloMosaic.Tactic Idealize.SL.Sem
open Cert.Proof (coe_sum real_of_all and_one)

/-! ## What the host computes -/

section Host

variable {F : FTy → Type} [FloatOps F]

def ones : FVec F S8192x2816 .f32 := broadcastInDim S8192x2816 ![] bcast_S_S8192x2816 (constant S_ .f32 0x3F800000#32)
/-- The logistic function of the gate. -/
def gateSig (g : FVec F S8192x2816 .f32) : FVec F S8192x2816 .f32 := Host.divf ones (addf ones (Host.exp (Host.negf g)))
/-- Its product with one minus itself. -/
def gateSlope (g : FVec F S8192x2816 .f32) : FVec F S8192x2816 .f32 := mulf (gateSig g) (subf ones (gateSig g))
/-- The gradient of the gated product, from the result's. -/
def dAct (w : FVec F S2816x1024 .f32) (ct : FVec F S8192x1024 .f32) : FVec F S8192x2816 .f32 :=
  Host.dotGeneral Cert.Reference2Ideal.dot_S8192x1024_S2816x1024_S8192x2816_1_1_0_0_n_n none ct w
def dGate (g u : FVec F S8192x2816 .f32) (w : FVec F S2816x1024 .f32) (ct : FVec F S8192x1024 .f32) : FVec F S8192x2816 .bf16 :=
  truncf .bf16 (addf (mulf (mulf (dAct w ct) u) (gateSig g)) (mulf (mulf g (mulf (dAct w ct) u)) (gateSlope g))) bitsLt_bf16_f32
def dUp (g : FVec F S8192x2816 .f32) (w : FVec F S2816x1024 .f32) (ct : FVec F S8192x1024 .f32) : FVec F S8192x2816 .bf16 :=
  truncf .bf16 (mulf (mulf g (gateSig g)) (dAct w ct)) bitsLt_bf16_f32
def dWeight (g u : FVec F S8192x2816 .f32) (ct : FVec F S8192x1024 .f32) : FVec F S2816x1024 .f32 :=
  transpose S2816x1024 [1, 0] (Host.dotGeneral Cert.Reference2Ideal.dot_S8192x1024_S8192x2816_S1024x2816_0_0_1_1_n_n none ct (mulf (mulf g (gateSig g)) u)) Cert.Reference2Ideal.Gen.transposes_S1024x2816_S2816x1024_1_0

variable (m : (ℓ : Loc nD τ sig) → Buf (Elt F) ℓ) (c : Dev nD)

theorem V_ct : V m c main_v6 = truncf .bf16 (m ((c.tc : Thread nD τ).loc main_arg3)) bitsLt_bf16_f32 := by
  entry_read
  rfl
theorem V_w : V m c main_v7 = truncf .bf16 (m ((c.tc : Thread nD τ).loc main_arg2)) bitsLt_bf16_f32 := by
  entry_read
  rfl
theorem V_silu : V m c main_v1 = truncf .bf16 (mulf (m ((c.tc : Thread nD τ).loc main_arg0)) (gateSig (m ((c.tc : Thread nD τ).loc main_arg0)))) bitsLt_bf16_f32 := by
  entry_read
  rfl
theorem V_slope : V m c main_v3 = truncf .bf16 (addf (mulf (m ((c.tc : Thread nD τ).loc main_arg1)) (gateSig (m ((c.tc : Thread nD τ).loc main_arg0))))
    (mulf (mulf (m ((c.tc : Thread nD τ).loc main_arg0)) (m ((c.tc : Thread nD τ).loc main_arg1))) (gateSlope (m ((c.tc : Thread nD τ).loc main_arg0))))) bitsLt_bf16_f32 := by
  entry_read
  rfl
theorem V_act : V m c main_v5 = truncf .bf16 (mulf (mulf (m ((c.tc : Thread nD τ).loc main_arg0)) (gateSig (m ((c.tc : Thread nD τ).loc main_arg0)))) (m ((c.tc : Thread nD τ).loc main_arg1))) bitsLt_bf16_f32 := by
  entry_read
  rfl

end Host

/-! ## At an index -/

section Real

variable (g u : FVec Ideal S8192x2816 .f32) (w : FVec Ideal S2816x1024 .f32) (ct : FVec Ideal S8192x1024 .f32)

theorem dAct_at (t : Fin 8192) (j : Fin 2816) : dAct w ct (ix2 t j) = ∑ k : Fin 1024, ct (ix2 t k) * w (ix2 j k) := by
  pointwise [dAct]

theorem dWeight_at (j : Fin 2816) (k : Fin 1024) : dWeight g u ct (ix2 j k) = ∑ t : Fin 8192, ct (ix2 t k) * (g (ix2 t j) * gateSig g (ix2 t j) * u (ix2 t j)) := by
  pointwise [dWeight]

/-- The logistic function of a real number is a real number. -/
theorem gateSig_real (t : Fin 8192) (j : Fin 2816) (hg : (((g (ix2 t j) : EReal).toReal : ℝ) : EReal) = g (ix2 t j)) : ∃ r : ℝ, gateSig g (ix2 t j) = (r : EReal) := by
  pointwise [gateSig, ones]
  rw [← hg, ← EReal.coe_neg, Ideal.exp_coe, show (1 : EReal) = ((1 : ℝ) : EReal) from rfl, ← EReal.coe_add,
    Ideal.div_coe (by positivity), ← EReal.coe_mul]
  exact ⟨_, rfl⟩

/-- With a real factor the product distributes over the sum. -/
theorem distrib (a x z p q : ℝ) : (a : EReal) * (x * p + z * x * q) = a * x * p + z * (a * x) * q := by
  simp only [← EReal.coe_mul, ← EReal.coe_add]
  exact congrArg _ (by ring)

/-- The gradient of the gated product at an index is a real number. -/
theorem dAct_real (hw : ∀ i, (((w i : EReal).toReal : ℝ) : EReal) = w i) (hct : ∀ i, (((ct i : EReal).toReal : ℝ) : EReal) = ct i) (t : Fin 8192) (j : Fin 2816) :
    ∃ r : ℝ, (∑ k : Fin 1024, ct (ix2 t k) * w (ix2 j k)) = (r : EReal) := by
  have h : ∀ k : Fin 1024, ct (ix2 t k) * w (ix2 j k) = (((ct (ix2 t k) : EReal).toReal * (w (ix2 j k) : EReal).toReal : ℝ) : EReal) := fun k => by
    rw [EReal.coe_mul, hct, hw]
  rw [Finset.sum_congr rfl fun k _ => h k, coe_sum]
  exact ⟨_, rfl⟩

/-- The kernel's product with the gate's staged factor is the reference's sum of two products. -/
theorem gate_at (hg : ∀ i, (((g i : EReal).toReal : ℝ) : EReal) = g i) (hu : ∀ i, (((u i : EReal).toReal : ℝ) : EReal) = u i)
    (hw : ∀ i, (((w i : EReal).toReal : ℝ) : EReal) = w i) (hct : ∀ i, (((ct i : EReal).toReal : ℝ) : EReal) = ct i) (t : Fin 8192) (j : Fin 2816) :
    (dAct w ct (ix2 t j) * (u (ix2 t j) * gateSig g (ix2 t j) + g (ix2 t j) * u (ix2 t j) * gateSlope g (ix2 t j)) : EReal) = dGate g u w ct (ix2 t j) := by
  show _ = (dAct w ct (ix2 t j) * u (ix2 t j) * gateSig g (ix2 t j) + g (ix2 t j) * (dAct w ct (ix2 t j) * u (ix2 t j)) * gateSlope g (ix2 t j) : EReal)
  obtain ⟨p, hp⟩ := gateSig_real g t j (hg _)
  obtain ⟨a, ha⟩ := dAct_real w ct hw hct t j
  have hq : gateSlope g (ix2 t j) = ((p * (1 - p) : ℝ) : EReal) := by
    pointwise [gateSlope, ones]
    rw [hp, show (1 : EReal) = ((1 : ℝ) : EReal) from rfl, ← EReal.coe_sub, ← EReal.coe_mul]
  rw [hq, hp, dAct_at, ha, ← hg, ← hu]
  exact distrib _ _ _ _ _

end Real

/-! ## The kernel's arrays -/

section Final

variable (m : (ℓ : Loc nD τ sig) → Buf (Elt Ideal) ℓ) (c : Dev nD)

/-- The sum a point takes of its staged rows. -/
theorem row_sum (t : Fin cfg0.N) (a : Fin 512) (b : Fin 1408) (d : Vec Ideal S512x1024 .bf16) (w : Vec Ideal S1408x1024 .bf16) (hd : d = iblk m c 0 t) (hw : w = iblk m c 1 t) :
    (∑ k : Fin 1024, d (ix2 a k) * w (ix2 b k))
      = dAct (F := Ideal) (m ((c.tc : Thread nD τ).loc main_arg2)) (m ((c.tc : Thread nD τ).loc main_arg3)) (ix2 (rowAt t.val a) (colAt t.val b)) := by
  subst hd hw
  rw [dAct_at]
  refine Finset.sum_congr rfl fun k _ => ?_
  rw [blk0, blk1, V_ct, V_w]
  rfl

theorem final_up : (dats m 0 c).arrAt 6 cfg0.N = dUp (F := Ideal) (m ((c.tc : Thread nD τ).loc main_arg0)) (m ((c.tc : Thread nD τ).loc main_arg2)) (m ((c.tc : Thread nD τ).loc main_arg3)) := by
  refine (dats m 0 c).arrAt_eq_of_covers 6 _ (by decide +kernel) fun t hf y => ?_
  have := point_lt t
  blk_simp
  obtain ⟨a, b, rfl⟩ : ∃ (a : Fin 512) (b : Fin 1408), y = ix2 a b := ⟨y 0, y 1, by funext a; match a with | 0 => rfl | 1 => rfl⟩
  have he : (win0_6.blk t).view.emb (ix2 a b) = ix2 (rowAt t.val a) (colAt t.val b) := by
    blk_ext [at6, rowAt, colAt]
    all_goals omega
  have key : (outsAt0 m c t.val t.isLt).2.1 (ix2 a b) = dAct (F := Ideal) (m ((c.tc : Thread nD τ).loc main_arg2)) (m ((c.tc : Thread nD τ).loc main_arg3)) (ix2 (rowAt t.val a) (colAt t.val b)) * (show Vec Ideal S8192x2816 .bf16 from V m c main_v1) (ix2 (rowAt t.val a) (colAt t.val b)) := by
    rw [after6, dAct_apply', blk2, row_sum m c t a b _ _ rfl rfl]
  refine Eq.trans key ?_
  rw [he, V_silu]
  exact mul_comm (G := EReal) _ _

theorem final_gate (hg : ∀ i, (((m ((c.tc : Thread nD τ).loc main_arg0) i : EReal).toReal : ℝ) : EReal) = m ((c.tc : Thread nD τ).loc main_arg0) i)
    (hu : ∀ i, (((m ((c.tc : Thread nD τ).loc main_arg1) i : EReal).toReal : ℝ) : EReal) = m ((c.tc : Thread nD τ).loc main_arg1) i)
    (hw : ∀ i, (((m ((c.tc : Thread nD τ).loc main_arg2) i : EReal).toReal : ℝ) : EReal) = m ((c.tc : Thread nD τ).loc main_arg2) i)
    (hct : ∀ i, (((m ((c.tc : Thread nD τ).loc main_arg3) i : EReal).toReal : ℝ) : EReal) = m ((c.tc : Thread nD τ).loc main_arg3) i) :
    (dats m 0 c).arrAt 5 cfg0.N = dGate (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  have := point_lt t
  blk_simp
  obtain ⟨a, b, rfl⟩ : ∃ (a : Fin 512) (b : Fin 1408), y = ix2 a b := ⟨y 0, y 1, by funext a; match a with | 0 => rfl | 1 => rfl⟩
  have he : (win0_5.blk t).view.emb (ix2 a b) = ix2 (rowAt t.val a) (colAt t.val b) := by
    blk_ext [at5, rowAt, colAt]
    all_goals omega
  have key : (outsAt0 m c t.val t.isLt).1 (ix2 a b) = dAct (F := Ideal) (m ((c.tc : Thread nD τ).loc main_arg2)) (m ((c.tc : Thread nD τ).loc main_arg3)) (ix2 (rowAt t.val a) (colAt t.val b)) * (show Vec Ideal S8192x2816 .bf16 from V m c main_v3) (ix2 (rowAt t.val a) (colAt t.val b)) := by
    rw [after5, dAct_apply, blk3, row_sum m c t a b _ _ rfl rfl]
  refine Eq.trans key ?_
  rw [he, V_slope]
  exact gate_at _ _ _ _ hg hu hw hct _ _

/-- A sum over the sixteen row blocks is the sum over all rows. -/
theorem sum_tiles (act : Vec Ideal S8192x2816 .bf16) (d : Vec Ideal S8192x1024 .bf16) (q n : ℕ) (hq : n / 16 = q) (a : Fin 1408) (b : Fin 1024) :
    ∑ s ∈ Finset.range (15 + 1), tile act d (q * 16 + s) a b = ∑ t : Fin 8192, d (ix2 t b) * act (ix2 t (colAt n a)) := by
  rw [Finset.sum_range]
  refine Eq.trans ?_ (Fin.sum_univ_tiles 16 512 (N := 8192) (by norm_num) _).symm
  refine Finset.sum_congr rfl fun s _ => Finset.sum_congr rfl fun k _ => ?_
  have hs := s.isLt
  rw [show rowAt (q * 16 + s.val) k = ⟨s.val * 512 + k.val, by have := k.isLt; omega⟩ from Fin.ext (by show (q * 16 + s.val) % 16 * 512 + k.val = _; congr 2; omega),
    show colAt (q * 16 + s.val) a = colAt n a from Fin.ext (by show (q * 16 + s.val) / 16 % 2 * 1408 + a.val = n / 16 % 2 * 1408 + a.val; congr 3; omega)]
  exact mul_comm _ _

theorem final_weight : (dats m 0 c).arrAt 7 cfg0.N = dWeight (F := Ideal) (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  have := point_lt t
  have hl : t.val % 16 = 15 := (flush0_7 _).1 hf
  blk_simp
  obtain ⟨a, b, rfl⟩ : ∃ (a : Fin 1408) (b : Fin 1024), y = ix2 a b := ⟨y 0, y 1, by funext a; match a with | 0 => rfl | 1 => rfl⟩
  have he : (win0_7.blk t).view.emb (ix2 a b) = ix2 (colAt t.val a) b := by
    blk_ext [at7, colAt]
    all_goals omega
  refine Eq.trans (after7 m c a b t.val t.isLt) ?_
  rw [he, dWeight_at, hl]
  refine (sum_tiles (V m c main_v5) (V m c main_v6) (t.val / 16) t.val (by omega) a b).trans ?_
  refine congrArg (Finset.sum Finset.univ) (funext fun k => ?_)
  rw [V_ct, V_act]
  rfl

end Final

/-! ## The claim -/

/-- The side conditions the precondition's text states. -/
theorem facts_pre : Cert.Pre_finite2.Facts :=
  { bcast_S_S8192x2816 := by decide
    reducesTo_S8192x2816_S_d0_1 := by decide
    h_S_ := by decide
    bcast_S_S2816x1024 := by decide
    reducesTo_S2816x1024_S_d0_1 := by decide
    bcast_S_S8192x1024 := by decide
    reducesTo_S8192x1024_S_d0_1 := by decide }

section

variable [Cert.Pre_finite2.Facts]

theorem finite_real (g u : FVec Ideal Cert.Pre_finite2.S8192x2816 .f32) (w : FVec Ideal Cert.Pre_finite2.S2816x1024 .f32) (ct : FVec Ideal Cert.Pre_finite2.S8192x1024 .f32)
    (h : Cert.Pre_finite2.fn (F := Ideal) g u w ct = fun _ => 1#1) :
    (∀ i, (((g i : EReal).toReal : ℝ) : EReal) = g i) ∧ (∀ i, (((u i : EReal).toReal : ℝ) : EReal) = u i)
    ∧ (∀ i, (((w i : EReal).toReal : ℝ) : EReal) = w i) ∧ (∀ i, (((ct i : EReal).toReal : ℝ) : EReal) = ct i) := by
  have hj := congrFun h (Shape.Idx.first Cert.Pre_finite2.Facts.h_S_)
  obtain ⟨h1, h2⟩ := and_one _ _ hj
  obtain ⟨hg, hu⟩ := and_one _ _ h1
  obtain ⟨hw, hct⟩ := and_one _ _ h2
  exact ⟨real_of_all g _ _ _ _ hg, real_of_all u _ _ _ _ hu, real_of_all w _ _ _ _ hw, real_of_all ct _ _ _ _ hct⟩

end

theorem algebraic : Cert.algebraic_Kernel2Ideal_Reference2Ideal_pre_finite2 (hKernel2Ideal := Cert.Kernel2Ideal.Gen.facts)
    (hReference2Ideal := Cert.Reference2Ideal.Gen.facts) (hPre_finite2 := facts_pre) := by
  intro m ρ m' ρ' hpre hargs
  refine ⟨fun c => (dats m 0 c).arrAt 5 cfg0.N, fun c => (dats m 0 c).arrAt 6 cfg0.N, fun c => (dats m 0 c).arrAt 7 cfg0.N, Cert.Kernel2Ideal.Value.run_blocks m ρ, ?_⟩
  refine (θ_run _ _ _).mono (fun r h c => ?_) (Cert.Reference2Ideal.Value.run (F := Ideal) m' ρ')
  obtain ⟨e0, e1, e2, hrest⟩ := h c
  obtain ⟨hg, hu, hw, hct⟩ := @finite_real facts_pre _ _ _ _ (hpre c)
  obtain ⟨a0, a1, a2, a3⟩ := hargs c
  refine ⟨e0.trans ?_, e1.trans ?_, e2.trans ?_, hrest⟩
  · rw [a0, a1, a2, a3]; exact (final_gate m c hg hu hw hct).symm
  · rw [a0, a2, a3]; exact (final_up m c).symm
  · rw [a0, a1, a3]; exact (final_weight m c).symm

end Cert.Swiglu
-- ==== Proof.Norm.lean ====
/-
  The gradient of the feed-forward's first product and of the norm before it (program 3): what each grid point leaves.
-/
module

public import proofs.«01_k».proof.Proof.Gen.Kernel3Ideal.Value
public import Idealize.ShloMosaic.Lib.Pipeline.ValueKit.Geometry
public import Idealize.ShloMosaic.Lib.Pointwise
public import Idealize.ShloMosaic.Lib.Claim

@[expose] public section

set_option maxRecDepth 8192

noncomputable section

namespace Cert.Norm

open Cert.Kernel3Ideal Cert.Kernel3Ideal.Gen
open Idealize.ShloMosaic Idealize.ShloMosaic.TcCoe Idealize.ShloMosaic.Tactic

/-! ## What the body leaves -/

theorem zero2 : (![0, 0] : Fin 2 → Nat) = fun _ => 0 := funext fun a => by fin_cases a <;> rfl

section Body

variable {F : FTy → Type} [FloatOps F]

/-- The two halves of a block's columns. -/
def left (x : Vec F S256x2816 .bf16) : Vec F S256x1408 .bf16 := View.ld x (Rect.unit (s := S256x2816) ![0, 0] S256x1408.size inb_S256x2816_S256x1408_0_0)
def right (x : Vec F S256x2816 .bf16) : Vec F S256x1408 .bf16 := View.ld x (Rect.unit (s := S256x2816) ![0, 1408] S256x1408.size inb_S256x2816_S256x1408_0_1408)
/-- The four column blocks of the weight. -/
def part0 (w : Vec F S4x1024x1408 .bf16) : Vec F S1x1024x1408 .bf16 := View.ld w (Rect.unit (s := S4x1024x1408) ![0, 0, 0] S1x1024x1408.size inb_S4x1024x1408_S1x1024x1408_0_0_0)
def part1 (w : Vec F S4x1024x1408 .bf16) : Vec F S1x1024x1408 .bf16 := View.ld w (Rect.unit (s := S4x1024x1408) ![1, 0, 0] S1x1024x1408.size inb_S4x1024x1408_S1x1024x1408_1_0_0)
def part2 (w : Vec F S4x1024x1408 .bf16) : Vec F S1x1024x1408 .bf16 := View.ld w (Rect.unit (s := S4x1024x1408) ![2, 0, 0] S1x1024x1408.size inb_S4x1024x1408_S1x1024x1408_2_0_0)
def part3 (w : Vec F S4x1024x1408 .bf16) : Vec F S1x1024x1408 .bf16 := View.ld w (Rect.unit (s := S4x1024x1408) ![3, 0, 0] S1x1024x1408.size inb_S4x1024x1408_S1x1024x1408_3_0_0)

/-- The gradient of the norm's result: three of its products, and the fourth. -/
def three (x0 x1 : Vec F S256x2816 .bf16) (x2 : Vec F S4x1024x1408 .bf16) (x3 : Vec F S256x1024 .f32) : Vec F S256x1024 .f32 :=
  k0_pay5 x3 (left x0) (part0 x2) (left x1) (part2 x2) (right x0) (part1 x2)
def fourth (x1 : Vec F S256x2816 .bf16) (x2 : Vec F S4x1024x1408 .bf16) : Vec F S256x1024 .f32 := k0_pay6 (right x1) (part3 x2)
def dh (x0 x1 : Vec F S256x2816 .bf16) (x2 : Vec F S4x1024x1408 .bf16) (x3 : Vec F S256x1024 .f32) : Vec F S256x1024 .f32 :=
  k0_pay7 (three x0 x1 x2 x3) (fourth x1 x2)

variable (c : Dev nD) (i : grid0.Coords)
variable (a0 : Memref sig .tc .vmem S256x2816 .bf16) (h0 : a0.IsWhole)
variable (a1 : Memref sig .tc .vmem S256x2816 .bf16) (h1 : a1.IsWhole)
variable (a2 : Memref sig .tc .vmem S4x1024x1408 .bf16) (h2 : a2.IsWhole)
variable (a3 : Memref sig .tc .vmem S256x1024 .f32) (h3 : a3.IsWhole)
variable (a4 : Memref sig .tc .vmem S256x1024 .f32) (h4 : a4.IsWhole)
variable (a5 : Memref sig .tc .vmem S1x1024 .f32) (h5 : a5.IsWhole)
variable (a6 : Memref sig .tc .vmem S256x1024 .f32) (h6 : a6.IsWhole)
variable (a7 : Memref sig .tc .vmem S256x1024 .bf16) (h7 : a7.IsWhole)
variable (a8 : Memref sig .tc .vmem S1x1024 .f32) (h8 : a8.IsWhole)
variable (a9 : Memref sig .tc .vmem S1x1024 .f32) (h9 : a9.IsWhole)
variable (x0 x1 : Vec F S256x2816 .bf16) (x2 : Vec F S4x1024x1408 .bf16) (x3 x4 : Vec F S256x1024 .f32) (x5 xo8 xo9 : Vec F S1x1024 .f32)

theorem out_A_6 (hc : cond0_0 i) : out0_A_6 c i a0 h0 a1 h1 a2 h2 a3 h3 a4 h4 a5 h5 a6 h6 a7 h7 a8 h8 a9 h9 hc x0 x1 x2 x3 x4 x5 = k0_pay11 (three x0 x1 x2 x3) (fourth x1 x2) x4 x5 := by
  unfold out0_A_6
  rw [View.read_writes_eq_canon _ _ _ (cover0_A_6 c i a0 h0 a1 h1 a2 h2 a3 h3 a4 h4 a5 h5 a6 h6 a7 h7 a8 h8 a9 h9 hc x0 x1 x2 x3 x4 x5)]
  unfold kernelRun0_A
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_A_7 (hc : cond0_0 i) : out0_A_7 c i a0 h0 a1 h1 a2 h2 a3 h3 a4 h4 a5 h5 a6 h6 a7 h7 a8 h8 a9 h9 hc x0 x1 x2 x3 x4 x5 = k0_pay12 (three x0 x1 x2 x3) (fourth x1 x2) x4 x5 := by
  unfold out0_A_7
  rw [View.read_writes_eq_canon _ _ _ (cover0_A_7 c i a0 h0 a1 h1 a2 h2 a3 h3 a4 h4 a5 h5 a6 h6 a7 h7 a8 h8 a9 h9 hc x0 x1 x2 x3 x4 x5)]
  unfold kernelRun0_A
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_A_8 (hc : cond0_0 i) : out0_A_8 c i a0 h0 a1 h1 a2 h2 a3 h3 a4 h4 a5 h5 a6 h6 a7 h7 a8 h8 a9 h9 hc x0 x1 x2 x3 x4 x5 = k0_pay1 (dh x0 x1 x2 x3) (k0_pay10 x4) k0_pay3 := by
  unfold out0_A_8
  rw [View.read_writes_eq_canon _ _ _ (cover0_A_8 c i a0 h0 a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_A_9 (hc : cond0_0 i) : out0_A_9 c i a0 h0 a1 h1 a2 h2 a3 h3 a4 h4 a5 h5 a6 h6 a7 h7 a8 h8 a9 h9 hc x0 x1 x2 x3 x4 x5 = k0_pay2 (dh x0 x1 x2 x3) k0_pay4 := by
  unfold out0_A_9
  rw [View.read_writes_eq_canon _ _ _ (cover0_A_9 c i a0 h0 a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_B_6 (hc : ¬cond0_0 i) : out0_B_6 c i a0 h0 a1 h1 a2 h2 a3 h3 a4 h4 a5 h5 a6 h6 a7 h7 a8 h8 a9 h9 hc x0 x1 x2 x3 x4 x5 xo8 xo9 = k0_pay11 (three x0 x1 x2 x3) (fourth x1 x2) x4 x5 := by
  unfold out0_B_6
  rw [View.read_writes_eq_canon _ _ _ (cover0_B_6 c i a0 h0 a1 h1 a2 h2 a3 h3 a4 h4 a5 h5 a6 h6 a7 h7 a8 h8 a9 h9 hc x0 x1 x2 x3 x4 x5 xo8 xo9)]
  unfold kernelRun0_B
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_B_7 (hc : ¬cond0_0 i) : out0_B_7 c i a0 h0 a1 h1 a2 h2 a3 h3 a4 h4 a5 h5 a6 h6 a7 h7 a8 h8 a9 h9 hc x0 x1 x2 x3 x4 x5 xo8 xo9 = k0_pay12 (three x0 x1 x2 x3) (fourth x1 x2) x4 x5 := by
  unfold out0_B_7
  rw [View.read_writes_eq_canon _ _ _ (cover0_B_7 c i a0 h0 a1 h1 a2 h2 a3 h3 a4 h4 a5 h5 a6 h6 a7 h7 a8 h8 a9 h9 hc x0 x1 x2 x3 x4 x5 xo8 xo9)]
  unfold kernelRun0_B
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_B_8 (hc : ¬cond0_0 i) : out0_B_8 c i a0 h0 a1 h1 a2 h2 a3 h3 a4 h4 a5 h5 a6 h6 a7 h7 a8 h8 a9 h9 hc x0 x1 x2 x3 x4 x5 xo8 xo9 = k0_pay1 (dh x0 x1 x2 x3) (k0_pay10 x4) xo8 := by
  unfold out0_B_8
  rw [View.read_writes_eq_canon _ _ _ (cover0_B_8 c i a0 h0 a1 h1 a2 h2 a3 h3 a4 h4 a5 h5 a6 h6 a7 h7 a8 h8 a9 h9 hc x0 x1 x2 x3 x4 x5 xo8 xo9)]
  unfold kernelRun0_B
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

theorem out_B_9 (hc : ¬cond0_0 i) : out0_B_9 c i a0 h0 a1 h1 a2 h2 a3 h3 a4 h4 a5 h5 a6 h6 a7 h7 a8 h8 a9 h9 hc x0 x1 x2 x3 x4 x5 xo8 xo9 = k0_pay2 (dh x0 x1 x2 x3) xo9 := by
  unfold out0_B_9
  rw [View.read_writes_eq_canon _ _ _ (cover0_B_9 c i a0 h0 a1 h1 a2 h2 a3 h3 a4 h4 a5 h5 a6 h6 a7 h7 a8 h8 a9 h9 hc x0 x1 x2 x3 x4 x5 xo8 xo9)]
  unfold kernelRun0_B
  dsimp only
  sl_unfold_words
  rw [View.canon_unit_zero zero2]
  simp only [View.readAt_eq_ld, h0.read_unread, h1.read_unread, h2.read_unread, h3.read_unread, h4.read_unread, h5.read_unread, h8.read_unread, h9.read_unread, View.ld_unit_zero (S := S256x1024) zero2, View.ld_unit_zero (S := S1x1024) zero2]
  rfl

end Body

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)

/-- The row that is number `a` of row block `n`. -/
def rowAt (n : ℕ) (a : Fin 256) : Fin 8192 := ⟨n % 32 * 256 + a.val, by have := a.isLt; omega⟩

theorem point_lt (t : Fin cfg0.N) : t.val < 32 := t.isLt

section Reads

variable {F : FTy → Type} [FloatOps F]
variable (m : (ℓ : Loc nD τ sig) → Buf (Elt F) ℓ) (c : Dev nD) (t : Fin cfg0.N)

theorem blk0 (a : Fin 256) (b : Fin 2816) : iblk m c 0 t (ix2 a b) = V m c main_v3 (ix2 (rowAt t.val a) b) := by
  have := point_lt t
  blk_simp [iblk]
  refine congrArg (V m c main_v3) ?_
  blk_ext [at0, rowAt]
  all_goals omega

theorem blk1 (a : Fin 256) (b : Fin 2816) : iblk m c 1 t (ix2 a b) = V m c main_v4 (ix2 (rowAt t.val a) b) := by
  have := point_lt t
  blk_simp [iblk]
  refine congrArg (V m c main_v4) ?_
  blk_ext [at1, rowAt]
  all_goals omega

theorem blk3 (a : Fin 256) (b : Fin 1024) : iblk m c 3 t (ix2 a b) = V m c main_arg3 (ix2 (rowAt t.val a) b) := by
  have := point_lt t
  blk_simp [iblk]
  refine congrArg (V m c main_arg3) ?_
  blk_ext [at3, rowAt]
  all_goals omega

theorem blk4 (a : Fin 256) (b : Fin 1024) : iblk m c 4 t (ix2 a b) = V m c main_arg4 (ix2 (rowAt t.val a) b) := by
  have := point_lt t
  blk_simp [iblk]
  refine congrArg (V m c main_arg4) ?_
  blk_ext [at4, rowAt]
  all_goals omega

theorem blk2 (q : Fin 4) (a : Fin 1024) (b : Fin 1408) : iblk m c 2 t (ix3 q a b) = V m c main_v2 (ix3 q a b) := by
  blk_simp [iblk]
  refine congrArg (V m c main_v2) ?_
  blk_ext [at2]

theorem blk5 (a : Fin 1) (b : Fin 1024) : iblk m c 5 t (ix2 a b) = V m c main_arg5 (ix2 a b) := by
  blk_simp [iblk]
  refine congrArg (V m c main_arg5) ?_
  blk_ext [at5]

theorem after6 : (outsAt0 m c t.val t.isLt).1 = k0_pay11 (three (iblk m c 0 t) (iblk m c 1 t) (iblk m c 2 t) (iblk m c 3 t)) (fourth (iblk m c 1 t) (iblk m c 2 t)) (iblk m c 4 t) (iblk m c 5 t) := by
  by_cases h : t.val % 32 = 0
  · rw [outsAt0_A m c t h]; dsimp only; rw [out_A_6]
  · rw [outsAt0_B m c t h]; dsimp only; rw [out_B_6]

theorem after7 : (outsAt0 m c t.val t.isLt).2.1 = k0_pay12 (three (iblk m c 0 t) (iblk m c 1 t) (iblk m c 2 t) (iblk m c 3 t)) (fourth (iblk m c 1 t) (iblk m c 2 t)) (iblk m c 4 t) (iblk m c 5 t) := by
  by_cases h : t.val % 32 = 0
  · rw [outsAt0_A m c t h]; dsimp only; rw [out_A_7]
  · rw [outsAt0_B m c t h]; dsimp only; rw [out_B_7]

end Reads

/-! ## The stored values at an index -/

section Stored

/-- The number of columns and the norm's small constant, as the programs write them. -/
def width : EReal := Ideal.ofBits .f32 0x44800000#32
def small : EReal := Ideal.ofBits .f32 0x3727C5AC#32

theorem center_apply (x : Vec Ideal S256x1024 .f32) (a : Fin 256) (b : Fin 1024) :
    k0_pay8 (F := Ideal) x (ix2 a b) = x (ix2 a b) - Ideal.div (∑ k : Fin 1024, x (ix2 a k)) width := by
  pointwise [k0_pay8, width]

theorem rstd_apply (x : Vec Ideal S256x1024 .f32) (a : Fin 256) (b : Fin 1) :
    k0_pay9 (F := Ideal) x (ix2 a b) = Ideal.rsqrt (Ideal.div (∑ k : Fin 1024, k0_pay8 (F := Ideal) x (ix2 a k) * k0_pay8 (F := Ideal) x (ix2 a k)) width + small) := by
  pointwise [k0_pay9, width, small]

theorem xhat_apply (x : Vec Ideal S256x1024 .f32) (a : Fin 256) (b : Fin 1024) :
    k0_pay10 (F := Ideal) x (ix2 a b) = k0_pay8 (F := Ideal) x (ix2 a b) * k0_pay9 (F := Ideal) x (ix2 a (0 : Fin 1)) := by
  pointwise [k0_pay10]

theorem dx_apply (u v x : Vec Ideal S256x1024 .f32) (g : Vec Ideal S1x1024 .f32) (a : Fin 256) (b : Fin 1024) :
    k0_pay11 u v x g (ix2 a b) = k0_pay9 (F := Ideal) x (ix2 a (0 : Fin 1)) * (k0_pay7 (F := Ideal) u v (ix2 a b) * g (ix2 (0 : Fin 1) b)
      - Ideal.div (∑ k : Fin 1024, k0_pay7 (F := Ideal) u v (ix2 a k) * g (ix2 (0 : Fin 1) k)) width
      - k0_pay10 (F := Ideal) x (ix2 a b) * Ideal.div (∑ k : Fin 1024, k0_pay7 (F := Ideal) u v (ix2 a k) * g (ix2 (0 : Fin 1) k) * k0_pay10 (F := Ideal) x (ix2 a k)) width) := by
  pointwise [k0_pay11, width]

theorem dx_apply' (u v x : Vec Ideal S256x1024 .f32) (g : Vec Ideal S1x1024 .f32) : k0_pay12 u v x g = k0_pay11 u v x g := rfl

theorem dg_apply (d x : Vec Ideal S256x1024 .f32) (acc : Vec Ideal S1x1024 .f32) (a : Fin 1) (b : Fin 1024) :
    k0_pay1 d x acc (ix2 a b) = acc (ix2 a b) + ∑ k : Fin 256, d (ix2 k b) * x (ix2 k b) := by
  pointwise [k0_pay1]

theorem db_apply (d : Vec Ideal S256x1024 .f32) (acc : Vec Ideal S1x1024 .f32) (a : Fin 1) (b : Fin 1024) :
    k0_pay2 d acc (ix2 a b) = acc (ix2 a b) + ∑ k : Fin 256, d (ix2 k b) := by
  pointwise [k0_pay2]

/-- The residual's factor. -/
def alpha : EReal := Ideal.ofBits .f32 0x3F9837F0#32

theorem dh_apply (x0 x1 : Vec Ideal S256x2816 .bf16) (x2 : Vec Ideal S4x1024x1408 .bf16) (x3 : Vec Ideal S256x1024 .f32) (a : Fin 256) (b : Fin 1024) :
    dh x0 x1 x2 x3 (ix2 a b) = alpha * x3 (ix2 a b)
      + (∑ k : Fin 1408, x0 (ix2 a (⟨k.val, by have := k.isLt; omega⟩ : Fin 2816)) * x2 (ix3 (0 : Fin 4) b k))
      + (∑ k : Fin 1408, x1 (ix2 a (⟨k.val, by have := k.isLt; omega⟩ : Fin 2816)) * x2 (ix3 (2 : Fin 4) b k))
      + (∑ k : Fin 1408, x0 (ix2 a (⟨1408 + k.val, by have := k.isLt; omega⟩ : Fin 2816)) * x2 (ix3 (1 : Fin 4) b k))
      + (∑ k : Fin 1408, x1 (ix2 a (⟨1408 + k.val, by have := k.isLt; omega⟩ : Fin 2816)) * x2 (ix3 (3 : Fin 4) b k)) := by
  unfold dh three fourth left right part0 part1 part2 part3
  simp only [View.ld_unit]
  pointwise [k0_pay7, k0_pay5, k0_pay6, alpha]

end Stored

end Cert.Norm
-- ==== Proof.NormRef.lean ====
/-
  The reference of program 3, step by step: its results as compositions of named arrays, and these at an index.
-/
module

public import proofs.«01_k».proof.Proof.Gen.Reference3Ideal.Run
public import proofs.«01_k».proof.Proof.Norm
public import Idealize.ShloMosaic.Lib.Pointwise
public import Idealize.ShloMosaic.Lib.Pointwise.Sums

@[expose] public section

set_option maxRecDepth 8192

noncomputable section

namespace Cert.Norm.Ref

open Cert.Reference3Ideal Cert.Reference3Ideal.Gen Cert.Reference3Ideal.Value Idealize.ShloMosaic Idealize.ShloMosaic.TcCoe

section Terms

variable {F : FTy → Type} [FloatOps F]

/-- A column of one value. -/
def fill1 (w : BitVec 32) : FVec F S8192x1 .f32 := broadcastInDim S8192x1 ![] bcast_S_S8192x1 (constant S_ .f32 w)
/-- An array of one value. -/
def fill (w : BitVec 32) : FVec F S8192x1024 .f32 := broadcastInDim S8192x1024 ![] bcast_S_S8192x1024 (constant S_ .f32 w)
/-- A column, repeated. -/
def spread (x : FVec F S8192x1 .f32) : FVec F S8192x1024 .f32 := broadcastInDim S8192x1024 ![0, 1] bcast_S8192x1_S8192x1024_0_1 x
/-- The sums of the rows. -/
def rowSum (x : FVec F S8192x1024 .f32) : FVec F S8192 .f32 := Host.reduceAdd x (constant S_ .f32 0x00000000#32) reducesTo_S8192x1024_S8192_d1 h_S_
/-- The means of the rows. -/
def rowMean (x : FVec F S8192x1024 .f32) : FVec F S8192x1 .f32 := Host.divf (broadcastInDim S8192x1 ![0] bcast_S8192_S8192x1_0 (rowSum x)) (fill1 0x44800000#32)
/-- The sums of the rows, as a column. -/
def rowSum1 (x : FVec F S8192x1024 .f32) : FVec F S8192x1 .f32 := shapeCast S8192x1 (rowSum x) shapeCasts_S8192_S8192x1
/-- A column as an array's rows. -/
def rows (x : FVec F S8192x1 .f32) : FVec F S8192x1024 .f32 :=
  broadcastInDim S8192x1024 ![0] bcast_S8192_S8192x1024_0 (Host.reduceAdd (Host.divf x (fill1 0x44800000#32)) (constant S_ .f32 0x00000000#32) reducesTo_S8192x1_S8192_d1 h_S_)

variable (dgate dup : FVec F S8192x2816 .f32) (w : FVec F S1024x5632 .f32) (d ct x : FVec F S8192x1024 .f32) (g : FVec F S1x1024 .f32)

/-- The input less its mean. -/
def center : FVec F S8192x1024 .f32 := subf x (spread (rowMean x))
/-- Its variance plus the small constant. -/
def var : FVec F S8192x1 .f32 := addf (rowMean (mulf (center x) (center x))) (fill1 0x3727C5AC#32)
/-- One over the root of it. -/
def rstd : FVec F S8192x1 .f32 := Host.rsqrt (var x)
/-- The gradient of the norm's result in program 3; what follows takes any such gradient `d`. -/
def dh : FVec F S8192x1024 .f32 :=
  addf (mulf (fill 0x3F9837F0#32) ct) (Host.dotGeneral dot_S8192x5632_S1024x5632_S8192x1024_1_1_0_0_n_n none
    (concatenate S8192x5632 1 [⟨S8192x2816, dgate⟩, ⟨S8192x2816, dup⟩] concatenates_S8192x2816_S8192x2816_S8192x5632_d1) w)
/-- It, times the norm's factor. -/
def dn : FVec F S8192x1024 .f32 := mulf d (broadcastInDim S8192x1024 ![0, 1] bcast_S1x1024_S8192x1024_0_1 g)
/-- The part of the input's gradient through the variance, before the mean's. -/
def thruVar : FVec F S8192x1024 .f32 :=
  mulf (rows (mulf (rowSum1 (mulf (center x) (dn d g))) (mulf (fill1 0xBF000000#32) (Host.divf (rstd x) (var x))))) (mulf (fill 0x40000000#32) (center x))
/-- The part through the root alone. -/
def direct : FVec F S8192x1024 .f32 := mulf (dn d g) (spread (rstd x))
def dx : FVec F S8192x1024 .f32 :=
  addf (addf (direct d x g) (thruVar d x g))
    (rows (addf (rowSum1 (Host.negf (direct d x g))) (rowSum1 (Host.negf (thruVar d x g)))))
def xhat : FVec F S8192x1024 .f32 := mulf (center x) (spread (rstd x))
/-- The sums of the columns. -/
def colSum (x : FVec F S8192x1024 .f32) : FVec F S1x1024 .f32 :=
  shapeCast S1x1024 (Host.reduceAdd x (constant S_ .f32 0x00000000#32) reducesTo_S8192x1024_S1024_d0 h_S_) shapeCasts_S1024_S1x1024

variable (m : (ℓ : Loc nD τ sig) → Buf (Elt F) ℓ) (c : Dev nD)

theorem out0_eq : res_main_v68 m c = dx (dh (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4)) (m ((c.tc : Thread nD τ).loc main_arg5)) := rfl

theorem out1_eq : res_main_v69 m c = truncf .bf16 (dx (dh (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4)) (m ((c.tc : Thread nD τ).loc main_arg5))) bitsLt_bf16_f32 := rfl

end Terms

/-! ## At an index -/

section Real

variable (dgate dup : FVec Ideal S8192x2816 .f32) (w : FVec Ideal S1024x5632 .f32) (d ct x y : FVec Ideal S8192x1024 .f32) (g : FVec Ideal S1x1024 .f32)

theorem rowMean_apply (a : Fin 8192) (b : Fin 1) : rowMean y (ix2 a b) = Ideal.div (∑ k : Fin 1024, y (ix2 a k)) width := by
  pointwise [rowMean, rowSum, fill1, width]

theorem rowSum1_apply (a : Fin 8192) (b : Fin 1) : rowSum1 y (ix2 a b) = ∑ k : Fin 1024, y (ix2 a k) := by
  pointwise [rowSum1, rowSum]

theorem rows_apply (z : FVec Ideal S8192x1 .f32) (a : Fin 8192) (b : Fin 1024) : rows z (ix2 a b) = Ideal.div (z (ix2 a (0 : Fin 1))) width := by
  pointwise [rows, fill1, width]
  exact Fin.sum_univ_one _

theorem colSum_apply (a : Fin 1) (b : Fin 1024) : colSum y (ix2 a b) = ∑ k : Fin 8192, y (ix2 k b) := by
  pointwise [colSum]

theorem center_apply (a : Fin 8192) (b : Fin 1024) : center x (ix2 a b) = x (ix2 a b) - Ideal.div (∑ k : Fin 1024, x (ix2 a k)) width := by
  rw [← rowMean_apply x a 0]
  pointwise [center, spread]

theorem var_apply (a : Fin 8192) (b : Fin 1) : var x (ix2 a b) = Ideal.div (∑ k : Fin 1024, center x (ix2 a k) * center x (ix2 a k)) width + small := by
  exact congrArg (· + small) (rowMean_apply (mulf (center x) (center x)) a b)

theorem rstd_apply (a : Fin 8192) (b : Fin 1) : rstd x (ix2 a b) = Ideal.rsqrt (var x (ix2 a b)) := by
  pointwise [rstd]

theorem xhat_apply (a : Fin 8192) (b : Fin 1024) : xhat x (ix2 a b) = center x (ix2 a b) * rstd x (ix2 a (0 : Fin 1)) := by
  pointwise [xhat, spread]

theorem dn_apply (a : Fin 8192) (b : Fin 1024) : dn d g (ix2 a b) = d (ix2 a b) * g (ix2 (0 : Fin 1) b) := by
  pointwise [dn]

theorem direct_apply (a : Fin 8192) (b : Fin 1024) : direct d x g (ix2 a b) = dn d g (ix2 a b) * rstd x (ix2 a (0 : Fin 1)) := by
  pointwise [direct, spread]

theorem thruVar_apply (a : Fin 8192) (b : Fin 1024) : thruVar d x g (ix2 a b)
    = Ideal.div ((∑ k : Fin 1024, center x (ix2 a k) * dn d g (ix2 a k))
        * (Ideal.ofBits .f32 0xBF000000#32 * Ideal.div (rstd x (ix2 a (0 : Fin 1))) (var x (ix2 a (0 : Fin 1))))) width
      * (Ideal.ofBits .f32 0x40000000#32 * center x (ix2 a b)) := by
  have h : rowSum1 (mulf (center x) (dn d g)) (ix2 a (0 : Fin 1)) = ∑ k : Fin 1024, center x (ix2 a k) * dn d g (ix2 a k) :=
    rowSum1_apply (mulf (center x) (dn d g)) a 0
  have e : thruVar d x g (ix2 a b) = rows (mulf (rowSum1 (mulf (center x) (dn d g))) (mulf (fill1 0xBF000000#32) (Host.divf (rstd x) (var x)))) (ix2 a b)
      * (Ideal.ofBits .f32 0x40000000#32 * center x (ix2 a b)) := by
    pointwise [thruVar, fill]
  have e' : mulf (rowSum1 (mulf (center x) (dn d g))) (mulf (fill1 0xBF000000#32) (Host.divf (rstd x) (var x))) (ix2 a (0 : Fin 1))
      = rowSum1 (mulf (center x) (dn d g)) (ix2 a (0 : Fin 1))
        * (Ideal.ofBits .f32 0xBF000000#32 * Ideal.div (rstd x (ix2 a (0 : Fin 1))) (var x (ix2 a (0 : Fin 1)))) := by
    pointwise [fill1]
  rw [e, rows_apply, e', h]

theorem dx_apply (a : Fin 8192) (b : Fin 1024) : dx d x g (ix2 a b)
    = direct d x g (ix2 a b) + thruVar d x g (ix2 a b)
      + Ideal.div ((∑ k : Fin 1024, -direct d x g (ix2 a k)) + ∑ k : Fin 1024, -thruVar d x g (ix2 a k)) width := by
  have h1 : rowSum1 (Host.negf (direct d x g)) (ix2 a (0 : Fin 1)) = ∑ k : Fin 1024, -direct d x g (ix2 a k) :=
    rowSum1_apply (Host.negf (direct d x g)) a 0
  have h2 : rowSum1 (Host.negf (thruVar d x g)) (ix2 a (0 : Fin 1)) = ∑ k : Fin 1024, -thruVar d x g (ix2 a k) :=
    rowSum1_apply (Host.negf (thruVar d x g)) a 0
  have e : dx d x g (ix2 a b) = direct d x g (ix2 a b) + thruVar d x g (ix2 a b)
      + rows (addf (rowSum1 (Host.negf (direct d x g))) (rowSum1 (Host.negf (thruVar d x g)))) (ix2 a b) := by
    pointwise [dx]
  have e' : addf (rowSum1 (Host.negf (direct d x g))) (rowSum1 (Host.negf (thruVar d x g))) (ix2 a (0 : Fin 1))
      = rowSum1 (Host.negf (direct d x g)) (ix2 a (0 : Fin 1)) + rowSum1 (Host.negf (thruVar d x g)) (ix2 a (0 : Fin 1)) := by
    pointwise []
  rw [e, rows_apply, e', h1, h2]

/-- A sum over a half's columns is that of its two quarters. -/
theorem sum_halves (f : Fin 2816 → EReal) : ∑ k, f k
    = (∑ k : Fin 1408, f ⟨k.val, by have := k.isLt; omega⟩) + ∑ k : Fin 1408, f ⟨1408 + k.val, by have := k.isLt; omega⟩ := by
  rw [Fin.sum_univ_tiles 2 1408 (N := 2816) (by norm_num), Fin.sum_univ_two]
  simp

/-- The product with the two gradients side by side, by quarters of its columns. -/
theorem dh_apply (a : Fin 8192) (b : Fin 1024) : dh dgate dup w ct (ix2 a b) = alpha * ct (ix2 a b)
      + (∑ k : Fin 1408, dgate (ix2 a (⟨k.val, by have := k.isLt; omega⟩ : Fin 2816)) * w (ix2 b (⟨k.val, by have := k.isLt; omega⟩ : Fin 5632)))
      + (∑ k : Fin 1408, dup (ix2 a (⟨k.val, by have := k.isLt; omega⟩ : Fin 2816)) * w (ix2 b (⟨2816 + k.val, by have := k.isLt; omega⟩ : Fin 5632)))
      + (∑ k : Fin 1408, dgate (ix2 a (⟨1408 + k.val, by have := k.isLt; omega⟩ : Fin 2816)) * w (ix2 b (⟨1408 + k.val, by have := k.isLt; omega⟩ : Fin 5632)))
      + (∑ k : Fin 1408, dup (ix2 a (⟨1408 + k.val, by have := k.isLt; omega⟩ : Fin 2816)) * w (ix2 b (⟨4224 + k.val, by have := k.isLt; omega⟩ : Fin 5632))) := by
  pointwise [dh, fill]
  rw [sum_halves, sum_halves]
  simp only [← Nat.add_assoc, Nat.reduceAdd, alpha]
  ac_rfl

end Real

end Cert.Norm.Ref
-- ==== Proof.NormClaim.lean ====
/-
  The gradient of the feed-forward's first product and of the norm before it (program 3): the kernel's four arrays are the reference's.
-/
module

public import proofs.«01_k».proof.Defs
public import proofs.«01_k».proof.Proof.Norm
public import proofs.«01_k».proof.Proof.NormRef
public import proofs.«01_k».proof.Proof.RealArg

@[expose] public section

set_option maxRecDepth 8192

noncomputable section

namespace Cert.Norm

open Cert.Kernel3Ideal Cert.Kernel3Ideal.Gen
open Idealize.ShloMosaic Idealize.ShloMosaic.TcCoe Idealize.ShloMosaic.Tactic Idealize.SL.Sem
open Cert.Proof (coe_sum real_of_all and_one)

/-! ## One row, over the reals -/

theorem width_eq : width = ((1024 : ℝ) : EReal) := by
  simp [width, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem small_eq : ∃ s : ℝ, 0 < s ∧ small = (s : EReal) := by
  refine ⟨(10995116 : ℝ) * (2 : ℝ) ^ (-40 : ℤ), by positivity, ?_⟩
  simp [small, Ideal.ofBits, Ideal.ieee, -EReal.coe_mul]

theorem alpha_real : ∃ s : ℝ, alpha = (s : EReal) := by
  refine ⟨(9975792 : ℝ) * (2 : ℝ) ^ (-23 : ℤ), ?_⟩
  simp [alpha, Ideal.ofBits, Ideal.ieee, -EReal.coe_mul]

/-- The kernel's form of a norm's gradient and the reference's agree: the deviations from the mean add up to zero, and the inverse root's square is the inverse. -/
theorem row_real (C e : Fin 1024 → ℝ) (V R : ℝ) (hC : ∑ k, C k = 0) (hR : R * R = 1 / V) (b : Fin 1024) :
    R * (e b - (∑ k, e k) * (1 / 1024) - C b * R * ((∑ k, e k * (C k * R)) * (1 / 1024)))
      = e b * R + (∑ k, C k * e k) * (-(1 / 2) * (R * (1 / V))) * (1 / 1024) * (2 * C b)
        + ((∑ k, -(e k * R)) + ∑ k, -((∑ k, C k * e k) * (-(1 / 2) * (R * (1 / V))) * (1 / 1024) * (2 * C k))) * (1 / 1024) := by
  have h1 : ∑ k, e k * (C k * R) = (∑ k, C k * e k) * R := by
    rw [Finset.sum_mul]; exact Finset.sum_congr rfl fun k _ => by ring
  rw [Finset.sum_neg_distrib, Finset.sum_neg_distrib, ← Finset.sum_mul, ← Finset.mul_sum, ← Finset.mul_sum, hC, h1, ← hR]
  ring

theorem row_eq (x e c : Fin 1024 → EReal) (v r : EReal) (hx : ∀ k, ∃ y : ℝ, x k = (y : EReal)) (he : ∀ k, ∃ y : ℝ, e k = (y : EReal))
    (hc : ∀ k, c k = x k - Ideal.div (∑ k, x k) width) (hv : v = Ideal.div (∑ k, c k * c k) width + small) (hr : r = Ideal.rsqrt v) (b : Fin 1024) :
    r * (e b - Ideal.div (∑ k, e k) width - c b * r * Ideal.div (∑ k, e k * (c k * r)) width)
      = e b * r + Ideal.div ((∑ k, c k * e k) * (Ideal.ofBits .f32 0xBF000000#32 * Ideal.div r v)) width * (Ideal.ofBits .f32 0x40000000#32 * c b)
        + Ideal.div ((∑ k, -(e k * r)) + ∑ k, -(Ideal.div ((∑ k, c k * e k) * (Ideal.ofBits .f32 0xBF000000#32 * Ideal.div r v)) width * (Ideal.ofBits .f32 0x40000000#32 * c k))) width := by
  choose X hX using hx
  choose E hE using he
  obtain ⟨s, hs, hs'⟩ := small_eq
  have hw : (1024 : ℝ) ≠ 0 := by norm_num
  obtain ⟨C, hC⟩ : ∃ C : Fin 1024 → ℝ, C = fun k => X k - (∑ k, X k) * (1 / 1024) := ⟨_, rfl⟩
  have hc' : ∀ k, c k = (C k : EReal) := fun k => by
    rw [hc, width_eq, Ideal.div_coe hw, Finset.sum_congr rfl fun k _ => hX k, coe_sum, hX, ← EReal.coe_mul, ← EReal.coe_sub, hC]
  have h0 : ∑ k, C k = 0 := by
    rw [hC, Finset.sum_sub_distrib, Finset.sum_const, Finset.card_univ, Fintype.card_fin, nsmul_eq_mul]
    push_cast; ring
  obtain ⟨V, hV⟩ : ∃ V : ℝ, V = (∑ k, C k * C k) * (1 / 1024) + s := ⟨_, rfl⟩
  have hpos : 0 < V := by
    have : 0 ≤ ∑ k, C k * C k := Finset.sum_nonneg fun k _ => mul_self_nonneg _
    rw [hV]; positivity
  have hv' : v = (V : EReal) := by
    rw [hv, width_eq, Ideal.div_coe hw, hs']
    simp only [hc', ← EReal.coe_mul, coe_sum, ← EReal.coe_add]
    rw [hV]
  have hr' : r = (((√V)⁻¹ : ℝ) : EReal) := by
    rw [hr, hv', Ideal.rsqrt_coe, if_neg (not_lt.2 hpos.le), if_neg hpos.ne']
  have hR : (√V)⁻¹ * (√V)⁻¹ = 1 / V := by
    rw [← mul_inv, Real.mul_self_sqrt hpos.le, one_div]
  rw [width_eq, hv', hr']
  simp only [Ideal.div_coe hw, Ideal.div_coe hpos.ne', two_eq, half_eq, hc', hE, ← EReal.coe_mul, coe_sum, ← EReal.coe_neg, ← EReal.coe_add, ← EReal.coe_sub]
  exact congrArg _ (row_real C E V _ h0 hR b)

/-! ## A row of the norm's gradient -/

/-- With real arguments the kernel's form of the gradient of the norm's input is the reference's, in a row. -/
theorem norm_row (d X : FVec Ideal S8192x1024 .f32) (g : FVec Ideal S1x1024 .f32) (p : Fin 8192) (hd : ∀ b : Fin 1024, ∃ y : ℝ, d (ix2 p b) = (y : EReal))
    (hX : ∀ i, (((X i : EReal).toReal : ℝ) : EReal) = X i) (hg : ∀ i, (((g i : EReal).toReal : ℝ) : EReal) = g i) (b : Fin 1024) :
    (Ref.rstd X (ix2 p (0 : Fin 1)) * (d (ix2 p b) * g (ix2 (0 : Fin 1) b) - Ideal.div (∑ k : Fin 1024, d (ix2 p k) * g (ix2 (0 : Fin 1) k)) width
        - Ref.xhat X (ix2 p b) * Ideal.div (∑ k : Fin 1024, d (ix2 p k) * g (ix2 (0 : Fin 1) k) * Ref.xhat X (ix2 p k)) width) : EReal)
      = Ref.dx d X g (ix2 p b) := by
  rw [Ref.dx_apply]
  simp only [Ref.xhat_apply, Ref.direct_apply, Ref.thruVar_apply, ← Ref.dn_apply d g]
  refine row_eq (fun k => X (ix2 p k)) (fun k => Ref.dn d g (ix2 p k)) (fun k => Ref.center X (ix2 p k)) (Ref.var X (ix2 p (0 : Fin 1))) (Ref.rstd X (ix2 p (0 : Fin 1)))
    (fun k => ⟨_, (hX _).symm⟩) (fun k => ?_) (fun k => Ref.center_apply _ _ _) (Ref.var_apply _ _ _) (Ref.rstd_apply _ _ _) b
  obtain ⟨y, hy⟩ := hd k
  refine ⟨y * (g (ix2 (0 : Fin 1) k) : EReal).toReal, ?_⟩
  rw [Ref.dn_apply, hy, EReal.coe_mul, hg]

/-! ## A row of the kernel's blocks is the reference's -/

section Rows

variable (dgate dup : FVec Ideal S8192x2816 .f32) (w : FVec Ideal S1024x5632 .f32) (ct X : FVec Ideal S8192x1024 .f32) (g : FVec Ideal S1x1024 .f32)
variable (x0 x1 : Vec Ideal S256x2816 .bf16) (x2 : Vec Ideal S4x1024x1408 .bf16) (x3 x : Vec Ideal S256x1024 .f32) (a : Fin 256) (p : Fin 8192)

theorem dh_row (h0 : ∀ b : Fin 2816, x0 (ix2 a b) = dgate (ix2 p b)) (h1 : ∀ b : Fin 2816, x1 (ix2 a b) = dup (ix2 p b))
    (h2 : ∀ (q : Fin 4) (b : Fin 1024) (k : Fin 1408), x2 (ix3 q b k) = w (ix2 b (⟨q.val * 1408 + k.val, by have := k.isLt; have := q.isLt; omega⟩ : Fin 5632)))
    (h3 : ∀ b : Fin 1024, x3 (ix2 a b) = ct (ix2 p b)) (b : Fin 1024) : dh x0 x1 x2 x3 (ix2 a b) = Ref.dh dgate dup w ct (ix2 p b) := by
  rw [dh_apply, Ref.dh_apply, h3]
  simp only [h0, h1, h2]
  congr 1

variable (hx : ∀ b : Fin 1024, x (ix2 a b) = X (ix2 p b))

include hx in
theorem center_row (b : Fin 1024) : k0_pay8 (F := Ideal) x (ix2 a b) = Ref.center X (ix2 p b) := by
  rw [center_apply, Ref.center_apply, hx, Finset.sum_congr rfl fun k _ => hx k]

include hx in
theorem rstd_row : k0_pay9 (F := Ideal) x (ix2 a (0 : Fin 1)) = Ref.rstd X (ix2 p (0 : Fin 1)) := by
  rw [rstd_apply, Ref.rstd_apply, Ref.var_apply]
  simp only [center_row X x a p hx]

include hx in
theorem xhat_row (b : Fin 1024) : k0_pay10 (F := Ideal) x (ix2 a b) = Ref.xhat X (ix2 p b) := by
  rw [xhat_apply, Ref.xhat_apply, center_row X x a p hx, rstd_row X x a p hx]

/-- With real arguments the gradient of the norm's result is real. -/
theorem dh_real (h0 : ∀ i, (((dgate i : EReal).toReal : ℝ) : EReal) = dgate i) (h1 : ∀ i, (((dup i : EReal).toReal : ℝ) : EReal) = dup i)
    (h2 : ∀ i, (((w i : EReal).toReal : ℝ) : EReal) = w i) (h3 : ∀ i, (((ct i : EReal).toReal : ℝ) : EReal) = ct i) (b : Fin 1024) :
    ∃ y : ℝ, Ref.dh dgate dup w ct (ix2 p b) = (y : EReal) := by
  obtain ⟨s, hs⟩ := alpha_real
  rw [Ref.dh_apply, hs, ← h3]
  have hg : ∀ (i j), (dgate i * w j : EReal) = (((dgate i : EReal).toReal * (w j : EReal).toReal : ℝ) : EReal) := fun i j => by rw [EReal.coe_mul, h0, h2]
  have hu : ∀ (i j), (dup i * w j : EReal) = (((dup i : EReal).toReal * (w j : EReal).toReal : ℝ) : EReal) := fun i j => by rw [EReal.coe_mul, h1, h2]
  simp only [hg, hu, ← EReal.coe_mul, coe_sum, ← EReal.coe_add]
  exact ⟨_, rfl⟩

/-- The stored gradient of the norm's input, in a row. -/
theorem dx_row (u v : Vec Ideal S256x1024 .f32) (gb : Vec Ideal S1x1024 .f32) (hd : ∀ b : Fin 1024, k0_pay7 (F := Ideal) u v (ix2 a b) = Ref.dh dgate dup w ct (ix2 p b))
    (hx : ∀ b : Fin 1024, x (ix2 a b) = X (ix2 p b)) (hgb : ∀ b : Fin 1024, gb (ix2 (0 : Fin 1) b) = g (ix2 (0 : Fin 1) b))
    (h0 : ∀ i, (((dgate i : EReal).toReal : ℝ) : EReal) = dgate i) (h1 : ∀ i, (((dup i : EReal).toReal : ℝ) : EReal) = dup i)
    (h2 : ∀ i, (((w i : EReal).toReal : ℝ) : EReal) = w i) (h3 : ∀ i, (((ct i : EReal).toReal : ℝ) : EReal) = ct i)
    (h4 : ∀ i, (((X i : EReal).toReal : ℝ) : EReal) = X i) (h5 : ∀ i, (((g i : EReal).toReal : ℝ) : EReal) = g i) (b : Fin 1024) :
    k0_pay11 u v x gb (ix2 a b) = Ref.dx (Ref.dh dgate dup w ct) X g (ix2 p b) := by
  rw [dx_apply, rstd_row X x a p hx]
  simp only [hd, hgb, xhat_row X x a p hx]
  exact norm_row _ X g p (dh_real dgate dup w ct p h0 h1 h2 h3) h4 h5 b

/-- The share of one row block in the gradients of the norm's factor and offset. -/
def tileG (n : ℕ) (b : Fin 1024) : EReal := ∑ k : Fin 256, Ref.dh dgate dup w ct (ix2 (rowAt n k) b) * Ref.xhat X (ix2 (rowAt n k) b)
def tileB (n : ℕ) (b : Fin 1024) : EReal := ∑ k : Fin 256, Ref.dh dgate dup w ct (ix2 (rowAt n k) b)

/-- The blocks' sums are those over all rows. -/
theorem sum_tiles (f : Fin 8192 → EReal) : ∑ s ∈ Finset.range (31 + 1), ∑ k : Fin 256, f (rowAt s k) = ∑ k, f k := by
  rw [Finset.sum_range]
  refine Eq.trans ?_ (Fin.sum_univ_tiles 32 256 (N := 8192) (by norm_num) _).symm
  refine Finset.sum_congr rfl fun s _ => Finset.sum_congr rfl fun k _ => ?_
  have hs := s.isLt
  exact congrArg f (Fin.ext (by show s.val % 32 * 256 + k.val = _; congr 2; omega))

end Rows

/-! ## The kernel's arrays -/

section Final

variable (m : (ℓ : Loc nD τ sig) → Buf (Elt Ideal) ℓ) (c : Dev nD)

def A0 : FVec Ideal S8192x2816 .f32 := m ((c.tc : Thread nD τ).loc main_arg0)
def A1 : FVec Ideal S8192x2816 .f32 := m ((c.tc : Thread nD τ).loc main_arg1)
def A2 : FVec Ideal S1024x5632 .f32 := m ((c.tc : Thread nD τ).loc main_arg2)
def A3 : FVec Ideal S8192x1024 .f32 := m ((c.tc : Thread nD τ).loc main_arg3)
def A4 : FVec Ideal S8192x1024 .f32 := m ((c.tc : Thread nD τ).loc main_arg4)
def A5 : FVec Ideal S1x1024 .f32 := m ((c.tc : Thread nD τ).loc main_arg5)

theorem V_gate : V m c main_v3 = truncf .bf16 (A0 m c) bitsLt_bf16_f32 := by
  entry_read
  rfl
theorem V_up : V m c main_v4 = truncf .bf16 (A1 m c) bitsLt_bf16_f32 := by
  entry_read
  rfl
theorem V_w : V m c main_v2 = truncf .bf16 (transpose S4x1024x1408 [1, 0, 2] (shapeCast S1024x4x1408 (A2 m c) shapeCasts_S1024x5632_S1024x4x1408) transposes_S1024x4x1408_S4x1024x1408_1_0_2) bitsLt_bf16_f32 := by
  entry_read
  rfl

/-- The weight as the host lays it out, at an index. -/
theorem w_at (w : FVec Ideal S1024x5632 .f32) (q : Fin 4) (b : Fin 1024) (k : Fin 1408) :
    truncf .bf16 (transpose S4x1024x1408 [1, 0, 2] (shapeCast S1024x4x1408 w shapeCasts_S1024x5632_S1024x4x1408) transposes_S1024x4x1408_S4x1024x1408_1_0_2) bitsLt_bf16_f32 (ix3 q b k)
      = w (ix2 b (⟨q.val * 1408 + k.val, by have := k.isLt; have := q.isLt; omega⟩ : Fin 5632)) := by
  pointwise

variable (t : Fin cfg0.N)

theorem point_dh (a : Fin 256) (b : Fin 1024) : dh (F := Ideal) (iblk m c 0 t) (iblk m c 1 t) (iblk m c 2 t) (iblk m c 3 t) (ix2 a b)
    = Ref.dh (A0 m c) (A1 m c) (A2 m c) (A3 m c) (ix2 (rowAt t.val a) b) := by
  refine dh_row (A0 m c) (A1 m c) (A2 m c) (A3 m c) (iblk m c 0 t) (iblk m c 1 t) (iblk m c 2 t) (iblk m c 3 t) a (rowAt t.val a) (fun b => ?_) (fun b => ?_) (fun q b k => ?_) (fun b => ?_) b
  · rw [blk0, V_gate]; rfl
  · rw [blk1, V_up]; rfl
  · rw [blk2, V_w]; exact w_at _ _ _ _
  · rw [blk3, V_main_arg3]; rfl

theorem point_x (a : Fin 256) (b : Fin 1024) : iblk m c 4 t (ix2 a b) = A4 m c (ix2 (rowAt t.val a) b) := by
  rw [blk4, V_main_arg4]; rfl

theorem point_g (b : Fin 1024) : iblk m c 5 t (ix2 (0 : Fin 1) b) = A5 m c (ix2 (0 : Fin 1) b) := by
  rw [blk5, V_main_arg5]; rfl

theorem step_g (acc : Vec Ideal S1x1024 .f32) (b : Fin 1024) : k0_pay1 (dh (F := Ideal) (iblk m c 0 t) (iblk m c 1 t) (iblk m c 2 t) (iblk m c 3 t)) (k0_pay10 (iblk m c 4 t)) acc (ix2 (0 : Fin 1) b)
    = acc (ix2 (0 : Fin 1) b) + tileG (A0 m c) (A1 m c) (A2 m c) (A3 m c) (A4 m c) t.val b := by
  rw [dg_apply]
  refine congrArg (acc (ix2 (0 : Fin 1) b) + ·) (Finset.sum_congr rfl fun k _ => ?_)
  rw [point_dh, xhat_row (A4 m c) (iblk m c 4 t) k (rowAt t.val k) (point_x m c t k)]

theorem step_b (acc : Vec Ideal S1x1024 .f32) (b : Fin 1024) : k0_pay2 (dh (F := Ideal) (iblk m c 0 t) (iblk m c 1 t) (iblk m c 2 t) (iblk m c 3 t)) acc (ix2 (0 : Fin 1) b)
    = acc (ix2 (0 : Fin 1) b) + tileB (A0 m c) (A1 m c) (A2 m c) (A3 m c) t.val b := by
  rw [db_apply]
  refine congrArg (acc (ix2 (0 : Fin 1) b) + ·) (Finset.sum_congr rfl fun k _ => ?_)
  rw [point_dh]

/-- The two sums after the row blocks up to a point. -/
theorem after89 (b : Fin 1024) : ∀ (n : ℕ) (h : n < cfg0.N),
    (outsAt0 m c n h).2.2.1 (ix2 (0 : Fin 1) b) = ∑ s ∈ Finset.range (n + 1), tileG (A0 m c) (A1 m c) (A2 m c) (A3 m c) (A4 m c) s b
    ∧ (outsAt0 m c n h).2.2.2 (ix2 (0 : Fin 1) b) = ∑ s ∈ Finset.range (n + 1), tileB (A0 m c) (A1 m c) (A2 m c) (A3 m c) s b := by
  intro n
  induction n with
  | zero =>
    intro h
    rw [outsAt0_A m c ⟨0, h⟩ rfl]
    dsimp only
    rw [out_A_8, out_A_9, step_g, step_b, Finset.sum_range_one, Finset.sum_range_one]
    constructor
    · pointwise [k0_pay3]
    · pointwise [k0_pay4]
  | succ n ih =>
    intro h
    have hN : n + 1 < 32 := h
    rw [outsAt0_B m c ⟨n + 1, h⟩ (by show ¬(n + 1) % 32 = 0; omega)]
    dsimp only
    rw [out_B_8, out_B_9, step_g, step_b, Finset.sum_range_succ _ (n + 1), Finset.sum_range_succ _ (n + 1)]
    obtain ⟨i1, i2⟩ := ih (by omega)
    exact ⟨congrArg (· + _) i1, congrArg (· + _) i2⟩

theorem final_g : (dats m 0 c).arrAt 8 cfg0.N = Ref.colSum (F := Ideal) (mulf (Ref.xhat (A4 m c)) (Ref.dh (A0 m c) (A1 m c) (A2 m c) (A3 m c))) := by
  refine (dats m 0 c).arrAt_eq_of_covers 8 _ (by decide +kernel) fun t hf y => ?_
  have := point_lt t
  have hl : t.val = 31 := by have := (flush0_8 _).1 hf; omega
  blk_simp
  obtain ⟨b, rfl⟩ : ∃ b : Fin 1024, y = ix2 (0 : Fin 1) b := ⟨y 1, by funext a; match a with | 0 => exact Subsingleton.elim (α := Fin 1) _ _ | 1 => rfl⟩
  have he : (win0_8.blk t).view.emb (ix2 (0 : Fin 1) b) = ix2 (0 : Fin 1) b := by
    blk_ext [at8]
  refine Eq.trans (after89 m c b t.val t.isLt).1 ?_
  rw [he, Ref.colSum_apply, hl]
  refine (sum_tiles fun p => Ref.dh (A0 m c) (A1 m c) (A2 m c) (A3 m c) (ix2 p b) * Ref.xhat (A4 m c) (ix2 p b)).trans ?_
  exact Finset.sum_congr rfl fun k _ => mul_comm (G := EReal) _ _

theorem final_b : (dats m 0 c).arrAt 9 cfg0.N = Ref.colSum (F := Ideal) (Ref.dh (A0 m c) (A1 m c) (A2 m c) (A3 m c)) := by
  refine (dats m 0 c).arrAt_eq_of_covers 9 _ (by decide +kernel) fun t hf y => ?_
  have := point_lt t
  have hl : t.val = 31 := by have := (flush0_9 _).1 hf; omega
  blk_simp
  obtain ⟨b, rfl⟩ : ∃ b : Fin 1024, y = ix2 (0 : Fin 1) b := ⟨y 1, by funext a; match a with | 0 => exact Subsingleton.elim (α := Fin 1) _ _ | 1 => rfl⟩
  have he : (win0_9.blk t).view.emb (ix2 (0 : Fin 1) b) = ix2 (0 : Fin 1) b := by
    blk_ext [at9]
  refine Eq.trans (after89 m c b t.val t.isLt).2 ?_
  rw [he, Ref.colSum_apply, hl]
  exact sum_tiles fun p => Ref.dh (A0 m c) (A1 m c) (A2 m c) (A3 m c) (ix2 p b)

variable (h0 : ∀ i, (((A0 m c i : EReal).toReal : ℝ) : EReal) = A0 m c i) (h1 : ∀ i, (((A1 m c i : EReal).toReal : ℝ) : EReal) = A1 m c i)
    (h2 : ∀ i, (((A2 m c i : EReal).toReal : ℝ) : EReal) = A2 m c i) (h3 : ∀ i, (((A3 m c i : EReal).toReal : ℝ) : EReal) = A3 m c i)
    (h4 : ∀ i, (((A4 m c i : EReal).toReal : ℝ) : EReal) = A4 m c i) (h5 : ∀ i, (((A5 m c i : EReal).toReal : ℝ) : EReal) = A5 m c i)

include h0 h1 h2 h3 h4 h5

theorem point_dx (a : Fin 256) (b : Fin 1024) :
    k0_pay11 (F := Ideal) (three (iblk m c 0 t) (iblk m c 1 t) (iblk m c 2 t) (iblk m c 3 t)) (fourth (iblk m c 1 t) (iblk m c 2 t)) (iblk m c 4 t) (iblk m c 5 t) (ix2 a b)
      = Ref.dx (Ref.dh (A0 m c) (A1 m c) (A2 m c) (A3 m c)) (A4 m c) (A5 m c) (ix2 (rowAt t.val a) b) :=
  dx_row (A0 m c) (A1 m c) (A2 m c) (A3 m c) (A4 m c) (A5 m c) (iblk m c 4 t) a (rowAt t.val a) _ _ (iblk m c 5 t)
    (point_dh m c t a) (point_x m c t a) (point_g m c t) h0 h1 h2 h3 h4 h5 b

theorem final_dx : (dats m 0 c).arrAt 6 cfg0.N = Ref.dx (F := Ideal) (Ref.dh (A0 m c) (A1 m c) (A2 m c) (A3 m c)) (A4 m c) (A5 m c) := by
  refine (dats m 0 c).arrAt_eq_of_covers 6 _ (by decide +kernel) fun t hf y => ?_
  have := point_lt t
  blk_simp
  obtain ⟨a, b, rfl⟩ : ∃ (a : Fin 256) (b : Fin 1024), y = ix2 a b := ⟨y 0, y 1, by funext a; match a with | 0 => rfl | 1 => rfl⟩
  have he : (win0_6.blk t).view.emb (ix2 a b) = ix2 (rowAt t.val a) b := by
    blk_ext [at6, rowAt]
    all_goals omega
  refine Eq.trans (congrFun (after6 m c t) (ix2 a b)) ?_
  rw [he]
  exact point_dx m c t h0 h1 h2 h3 h4 h5 a b

theorem final_dx' : (dats m 0 c).arrAt 7 cfg0.N = truncf .bf16 (Ref.dx (F := Ideal) (Ref.dh (A0 m c) (A1 m c) (A2 m c) (A3 m c)) (A4 m c) (A5 m c)) bitsLt_bf16_f32 := by
  refine (dats m 0 c).arrAt_eq_of_covers 7 _ (by decide +kernel) fun t hf y => ?_
  have := point_lt t
  blk_simp
  obtain ⟨a, b, rfl⟩ : ∃ (a : Fin 256) (b : Fin 1024), y = ix2 a b := ⟨y 0, y 1, by funext a; match a with | 0 => rfl | 1 => rfl⟩
  have he : (win0_7.blk t).view.emb (ix2 a b) = ix2 (rowAt t.val a) b := by
    blk_ext [at7, rowAt]
    all_goals omega
  refine Eq.trans (congrFun (after7 m c t) (ix2 a b)) ?_
  rw [he]
  exact point_dx m c t h0 h1 h2 h3 h4 h5 a b

end Final

/-! ## The claim -/

/-- The side conditions the precondition's text states. -/
theorem facts_pre : Cert.Pre_finite3.Facts :=
  { bcast_S_S8192x2816 := by decide
    reducesTo_S8192x2816_S_d0_1 := by decide
    h_S_ := by decide
    bcast_S_S1024x5632 := by decide
    reducesTo_S1024x5632_S_d0_1 := by decide
    bcast_S_S8192x1024 := by decide
    reducesTo_S8192x1024_S_d0_1 := by decide
    bcast_S_S1x1024 := by decide
    reducesTo_S1x1024_S_d0_1 := by decide }

section

variable [Cert.Pre_finite3.Facts]

theorem finite_real (dgate dup : FVec Ideal Cert.Pre_finite3.S8192x2816 .f32) (w : FVec Ideal Cert.Pre_finite3.S1024x5632 .f32)
    (ct x : FVec Ideal Cert.Pre_finite3.S8192x1024 .f32) (g : FVec Ideal Cert.Pre_finite3.S1x1024 .f32)
    (h : Cert.Pre_finite3.fn (F := Ideal) dgate dup w ct x g = fun _ => 1#1) :
    ((∀ i, (((dgate i : EReal).toReal : ℝ) : EReal) = dgate i) ∧ (∀ i, (((dup i : EReal).toReal : ℝ) : EReal) = dup i))
    ∧ ((∀ i, (((w i : EReal).toReal : ℝ) : EReal) = w i) ∧ (∀ i, (((ct i : EReal).toReal : ℝ) : EReal) = ct i))
    ∧ (∀ i, (((x i : EReal).toReal : ℝ) : EReal) = x i) ∧ (∀ i, (((g i : EReal).toReal : ℝ) : EReal) = g i) := by
  have hj := congrFun h (Shape.Idx.first Cert.Pre_finite3.Facts.h_S_)
  obtain ⟨h1, h2⟩ := and_one _ _ hj
  obtain ⟨hd, hw⟩ := and_one _ _ h1
  obtain ⟨hx, hg⟩ := and_one _ _ h2
  obtain ⟨hd, hu⟩ := and_one _ _ hd
  obtain ⟨hw, hct⟩ := and_one _ _ hw
  exact ⟨⟨real_of_all dgate _ _ _ _ hd, real_of_all dup _ _ _ _ hu⟩, ⟨real_of_all w _ _ _ _ hw, real_of_all ct _ _ _ _ hct⟩, real_of_all x _ _ _ _ hx, real_of_all g _ _ _ _ hg⟩

end

theorem algebraic : Cert.algebraic_Kernel3Ideal_Reference3Ideal_pre_finite3 (hKernel3Ideal := Cert.Kernel3Ideal.Gen.facts)
    (hReference3Ideal := Cert.Reference3Ideal.Gen.facts) (hPre_finite3 := facts_pre) := by
  intro m ρ m' ρ' hpre hargs
  refine ⟨fun c => (dats m 0 c).arrAt 6 cfg0.N, fun c => (dats m 0 c).arrAt 7 cfg0.N, fun c => (dats m 0 c).arrAt 8 cfg0.N, fun c => (dats m 0 c).arrAt 9 cfg0.N,
    Cert.Kernel3Ideal.Value.run_blocks m ρ, ?_⟩
  refine (θ_run _ _ _).mono (fun r h c => ?_) (Cert.Reference3Ideal.Value.run (F := Ideal) m' ρ')
  obtain ⟨e0, e1, e2, e3, hrest⟩ := h c
  obtain ⟨⟨h0, h1⟩, ⟨h2, h3⟩, h4, h5⟩ := @finite_real facts_pre _ _ _ _ _ _ (hpre c)
  obtain ⟨a0, a1, a2, a3, a4, a5⟩ := hargs c
  refine ⟨e0.trans ?_, e1.trans ?_, e2.trans ?_, e3.trans ?_, hrest⟩
  · rw [Ref.out0_eq, a0, a1, a2, a3, a4, a5]; exact (final_dx m c h0 h1 h2 h3 h4 h5).symm
  · rw [Ref.out1_eq, a0, a1, a2, a3, a4, a5]; exact (final_dx' m c h0 h1 h2 h3 h4 h5).symm
  · rw [a0, a1, a2, a3, a4]; exact (final_g m c).symm
  · rw [a0, a1, a2, a3]; exact (final_b m c).symm

end Cert.Norm
-- ==== Proof.Pair.lean ====
/-
  The gradient of the feed-forward's two input weights (program 4): what each grid point leaves, and the kernel's array is the reference's.
-/
module

public import proofs.«01_k».proof.Defs
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pointwise
public import Idealize.ShloMosaic.Lib.Claim

@[expose] public section

set_option maxRecDepth 8192

noncomputable section

namespace Cert.Pair

open Cert.Kernel4Ideal Cert.Kernel4Ideal.Gen
open Idealize.ShloMosaic Idealize.ShloMosaic.TcCoe Idealize.ShloMosaic.Tactic Idealize.SL.Sem

/-! ## What the body leaves -/

theorem zero2 : (![0, 0] : Fin 2 → Nat) = fun _ => 0 := funext fun a => by fin_cases a <;> rfl
theorem zero3 : (![0, 0, 0] : Fin 3 → Nat) = fun _ => 0 := funext fun a => by fin_cases a <;> rfl

section Body

variable {F : FTy → Type} [FloatOps F]
variable (c : Dev nD) (i : grid0.Coords)
variable (a0 : Memref sig .tc .vmem S1024x1024 .bf16) (h0 : a0.IsWhole)
variable (a1 : Memref sig .tc .vmem S1024x1408 .bf16) (h1 : a1.IsWhole)
variable (a2 : Memref sig .tc .vmem S1024x1408 .bf16) (h2 : a2.IsWhole)
variable (a3 : Memref sig .tc .vmem S1x1024x1408 .f32) (h3 : a3.IsWhole)
variable (x0 : Vec F S1024x1024 .bf16) (x1 x2 : Vec F S1024x1408 .bf16) (xo : Vec F S1x1024x1408 .f32)

theorem out_A (hc : cond0_0 i) (hg : cond0_1 i) (hu : ¬cond0_2 i) : out0_A_3 c i a0 h0 a1 h1 a2 h2 a3 h3 hc hg hu x0 x1 x2 = k0_pay2 k0_pay1 x0 x1 := by
  unfold out0_A_3
  rw [View.read_writes_eq_canon _ _ _ (cover0_A_3 c i a0 h0 a1 h1 a2 h2 a3 h3 hc hg hu x0 x1 x2)]
  unfold kernelRun0_A
  dsimp only
  sl_unfold_words
  rw [View.canon_cons_unit_zero (S := S1x1024x1408) zero3, View.readCov_unit_zero (S := S1x1024x1408) _ zero3]
  simp only [View.readAt_eq_ld, h0.read_unread, h1.read_unread, h2.read_unread, h3.read_unread, View.ld_unit_zero (S := S1024x1024) zero2, View.ld_unit_zero (S := S1024x1408) zero2, View.ld_unit_zero (S := S1x1024x1408) zero3]

theorem out_B (hc : ¬cond0_0 i) (hg : cond0_1 i) (hu : ¬cond0_2 i) : out0_B_3 c i a0 h0 a1 h1 a2 h2 a3 h3 hc hg hu x0 x1 x2 xo = k0_pay2 xo x0 x1 := by
  unfold out0_B_3
  rw [View.read_writes_eq_canon _ _ _ (cover0_B_3 c i a0 h0 a1 h1 a2 h2 a3 h3 hc hg hu x0 x1 x2 xo)]
  unfold kernelRun0_B
  dsimp only
  sl_unfold_words
  rw [View.canon_unit_zero zero3]
  simp only [View.readAt_eq_ld, h0.read_unread, h1.read_unread, h2.read_unread, h3.read_unread, View.ld_unit_zero (S := S1024x1024) zero2, View.ld_unit_zero (S := S1024x1408) zero2, View.ld_unit_zero (S := S1x1024x1408) zero3]

theorem out_C (hc : cond0_0 i) (hg : ¬cond0_1 i) (hu : cond0_2 i) : out0_C_3 c i a0 h0 a1 h1 a2 h2 a3 h3 hc hg hu x0 x1 x2 = k0_pay3 k0_pay1 x0 x2 := by
  unfold out0_C_3
  rw [View.read_writes_eq_canon _ _ _ (cover0_C_3 c i a0 h0 a1 h1 a2 h2 a3 h3 hc hg hu x0 x1 x2)]
  unfold kernelRun0_C
  dsimp only
  sl_unfold_words
  rw [View.canon_cons_unit_zero (S := S1x1024x1408) zero3, View.readCov_unit_zero (S := S1x1024x1408) _ zero3]
  simp only [View.readAt_eq_ld, h0.read_unread, h1.read_unread, h2.read_unread, h3.read_unread, View.ld_unit_zero (S := S1024x1024) zero2, View.ld_unit_zero (S := S1024x1408) zero2, View.ld_unit_zero (S := S1x1024x1408) zero3]

theorem out_D (hc : ¬cond0_0 i) (hg : ¬cond0_1 i) (hu : cond0_2 i) : out0_D_3 c i a0 h0 a1 h1 a2 h2 a3 h3 hc hg hu x0 x1 x2 xo = k0_pay3 xo x0 x2 := by
  unfold out0_D_3
  rw [View.read_writes_eq_canon _ _ _ (cover0_D_3 c i a0 h0 a1 h1 a2 h2 a3 h3 hc hg hu x0 x1 x2 xo)]
  unfold kernelRun0_D
  dsimp only
  sl_unfold_words
  rw [View.canon_unit_zero zero3]
  simp only [View.readAt_eq_ld, h0.read_unread, h1.read_unread, h2.read_unread, h3.read_unread, View.ld_unit_zero (S := S1024x1024) zero2, View.ld_unit_zero (S := S1024x1408) zero2, View.ld_unit_zero (S := S1x1024x1408) zero3]

end Body

/-! ## Where the blocks lie -/

theorem at0 : ∀ t : Fin cfg0.N, win0_0.index t = ![t.val % 8, 0] := (by decide +kernel : ∀ t : Fin grid0.N, _)
theorem at1 : ∀ t : Fin cfg0.N, t.val < 16 → win0_1.index t = ![t.val % 8, t.val / 8] := (by decide +kernel : ∀ t : Fin grid0.N, t.val < 16 → _)
theorem at2 : ∀ t : Fin cfg0.N, 16 ≤ t.val → win0_2.index t = ![t.val % 8, t.val / 8 - 2] := (by decide +kernel : ∀ t : Fin grid0.N, 16 ≤ t.val → _)
theorem at3 : ∀ t : Fin cfg0.N, win0_3.index t = ![t.val / 8, 0, 0] := (by decide +kernel : ∀ t : Fin grid0.N, _)

/-- The row that is number `a` of the row block of point `n`. -/
def rowAt (n : ℕ) (a : Fin 1024) : Fin 8192 := ⟨n % 8 * 1024 + a.val, by have := a.isLt; omega⟩
/-- The column that is number `b` of the half that slice `q` of the result is about. -/
def colAt (q : ℕ) (b : Fin 1408) : Fin 2816 := ⟨q % 2 * 1408 + b.val, by have := b.isLt; omega⟩
/-- The slice of the result that point `n` is about. -/
def sliceAt (n : ℕ) : Fin 4 := ⟨n / 8 % 4, by omega⟩

theorem point_lt (t : Fin cfg0.N) : t.val < 32 := t.isLt

section Reads

variable {F : FTy → Type} [FloatOps F]
variable (m : (ℓ : Loc nD τ sig) → Buf (Elt F) ℓ) (c : Dev nD) (t : Fin cfg0.N)

theorem V_h : V m c main_v0 = truncf .bf16 (m ((c.tc : Thread nD τ).loc main_arg0)) bitsLt_bf16_f32 := by
  entry_read
  rfl
theorem V_gate : V m c main_v1 = truncf .bf16 (m ((c.tc : Thread nD τ).loc main_arg1)) bitsLt_bf16_f32 := by
  entry_read
  rfl
theorem V_up : V m c main_v2 = truncf .bf16 (m ((c.tc : Thread nD τ).loc main_arg2)) bitsLt_bf16_f32 := by
  entry_read
  rfl

theorem blk0 (a : Fin 1024) (b : Fin 1024) : iblk m c 0 t (ix2 a b) = V m c main_v0 (ix2 (rowAt t.val a) b) := by
  blk_simp [iblk]
  refine congrArg (V m c main_v0) ?_
  blk_ext [at0, rowAt]

theorem blk1 (h : t.val < 16) (a : Fin 1024) (b : Fin 1408) : iblk m c 1 t (ix2 a b) = V m c main_v1 (ix2 (rowAt t.val a) (colAt (t.val / 8) b)) := by
  blk_simp [iblk]
  refine congrArg (V m c main_v1) ?_
  blk_ext [at1 t h, rowAt, colAt]
  all_goals omega

theorem blk2 (h : 16 ≤ t.val) (a : Fin 1024) (b : Fin 1408) : iblk m c 2 t (ix2 a b) = V m c main_v2 (ix2 (rowAt t.val a) (colAt (t.val / 8) b)) := by
  have := point_lt t
  blk_simp [iblk]
  refine congrArg (V m c main_v2) ?_
  blk_ext [at2 t h, rowAt, colAt]
  all_goals omega

end Reads

/-! ## The sums a point adds -/

theorem gate_apply (x : Vec Ideal S1x1024x1408 .f32) (d : Vec Ideal S1024x1024 .bf16) (e : Vec Ideal S1024x1408 .bf16) (a : Fin 1024) (b : Fin 1408) :
    k0_pay2 x d e (ix3 0 a b) = x (ix3 0 a b) + ∑ k : Fin 1024, d (ix2 k a) * e (ix2 k b) := by
  pointwise [k0_pay2]

/-- The two branches of the body store the same function of what they read. -/
theorem up_eq_gate {F : FTy → Type} [FloatOps F] : k0_pay3 (F := F) = k0_pay2 := rfl

/-- The gradient that slice `q` of the result multiplies: the gate's for the first two slices, then the other factor's. -/
def side (dg du : Vec Ideal S8192x2816 .f32) (q : ℕ) (t : Fin 8192) (b : Fin 1408) : EReal :=
  if q < 2 then dg (ix2 t (colAt q b)) else du (ix2 t (colAt q b))

/-- The weight's gradient over one row block. -/
def tile (h : Vec Ideal S8192x1024 .f32) (dg du : Vec Ideal S8192x2816 .f32) (n : ℕ) (a : Fin 1024) (b : Fin 1408) : EReal :=
  ∑ k : Fin 1024, h (ix2 (rowAt n k) a) * side dg du (n / 8) (rowAt n k) b

section Fold

variable (m : (ℓ : Loc nD τ sig) → Buf (Elt Ideal) ℓ) (c : Dev nD)

/-- What a point adds, of the three arguments. -/
abbrev part (n : ℕ) (a : Fin 1024) (b : Fin 1408) : EReal :=
  tile (m ((c.tc : Thread nD τ).loc main_arg0)) (m ((c.tc : Thread nD τ).loc main_arg1)) (m ((c.tc : Thread nD τ).loc main_arg2)) n a b

theorem step_gate (t : Fin cfg0.N) (h : t.val < 16) (x : Vec Ideal S1x1024x1408 .f32) (a : Fin 1024) (b : Fin 1408) :
    k0_pay2 x (iblk m c 0 t) (iblk m c 1 t) (ix3 0 a b) = x (ix3 0 a b) + part m c t.val a b := by
  rw [gate_apply]
  refine congrArg (x (ix3 0 a b) + ·) (Finset.sum_congr rfl fun k _ => ?_)
  rw [blk0, blk1 m c t h, V_h, V_gate, side, if_pos (by omega)]
  rfl

theorem step_up (t : Fin cfg0.N) (h : 16 ≤ t.val) (x : Vec Ideal S1x1024x1408 .f32) (a : Fin 1024) (b : Fin 1408) :
    k0_pay3 x (iblk m c 0 t) (iblk m c 2 t) (ix3 0 a b) = x (ix3 0 a b) + part m c t.val a b := by
  rw [up_eq_gate, gate_apply]
  refine congrArg (x (ix3 0 a b) + ·) (Finset.sum_congr rfl fun k _ => ?_)
  rw [blk0, blk2 m c t h, V_h, V_up, side, if_neg (by omega)]
  rfl

/-- A slice's first point leaves its own part. -/
theorem first (t : Fin cfg0.N) (h0 : t.val % 8 = 0) (a : Fin 1024) (b : Fin 1408) :
    outsAt0 m c t.val t.isLt (ix3 0 a b) = part m c t.val a b := by
  have hz : k0_pay1 (F := Ideal) (ix3 0 a b) = (0 : EReal) := by pointwise [k0_pay1]
  by_cases h : t.val < 16
  · rw [outsAt0_A m c t h0 h (by omega), out_A, step_gate m c t h, hz]
    exact zero_add _
  · rw [outsAt0_C m c t h0 h (by omega), out_C, step_up m c t (by omega), hz]
    exact zero_add _

/-- A later point adds its part. -/
theorem later (n : ℕ) (hn : n + 1 < cfg0.N) (h0 : ¬(n + 1) % 8 = 0) (a : Fin 1024) (b : Fin 1408) :
    outsAt0 m c (n + 1) hn (ix3 0 a b) = outsAt0 m c n (Nat.lt_of_succ_lt hn) (ix3 0 a b) + part m c (n + 1) a b := by
  by_cases h : n + 1 < 16
  · rw [outsAt0_B m c ⟨n + 1, hn⟩ h0 h (by show ¬16 ≤ n + 1; omega), out_B, step_gate m c ⟨n + 1, hn⟩ h]
    rfl
  · rw [outsAt0_D m c ⟨n + 1, hn⟩ h0 h (by show 16 ≤ n + 1; omega), out_D, step_up m c ⟨n + 1, hn⟩ (by show 16 ≤ n + 1; omega)]
    rfl

/-- The slice after the row blocks up to a point. -/
theorem after (a : Fin 1024) (b : Fin 1408) : ∀ (n : ℕ) (h : n < cfg0.N),
    outsAt0 m c n h (ix3 0 a b) = ∑ s ∈ Finset.range (n % 8 + 1), part m c (n / 8 * 8 + s) a b := by
  intro n
  induction n with
  | zero =>
    intro h
    rw [first m c ⟨0, h⟩ rfl]
    simp
  | succ n ih =>
    intro h
    by_cases h0 : (n + 1) % 8 = 0
    · rw [first m c ⟨n + 1, h⟩ h0, h0, Finset.sum_range_one, show (n + 1) / 8 * 8 + 0 = n + 1 by omega]
    · rw [later m c n h h0, ih, show (n + 1) % 8 = n % 8 + 1 by omega, Finset.sum_range_succ _ (n % 8 + 1), show (n + 1) / 8 = n / 8 by omega,
        show n / 8 * 8 + (n % 8 + 1) = n + 1 by omega]

/-- A sum over the eight row blocks is the sum over all rows. -/
theorem sum_tiles (h : Vec Ideal S8192x1024 .f32) (dg du : Vec Ideal S8192x2816 .f32) (q : ℕ) (a : Fin 1024) (b : Fin 1408) :
    ∑ s ∈ Finset.range (7 + 1), tile h dg du (q * 8 + s) a b = ∑ t : Fin 8192, side dg du q t b * h (ix2 t a) := by
  rw [Finset.sum_range]
  refine Eq.trans ?_ (Fin.sum_univ_tiles 8 1024 (N := 8192) (by norm_num) _).symm
  refine Finset.sum_congr rfl fun s _ => Finset.sum_congr rfl fun k _ => ?_
  have hs := s.isLt
  rw [show rowAt (q * 8 + s.val) k = ⟨s.val * 1024 + k.val, by have := k.isLt; omega⟩ from Fin.ext (by show (q * 8 + s.val) % 8 * 1024 + k.val = _; congr 2; omega),
    show (q * 8 + s.val) / 8 = q by omega]
  exact mul_comm (G := EReal) _ _

end Fold

/-! ## The reference's array -/

/-- The gradient of the two weights side by side, in four slices of columns. -/
def dPair {F : FTy → Type} [FloatOps F] (h : FVec F S8192x1024 .f32) (dg du : FVec F S8192x2816 .f32) : FVec F S4x1024x1408 .f32 :=
  transpose S4x1024x1408 [1, 0, 2]
    (shapeCast _ (transpose Cert.Reference4Ideal.S1024x5632 [1, 0]
      (Host.dotGeneral Cert.Reference4Ideal.dot_S8192x5632_S8192x1024_S5632x1024_0_0_1_1_n_n none
        (concatenate Cert.Reference4Ideal.S8192x5632 1 [⟨S8192x2816, dg⟩, ⟨S8192x2816, du⟩] Cert.Reference4Ideal.Gen.concatenates_S8192x2816_S8192x2816_S8192x5632_d1) h)
      Cert.Reference4Ideal.Gen.transposes_S5632x1024_S1024x5632_1_0) Cert.Reference4Ideal.Gen.shapeCasts_S1024x5632_S1024x4x1408)
    Cert.Reference4Ideal.Gen.transposes_S1024x4x1408_S4x1024x1408_1_0_2

theorem dPair_at (h : FVec Ideal S8192x1024 .f32) (dg du : FVec Ideal S8192x2816 .f32) (q : Fin 4) (a : Fin 1024) (b : Fin 1408) :
    dPair h dg du (ix3 q a b) = ∑ t : Fin 8192, side dg du q.val t b * h (ix2 t a) := by
  pointwise [dPair]
  refine Finset.sum_congr rfl fun t _ => congrArg (· * (h (ix2 t a) : EReal)) ?_
  have hb := b.isLt
  have hq := q.isLt
  unfold side
  by_cases hs : q.val < 2
  · rw [dif_pos (by omega), if_pos hs]
    exact congrArg (fun z => dg (ix2 t z)) (Fin.ext (by show q.val * 1408 + b.val = q.val % 2 * 1408 + b.val; omega))
  · rw [dif_neg (by omega), if_neg hs]
    exact congrArg (fun z => du (ix2 t z)) (Fin.ext (by show q.val * 1408 + b.val - 2816 = q.val % 2 * 1408 + b.val; omega))

section Final

variable (m : (ℓ : Loc nD τ sig) → Buf (Elt Ideal) ℓ) (c : Dev nD)

theorem final : (dats m 0 c).arrAt 3 cfg0.N = dPair (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have := point_lt t
  have hl : t.val % 8 = 7 := (flush0_3 _).1 hf
  blk_simp
  obtain ⟨z, a, b, rfl⟩ : ∃ (z : Fin 1) (a : Fin 1024) (b : Fin 1408), y = ix3 z a b := ⟨y 0, y 1, y 2, by funext a; match a with | 0 => rfl | 1 => rfl | 2 => rfl⟩
  obtain rfl : z = 0 := Subsingleton.elim _ _
  have he : (win0_3.blk t).view.emb (ix3 0 a b) = ix3 (sliceAt t.val) a b := by
    blk_ext [at3, sliceAt]
    all_goals omega
  refine Eq.trans (after m c a b t.val t.isLt) ?_
  rw [he, dPair_at, hl, show (sliceAt t.val).val = t.val / 8 by show t.val / 8 % 4 = _; omega]
  exact sum_tiles _ _ _ _ _ _

end Final

/-! ## The claim -/

theorem algebraic : Cert.algebraic_Kernel4Ideal_Reference4Ideal (hKernel4Ideal := Cert.Kernel4Ideal.Gen.facts) (hReference4Ideal := Cert.Reference4Ideal.Gen.facts) := by
  intro m ρ m' ρ' _ hargs
  refine ⟨fun c => (dats m 0 c).arrAt 3 cfg0.N, Cert.Kernel4Ideal.Value.run_blocks m ρ, ?_⟩
  refine (θ_run _ _ _).mono (fun r h c => ?_) (Cert.Reference4Ideal.Value.run (F := Ideal) m' ρ')
  obtain ⟨e0, hrest⟩ := h c
  obtain ⟨a0, a1, a2⟩ := hargs c
  refine ⟨e0.trans ?_, hrest⟩
  rw [a0, a1, a2]
  exact (final m c).symm

end Cert.Pair
-- ==== Proof.InProj.lean ====
/-
  The gradient of the input projection and of the norm before it (program 5): what each grid point leaves.
-/
module

public import proofs.«01_k».proof.Proof.Gen.Kernel5Ideal.Value
public import proofs.«01_k».proof.Proof.Norm
public import Idealize.ShloMosaic.Lib.Pipeline.ValueKit.Geometry
public import Idealize.ShloMosaic.Lib.Pointwise
public import Idealize.ShloMosaic.Lib.Claim

@[expose] public section

set_option maxRecDepth 8192

noncomputable section

namespace Cert.InProj

open Cert.Kernel5Ideal Cert.Kernel5Ideal.Gen
open Cert.Norm (width small alpha)
open Idealize.ShloMosaic Idealize.ShloMosaic.TcCoe Idealize.ShloMosaic.Tactic

/-! ## What the body leaves -/

theorem zero2 : (![0, 0] : Fin 2 → Nat) = fun _ => 0 := funext fun a => by fin_cases a <;> rfl

section Body

variable {F : FTy → Type} [FloatOps F]

/-- The weight's columns for each of the five gradients. -/
def cols0 (w : Vec F S1024x2304 .bf16) : Vec F S1024x512 .bf16 := View.ld w (Rect.unit (s := S1024x2304) ![0, 0] S1024x512.size inb_S1024x2304_S1024x512_0_0)
def cols1 (w : Vec F S1024x2304 .bf16) : Vec F S1024x512 .bf16 := View.ld w (Rect.unit (s := S1024x2304) ![0, 512] S1024x512.size inb_S1024x2304_S1024x512_0_512)
def cols2 (w : Vec F S1024x2304 .bf16) : Vec F S1024x512 .bf16 := View.ld w (Rect.unit (s := S1024x2304) ![0, 1024] S1024x512.size inb_S1024x2304_S1024x512_0_1024)
def cols3 (w : Vec F S1024x2304 .bf16) : Vec F S1024x512 .bf16 := View.ld w (Rect.unit (s := S1024x2304) ![0, 1536] S1024x512.size inb_S1024x2304_S1024x512_0_1536)
def cols4 (w : Vec F S1024x2304 .bf16) : Vec F S1024x256 .bf16 := View.ld w (Rect.unit (s := S1024x2304) ![0, 2048] S1024x256.size inb_S1024x2304_S1024x256_0_2048)

variable (x0 x1 x2 x3 : Vec F S512x512 .bf16) (x4 : Vec F S512x256 .bf16) (x5 : Vec F S1024x2304 .bf16) (x6 x7 : Vec F S512x1024 .f32) (x8 xo10 xo11 : Vec F S1x1024 .f32)

/-- The gradient of the norm's result: the residual's share with four of its products, and the fifth added. -/
def four : Vec F S512x1024 .f32 := k0_pay5 x6 x0 (cols0 x5) x1 (cols1 x5) x2 (cols2 x5) x3 (cols3 x5)
def dh : Vec F S512x1024 .f32 := k0_pay6 (four x0 x1 x2 x3 x5 x6) x4 (cols4 x5)
/-- What the input's gradient is, of what a point reads. -/
def dx : Vec F S512x1024 .f32 := k0_pay10 (four x0 x1 x2 x3 x5 x6) x4 (cols4 x5) x7 x8

variable (c : Dev nD) (i : grid0.Coords)
variable (a0 : Memref sig .tc .vmem S512x512 .bf16) (h0 : a0.IsWhole)
variable (a1 : Memref sig .tc .vmem S512x512 .bf16) (h1 : a1.IsWhole)
variable (a2 : Memref sig .tc .vmem S512x512 .bf16) (h2 : a2.IsWhole)
variable (a3 : Memref sig .tc .vmem S512x512 .bf16) (h3 : a3.IsWhole)
variable (a4 : Memref sig .tc .vmem S512x256 .bf16) (h4 : a4.IsWhole)
variable (a5 : Memref sig .tc .vmem S1024x2304 .bf16) (h5 : a5.IsWhole)
variable (a6 : Memref sig .tc .vmem S512x1024 .f32) (h6 : a6.IsWhole)
variable (a7 : Memref sig .tc .vmem S512x1024 .f32) (h7 : a7.IsWhole)
variable (a8 : Memref sig .tc .vmem S1x1024 .f32) (h8 : a8.IsWhole)
variable (a9 : Memref sig .tc .vmem S512x1024 .f32) (h9 : a9.IsWhole)
variable (a10 : Memref sig .tc .vmem S1x1024 .f32) (h10 : a10.IsWhole)
variable (a11 : Memref sig .tc .vmem S1x1024 .f32) (h11 : a11.IsWhole)

theorem out_A_9 (hc : cond0_0 i) : out0_A_9 c i a0 h0 a1 h1 a2 h2 a3 h3 a4 h4 a5 h5 a6 h6 a7 h7 a8 h8 a9 h9 a10 h10 a11 h11 hc x0 x1 x2 x3 x4 x5 x6 x7 x8 = dx x0 x1 x2 x3 x4 x5 x6 x7 x8 := by
  unfold out0_A_9
  rw [View.read_writes_eq_canon _ _ _ (cover0_A_9 c i a0 h0 a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

theorem out_A_10 (hc : cond0_0 i) : out0_A_10 c i a0 h0 a1 h1 a2 h2 a3 h3 a4 h4 a5 h5 a6 h6 a7 h7 a8 h8 a9 h9 a10 h10 a11 h11 hc x0 x1 x2 x3 x4 x5 x6 x7 x8 = k0_pay1 (dh x0 x1 x2 x3 x4 x5 x6) (k0_pay9 x7) k0_pay3 := by
  unfold out0_A_10
  rw [View.read_writes_eq_canon _ _ _ (cover0_A_10 c i a0 h0 a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) zero2, View.readCov_unit_zero (S := S1x1024) _ zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

theorem out_A_11 (hc : cond0_0 i) : out0_A_11 c i a0 h0 a1 h1 a2 h2 a3 h3 a4 h4 a5 h5 a6 h6 a7 h7 a8 h8 a9 h9 a10 h10 a11 h11 hc x0 x1 x2 x3 x4 x5 x6 x7 x8 = k0_pay2 (dh x0 x1 x2 x3 x4 x5 x6) k0_pay4 := by
  unfold out0_A_11
  rw [View.read_writes_eq_canon _ _ _ (cover0_A_11 c i a0 h0 a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) zero2, View.readCov_unit_zero (S := S1x1024) _ zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

theorem out_B_9 (hc : ¬cond0_0 i) : out0_B_9 c i a0 h0 a1 h1 a2 h2 a3 h3 a4 h4 a5 h5 a6 h6 a7 h7 a8 h8 a9 h9 a10 h10 a11 h11 hc x0 x1 x2 x3 x4 x5 x6 x7 x8 xo10 xo11 = dx x0 x1 x2 x3 x4 x5 x6 x7 x8 := by
  unfold out0_B_9
  rw [View.read_writes_eq_canon _ _ _ (cover0_B_9 c i a0 h0 a1 h1 a2 h2 a3 h3 a4 h4 a5 h5 a6 h6 a7 h7 a8 h8 a9 h9 a10 h10 a11 h11 hc x0 x1 x2 x3 x4 x5 x6 x7 x8 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

theorem out_B_10 (hc : ¬cond0_0 i) : out0_B_10 c i a0 h0 a1 h1 a2 h2 a3 h3 a4 h4 a5 h5 a6 h6 a7 h7 a8 h8 a9 h9 a10 h10 a11 h11 hc x0 x1 x2 x3 x4 x5 x6 x7 x8 xo10 xo11 = k0_pay1 (dh x0 x1 x2 x3 x4 x5 x6) (k0_pay9 x7) xo10 := by
  unfold out0_B_10
  rw [View.read_writes_eq_canon _ _ _ (cover0_B_10 c i a0 h0 a1 h1 a2 h2 a3 h3 a4 h4 a5 h5 a6 h6 a7 h7 a8 h8 a9 h9 a10 h10 a11 h11 hc x0 x1 x2 x3 x4 x5 x6 x7 x8 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

theorem out_B_11 (hc : ¬cond0_0 i) : out0_B_11 c i a0 h0 a1 h1 a2 h2 a3 h3 a4 h4 a5 h5 a6 h6 a7 h7 a8 h8 a9 h9 a10 h10 a11 h11 hc x0 x1 x2 x3 x4 x5 x6 x7 x8 xo10 xo11 = k0_pay2 (dh x0 x1 x2 x3 x4 x5 x6) xo11 := by
  unfold out0_B_11
  rw [View.read_writes_eq_canon _ _ _ (cover0_B_11 c i a0 h0 a1 h1 a2 h2 a3 h3 a4 h4 a5 h5 a6 h6 a7 h7 a8 h8 a9 h9 a10 h10 a11 h11 hc x0 x1 x2 x3 x4 x5 x6 x7 x8 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h10.read_unread, h11.read_unread, View.ld_unit_zero (S := S512x512) zero2, View.ld_unit_zero (S := S512x256) zero2, View.ld_unit_zero (S := S512x1024) zero2, View.ld_unit_zero (S := S1x1024) zero2]
  rfl

end Body

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)

/-- The row that is number `a` of row block `n`. -/
def rowAt (n : ℕ) (a : Fin 512) : Fin 8192 := ⟨n % 16 * 512 + a.val, by have := a.isLt; omega⟩

theorem point_lt (t : Fin cfg0.N) : t.val < 16 := t.isLt

section Reads

variable {F : FTy → Type} [FloatOps F]
variable (m : (ℓ : Loc nD τ sig) → Buf (Elt F) ℓ) (c : Dev nD) (t : Fin cfg0.N)

theorem blk0 (a : Fin 512) (b : Fin 512) : iblk m c 0 t (ix2 a b) = V m c main_v0 (ix2 (rowAt t.val a) b) := by
  have := point_lt t
  blk_simp [iblk]
  refine congrArg (V m c main_v0) ?_
  blk_ext [at0, rowAt]
  all_goals omega

theorem blk1 (a : Fin 512) (b : Fin 512) : iblk m c 1 t (ix2 a b) = V m c main_v1 (ix2 (rowAt t.val a) b) := by
  have := point_lt t
  blk_simp [iblk]
  refine congrArg (V m c main_v1) ?_
  blk_ext [at1, rowAt]
  all_goals omega

theorem blk2 (a : Fin 512) (b : Fin 512) : iblk m c 2 t (ix2 a b) = V m c main_v2 (ix2 (rowAt t.val a) b) := by
  have := point_lt t
  blk_simp [iblk]
  refine congrArg (V m c main_v2) ?_
  blk_ext [at2, rowAt]
  all_goals omega

theorem blk3 (a : Fin 512) (b : Fin 512) : iblk m c 3 t (ix2 a b) = V m c main_v3 (ix2 (rowAt t.val a) b) := by
  have := point_lt t
  blk_simp [iblk]
  refine congrArg (V m c main_v3) ?_
  blk_ext [at3, rowAt]
  all_goals omega

theorem blk4 (a : Fin 512) (b : Fin 256) : iblk m c 4 t (ix2 a b) = V m c main_v4 (ix2 (rowAt t.val a) b) := by
  have := point_lt t
  blk_simp [iblk]
  refine congrArg (V m c main_v4) ?_
  blk_ext [at4, rowAt]
  all_goals omega

theorem blk5 (a : Fin 1024) (b : Fin 2304) : iblk m c 5 t (ix2 a b) = V m c main_v5 (ix2 a b) := by
  blk_simp [iblk]
  refine congrArg (V m c main_v5) ?_
  blk_ext [at5]

theorem blk6 (a : Fin 512) (b : Fin 1024) : iblk m c 6 t (ix2 a b) = V m c main_arg6 (ix2 (rowAt t.val a) b) := by
  have := point_lt t
  blk_simp [iblk]
  refine congrArg (V m c main_arg6) ?_
  blk_ext [at6, rowAt]
  all_goals omega

theorem blk7 (a : Fin 512) (b : Fin 1024) : iblk m c 7 t (ix2 a b) = V m c main_arg7 (ix2 (rowAt t.val a) b) := by
  have := point_lt t
  blk_simp [iblk]
  refine congrArg (V m c main_arg7) ?_
  blk_ext [at7, rowAt]
  all_goals omega

theorem blk8 (a : Fin 1) (b : Fin 1024) : iblk m c 8 t (ix2 a b) = V m c main_arg8 (ix2 a b) := by
  blk_simp [iblk]
  refine congrArg (V m c main_arg8) ?_
  blk_ext [at8]

theorem after9 : (outsAt0 m c t.val t.isLt).1 = dx (iblk m c 0 t) (iblk m c 1 t) (iblk m c 2 t) (iblk m c 3 t) (iblk m c 4 t) (iblk m c 5 t) (iblk m c 6 t) (iblk m c 7 t) (iblk m c 8 t) := by
  by_cases h : t.val % 16 = 0
  · rw [outsAt0_A m c t h]; dsimp only; rw [out_A_9]
  · rw [outsAt0_B m c t h]; dsimp only; rw [out_B_9]

end Reads

/-! ## The stored values at an index -/

section Stored

theorem center_apply (x : Vec Ideal S512x1024 .f32) (a : Fin 512) (b : Fin 1024) :
    k0_pay7 (F := Ideal) x (ix2 a b) = x (ix2 a b) - Ideal.div (∑ k : Fin 1024, x (ix2 a k)) width := by
  pointwise [k0_pay7, width]

theorem rstd_apply (x : Vec Ideal S512x1024 .f32) (a : Fin 512) (b : Fin 1) :
    k0_pay8 (F := Ideal) x (ix2 a b) = Ideal.rsqrt (Ideal.div (∑ k : Fin 1024, k0_pay7 (F := Ideal) x (ix2 a k) * k0_pay7 (F := Ideal) x (ix2 a k)) width + small) := by
  pointwise [k0_pay8, width, small]

theorem xhat_apply (x : Vec Ideal S512x1024 .f32) (a : Fin 512) (b : Fin 1024) :
    k0_pay9 (F := Ideal) x (ix2 a b) = k0_pay7 (F := Ideal) x (ix2 a b) * k0_pay8 (F := Ideal) x (ix2 a (0 : Fin 1)) := by
  pointwise [k0_pay9]

theorem dx_apply (u : Vec Ideal S512x1024 .f32) (e : Vec Ideal S512x256 .bf16) (w : Vec Ideal S1024x256 .bf16) (x : Vec Ideal S512x1024 .f32) (g : Vec Ideal S1x1024 .f32) (a : Fin 512) (b : Fin 1024) :
    k0_pay10 u e w x g (ix2 a b) = k0_pay8 (F := Ideal) x (ix2 a (0 : Fin 1)) * (k0_pay6 (F := Ideal) u e w (ix2 a b) * g (ix2 (0 : Fin 1) b)
      - Ideal.div (∑ k : Fin 1024, k0_pay6 (F := Ideal) u e w (ix2 a k) * g (ix2 (0 : Fin 1) k)) width
      - k0_pay9 (F := Ideal) x (ix2 a b) * Ideal.div (∑ k : Fin 1024, k0_pay6 (F := Ideal) u e w (ix2 a k) * g (ix2 (0 : Fin 1) k) * k0_pay9 (F := Ideal) x (ix2 a k)) width) := by
  pointwise [k0_pay10, width]

theorem dg_apply (d x : Vec Ideal S512x1024 .f32) (acc : Vec Ideal S1x1024 .f32) (a : Fin 1) (b : Fin 1024) :
    k0_pay1 d x acc (ix2 a b) = acc (ix2 a b) + ∑ k : Fin 512, d (ix2 k b) * x (ix2 k b) := by
  pointwise [k0_pay1]

theorem db_apply (d : Vec Ideal S512x1024 .f32) (acc : Vec Ideal S1x1024 .f32) (a : Fin 1) (b : Fin 1024) :
    k0_pay2 d acc (ix2 a b) = acc (ix2 a b) + ∑ k : Fin 512, d (ix2 k b) := by
  pointwise [k0_pay2]

theorem dh_apply (x0 x1 x2 x3 : Vec Ideal S512x512 .bf16) (x4 : Vec Ideal S512x256 .bf16) (x5 : Vec Ideal S1024x2304 .bf16) (x6 : Vec Ideal S512x1024 .f32) (a : Fin 512) (b : Fin 1024) :
    dh x0 x1 x2 x3 x4 x5 x6 (ix2 a b) = alpha * x6 (ix2 a b)
      + (∑ k : Fin 512, x0 (ix2 a k) * x5 (ix2 b (⟨k.val, by have := k.isLt; omega⟩ : Fin 2304)))
      + (∑ k : Fin 512, x1 (ix2 a k) * x5 (ix2 b (⟨512 + k.val, by have := k.isLt; omega⟩ : Fin 2304)))
      + (∑ k : Fin 512, x2 (ix2 a k) * x5 (ix2 b (⟨1024 + k.val, by have := k.isLt; omega⟩ : Fin 2304)))
      + (∑ k : Fin 512, x3 (ix2 a k) * x5 (ix2 b (⟨1536 + k.val, by have := k.isLt; omega⟩ : Fin 2304)))
      + (∑ k : Fin 256, x4 (ix2 a k) * x5 (ix2 b (⟨2048 + k.val, by have := k.isLt; omega⟩ : Fin 2304))) := by
  unfold dh four cols0 cols1 cols2 cols3 cols4
  simp only [View.ld_unit]
  pointwise [k0_pay5, k0_pay6, alpha]

end Stored

end Cert.InProj
-- ==== Proof.InProjRef.lean ====
/-
  The reference of program 5: its results of named arrays, and the gradient of the norm's result at an index.
-/
module

public import proofs.«01_k».proof.Proof.Gen.Reference5Ideal.Run
public import proofs.«01_k».proof.Proof.NormRef
public import Idealize.ShloMosaic.Lib.Pointwise
public import Idealize.ShloMosaic.Lib.Pointwise.Sums

@[expose] public section

set_option maxRecDepth 8192

noncomputable section

namespace Cert.InProj.Ref

open Cert.Reference5Ideal Cert.Reference5Ideal.Gen Cert.Reference5Ideal.Value Idealize.ShloMosaic Idealize.ShloMosaic.TcCoe

section Terms

variable {F : FTy → Type} [FloatOps F]
variable (d0 d1 d2 d3 : FVec F S8192x512 .f32) (d4 : FVec F S8192x256 .f32) (w : FVec F S1024x2304 .f32) (ct : FVec F S8192x1024 .f32)

/-- The gradient of the norm's result. -/
def dh : FVec F S8192x1024 .f32 :=
  addf (mulf (Norm.Ref.fill 0x3F9837F0#32) ct) (Host.dotGeneral dot_S8192x2304_S1024x2304_S8192x1024_1_1_0_0_n_n none
    (concatenate S8192x2304 1 [⟨S8192x512, d0⟩, ⟨S8192x512, d1⟩, ⟨S8192x512, d2⟩, ⟨S8192x512, d3⟩, ⟨S8192x256, d4⟩] concatenates_S8192x512_S8192x512_S8192x512_S8192x512_S8192x256_S8192x2304_d1) w)

variable (m : (ℓ : Loc nD τ sig) → Buf (Elt F) ℓ) (c : Dev nD)

theorem out0_eq : res_main_v66 m c = Norm.Ref.dx (dh (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) := rfl

end Terms

/-! ## At an index -/

/-- A sum over all columns is that of the five gradients' columns. -/
theorem sum_cols (f : Fin 2304 → EReal) : ∑ k, f k
    = (∑ k : Fin 512, f ⟨k.val, by have := k.isLt; omega⟩) + (∑ k : Fin 512, f ⟨512 + k.val, by have := k.isLt; omega⟩)
      + (∑ k : Fin 512, f ⟨1024 + k.val, by have := k.isLt; omega⟩) + (∑ k : Fin 512, f ⟨1536 + k.val, by have := k.isLt; omega⟩)
      + ∑ k : Fin 256, f ⟨2048 + k.val, by have := k.isLt; omega⟩ := by
  have h : ∑ k, f k = (∑ k : Fin 2048, f (Fin.castAdd 256 k)) + ∑ k : Fin 256, f (Fin.natAdd 2048 k) := Fin.sum_univ_add (a := 2048) (b := 256) f
  rw [h, Fin.sum_univ_tiles 4 512 (N := 2048) (by norm_num), Fin.sum_univ_four]
  simp only [Fin.castAdd_mk, Fin.natAdd]
  simp

/-- A row of the five gradients side by side. -/
def pick (e0 e1 e2 e3 : Fin 512 → EReal) (e4 : Fin 256 → EReal) (x : Fin 2304) : EReal :=
  if h : x.val < 512 then e0 ⟨x.val, h⟩
  else if h : x.val - 512 < 512 then e1 ⟨x.val - 512, h⟩
  else if h : x.val - 512 - 512 < 512 then e2 ⟨x.val - 512 - 512, h⟩
  else if h : x.val - 512 - 512 - 512 < 512 then e3 ⟨x.val - 512 - 512 - 512, h⟩
  else e4 ⟨x.val - 512 - 512 - 512 - 512, by have := x.isLt; omega⟩

theorem sum_pick (e0 e1 e2 e3 : Fin 512 → EReal) (e4 : Fin 256 → EReal) (f : Fin 2304 → EReal) : ∑ x, pick e0 e1 e2 e3 e4 x * f x
    = (∑ k : Fin 512, e0 k * f ⟨k.val, by have := k.isLt; omega⟩) + (∑ k : Fin 512, e1 k * f ⟨512 + k.val, by have := k.isLt; omega⟩)
      + (∑ k : Fin 512, e2 k * f ⟨1024 + k.val, by have := k.isLt; omega⟩) + (∑ k : Fin 512, e3 k * f ⟨1536 + k.val, by have := k.isLt; omega⟩)
      + ∑ k : Fin 256, e4 k * f ⟨2048 + k.val, by have := k.isLt; omega⟩ := by
  rw [sum_cols]
  unfold pick
  congr 1

section Real

variable (d0 d1 d2 d3 : FVec Ideal S8192x512 .f32) (d4 : FVec Ideal S8192x256 .f32) (w : FVec Ideal S1024x2304 .f32) (ct : FVec Ideal S8192x1024 .f32)

theorem dh_apply (a : Fin 8192) (b : Fin 1024) : dh d0 d1 d2 d3 d4 w ct (ix2 a b) = Norm.alpha * ct (ix2 a b)
      + (∑ k : Fin 512, d0 (ix2 a k) * w (ix2 b (⟨k.val, by have := k.isLt; omega⟩ : Fin 2304)))
      + (∑ k : Fin 512, d1 (ix2 a k) * w (ix2 b (⟨512 + k.val, by have := k.isLt; omega⟩ : Fin 2304)))
      + (∑ k : Fin 512, d2 (ix2 a k) * w (ix2 b (⟨1024 + k.val, by have := k.isLt; omega⟩ : Fin 2304)))
      + (∑ k : Fin 512, d3 (ix2 a k) * w (ix2 b (⟨1536 + k.val, by have := k.isLt; omega⟩ : Fin 2304)))
      + (∑ k : Fin 256, d4 (ix2 a k) * w (ix2 b (⟨2048 + k.val, by have := k.isLt; omega⟩ : Fin 2304))) := by
  pointwise [dh, Norm.Ref.fill]
  refine (congrArg (Norm.alpha * ct (ix2 a b) + · : EReal → EReal) (sum_pick (fun k => d0 (ix2 a k)) (fun k => d1 (ix2 a k)) (fun k => d2 (ix2 a k)) (fun k => d3 (ix2 a k)) (fun k => d4 (ix2 a k)) (fun k => w (ix2 b k)))).trans ?_
  simp only [← add_assoc]

end Real

end Cert.InProj.Ref
-- ==== Proof.InProjClaim.lean ====
/-
  The gradient of the input projection and of the norm before it (program 5): the kernel's three arrays are the reference's.
-/
module

public import proofs.«01_k».proof.Defs
public import proofs.«01_k».proof.Proof.InProj
public import proofs.«01_k».proof.Proof.InProjRef
public import proofs.«01_k».proof.Proof.NormClaim
public import proofs.«01_k».proof.Proof.RealArg

@[expose] public section

set_option maxRecDepth 8192

noncomputable section

namespace Cert.InProj

open Cert.Kernel5Ideal Cert.Kernel5Ideal.Gen
open Idealize.ShloMosaic Idealize.ShloMosaic.TcCoe Idealize.ShloMosaic.Tactic Idealize.SL.Sem
open Cert.Proof (coe_sum real_of_all and_one)

/-! ## A row of the kernel's blocks is the reference's -/

section Rows

variable (d0 d1 d2 d3 : FVec Ideal S8192x512 .f32) (d4 : FVec Ideal S8192x256 .f32) (w : FVec Ideal S1024x2304 .f32) (ct X : FVec Ideal S8192x1024 .f32)
variable (x : Vec Ideal S512x1024 .f32) (a : Fin 512) (p : Fin 8192) (hx : ∀ b : Fin 1024, x (ix2 a b) = X (ix2 p b))

include hx in
theorem center_row (b : Fin 1024) : k0_pay7 (F := Ideal) x (ix2 a b) = Norm.Ref.center X (ix2 p b) := by
  rw [center_apply, Norm.Ref.center_apply, hx, Finset.sum_congr rfl fun k _ => hx k]

include hx in
theorem rstd_row : k0_pay8 (F := Ideal) x (ix2 a (0 : Fin 1)) = Norm.Ref.rstd X (ix2 p (0 : Fin 1)) := by
  rw [rstd_apply, Norm.Ref.rstd_apply, Norm.Ref.var_apply]
  simp only [center_row X x a p hx]

include hx in
theorem xhat_row (b : Fin 1024) : k0_pay9 (F := Ideal) x (ix2 a b) = Norm.Ref.xhat X (ix2 p b) := by
  rw [xhat_apply, Norm.Ref.xhat_apply, center_row X x a p hx, rstd_row X x a p hx]

/-- A sum of products of real numbers is a real number. -/
theorem dot_real {n : ℕ} (e f : Fin n → EReal) (he : ∀ k, ((e k).toReal : EReal) = e k) (hf : ∀ k, ((f k).toReal : EReal) = f k) :
    ∃ y : ℝ, ∑ k, e k * f k = (y : EReal) := by
  rw [Finset.sum_congr rfl fun k _ => show e k * f k = (((e k).toReal * (f k).toReal : ℝ) : EReal) by rw [EReal.coe_mul, he, hf], coe_sum]
  exact ⟨_, rfl⟩

/-- With real arguments the gradient of the norm's result is real. -/
theorem dh_real (h0 : ∀ i, (((d0 i : EReal).toReal : ℝ) : EReal) = d0 i) (h1 : ∀ i, (((d1 i : EReal).toReal : ℝ) : EReal) = d1 i)
    (h2 : ∀ i, (((d2 i : EReal).toReal : ℝ) : EReal) = d2 i) (h3 : ∀ i, (((d3 i : EReal).toReal : ℝ) : EReal) = d3 i)
    (h4 : ∀ i, (((d4 i : EReal).toReal : ℝ) : EReal) = d4 i) (hw : ∀ i, (((w i : EReal).toReal : ℝ) : EReal) = w i)
    (hct : ∀ i, (((ct i : EReal).toReal : ℝ) : EReal) = ct i) (b : Fin 1024) : ∃ y : ℝ, Ref.dh d0 d1 d2 d3 d4 w ct (ix2 p b) = (y : EReal) := by
  obtain ⟨s, hs⟩ := Norm.alpha_real
  rw [Ref.dh_apply, hs, ← hct]
  obtain ⟨y0, e0⟩ := dot_real (fun k : Fin 512 => d0 (ix2 p k)) (fun k => w (ix2 b (⟨k.val, by have := k.isLt; omega⟩ : Fin 2304))) (fun _ => h0 _) (fun _ => hw _)
  obtain ⟨y1, e1⟩ := dot_real (fun k : Fin 512 => d1 (ix2 p k)) (fun k => w (ix2 b (⟨512 + k.val, by have := k.isLt; omega⟩ : Fin 2304))) (fun _ => h1 _) (fun _ => hw _)
  obtain ⟨y2, e2⟩ := dot_real (fun k : Fin 512 => d2 (ix2 p k)) (fun k => w (ix2 b (⟨1024 + k.val, by have := k.isLt; omega⟩ : Fin 2304))) (fun _ => h2 _) (fun _ => hw _)
  obtain ⟨y3, e3⟩ := dot_real (fun k : Fin 512 => d3 (ix2 p k)) (fun k => w (ix2 b (⟨1536 + k.val, by have := k.isLt; omega⟩ : Fin 2304))) (fun _ => h3 _) (fun _ => hw _)
  obtain ⟨y4, e4⟩ := dot_real (fun k : Fin 256 => d4 (ix2 p k)) (fun k => w (ix2 b (⟨2048 + k.val, by have := k.isLt; omega⟩ : Fin 2304))) (fun _ => h4 _) (fun _ => hw _)
  rw [e0, e1, e2, e3, e4]
  simp only [← EReal.coe_mul, ← EReal.coe_add]
  exact ⟨_, rfl⟩

/-- The share of one row block in the gradients of the norm's factor and offset. -/
def tileG (n : ℕ) (b : Fin 1024) : EReal := ∑ k : Fin 512, Ref.dh d0 d1 d2 d3 d4 w ct (ix2 (rowAt n k) b) * Norm.Ref.xhat X (ix2 (rowAt n k) b)
def tileB (n : ℕ) (b : Fin 1024) : EReal := ∑ k : Fin 512, Ref.dh d0 d1 d2 d3 d4 w ct (ix2 (rowAt n k) b)

/-- The blocks' sums are those over all rows. -/
theorem sum_tiles (f : Fin 8192 → EReal) : ∑ s ∈ Finset.range (15 + 1), ∑ k : Fin 512, f (rowAt s k) = ∑ k, f k := by
  rw [Finset.sum_range]
  refine Eq.trans ?_ (Fin.sum_univ_tiles 16 512 (N := 8192) (by norm_num) _).symm
  refine Finset.sum_congr rfl fun s _ => Finset.sum_congr rfl fun k _ => ?_
  have hs := s.isLt
  exact congrArg f (Fin.ext (by show s.val % 16 * 512 + k.val = _; congr 2; omega))

end Rows

/-! ## The kernel's arrays -/

section Final

variable (m : (ℓ : Loc nD τ sig) → Buf (Elt Ideal) ℓ) (c : Dev nD)

def A0 : FVec Ideal S8192x512 .f32 := m ((c.tc : Thread nD τ).loc main_arg0)
def A1 : FVec Ideal S8192x512 .f32 := m ((c.tc : Thread nD τ).loc main_arg1)
def A2 : FVec Ideal S8192x512 .f32 := m ((c.tc : Thread nD τ).loc main_arg2)
def A3 : FVec Ideal S8192x512 .f32 := m ((c.tc : Thread nD τ).loc main_arg3)
def A4 : FVec Ideal S8192x256 .f32 := m ((c.tc : Thread nD τ).loc main_arg4)
def A5 : FVec Ideal S1024x2304 .f32 := m ((c.tc : Thread nD τ).loc main_arg5)
def A6 : FVec Ideal S8192x1024 .f32 := m ((c.tc : Thread nD τ).loc main_arg6)
def A7 : FVec Ideal S8192x1024 .f32 := m ((c.tc : Thread nD τ).loc main_arg7)
def A8 : FVec Ideal S1x1024 .f32 := m ((c.tc : Thread nD τ).loc main_arg8)

/-- The gradient of the norm's result, of the program's arguments. -/
abbrev dH : FVec Ideal S8192x1024 .f32 := Ref.dh (A0 m c) (A1 m c) (A2 m c) (A3 m c) (A4 m c) (A5 m c) (A6 m c)

theorem V_0 : V m c main_v0 = truncf .bf16 (A0 m c) bitsLt_bf16_f32 := by
  entry_read
  rfl
theorem V_1 : V m c main_v1 = truncf .bf16 (A1 m c) bitsLt_bf16_f32 := by
  entry_read
  rfl
theorem V_2 : V m c main_v2 = truncf .bf16 (A2 m c) bitsLt_bf16_f32 := by
  entry_read
  rfl
theorem V_3 : V m c main_v3 = truncf .bf16 (A3 m c) bitsLt_bf16_f32 := by
  entry_read
  rfl
theorem V_4 : V m c main_v4 = truncf .bf16 (A4 m c) bitsLt_bf16_f32 := by
  entry_read
  rfl
theorem V_5 : V m c main_v5 = truncf .bf16 (A5 m c) bitsLt_bf16_f32 := by
  entry_read
  rfl

variable (t : Fin cfg0.N)

theorem point_dh (a : Fin 512) (b : Fin 1024) : dh (F := Ideal) (iblk m c 0 t) (iblk m c 1 t) (iblk m c 2 t) (iblk m c 3 t) (iblk m c 4 t) (iblk m c 5 t) (iblk m c 6 t) (ix2 a b)
    = dH m c (ix2 (rowAt t.val a) b) := by
  refine Eq.trans ?_ (Ref.dh_apply (A0 m c) (A1 m c) (A2 m c) (A3 m c) (A4 m c) (A5 m c) (A6 m c) (rowAt t.val a) b).symm
  rw [dh_apply]
  simp only [blk0, blk1, blk2, blk3, blk4, blk5, blk6, V_0, V_1, V_2, V_3, V_4, V_5, V_main_arg6]
  rfl

theorem point_x (a : Fin 512) (b : Fin 1024) : iblk m c 7 t (ix2 a b) = A7 m c (ix2 (rowAt t.val a) b) := by
  rw [blk7, V_main_arg7]; rfl

theorem point_g (b : Fin 1024) : iblk m c 8 t (ix2 (0 : Fin 1) b) = A8 m c (ix2 (0 : Fin 1) b) := by
  rw [blk8, V_main_arg8]; rfl

theorem step_g (acc : Vec Ideal S1x1024 .f32) (b : Fin 1024) :
    k0_pay1 (dh (F := Ideal) (iblk m c 0 t) (iblk m c 1 t) (iblk m c 2 t) (iblk m c 3 t) (iblk m c 4 t) (iblk m c 5 t) (iblk m c 6 t)) (k0_pay9 (iblk m c 7 t)) acc (ix2 (0 : Fin 1) b)
      = acc (ix2 (0 : Fin 1) b) + tileG (A0 m c) (A1 m c) (A2 m c) (A3 m c) (A4 m c) (A5 m c) (A6 m c) (A7 m c) t.val b := by
  rw [dg_apply]
  refine congrArg (acc (ix2 (0 : Fin 1) b) + ·) (Finset.sum_congr rfl fun k _ => ?_)
  rw [point_dh, xhat_row (A7 m c) (iblk m c 7 t) k (rowAt t.val k) (point_x m c t k)]

theorem step_b (acc : Vec Ideal S1x1024 .f32) (b : Fin 1024) :
    k0_pay2 (dh (F := Ideal) (iblk m c 0 t) (iblk m c 1 t) (iblk m c 2 t) (iblk m c 3 t) (iblk m c 4 t) (iblk m c 5 t) (iblk m c 6 t)) acc (ix2 (0 : Fin 1) b)
      = acc (ix2 (0 : Fin 1) b) + tileB (A0 m c) (A1 m c) (A2 m c) (A3 m c) (A4 m c) (A5 m c) (A6 m c) t.val b := by
  rw [db_apply]
  refine congrArg (acc (ix2 (0 : Fin 1) b) + ·) (Finset.sum_congr rfl fun k _ => ?_)
  rw [point_dh]

/-- The two sums after the row blocks up to a point. -/
theorem after1011 (b : Fin 1024) : ∀ (n : ℕ) (h : n < cfg0.N),
    (outsAt0 m c n h).2.1 (ix2 (0 : Fin 1) b) = ∑ s ∈ Finset.range (n + 1), tileG (A0 m c) (A1 m c) (A2 m c) (A3 m c) (A4 m c) (A5 m c) (A6 m c) (A7 m c) s b
    ∧ (outsAt0 m c n h).2.2 (ix2 (0 : Fin 1) b) = ∑ s ∈ Finset.range (n + 1), tileB (A0 m c) (A1 m c) (A2 m c) (A3 m c) (A4 m c) (A5 m c) (A6 m c) s b := by
  intro n
  induction n with
  | zero =>
    intro h
    rw [outsAt0_A m c ⟨0, h⟩ rfl]
    dsimp only
    rw [out_A_10, out_A_11, step_g, step_b, Finset.sum_range_one, Finset.sum_range_one]
    constructor
    · pointwise [k0_pay3]
    · pointwise [k0_pay4]
  | succ n ih =>
    intro h
    have hN : n + 1 < 16 := h
    rw [outsAt0_B m c ⟨n + 1, h⟩ (by show ¬(n + 1) % 16 = 0; omega)]
    dsimp only
    rw [out_B_10, out_B_11, step_g, step_b, Finset.sum_range_succ _ (n + 1), Finset.sum_range_succ _ (n + 1)]
    obtain ⟨i1, i2⟩ := ih (by omega)
    exact ⟨congrArg (· + _) i1, congrArg (· + _) i2⟩

theorem final_g : (dats m 0 c).arrAt 10 cfg0.N = Norm.Ref.colSum (F := Ideal) (mulf (Norm.Ref.xhat (A7 m c)) (dH m c)) := by
  refine (dats m 0 c).arrAt_eq_of_covers 10 _ (by decide +kernel) fun t hf y => ?_
  have := point_lt t
  have hl : t.val = 15 := by have := (flush0_10 _).1 hf; omega
  blk_simp
  obtain ⟨b, rfl⟩ : ∃ b : Fin 1024, y = ix2 (0 : Fin 1) b := ⟨y 1, by funext a; match a with | 0 => exact Subsingleton.elim (α := Fin 1) _ _ | 1 => rfl⟩
  have he : (win0_10.blk t).view.emb (ix2 (0 : Fin 1) b) = ix2 (0 : Fin 1) b := by
    blk_ext [at10]
  refine Eq.trans (after1011 m c b t.val t.isLt).1 ?_
  rw [he, Norm.Ref.colSum_apply, hl]
  refine (sum_tiles fun p => dH m c (ix2 p b) * Norm.Ref.xhat (A7 m c) (ix2 p b)).trans ?_
  exact Finset.sum_congr rfl fun k _ => mul_comm (G := EReal) _ _

theorem final_b : (dats m 0 c).arrAt 11 cfg0.N = Norm.Ref.colSum (F := Ideal) (dH m c) := by
  refine (dats m 0 c).arrAt_eq_of_covers 11 _ (by decide +kernel) fun t hf y => ?_
  have := point_lt t
  have hl : t.val = 15 := by have := (flush0_11 _).1 hf; omega
  blk_simp
  obtain ⟨b, rfl⟩ : ∃ b : Fin 1024, y = ix2 (0 : Fin 1) b := ⟨y 1, by funext a; match a with | 0 => exact Subsingleton.elim (α := Fin 1) _ _ | 1 => rfl⟩
  have he : (win0_11.blk t).view.emb (ix2 (0 : Fin 1) b) = ix2 (0 : Fin 1) b := by
    blk_ext [at11]
  refine Eq.trans (after1011 m c b t.val t.isLt).2 ?_
  rw [he, Norm.Ref.colSum_apply, hl]
  exact sum_tiles fun p => dH m c (ix2 p b)

theorem final_dx (hd : ∀ p b, ∃ y : ℝ, dH m c (ix2 p b) = (y : EReal)) (h7 : ∀ i, (((A7 m c i : EReal).toReal : ℝ) : EReal) = A7 m c i)
    (h8 : ∀ i, (((A8 m c i : EReal).toReal : ℝ) : EReal) = A8 m c i) :
    (dats m 0 c).arrAt 9 cfg0.N = Norm.Ref.dx (F := Ideal) (dH m c) (A7 m c) (A8 m c) := by
  refine (dats m 0 c).arrAt_eq_of_covers 9 _ (by decide +kernel) fun t hf y => ?_
  have := point_lt t
  blk_simp
  obtain ⟨a, b, rfl⟩ : ∃ (a : Fin 512) (b : Fin 1024), y = ix2 a b := ⟨y 0, y 1, by funext a; match a with | 0 => rfl | 1 => rfl⟩
  have he : (win0_9.blk t).view.emb (ix2 a b) = ix2 (rowAt t.val a) b := by
    blk_ext [at9, rowAt]
    all_goals omega
  refine Eq.trans (congrFun (after9 m c t) (ix2 a b)) ?_
  rw [he, dx, dx_apply, rstd_row (A7 m c) (iblk m c 7 t) a (rowAt t.val a) (point_x m c t a)]
  have hdh : ∀ b : Fin 1024, k0_pay6 (F := Ideal) (four (iblk m c 0 t) (iblk m c 1 t) (iblk m c 2 t) (iblk m c 3 t) (iblk m c 5 t) (iblk m c 6 t)) (iblk m c 4 t) (cols4 (iblk m c 5 t)) (ix2 a b)
      = dH m c (ix2 (rowAt t.val a) b) := point_dh m c t a
  simp only [hdh, point_g, xhat_row (A7 m c) (iblk m c 7 t) a (rowAt t.val a) (point_x m c t a)]
  exact Norm.norm_row (dH m c) (A7 m c) (A8 m c) (rowAt t.val a) (hd _) h7 h8 b

end Final

/-! ## The claim -/

/-- The side conditions the precondition's text states. -/
theorem facts_pre : Cert.Pre_finite5.Facts :=
  { bcast_S_S8192x512 := by decide
    reducesTo_S8192x512_S_d0_1 := by decide
    h_S_ := by decide
    bcast_S_S8192x256 := by decide
    reducesTo_S8192x256_S_d0_1 := by decide
    bcast_S_S1024x2304 := by decide
    reducesTo_S1024x2304_S_d0_1 := by decide
    bcast_S_S8192x1024 := by decide
    reducesTo_S8192x1024_S_d0_1 := by decide
    bcast_S_S1x1024 := by decide
    reducesTo_S1x1024_S_d0_1 := by decide }

section

variable [Cert.Pre_finite5.Facts]

/-- Under the precondition the gradient of the norm's result is real, and so are the norm's input and its factor. -/
theorem finite_real (d0 d1 d2 d3 : FVec Ideal Cert.Pre_finite5.S8192x512 .f32) (d4 : FVec Ideal Cert.Pre_finite5.S8192x256 .f32) (w : FVec Ideal Cert.Pre_finite5.S1024x2304 .f32)
    (ct x : FVec Ideal Cert.Pre_finite5.S8192x1024 .f32) (g : FVec Ideal Cert.Pre_finite5.S1x1024 .f32)
    (h : Cert.Pre_finite5.fn (F := Ideal) d0 d1 d2 d3 d4 w ct x g = fun _ => 1#1) :
    (∀ p b, ∃ y : ℝ, Ref.dh d0 d1 d2 d3 d4 w ct (ix2 p b) = (y : EReal))
    ∧ (∀ i, (((x i : EReal).toReal : ℝ) : EReal) = x i) ∧ (∀ i, (((g i : EReal).toReal : ℝ) : EReal) = g i) := by
  have hj := congrFun h (Shape.Idx.first Cert.Pre_finite5.Facts.h_S_)
  obtain ⟨hl, hr⟩ := and_one _ _ hj
  obtain ⟨h01, h23⟩ := and_one _ _ hl
  obtain ⟨h0, h1⟩ := and_one _ _ h01
  obtain ⟨h2, h3⟩ := and_one _ _ h23
  obtain ⟨h45, h678⟩ := and_one _ _ hr
  obtain ⟨h4, h5⟩ := and_one _ _ h45
  obtain ⟨h6, h78⟩ := and_one _ _ h678
  obtain ⟨h7, h8⟩ := and_one _ _ h78
  exact ⟨fun p => dh_real d0 d1 d2 d3 d4 w ct p (real_of_all d0 _ _ _ _ h0) (real_of_all d1 _ _ _ _ h1) (real_of_all d2 _ _ _ _ h2) (real_of_all d3 _ _ _ _ h3)
      (real_of_all d4 _ _ _ _ h4) (real_of_all w _ _ _ _ h5) (real_of_all ct _ _ _ _ h6),
    real_of_all x _ _ _ _ h7, real_of_all g _ _ _ _ h8⟩

end

theorem algebraic : Cert.algebraic_Kernel5Ideal_Reference5Ideal_pre_finite5 (hKernel5Ideal := Cert.Kernel5Ideal.Gen.facts)
    (hReference5Ideal := Cert.Reference5Ideal.Gen.facts) (hPre_finite5 := facts_pre) := by
  intro m ρ m' ρ' hpre hargs
  refine ⟨fun c => (dats m 0 c).arrAt 9 cfg0.N, fun c => (dats m 0 c).arrAt 10 cfg0.N, fun c => (dats m 0 c).arrAt 11 cfg0.N, Cert.Kernel5Ideal.Value.run_blocks m ρ, ?_⟩
  refine (θ_run _ _ _).mono (fun r h c => ?_) (Cert.Reference5Ideal.Value.run (F := Ideal) m' ρ')
  obtain ⟨e0, e1, e2, hrest⟩ := h c
  obtain ⟨hd, h7, h8⟩ := @finite_real facts_pre _ _ _ _ _ _ _ _ _ (hpre c)
  obtain ⟨a0, a1, a2, a3, a4, a5, a6, a7, a8⟩ := hargs c
  refine ⟨e0.trans ?_, e1.trans ?_, e2.trans ?_, hrest⟩
  · rw [Ref.out0_eq, a0, a1, a2, a3, a4, a5, a6, a7, a8]; exact (final_dx m c hd h7 h8).symm
  · rw [a0, a1, a2, a3, a4, a5, a6, a7]; exact (final_g m c).symm
  · rw [a0, a1, a2, a3, a4, a5, a6]; exact (final_b m c).symm

end Cert.InProj
-- ==== Proof.Mix.lean ====
/-
  The gradient of the mixer's output projection and of the two norms before it (program 6): what each grid point leaves.
-/
module

public import proofs.«01_k».proof.Proof.Gen.Kernel6Ideal.Value
public import Idealize.ShloMosaic.Lib.Pipeline.ValueKit.Geometry
public import Idealize.ShloMosaic.Lib.Pointwise
public import Idealize.ShloMosaic.Lib.Claim

@[expose] public section

set_option maxRecDepth 8192

noncomputable section

namespace Cert.Mix

open Cert.Kernel6Ideal Cert.Kernel6Ideal.Gen
open Idealize.ShloMosaic Idealize.ShloMosaic.TcCoe Idealize.ShloMosaic.Tactic

/-! ## What the body leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The column that is number `j` of head `h`. -/
def headCol (h : Fin 8) (j : Fin 64) : Fin 512 := ⟨h.val * 64 + j.val, by have := h.isLt; have := j.isLt; omega⟩

section Body

variable {F : FTy → Type} [FloatOps F]

/-- An array's columns, a head at a time. -/
def heads (z : FVec F S512x512 .f32) : FVec F S8x512x64 .bf16 := fun y => truncf .bf16 z bitsLt_bf16_f32 (ix2 (y 1) (headCol (y 0) (y 2)))

/-- What the store of one head writes is that head of it. -/
theorem head_store (z : FVec F S512x512 .f32) (h : Fin 8) (hs : S512x512.Slices ![0, h.val * 64] S512x64)
    (hi : ∀ a, (![h.val, 0, 0] : Fin 3 → Nat) a + S1x512x64.size a ≤ S8x512x64.size a) (x : S1x512x64.Idx) :
    shapeCast S1x512x64 (truncf .bf16 (extractStridedSlice S512x64 ![0, h.val * 64] z hs) bitsLt_bf16_f32) shapeCasts_S512x64_S1x512x64 x
      = heads z ((Rect.unit (s := S8x512x64) ![h.val, 0, 0] S1x512x64.size hi).emb x) := by
  have he : (Rect.unit (s := S8x512x64) ![h.val, 0, 0] S1x512x64.size hi).emb x = ix3 h (x 1) (x 2) := by
    funext a
    match a with
    | 0 => exact Fin.ext (by have := (x 0).isLt; show h.val + 1 * (x 0).val = h.val; have : (x 0).val < 1 := (x 0).isLt; omega)
    | 1 => exact Fin.ext (by show 0 + 1 * (x 1).val = (x 1).val; omega)
    | 2 => exact Fin.ext (by show 0 + 1 * (x 2).val = (x 2).val; omega)
  rw [he]
  obtain ⟨a, b, rfl⟩ : ∃ (a : Fin 512) (b : Fin 64), x = ix3 (0 : Fin 1) a b := ⟨x 1, x 2, by funext a; match a with | 0 => exact Subsingleton.elim (α := Fin 1) _ _ | 1 => rfl | 2 => rfl⟩
  show _ = heads z (ix3 h a b)
  have e : extractStridedSlice S512x64 ![0, h.val * 64] z hs (ix2 a b) = z (ix2 a (headCol h b)) := by
    pointwise [headCol]
  pointwise [heads]
  rfl

/-- The eight stores, the last first. -/
theorem head_pieces (z : FVec F S512x512 .f32) : ∀ p ∈ ([⟨Rect.unit (s := S8x512x64) ![7, 0, 0] S1x512x64.size inb_S8x512x64_S1x512x64_7_0_0, k0_pay2 z⟩,
      ⟨Rect.unit (s := S8x512x64) ![6, 0, 0] S1x512x64.size inb_S8x512x64_S1x512x64_6_0_0, k0_pay1 (k0_pay29 z)⟩,
      ⟨Rect.unit (s := S8x512x64) ![5, 0, 0] S1x512x64.size inb_S8x512x64_S1x512x64_5_0_0, k0_pay28 z⟩,
      ⟨Rect.unit (s := S8x512x64) ![4, 0, 0] S1x512x64.size inb_S8x512x64_S1x512x64_4_0_0, k0_pay27 z⟩,
      ⟨Rect.unit (s := S8x512x64) ![3, 0, 0] S1x512x64.size inb_S8x512x64_S1x512x64_3_0_0, k0_pay26 z⟩,
      ⟨Rect.unit (s := S8x512x64) ![2, 0, 0] S1x512x64.size inb_S8x512x64_S1x512x64_2_0_0, k0_pay25 z⟩,
      ⟨Rect.unit (s := S8x512x64) ![1, 0, 0] S1x512x64.size inb_S8x512x64_S1x512x64_1_0_0, k0_pay24 z⟩,
      ⟨Rect.unit (s := S8x512x64) ![0, 0, 0] S1x512x64.size inb_S8x512x64_S1x512x64_0_0_0, k0_pay23 z⟩] : List (View.Piece (Elt F) S8x512x64 .bf16)),
    ∀ x : p.1.shape.Idx, p.2 x = heads z (p.1.emb x) :=
  List.forall_mem_cons.2 ⟨head_store z 7 slices_S512x512_o0_448_S512x64 inb_S8x512x64_S1x512x64_7_0_0,
    List.forall_mem_cons.2 ⟨head_store z 6 slices_S512x512_o0_384_S512x64 inb_S8x512x64_S1x512x64_6_0_0,
    List.forall_mem_cons.2 ⟨head_store z 5 slices_S512x512_o0_320_S512x64 inb_S8x512x64_S1x512x64_5_0_0,
    List.forall_mem_cons.2 ⟨head_store z 4 slices_S512x512_o0_256_S512x64 inb_S8x512x64_S1x512x64_4_0_0,
    List.forall_mem_cons.2 ⟨head_store z 3 slices_S512x512_o0_192_S512x64 inb_S8x512x64_S1x512x64_3_0_0,
    List.forall_mem_cons.2 ⟨head_store z 2 slices_S512x512_o0_128_S512x64 inb_S8x512x64_S1x512x64_2_0_0,
    List.forall_mem_cons.2 ⟨head_store z 1 slices_S512x512_o0_64_S512x64 inb_S8x512x64_S1x512x64_1_0_0,
    List.forall_mem_cons.2 ⟨head_store z 0 slices_S512x512_o0_0_S512x64 inb_S8x512x64_S1x512x64_0_0_0,
    List.forall_mem_nil _⟩⟩⟩⟩⟩⟩⟩⟩

variable (x0 : Vec F S512x1024 .bf16) (x1 : Vec F S1024x1024 .bf16) (x2 x3 : Vec F S512x512 .f32) (x4 x5 : Vec F S1x512 .f32) (x6 : Vec F S512x1024 .bf16)
variable (xo9 xo10 : Vec F S1x512 .f32) (xo11 : Vec F S1024x1024 .f32)

/-- The gradients of the two groups, of what a point reads; the first by heads and transposed, as it is stored. -/
def dsbT : FVec F S8x64x512 .bf16 := k0_pay22 (k0_pay14 x0 x1 x2 x4) (k0_pay15 x2) (k0_pay16 x0 x1 x2 x4)
def dsw : FVec F S512x512 .f32 := k0_pay20 (k0_pay10 x0 x1) x3 x5
/-- A point's share in the gradients of the two norms' factors. -/
def dgsb : FVec F S1x512 .f32 := k0_pay17 x2 (k0_pay11 x0 x1) (k0_pay12 x2)
def dgsw : FVec F S1x512 .f32 := k0_pay21 (k0_pay10 x0 x1) x3

variable (c : Dev nD) (i : grid0.Coords)
variable (a0 : Memref sig .tc .vmem S512x1024 .bf16) (h0 : a0.IsWhole)
variable (a1 : Memref sig .tc .vmem S1024x1024 .bf16) (h1 : a1.IsWhole)
variable (a2 : Memref sig .tc .vmem S512x512 .f32) (h2 : a2.IsWhole)
variable (a3 : Memref sig .tc .vmem S512x512 .f32) (h3 : a3.IsWhole)
variable (a4 : Memref sig .tc .vmem S1x512 .f32) (h4 : a4.IsWhole)
variable (a5 : Memref sig .tc .vmem S1x512 .f32) (h5 : a5.IsWhole)
variable (a6 : Memref sig .tc .vmem S512x1024 .bf16) (h6 : a6.IsWhole)
variable (a7 : Memref sig .tc .vmem S8x64x512 .bf16) (h7 : a7.IsWhole)
variable (a8 : Memref sig .tc .vmem S8x512x64 .bf16) (h8 : a8.IsWhole)
variable (a9 : Memref sig .tc .vmem S1x512 .f32) (h9 : a9.IsWhole)
variable (a10 : Memref sig .tc .vmem S1x512 .f32) (h10 : a10.IsWhole)
variable (a11 : Memref sig .tc .vmem S1024x1024 .f32) (h11 : a11.IsWhole)

theorem out_A_7 (hc : cond0_0 i) : out0_A_7 c i a0 h0 a1 h1 a2 h2 a3 h3 a4 h4 a5 h5 a6 h6 a7 h7 a8 h8 a9 h9 a10 h10 a11 h11 hc x0 x1 x2 x3 x4 x5 x6 = dsbT x0 x1 x2 x4 := by
  unfold out0_A_7
  rw [View.read_writes_eq_canon _ _ _ (cover0_A_7 c i a0 h0 a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero zero3]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_A_8 (hc : cond0_0 i) : out0_A_8 c i a0 h0 a1 h1 a2 h2 a3 h3 a4 h4 a5 h5 a6 h6 a7 h7 a8 h8 a9 h9 a10 h10 a11 h11 hc x0 x1 x2 x3 x4 x5 x6 = heads (dsw x0 x1 x3 x5) := by
  unfold out0_A_8
  rw [View.read_writes_eq_canon _ _ _ (cover0_A_8 c i a0 h0 a1 h1 a2 h2 a3 h3 a4 h4 a5 h5 a6 h6 a7 h7 a8 h8 a9 h9 a10 h10 a11 h11 hc x0 x1 x2 x3 x4 x5 x6)]
  funext y
  refine View.canon_apply_of_pieces (heads (dsw x0 x1 x3 x5)) _ ?_ y (cover0_A_8 c i a0 h0 a1 h1 a2 h2 a3 h3 a4 h4 a5 h5 a6 h6 a7 h7 a8 h8 a9 h9 a10 h10 a11 h11 hc x0 x1 x2 x3 x4 x5 x6 y)
  unfold kernelRun0_A
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  exact head_pieces (dsw x0 x1 x3 x5)

theorem out_A_9 (hc : cond0_0 i) : out0_A_9 c i a0 h0 a1 h1 a2 h2 a3 h3 a4 h4 a5 h5 a6 h6 a7 h7 a8 h8 a9 h9 a10 h10 a11 h11 hc x0 x1 x2 x3 x4 x5 x6 = k0_pay3 (dgsb x0 x1 x2) k0_pay5 := by
  unfold out0_A_9
  rw [View.read_writes_eq_canon _ _ _ (cover0_A_9 c i a0 h0 a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x512) zero2, View.readCov_unit_zero (S := S1x512) _ zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_A_10 (hc : cond0_0 i) : out0_A_10 c i a0 h0 a1 h1 a2 h2 a3 h3 a4 h4 a5 h5 a6 h6 a7 h7 a8 h8 a9 h9 a10 h10 a11 h11 hc x0 x1 x2 x3 x4 x5 x6 = k0_pay4 (dgsw x0 x1 x3) k0_pay6 := by
  unfold out0_A_10
  rw [View.read_writes_eq_canon _ _ _ (cover0_A_10 c i a0 h0 a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x512) zero2, View.readCov_unit_zero (S := S1x512) _ zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_A_11 (hc : cond0_0 i) : out0_A_11 c i a0 h0 a1 h1 a2 h2 a3 h3 a4 h4 a5 h5 a6 h6 a7 h7 a8 h8 a9 h9 a10 h10 a11 h11 hc x0 x1 x2 x3 x4 x5 x6 = k0_pay9 x0 k0_pay7 x6 := by
  unfold out0_A_11
  rw [View.read_writes_eq_canon _ _ _ (cover0_A_11 c i a0 h0 a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]

theorem out_B_7 (hc : ¬cond0_0 i) : out0_B_7 c i a0 h0 a1 h1 a2 h2 a3 h3 a4 h4 a5 h5 a6 h6 a7 h7 a8 h8 a9 h9 a10 h10 a11 h11 hc x0 x1 x2 x3 x4 x5 x6 xo9 xo10 xo11 = dsbT x0 x1 x2 x4 := by
  unfold out0_B_7
  rw [View.read_writes_eq_canon _ _ _ (cover0_B_7 c i a0 h0 a1 h1 a2 h2 a3 h3 a4 h4 a5 h5 a6 h6 a7 h7 a8 h8 a9 h9 a10 h10 a11 h11 hc x0 x1 x2 x3 x4 x5 x6 xo9 xo10 xo11)]
  unfold kernelRun0_B
  dsimp only
  sl_unfold_words
  rw [View.canon_unit_zero zero3]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_B_8 (hc : ¬cond0_0 i) : out0_B_8 c i a0 h0 a1 h1 a2 h2 a3 h3 a4 h4 a5 h5 a6 h6 a7 h7 a8 h8 a9 h9 a10 h10 a11 h11 hc x0 x1 x2 x3 x4 x5 x6 xo9 xo10 xo11 = heads (dsw x0 x1 x3 x5) := by
  unfold out0_B_8
  rw [View.read_writes_eq_canon _ _ _ (cover0_B_8 c i a0 h0 a1 h1 a2 h2 a3 h3 a4 h4 a5 h5 a6 h6 a7 h7 a8 h8 a9 h9 a10 h10 a11 h11 hc x0 x1 x2 x3 x4 x5 x6 xo9 xo10 xo11)]
  funext y
  refine View.canon_apply_of_pieces (heads (dsw x0 x1 x3 x5)) _ ?_ y (cover0_B_8 c i a0 h0 a1 h1 a2 h2 a3 h3 a4 h4 a5 h5 a6 h6 a7 h7 a8 h8 a9 h9 a10 h10 a11 h11 hc x0 x1 x2 x3 x4 x5 x6 xo9 xo10 xo11 y)
  unfold kernelRun0_B
  dsimp only
  sl_unfold_words
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  exact head_pieces (dsw x0 x1 x3 x5)

theorem out_B_9 (hc : ¬cond0_0 i) : out0_B_9 c i a0 h0 a1 h1 a2 h2 a3 h3 a4 h4 a5 h5 a6 h6 a7 h7 a8 h8 a9 h9 a10 h10 a11 h11 hc x0 x1 x2 x3 x4 x5 x6 xo9 xo10 xo11 = k0_pay3 (dgsb x0 x1 x2) xo9 := by
  unfold out0_B_9
  rw [View.read_writes_eq_canon _ _ _ (cover0_B_9 c i a0 h0 a1 h1 a2 h2 a3 h3 a4 h4 a5 h5 a6 h6 a7 h7 a8 h8 a9 h9 a10 h10 a11 h11 hc x0 x1 x2 x3 x4 x5 x6 xo9 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_B_10 (hc : ¬cond0_0 i) : out0_B_10 c i a0 h0 a1 h1 a2 h2 a3 h3 a4 h4 a5 h5 a6 h6 a7 h7 a8 h8 a9 h9 a10 h10 a11 h11 hc x0 x1 x2 x3 x4 x5 x6 xo9 xo10 xo11 = k0_pay4 (dgsw x0 x1 x3) xo10 := by
  unfold out0_B_10
  rw [View.read_writes_eq_canon _ _ _ (cover0_B_10 c i a0 h0 a1 h1 a2 h2 a3 h3 a4 h4 a5 h5 a6 h6 a7 h7 a8 h8 a9 h9 a10 h10 a11 h11 hc x0 x1 x2 x3 x4 x5 x6 xo9 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]
  rfl

theorem out_B_11 (hc : ¬cond0_0 i) : out0_B_11 c i a0 h0 a1 h1 a2 h2 a3 h3 a4 h4 a5 h5 a6 h6 a7 h7 a8 h8 a9 h9 a10 h10 a11 h11 hc x0 x1 x2 x3 x4 x5 x6 xo9 xo10 xo11 = k0_pay9 x0 xo11 x6 := by
  unfold out0_B_11
  rw [View.read_writes_eq_canon _ _ _ (cover0_B_11 c i a0 h0 a1 h1 a2 h2 a3 h3 a4 h4 a5 h5 a6 h6 a7 h7 a8 h8 a9 h9 a10 h10 a11 h11 hc x0 x1 x2 x3 x4 x5 x6 xo9 xo10 xo11)]
  unfold kernelRun0_B
  dsimp only
  sl_unfold_words
  rw [View.canon_unit_zero zero2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S512x1024) zero2, View.ld_unit_zero (S := S1024x1024) zero2, View.ld_unit_zero (S := S512x512) zero2, View.ld_unit_zero (S := S1x512) zero2]

end Body

/-! ## Where the blocks lie -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0, t.val] := (by decide +kernel : ∀ t : Fin grid0.N, _)
theorem at8 : ∀ t : Fin cfg0.N, win0_8.index t = ![0, t.val, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)

/-- The row that is number `a` of row block `n`. -/
def rowAt (n : ℕ) (a : Fin 512) : Fin 8192 := ⟨n % 16 * 512 + a.val, by have := a.isLt; omega⟩

theorem point_lt (t : Fin cfg0.N) : t.val < 16 := t.isLt

section Reads

variable {F : FTy → Type} [FloatOps F]
variable (m : (ℓ : Loc nD τ sig) → Buf (Elt F) ℓ) (c : Dev nD) (t : Fin cfg0.N)

theorem blk0 (a : Fin 512) (b : Fin 1024) : iblk m c 0 t (ix2 a b) = V m c main_v26 (ix2 (rowAt t.val a) b) := by
  have := point_lt t
  blk_simp [iblk]
  refine congrArg (V m c main_v26) ?_
  blk_ext [at0, rowAt]
  all_goals omega

theorem blk1 (a : Fin 1024) (b : Fin 1024) : iblk m c 1 t (ix2 a b) = V m c main_v27 (ix2 a b) := by
  blk_simp [iblk]
  refine congrArg (V m c main_v27) ?_
  blk_ext [at1]

theorem blk2 (a : Fin 512) (b : Fin 512) : iblk m c 2 t (ix2 a b) = V m c main_arg2 (ix2 (rowAt t.val a) b) := by
  have := point_lt t
  blk_simp [iblk]
  refine congrArg (V m c main_arg2) ?_
  blk_ext [at2, rowAt]
  all_goals omega

theorem blk3 (a : Fin 512) (b : Fin 512) : iblk m c 3 t (ix2 a b) = V m c main_arg3 (ix2 (rowAt t.val a) b) := by
  have := point_lt t
  blk_simp [iblk]
  refine congrArg (V m c main_arg3) ?_
  blk_ext [at3, rowAt]
  all_goals omega

theorem blk4 (a : Fin 1) (b : Fin 512) : iblk m c 4 t (ix2 a b) = V m c main_arg4 (ix2 a b) := by
  blk_simp [iblk]
  refine congrArg (V m c main_arg4) ?_
  blk_ext [at4]

theorem blk5 (a : Fin 1) (b : Fin 512) : iblk m c 5 t (ix2 a b) = V m c main_arg5 (ix2 a b) := by
  blk_simp [iblk]
  refine congrArg (V m c main_arg5) ?_
  blk_ext [at5]

theorem blk6 (a : Fin 512) (b : Fin 1024) : iblk m c 6 t (ix2 a b) = V m c main_v25 (ix2 (rowAt t.val a) b) := by
  have := point_lt t
  blk_simp [iblk]
  refine congrArg (V m c main_v25) ?_
  blk_ext [at6, rowAt]
  all_goals omega

theorem after7 : (outsAt0 m c t.val t.isLt).1 = dsbT (iblk m c 0 t) (iblk m c 1 t) (iblk m c 2 t) (iblk m c 4 t) := by
  by_cases h : t.val % 16 = 0
  · rw [outsAt0_A m c t h]; dsimp only; rw [out_A_7]
  · rw [outsAt0_B m c t h]; dsimp only; rw [out_B_7]

theorem after8 : (outsAt0 m c t.val t.isLt).2.1 = heads (dsw (iblk m c 0 t) (iblk m c 1 t) (iblk m c 3 t) (iblk m c 5 t)) := by
  by_cases h : t.val % 16 = 0
  · rw [outsAt0_A m c t h]; dsimp only; rw [out_A_8]
  · rw [outsAt0_B m c t h]; dsimp only; rw [out_B_8]

end Reads

/-! ## The stored values at an index -/

/-- The rows' length, the small constant added to the mean square, and the factor that takes the mean. -/
def width : EReal := Ideal.ofBits .f32 0x44000000#32
def small : EReal := Ideal.ofBits .f32 0x358637BD#32
def perWidth : EReal := Ideal.ofBits .f32 0x3B000000#32

/-- A row's mean square with the small constant, and one over its root. -/
def meanSq (x : Fin 512 → EReal) : EReal := Ideal.div (∑ k, x k * x k) width + small
def root (x : Fin 512 → EReal) : EReal := Ideal.rsqrt (meanSq x)
/-- The gradient of a row of a norm's input: `d` is that of its result, `g` the factor. -/
def rowGrad (d g x : Fin 512 → EReal) (b : Fin 512) : EReal :=
  root x * (d b * g b) - x b * (root x * root x * root x) * ((∑ k, d k * g k * x k) * perWidth)

section Stored

variable (x0 : Vec Ideal S512x1024 .bf16) (x1 : Vec Ideal S1024x1024 .bf16) (x x2 x3 : Vec Ideal S512x512 .f32) (x4 x5 : Vec Ideal S1x512 .f32)

theorem dm_apply (a : Fin 512) (q : Fin 1024) : k0_pay10 x0 x1 (ix2 a q) = ∑ k : Fin 1024, x0 (ix2 a k) * x1 (ix2 q k) := by
  pointwise [k0_pay10, k0_pay8]

theorem root_sb (a : Fin 512) : k0_pay12 (F := Ideal) x (ix2 a (0 : Fin 1)) = root (fun k => x (ix2 a k)) := by
  pointwise [k0_pay12, root, meanSq, width, small]

theorem root_sw (a : Fin 512) : k0_pay19 (F := Ideal) x (ix2 a (0 : Fin 1)) = root (fun k => x (ix2 a k)) := by
  pointwise [k0_pay19, root, meanSq, width, small]

/-- The columns of the two groups in the gradient of both side by side. -/
def left (q : Fin 512) : Fin 1024 := ⟨q.val, by have := q.isLt; omega⟩
def right (q : Fin 512) : Fin 1024 := ⟨512 + q.val, by have := q.isLt; omega⟩

theorem left_apply (a q : Fin 512) : k0_pay11 x0 x1 (ix2 a q) = k0_pay10 x0 x1 (ix2 a (left q)) := by
  pointwise [k0_pay11, left]

theorem right_apply (z : FVec Ideal S512x1024 .f32) (a q : Fin 512) : k0_pay18 (F := Ideal) z (ix2 a q) = z (ix2 a (right q)) := by
  pointwise [k0_pay18, right]

theorem dsw_apply (a q : Fin 512) : dsw x0 x1 x3 x5 (ix2 a q)
    = rowGrad (fun k => k0_pay10 x0 x1 (ix2 a (right k))) (fun k => x5 (ix2 (0 : Fin 1) k)) (fun k => x3 (ix2 a k)) q := by
  unfold rowGrad
  rw [← root_sw x3 a]
  simp only [← right_apply]
  pointwise [dsw, k0_pay20, perWidth]

theorem dsbT_apply (h : Fin 8) (j : Fin 64) (a : Fin 512) : dsbT x0 x1 x2 x4 (ix3 h j a)
    = rowGrad (fun k => k0_pay10 x0 x1 (ix2 a (left k))) (fun k => x4 (ix2 (0 : Fin 1) k)) (fun k => x2 (ix2 a k)) (headCol h j) := by
  unfold rowGrad
  rw [← root_sb x2 a]
  simp only [← left_apply]
  pointwise [dsbT, k0_pay22, k0_pay14, k0_pay15, k0_pay16, k0_pay13, perWidth, headCol]

theorem heads_apply (z : FVec Ideal S512x512 .f32) (h : Fin 8) (a : Fin 512) (j : Fin 64) : heads z (ix3 h a j) = z (ix2 a (headCol h j)) := rfl

theorem dgsb_apply (b : Fin 512) : dgsb x0 x1 x2 (ix2 (0 : Fin 1) b) = ∑ k : Fin 512, k0_pay10 x0 x1 (ix2 k (left b)) * x2 (ix2 k b) * root (fun q => x2 (ix2 k q)) := by
  simp only [← left_apply, ← root_sb]
  pointwise [dgsb, k0_pay17]

theorem dgsw_apply (b : Fin 512) : dgsw x0 x1 x3 (ix2 (0 : Fin 1) b) = ∑ k : Fin 512, k0_pay10 x0 x1 (ix2 k (right b)) * x3 (ix2 k b) * root (fun q => x3 (ix2 k q)) := by
  simp only [← right_apply, ← root_sw]
  pointwise [dgsw, k0_pay21]

theorem add_sb (d acc : Vec Ideal S1x512 .f32) (b : Fin 512) : k0_pay3 d acc (ix2 (0 : Fin 1) b) = acc (ix2 (0 : Fin 1) b) + d (ix2 (0 : Fin 1) b) := by
  pointwise [k0_pay3]

theorem add_sw (d acc : Vec Ideal S1x512 .f32) (b : Fin 512) : k0_pay4 d acc (ix2 (0 : Fin 1) b) = acc (ix2 (0 : Fin 1) b) + d (ix2 (0 : Fin 1) b) := by
  pointwise [k0_pay4]

theorem add_w (x6 : Vec Ideal S512x1024 .bf16) (acc : Vec Ideal S1024x1024 .f32) (a b : Fin 1024) :
    k0_pay9 x0 acc x6 (ix2 a b) = acc (ix2 a b) + ∑ k : Fin 512, x6 (ix2 k a) * x0 (ix2 k b) := by
  pointwise [k0_pay9, k0_pay8]

end Stored

end Cert.Mix
-- ==== Proof.MixRef.lean ====
/-
  The reference of program 6, step by step: its results as compositions of named arrays, and these at an index.
-/
module

public import proofs.«01_k».proof.Proof.Gen.Reference6Ideal.Run
public import proofs.«01_k».proof.Proof.Mix
public import Idealize.ShloMosaic.Lib.Pointwise
public import Idealize.ShloMosaic.Lib.Pointwise.Sums

@[expose] public section

set_option maxRecDepth 8192

noncomputable section

namespace Cert.Mix.Ref

open Cert.Reference6Ideal Cert.Reference6Ideal.Gen Idealize.ShloMosaic Idealize.ShloMosaic.TcCoe Idealize.SL.Sem

section Terms

variable {F : FTy → Type} [FloatOps F]

/-- A column of one value. -/
def fill1 (w : BitVec 32) : FVec F S8192x1 .f32 := broadcastInDim S8192x1 ![] bcast_S_S8192x1 (constant S_ .f32 w)
/-- A column, repeated. -/
def spread (x : FVec F S8192x1 .f32) : FVec F S8192x512 .f32 := broadcastInDim S8192x512 ![0, 1] bcast_S8192x1_S8192x512_0_1 x
/-- A row, repeated. -/
def stack (g : FVec F S1x512 .f32) : FVec F S8192x512 .f32 := broadcastInDim S8192x512 ![0, 1] bcast_S1x512_S8192x512_0_1 g
/-- The sums of the rows. -/
def rowSum (x : FVec F S8192x512 .f32) : FVec F S8192 .f32 := Host.reduceAdd x (constant S_ .f32 0x00000000#32) reducesTo_S8192x512_S8192_d1 h_S_

variable (x dy : FVec F S8192x512 .f32) (g : FVec F S1x512 .f32)

/-- The rows' mean squares with the small constant. -/
def var : FVec F S8192x1 .f32 := addf (Host.divf (broadcastInDim S8192x1 ![0] bcast_S8192_S8192x1_0 (rowSum (mulf x x))) (fill1 0x44000000#32)) (fill1 0x358637BD#32)
/-- One over the root of them. -/
def rstd : FVec F S8192x1 .f32 := Host.rsqrt (var x)
/-- The rows over their root mean squares. -/
def unit : FVec F S8192x512 .f32 := mulf x (spread (rstd x))
/-- The gradient of the norm's result times its factor. -/
def scaled : FVec F S8192x512 .f32 := mulf dy (stack g)
/-- The part of the input's gradient through the mean square. -/
def thruVar : FVec F S8192x512 .f32 :=
  mulf (broadcastInDim S8192x512 ![0] bcast_S8192_S8192x512_0 (Host.reduceAdd (Host.divf (mulf (shapeCast S8192x1 (rowSum (mulf x (scaled dy g))) shapeCasts_S8192_S8192x1)
    (mulf (fill1 0xBF000000#32) (Host.divf (rstd x) (var x)))) (fill1 0x44000000#32)) (constant S_ .f32 0x00000000#32) reducesTo_S8192x1_S8192_d1 h_S_))
    (mulf (broadcastInDim S8192x512 ![] bcast_S_S8192x512 (constant S_ .f32 0x40000000#32)) x)
/-- The gradients of the norm's input and factor. -/
def dx : FVec F S8192x512 .f32 := addf (mulf (scaled dy g) (spread (rstd x))) (thruVar x dy g)
def dg : FVec F S1x512 .f32 :=
  shapeCast S1x512 (Host.reduceAdd (mulf (unit x) dy) (constant S_ .f32 0x00000000#32) reducesTo_S8192x512_S512_d0 h_S_) shapeCasts_S512_S1x512

variable (ct : FVec F S8192x1024 .f32) (w : FVec F S1024x1024 .f32) (sb sw : FVec F S8192x512 .f32) (gsb gsw : FVec F S1x512 .f32)

/-- The two norms' results side by side. -/
def merged : FVec F S8192x1024 .f32 :=
  concatenate S8192x1024 1 [⟨S8192x512, mulf (unit sb) (stack gsb)⟩, ⟨S8192x512, mulf (unit sw) (stack gsw)⟩] concatenates_S8192x512_S8192x512_S8192x1024_d1
/-- The gradient of both side by side, and of each. -/
def dm : FVec F S8192x1024 .f32 := Host.dotGeneral dot_S8192x1024_S1024x1024_S8192x1024_1_1_0_0_n_n none ct w
def dmSb : FVec F S8192x512 .f32 := extractStridedSlice S8192x512 ![0, 0] (dm ct w) slices_S8192x1024_S8192x512_0_0
def dmSw : FVec F S8192x512 .f32 := extractStridedSlice S8192x512 ![0, 512] (dm ct w) slices_S8192x1024_S8192x512_0_512

def out0 : FVec F S8x64x8192 .bf16 :=
  truncf .bf16 (transpose S8x64x8192 [1, 2, 0] (shapeCast S8192x8x64 (dx sb (dmSb ct w) gsb) shapeCasts_S8192x512_S8192x8x64) transposes_S8192x8x64_S8x64x8192_1_2_0) bitsLt_bf16_f32
def out1 : FVec F S8x8192x64 .bf16 :=
  truncf .bf16 (transpose S8x8192x64 [1, 0, 2] (shapeCast S8192x8x64 (dx sw (dmSw ct w) gsw) shapeCasts_S8192x512_S8192x8x64) transposes_S8192x8x64_S8x8192x64_1_0_2) bitsLt_bf16_f32
def out4 : FVec F S1024x1024 .f32 :=
  transpose S1024x1024 [1, 0] (Host.dotGeneral dot_S8192x1024_S8192x1024_S1024x1024_0_0_1_1_n_n none ct (merged sb sw gsb gsw)) transposes_S1024x1024_S1024x1024_1_0

/-- The reference's run, its results by these names. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = out0 (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v80) = out1 (m ((c.tc : Thread nD τ).loc main_arg0)) (m ((c.tc : Thread nD τ).loc main_arg1))
        (m ((c.tc : Thread nD τ).loc main_arg3)) (m ((c.tc : Thread nD τ).loc main_arg5))
      ∧ r.2.mem ((c.tc : Thread nD τ).loc main_v60) = dg (m ((c.tc : Thread nD τ).loc main_arg2))
        (dmSb (m ((c.tc : Thread nD τ).loc main_arg0)) (m ((c.tc : Thread nD τ).loc main_arg1)))
      ∧ r.2.mem ((c.tc : Thread nD τ).loc main_v43) = dg (m ((c.tc : Thread nD τ).loc main_arg3))
        (dmSw (m ((c.tc : Thread nD τ).loc main_arg0)) (m ((c.tc : Thread nD τ).loc main_arg1)))
      ∧ r.2.mem ((c.tc : Thread nD τ).loc main_v37) = out4 (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => by
    obtain ⟨e0, e1, e2, e3, e4, hrest⟩ := h c
    exact ⟨e0, e1, e2, e3, e4, hrest⟩) (Value.run m ρ)

end Terms

/-! ## At an index -/

section Real

variable (x dy : FVec Ideal S8192x512 .f32) (g : FVec Ideal S1x512 .f32)

theorem var_apply (p : Fin 8192) : var x (ix2 p (0 : Fin 1)) = meanSq (fun k => x (ix2 p k)) := by
  pointwise [var, rowSum, fill1, meanSq, width, small]

theorem rstd_apply (p : Fin 8192) : rstd x (ix2 p (0 : Fin 1)) = root (fun k => x (ix2 p k)) := by
  unfold root
  rw [← var_apply]
  pointwise [rstd]

theorem scaled_apply (p : Fin 8192) (b : Fin 512) : scaled dy g (ix2 p b) = dy (ix2 p b) * g (ix2 (0 : Fin 1) b) := by
  pointwise [scaled, stack]

theorem thruVar_apply (p : Fin 8192) (b : Fin 512) : thruVar x dy g (ix2 p b)
    = Ideal.div ((∑ k : Fin 512, x (ix2 p k) * scaled dy g (ix2 p k))
        * (Ideal.ofBits .f32 0xBF000000#32 * Ideal.div (rstd x (ix2 p (0 : Fin 1))) (var x (ix2 p (0 : Fin 1))))) width
      * (Ideal.ofBits .f32 0x40000000#32 * x (ix2 p b)) := by
  pointwise [thruVar, rowSum, fill1, width]
  rw [Fin.sum_univ_one]

theorem dx_apply (p : Fin 8192) (b : Fin 512) : dx x dy g (ix2 p b)
    = scaled dy g (ix2 p b) * rstd x (ix2 p (0 : Fin 1)) + thruVar x dy g (ix2 p b) := by
  pointwise [dx, spread]

theorem dg_apply (b : Fin 512) : dg x dy (ix2 (0 : Fin 1) b) = ∑ p : Fin 8192, x (ix2 p b) * root (fun k => x (ix2 p k)) * dy (ix2 p b) := by
  simp only [← rstd_apply]
  pointwise [dg, unit, spread]

variable (ct : FVec Ideal S8192x1024 .f32) (w : FVec Ideal S1024x1024 .f32) (sb sw : FVec Ideal S8192x512 .f32) (gsb gsw : FVec Ideal S1x512 .f32)

theorem dm_apply (p : Fin 8192) (q : Fin 1024) : dm ct w (ix2 p q) = ∑ k : Fin 1024, ct (ix2 p k) * w (ix2 q k) := by
  pointwise [dm]

theorem dmSb_apply (p : Fin 8192) (q : Fin 512) : dmSb ct w (ix2 p q) = dm ct w (ix2 p (left q)) := by
  pointwise [dmSb, left]

theorem dmSw_apply (p : Fin 8192) (q : Fin 512) : dmSw ct w (ix2 p q) = dm ct w (ix2 p (right q)) := by
  pointwise [dmSw, right]

theorem out0_apply (h : Fin 8) (j : Fin 64) (p : Fin 8192) : out0 ct w sb gsb (ix3 h j p) = dx sb (dmSb ct w) gsb (ix2 p (headCol h j)) := by
  pointwise [out0, headCol]

theorem out1_apply (h : Fin 8) (p : Fin 8192) (j : Fin 64) : out1 ct w sw gsw (ix3 h p j) = dx sw (dmSw ct w) gsw (ix2 p (headCol h j)) := by
  pointwise [out1, headCol]

theorem out4_apply (a b : Fin 1024) : out4 ct sb sw gsb gsw (ix2 a b) = ∑ p : Fin 8192, ct (ix2 p b) * merged sb sw gsb gsw (ix2 p a) := by
  pointwise [out4]

end Real

/-! ## A row of the two forms -/

section Row

/-- A mean square with the small constant is positive. -/
theorem meanSq_pos (x : Fin 512 → EReal) : 0 < meanSq x := by
  have hs : 0 ≤ ∑ k, x k * x k := Finset.sum_nonneg fun k _ => by
    induction x k using EReal.rec with
    | bot => simp
    | top => simp
    | coe r => rw [← EReal.coe_mul]; exact_mod_cast mul_self_nonneg r
  have hw : width = ((512 : ℝ) : EReal) := by simp [width, Ideal.ofBits, Ideal.ieee, -EReal.coe_mul]; norm_num
  have he : ∃ e : ℝ, 0 < e ∧ small = (e : EReal) := by
    refine ⟨_, ?_, by simp [small, Ideal.ofBits, Ideal.ieee, -EReal.coe_mul]; rfl⟩
    positivity
  obtain ⟨e, h0, he⟩ := he
  unfold meanSq
  rw [hw, he, Ideal.div_coe (by norm_num)]
  have : (0 : EReal) ≤ (∑ k, x k * x k) * ((1 / 512 : ℝ) : EReal) := mul_nonneg hs (by exact_mod_cast (by norm_num : (0 : ℝ) ≤ 1 / 512))
  exact lt_of_lt_of_le (by exact_mod_cast h0 : (0 : EReal) < e) (le_add_of_nonneg_left this)

/-- One over the root, over what it is the root of, is its cube. -/
theorem root_div (x : Fin 512 → EReal) : Ideal.div (root x) (meanSq x) = root x * root x * root x := by
  have h := meanSq_pos x
  unfold root
  generalize meanSq x = v at h
  induction v using EReal.rec with
  | bot => simp at h
  | top => simp [Ideal.div]
  | coe r =>
    have hr : 0 < r := by exact_mod_cast h
    have hq : 0 < Real.sqrt r := Real.sqrt_pos.2 hr
    rw [Ideal.rsqrt_coe, if_neg (not_lt.2 hr.le), if_neg hr.ne', Ideal.div_coe hr.ne', ← EReal.coe_mul, ← EReal.coe_mul, ← EReal.coe_mul]
    refine congrArg _ ?_
    have := Real.mul_self_sqrt hr.le
    field_simp
    nlinarith [this]

theorem row_eq (x dy : FVec Ideal S8192x512 .f32) (g : FVec Ideal S1x512 .f32) (p : Fin 8192) (b : Fin 512) : dx x dy g (ix2 p b)
    = rowGrad (fun k => dy (ix2 p k)) (fun k => g (ix2 (0 : Fin 1) k)) (fun k => x (ix2 p k)) b := by
  have hw : width = ((512 : ℝ) : EReal) := by simp [width, Ideal.ofBits, Ideal.ieee, -EReal.coe_mul]; norm_num
  have hp : perWidth = ((1 / 512 : ℝ) : EReal) := by simp [perWidth, Ideal.ofBits, Ideal.ieee, -EReal.coe_mul]; norm_num
  have h2 : Ideal.ofBits .f32 0x40000000#32 = ((2 : ℝ) : EReal) := by simp [Ideal.ofBits, Ideal.ieee, -EReal.coe_mul]; norm_num
  have hm : Ideal.ofBits .f32 0xBF000000#32 = ((-(1 / 2) : ℝ) : EReal) := by simp [Ideal.ofBits, Ideal.ieee, -EReal.coe_mul]; norm_num
  rw [dx_apply, thruVar_apply, rstd_apply, var_apply, root_div, hw, h2, hm, Ideal.div_coe (by norm_num), ← hp]
  simp only [scaled_apply]
  unfold rowGrad
  rw [show (∑ k, dy (ix2 p k) * g (ix2 (0 : Fin 1) k) * x (ix2 p k)) = ∑ k, x (ix2 p k) * (dy (ix2 p k) * g (ix2 (0 : Fin 1) k)) from
    Finset.sum_congr rfl fun k _ => mul_comm (G := EReal) _ _]
  generalize (∑ k, x (ix2 p k) * (dy (ix2 p k) * g (ix2 (0 : Fin 1) k))) = s
  generalize root (fun k => x (ix2 p k)) = r
  rw [sub_eq_add_neg, mul_comm (G := EReal) r (dy (ix2 p b) * g (ix2 (0 : Fin 1) b))]
  refine congrArg (fun z : EReal => dy (ix2 p b) * g (ix2 (0 : Fin 1) b) * r + z) ?_
  have e : s * (((-(1 / 2) : ℝ) : EReal) * (r * r * r)) * perWidth * (((2 : ℝ) : EReal) * x (ix2 p b))
      = (((-(1 / 2) : ℝ) : EReal) * ((2 : ℝ) : EReal)) * (x (ix2 p b) * (r * r * r) * (s * perWidth)) := by
    ac_rfl
  rw [e, ← EReal.coe_mul, show (-(1 / 2) * 2 : ℝ) = -1 by norm_num, EReal.coe_neg, EReal.coe_one, EReal.neg_mul, one_mul]

end Row

end Cert.Mix.Ref
-- ==== Proof.MixClaim.lean ====
/-
  The gradient of the mixer's output projection and of the two norms before it (program 6): the kernel's five arrays are the
  reference's, whatever the arguments hold.
-/
module

public import proofs.«01_k».proof.Defs
public import proofs.«01_k».proof.Proof.Mix
public import proofs.«01_k».proof.Proof.MixRef

@[expose] public section

set_option maxRecDepth 8192

noncomputable section

namespace Cert.Mix

open Cert.Kernel6Ideal Cert.Kernel6Ideal.Gen
open Idealize.ShloMosaic Idealize.ShloMosaic.TcCoe Idealize.ShloMosaic.Tactic Idealize.SL.Sem

section Tiles

variable (ct : FVec Ideal S8192x1024 .f32) (dy x : FVec Ideal S8192x512 .f32) (M : FVec Ideal S8192x1024 .f32)

/-- The share of one row block in the gradients of a norm's factor and of the weights. -/
def tileG (n : ℕ) (b : Fin 512) : EReal := ∑ k : Fin 512, dy (ix2 (rowAt n k) b) * x (ix2 (rowAt n k) b) * root (fun q => x (ix2 (rowAt n k) q))
def tileW (n : ℕ) (a b : Fin 1024) : EReal := ∑ k : Fin 512, M (ix2 (rowAt n k) a) * ct (ix2 (rowAt n k) b)

/-- The blocks' sums are those over all rows. -/
theorem sum_tiles (f : Fin 8192 → EReal) : ∑ s ∈ Finset.range (15 + 1), ∑ k : Fin 512, f (rowAt s k) = ∑ k, f k := by
  rw [Finset.sum_range]
  refine Eq.trans ?_ (Fin.sum_univ_tiles 16 512 (N := 8192) (by norm_num) _).symm
  refine Finset.sum_congr rfl fun s _ => Finset.sum_congr rfl fun k _ => ?_
  have hs := s.isLt
  exact congrArg f (Fin.ext (by show s.val % 16 * 512 + k.val = _; congr 2; omega))

end Tiles

/-! ## The kernel's arrays -/

section Final

variable (m : (ℓ : Loc nD τ sig) → Buf (Elt Ideal) ℓ) (c : Dev nD)

def A0 : FVec Ideal S8192x1024 .f32 := m ((c.tc : Thread nD τ).loc main_arg0)
def A1 : FVec Ideal S1024x1024 .f32 := m ((c.tc : Thread nD τ).loc main_arg1)
def A2 : FVec Ideal S8192x512 .f32 := m ((c.tc : Thread nD τ).loc main_arg2)
def A3 : FVec Ideal S8192x512 .f32 := m ((c.tc : Thread nD τ).loc main_arg3)
def A4 : FVec Ideal S1x512 .f32 := m ((c.tc : Thread nD τ).loc main_arg4)
def A5 : FVec Ideal S1x512 .f32 := m ((c.tc : Thread nD τ).loc main_arg5)

/-- The two groups after their norms, and the gradients of these. -/
abbrev mg : FVec Ideal S8192x1024 .f32 := Ref.merged (A2 m c) (A3 m c) (A4 m c) (A5 m c)
abbrev gSb : FVec Ideal S8192x512 .f32 := Ref.dmSb (A0 m c) (A1 m c)
abbrev gSw : FVec Ideal S8192x512 .f32 := Ref.dmSw (A0 m c) (A1 m c)

theorem V_25 : V m c main_v25 = truncf .bf16 (mg m c) bitsLt_bf16_f32 := by
  entry_read
  rfl
theorem V_26 : V m c main_v26 = truncf .bf16 (A0 m c) bitsLt_bf16_f32 := by
  entry_read
  rfl
theorem V_27 : V m c main_v27 = truncf .bf16 (A1 m c) bitsLt_bf16_f32 := by
  entry_read
  rfl

variable (t : Fin cfg0.N)

theorem point_dm (a : Fin 512) (q : Fin 1024) : k0_pay10 (F := Ideal) (iblk m c 0 t) (iblk m c 1 t) (ix2 a q)
    = Ref.dm (A0 m c) (A1 m c) (ix2 (rowAt t.val a) q) := by
  rw [dm_apply, Ref.dm_apply]
  simp only [blk0, blk1, V_26, V_27]
  rfl

theorem point_sb (a : Fin 512) (q : Fin 512) : k0_pay10 (F := Ideal) (iblk m c 0 t) (iblk m c 1 t) (ix2 a (left q)) = gSb m c (ix2 (rowAt t.val a) q) := by
  rw [point_dm]
  exact (Ref.dmSb_apply (A0 m c) (A1 m c) (rowAt t.val a) q).symm

theorem point_sw (a : Fin 512) (q : Fin 512) : k0_pay10 (F := Ideal) (iblk m c 0 t) (iblk m c 1 t) (ix2 a (right q)) = gSw m c (ix2 (rowAt t.val a) q) := by
  rw [point_dm]
  exact (Ref.dmSw_apply (A0 m c) (A1 m c) (rowAt t.val a) q).symm

theorem point_x2 (a : Fin 512) (b : Fin 512) : iblk m c 2 t (ix2 a b) = A2 m c (ix2 (rowAt t.val a) b) := by
  rw [blk2, V_main_arg2]; rfl
theorem point_x3 (a : Fin 512) (b : Fin 512) : iblk m c 3 t (ix2 a b) = A3 m c (ix2 (rowAt t.val a) b) := by
  rw [blk3, V_main_arg3]; rfl
theorem point_g4 (b : Fin 512) : iblk m c 4 t (ix2 (0 : Fin 1) b) = A4 m c (ix2 (0 : Fin 1) b) := by
  rw [blk4, V_main_arg4]; rfl
theorem point_g5 (b : Fin 512) : iblk m c 5 t (ix2 (0 : Fin 1) b) = A5 m c (ix2 (0 : Fin 1) b) := by
  rw [blk5, V_main_arg5]; rfl

theorem step_sb (acc : Vec Ideal S1x512 .f32) (b : Fin 512) : k0_pay3 (dgsb (F := Ideal) (iblk m c 0 t) (iblk m c 1 t) (iblk m c 2 t)) acc (ix2 (0 : Fin 1) b)
    = acc (ix2 (0 : Fin 1) b) + tileG (gSb m c) (A2 m c) t.val b := by
  rw [add_sb, dgsb_apply]
  simp only [point_sb, point_x2]
  rfl

theorem step_sw (acc : Vec Ideal S1x512 .f32) (b : Fin 512) : k0_pay4 (dgsw (F := Ideal) (iblk m c 0 t) (iblk m c 1 t) (iblk m c 3 t)) acc (ix2 (0 : Fin 1) b)
    = acc (ix2 (0 : Fin 1) b) + tileG (gSw m c) (A3 m c) t.val b := by
  rw [add_sw, dgsw_apply]
  simp only [point_sw, point_x3]
  rfl

theorem step_w (acc : Vec Ideal S1024x1024 .f32) (a b : Fin 1024) : k0_pay9 (F := Ideal) (iblk m c 0 t) acc (iblk m c 6 t) (ix2 a b)
    = acc (ix2 a b) + tileW (A0 m c) (mg m c) t.val a b := by
  rw [add_w]
  simp only [blk0, blk6, V_25, V_26]
  rfl

/-- The three sums after the row blocks up to a point. -/
theorem sums : ∀ (n : ℕ) (h : n < cfg0.N),
    (∀ b : Fin 512, (outsAt0 m c n h).2.2.1 (ix2 (0 : Fin 1) b) = ∑ s ∈ Finset.range (n + 1), tileG (gSb m c) (A2 m c) s b)
    ∧ (∀ b : Fin 512, (outsAt0 m c n h).2.2.2.1 (ix2 (0 : Fin 1) b) = ∑ s ∈ Finset.range (n + 1), tileG (gSw m c) (A3 m c) s b)
    ∧ ∀ a b : Fin 1024, (outsAt0 m c n h).2.2.2.2 (ix2 a b) = ∑ s ∈ Finset.range (n + 1), tileW (A0 m c) (mg m c) s a b := by
  intro n
  induction n with
  | zero =>
    intro h
    rw [outsAt0_A m c ⟨0, h⟩ rfl]
    dsimp only
    rw [out_A_9, out_A_10, out_A_11]
    refine ⟨fun b => ?_, fun b => ?_, fun a b => ?_⟩
    · rw [step_sb, Finset.sum_range_one]
      pointwise [k0_pay5]
    · rw [step_sw, Finset.sum_range_one]
      pointwise [k0_pay6]
    · rw [step_w, Finset.sum_range_one]
      pointwise [k0_pay7]
  | succ n ih =>
    intro h
    have hN : n + 1 < 16 := h
    rw [outsAt0_B m c ⟨n + 1, h⟩ (by show ¬(n + 1) % 16 = 0; omega)]
    dsimp only
    rw [out_B_9, out_B_10, out_B_11]
    obtain ⟨i1, i2, i3⟩ := ih (by omega)
    refine ⟨fun b => ?_, fun b => ?_, fun a b => ?_⟩
    · rw [step_sb, Finset.sum_range_succ _ (n + 1)]
      exact congrArg (· + _) (i1 b)
    · rw [step_sw, Finset.sum_range_succ _ (n + 1)]
      exact congrArg (· + _) (i2 b)
    · rw [step_w, Finset.sum_range_succ _ (n + 1)]
      exact congrArg (· + _) (i3 a b)

theorem final_sb : (dats m 0 c).arrAt 7 cfg0.N = Ref.out0 (F := Ideal) (A0 m c) (A1 m c) (A2 m c) (A4 m c) := by
  refine (dats m 0 c).arrAt_eq_of_covers 7 _ (by decide +kernel) fun t hf y => ?_
  have := point_lt t
  blk_simp
  obtain ⟨h, j, a, rfl⟩ : ∃ (h : Fin 8) (j : Fin 64) (a : Fin 512), y = ix3 h j a := ⟨y 0, y 1, y 2, by funext a; match a with | 0 => rfl | 1 => rfl | 2 => rfl⟩
  have he : (win0_7.blk t).view.emb (ix3 h j a) = ix3 h j (rowAt t.val a) := by
    blk_ext [at7, rowAt]
    all_goals omega
  refine Eq.trans (congrFun (after7 m c t) (ix3 h j a)) ?_
  rw [he, dsbT_apply, Ref.out0_apply, Ref.row_eq]
  simp only [point_sb, point_x2, point_g4]

theorem final_sw : (dats m 0 c).arrAt 8 cfg0.N = Ref.out1 (F := Ideal) (A0 m c) (A1 m c) (A3 m c) (A5 m c) := by
  refine (dats m 0 c).arrAt_eq_of_covers 8 _ (by decide +kernel) fun t hf y => ?_
  have := point_lt t
  blk_simp
  obtain ⟨h, a, j, rfl⟩ : ∃ (h : Fin 8) (a : Fin 512) (j : Fin 64), y = ix3 h a j := ⟨y 0, y 1, y 2, by funext a; match a with | 0 => rfl | 1 => rfl | 2 => rfl⟩
  have he : (win0_8.blk t).view.emb (ix3 h a j) = ix3 h (rowAt t.val a) j := by
    blk_ext [at8, rowAt]
    all_goals omega
  refine Eq.trans (congrFun (after8 m c t) (ix3 h a j)) ?_
  rw [he, heads_apply, dsw_apply, Ref.out1_apply, Ref.row_eq]
  simp only [point_sw, point_x3, point_g5]

theorem final_gsb : (dats m 0 c).arrAt 9 cfg0.N = Ref.dg (F := Ideal) (A2 m c) (gSb m c) := by
  refine (dats m 0 c).arrAt_eq_of_covers 9 _ (by decide +kernel) fun t hf y => ?_
  have := point_lt t
  have hl : t.val = 15 := by have := (flush0_9 _).1 hf; omega
  blk_simp
  obtain ⟨b, rfl⟩ : ∃ b : Fin 512, y = ix2 (0 : Fin 1) b := ⟨y 1, by funext a; match a with | 0 => exact Subsingleton.elim (α := Fin 1) _ _ | 1 => rfl⟩
  have he : (win0_9.blk t).view.emb (ix2 (0 : Fin 1) b) = ix2 (0 : Fin 1) b := by
    blk_ext [at9]
  refine Eq.trans ((sums m c t.val t.isLt).1 b) ?_
  rw [he, Ref.dg_apply, hl]
  refine (sum_tiles fun p => gSb m c (ix2 p b) * A2 m c (ix2 p b) * root (fun q => A2 m c (ix2 p q))).trans ?_
  exact Finset.sum_congr rfl fun k _ => (mul_assoc (G := EReal) _ _ _).trans (mul_comm (G := EReal) _ _)

theorem final_gsw : (dats m 0 c).arrAt 10 cfg0.N = Ref.dg (F := Ideal) (A3 m c) (gSw m c) := by
  refine (dats m 0 c).arrAt_eq_of_covers 10 _ (by decide +kernel) fun t hf y => ?_
  have := point_lt t
  have hl : t.val = 15 := by have := (flush0_10 _).1 hf; omega
  blk_simp
  obtain ⟨b, rfl⟩ : ∃ b : Fin 512, y = ix2 (0 : Fin 1) b := ⟨y 1, by funext a; match a with | 0 => exact Subsingleton.elim (α := Fin 1) _ _ | 1 => rfl⟩
  have he : (win0_10.blk t).view.emb (ix2 (0 : Fin 1) b) = ix2 (0 : Fin 1) b := by
    blk_ext [at10]
  refine Eq.trans ((sums m c t.val t.isLt).2.1 b) ?_
  rw [he, Ref.dg_apply, hl]
  refine (sum_tiles fun p => gSw m c (ix2 p b) * A3 m c (ix2 p b) * root (fun q => A3 m c (ix2 p q))).trans ?_
  exact Finset.sum_congr rfl fun k _ => (mul_assoc (G := EReal) _ _ _).trans (mul_comm (G := EReal) _ _)

theorem final_w : (dats m 0 c).arrAt 11 cfg0.N = Ref.out4 (F := Ideal) (A0 m c) (A2 m c) (A3 m c) (A4 m c) (A5 m c) := by
  refine (dats m 0 c).arrAt_eq_of_covers 11 _ (by decide +kernel) fun t hf y => ?_
  have := point_lt t
  have hl : t.val = 15 := by have := (flush0_11 _).1 hf; omega
  blk_simp
  obtain ⟨a, b, rfl⟩ : ∃ a b : Fin 1024, y = ix2 a b := ⟨y 0, y 1, by funext a; match a with | 0 => rfl | 1 => rfl⟩
  have he : (win0_11.blk t).view.emb (ix2 a b) = ix2 a b := by
    blk_ext [at11]
  refine Eq.trans ((sums m c t.val t.isLt).2.2 a b) ?_
  rw [he, Ref.out4_apply, hl]
  refine (sum_tiles fun p => mg m c (ix2 p a) * A0 m c (ix2 p b)).trans ?_
  exact Finset.sum_congr rfl fun k _ => mul_comm (G := EReal) _ _

end Final

/-! ## The claim -/

theorem algebraic : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Cert.Kernel6Ideal.Value.run_blocks m ρ, ?_⟩
  refine (θ_run _ _ _).mono (fun r h c => ?_) (Ref.run (F := Ideal) m' ρ')
  obtain ⟨e0, e1, e2, e3, e4, hrest⟩ := h c
  obtain ⟨a0, a1, a2, a3, a4, a5⟩ := hargs c
  refine ⟨e0.trans ?_, e1.trans ?_, e2.trans ?_, e3.trans ?_, e4.trans ?_, hrest⟩
  · rw [a0, a1, a2, a4]; exact (final_sb m c).symm
  · rw [a0, a1, a3, a5]; exact (final_sw m c).symm
  · rw [a0, a1, a2]; exact (final_gsb m c).symm
  · rw [a0, a1, a3]; exact (final_gsw m c).symm
  · rw [a0, a2, a3, a4, a5]; exact (final_w m c).symm

end Cert.Mix
-- ==== Proof.FfnUp.lean ====
/-
  The feed-forward's first product and its gate (program 7): what each grid point leaves, and the kernel's three arrays are the reference's.
-/
module

public import proofs.«01_k».proof.Proof.Gen.Kernel7Ideal.Value
public import proofs.«01_k».proof.Proof.Gen.Reference7Ideal.Run
public import proofs.«01_k».proof.Proof.RealArg
public import Idealize.ShloMosaic.Lib.Pipeline.ValueKit.Geometry
public import Idealize.ShloMosaic.Lib.Pointwise
public import Idealize.ShloMosaic.Lib.Pointwise.Sums
public import Idealize.ShloMosaic.Lib.Claim

@[expose] public section

set_option maxRecDepth 8192

noncomputable section

/-! ## What the reference computes -/

namespace Cert.FfnUp.Ref

open Cert.Reference7Ideal Cert.Reference7Ideal.Gen Idealize.ShloMosaic Idealize.ShloMosaic.TcCoe Idealize.SL.Sem

section Terms

variable {F : FTy → Type} [FloatOps F]
variable (h : FVec F S8192x1024 .f32) (w : FVec F S1024x5632 .f32)

/-- The product, and its two halves of columns. -/
def prod : FVec F S8192x5632 .f32 := Host.dotGeneral dot_S8192x1024_S1024x5632_S8192x5632_1_0_0_1_n_n none h w
def gate : FVec F S8192x2816 .f32 := extractStridedSlice S8192x2816 ![0, 0] (prod h w) slices_S8192x5632_S8192x2816_0_0
def up : FVec F S8192x2816 .f32 := extractStridedSlice S8192x2816 ![0, 2816] (prod h w) slices_S8192x5632_S8192x2816_0_2816
def ones : FVec F S8192x2816 .f32 := broadcastInDim S8192x2816 ![] bcast_S_S8192x2816 (constant S_ .f32 0x3F800000#32)
/-- The logistic function of the gate. -/
def gateSig (g : FVec F S8192x2816 .f32) : FVec F S8192x2816 .f32 := Host.divf ones (addf ones (Host.exp (Host.negf g)))
/-- The three results, of the gate and the other half. -/
def act (g u : FVec F S8192x2816 .f32) : FVec F S8192x2816 .bf16 := truncf .bf16 (mulf (mulf g (gateSig g)) u) bitsLt_bf16_f32
def silu (g : FVec F S8192x2816 .f32) : FVec F S8192x2816 .bf16 := truncf .bf16 (mulf g (gateSig g)) bitsLt_bf16_f32
def slope (g u : FVec F S8192x2816 .f32) : FVec F S8192x2816 .bf16 :=
  truncf .bf16 (addf (mulf u (gateSig g)) (mulf (mulf g u) (mulf (gateSig g) (subf ones (gateSig g))))) bitsLt_bf16_f32

/-- The reference's run, its results by these names. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = act (gate (m ((c.tc : Thread nD τ).loc main_arg0)) (m ((c.tc : Thread nD τ).loc main_arg1)))
        (up (m ((c.tc : Thread nD τ).loc main_arg0)) (m ((c.tc : Thread nD τ).loc main_arg1)))
      ∧ r.2.mem ((c.tc : Thread nD τ).loc main_v7) = silu (gate (m ((c.tc : Thread nD τ).loc main_arg0)) (m ((c.tc : Thread nD τ).loc main_arg1)))
      ∧ r.2.mem ((c.tc : Thread nD τ).loc main_v8) = slope (gate (m ((c.tc : Thread nD τ).loc main_arg0)) (m ((c.tc : Thread nD τ).loc main_arg1)))
        (up (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => h c) (Cert.Reference7Ideal.Value.run m ρ)

end Terms

/-- The logistic function. -/
def logistic (z : EReal) : EReal := Ideal.div 1 (1 + Ideal.exp (-z))

theorem logistic_real (x : ℝ) : ∃ r : ℝ, logistic (x : EReal) = (r : EReal) := by
  unfold logistic
  rw [← EReal.coe_neg, Ideal.exp_coe, show (1 : EReal) = ((1 : ℝ) : EReal) from rfl, ← EReal.coe_add,
    Ideal.div_coe (by positivity), ← EReal.coe_mul]
  exact ⟨_, rfl⟩

section AtIndex

variable (h : FVec Ideal S8192x1024 .f32) (w : FVec Ideal S1024x5632 .f32) (g u : FVec Ideal S8192x2816 .f32) (t : Fin 8192) (j : Fin 2816)

theorem gate_at : gate h w (ix2 t j) = ∑ k : Fin 1024, h (ix2 t k) * w (ix2 k (⟨j.val, by have := j.isLt; omega⟩ : Fin 5632)) := by
  pointwise [gate, prod]
theorem up_at : up h w (ix2 t j) = ∑ k : Fin 1024, h (ix2 t k) * w (ix2 k (⟨2816 + j.val, by have := j.isLt; omega⟩ : Fin 5632)) := by
  pointwise [up, prod]
theorem sig_at : gateSig g (ix2 t j) = logistic (g (ix2 t j)) := by
  pointwise [gateSig, ones, logistic]
theorem act_at : act g u (ix2 t j) = g (ix2 t j) * logistic (g (ix2 t j)) * u (ix2 t j) := by
  pointwise [act]
  rw [sig_at]
theorem silu_at : silu g (ix2 t j) = g (ix2 t j) * logistic (g (ix2 t j)) := by
  pointwise [silu]
  rw [sig_at]
theorem slope_at : slope g u (ix2 t j) = u (ix2 t j) * logistic (g (ix2 t j)) + g (ix2 t j) * u (ix2 t j) * (logistic (g (ix2 t j)) * (1 - logistic (g (ix2 t j)))) := by
  pointwise [slope, ones]
  rw [sig_at]

end AtIndex

end Cert.FfnUp.Ref

namespace Cert.FfnUp

open Cert.Kernel7Ideal Cert.Kernel7Ideal.Gen
open Idealize.ShloMosaic Idealize.ShloMosaic.TcCoe Idealize.ShloMosaic.Tactic Idealize.SL.Sem
open Ref (logistic)

/-! ## What the body leaves -/

theorem zero2 : (![0, 0] : Fin 2 → Nat) = fun _ => 0 := funext fun a => by fin_cases a <;> rfl
theorem zero3 : (![0, 0, 0] : Fin 3 → Nat) = fun _ => 0 := funext fun a => by fin_cases a <;> rfl

section Body

variable {F : FTy → Type} [FloatOps F] (x0 : Vec F S1024x1024 .bf16) (x1 x2 : Vec F S1x1024x1408 .bf16)

theorem out_3 : out0_3 x0 x1 x2 = k0_pay6 x0 x1 x2 := by
  unfold out0_3
  rw [View.canon_unit_zero zero2]
  simp only [View.ld_unit_zero (S := S1024x1024) zero2, View.ld_unit_zero (S := S1x1024x1408) zero3]
theorem out_4 : out0_4 x0 x1 x2 = k0_pay7 x0 x1 := by
  unfold out0_4
  rw [View.canon_unit_zero zero2]
  simp only [View.ld_unit_zero (S := S1024x1024) zero2, View.ld_unit_zero (S := S1x1024x1408) zero3]
theorem out_5 : out0_5 x0 x1 x2 = k0_pay8 x0 x1 x2 := by
  unfold out0_5
  rw [View.canon_unit_zero zero2]
  simp only [View.ld_unit_zero (S := S1024x1024) zero2, View.ld_unit_zero (S := S1x1024x1408) zero3]

end Body

section Payload

variable (x : Vec Ideal S1024x1024 .bf16) (w v : Vec Ideal S1x1024x1408 .bf16) (a : Fin 1024) (b : Fin 1408)

theorem gate_apply : k0_pay2 (F := Ideal) x w (ix2 a b) = ∑ k : Fin 1024, x (ix2 a k) * w (ix3 (0 : Fin 1) k b) := by
  pointwise [k0_pay2, k0_pay1]
theorem up_apply : k0_pay3 (F := Ideal) x w (ix2 a b) = ∑ k : Fin 1024, x (ix2 a k) * w (ix3 (0 : Fin 1) k b) := by
  pointwise [k0_pay3, k0_pay1]
theorem sig_apply : k0_pay4 (F := Ideal) x w (ix2 a b) = logistic (k0_pay2 (F := Ideal) x w (ix2 a b)) := by
  pointwise [k0_pay4, Ref.logistic]
  rw [zero_sub]
theorem act_apply : k0_pay6 (F := Ideal) x w v (ix2 a b)
    = k0_pay2 (F := Ideal) x w (ix2 a b) * logistic (k0_pay2 (F := Ideal) x w (ix2 a b)) * k0_pay3 (F := Ideal) x v (ix2 a b) := by
  pointwise [k0_pay6, k0_pay5]
  rw [sig_apply]
theorem silu_apply : k0_pay7 (F := Ideal) x w (ix2 a b) = k0_pay2 (F := Ideal) x w (ix2 a b) * logistic (k0_pay2 (F := Ideal) x w (ix2 a b)) := by
  pointwise [k0_pay7, k0_pay5]
  rw [sig_apply]
theorem slope_apply : k0_pay8 (F := Ideal) x w v (ix2 a b)
    = k0_pay3 (F := Ideal) x v (ix2 a b) * (logistic (k0_pay2 (F := Ideal) x w (ix2 a b)) * (1 + k0_pay2 (F := Ideal) x w (ix2 a b) * (1 - logistic (k0_pay2 (F := Ideal) x w (ix2 a b))))) := by
  pointwise [k0_pay8]
  rw [sig_apply]

end Payload

/-! ## Where the blocks lie -/

theorem at0 : ∀ t : Fin cfg0.N, win0_0.index t = ![t.val % 8, 0] := (by decide +kernel : ∀ t : Fin grid0.N, _)
theorem at1 : ∀ t : Fin cfg0.N, win0_1.index t = ![t.val / 8, 0, 0] := (by decide +kernel : ∀ t : Fin grid0.N, _)
theorem at2 : ∀ t : Fin cfg0.N, win0_2.index t = ![t.val / 8 + 2, 0, 0] := (by decide +kernel : ∀ t : Fin grid0.N, _)
theorem at3 : ∀ t : Fin cfg0.N, win0_3.index t = ![t.val % 8, t.val / 8] := (by decide +kernel : ∀ t : Fin grid0.N, _)
theorem at4 : ∀ t : Fin cfg0.N, win0_4.index t = ![t.val % 8, t.val / 8] := (by decide +kernel : ∀ t : Fin grid0.N, _)
theorem at5 : ∀ t : Fin cfg0.N, win0_5.index t = ![t.val % 8, t.val / 8] := (by decide +kernel : ∀ t : Fin grid0.N, _)

/-- The row that is number `a` of the row block of point `n`. -/
def rowAt (n : ℕ) (a : Fin 1024) : Fin 8192 := ⟨n % 8 * 1024 + a.val, by have := a.isLt; omega⟩
/-- The column that is number `b` of the column block of point `n`. -/
def colAt (n : ℕ) (b : Fin 1408) : Fin 2816 := ⟨n / 8 % 2 * 1408 + b.val, by have := b.isLt; omega⟩
/-- The part of the weight's columns that is number `q` of four. -/
def part (q : ℕ) : Fin 4 := ⟨q % 4, by omega⟩

theorem point_lt (t : Fin cfg0.N) : t.val < 16 := t.isLt

section Reads

variable {F : FTy → Type} [FloatOps F]
variable (m : (ℓ : Loc nD τ sig) → Buf (Elt F) ℓ) (c : Dev nD) (t : Fin cfg0.N)

/-- The weight in four parts of its columns. -/
def parts (w : FVec F S1024x5632 .f32) : FVec F S4x1024x1408 .bf16 :=
  transpose S4x1024x1408 [1, 0, 2] (shapeCast S1024x4x1408 (truncf .bf16 w bitsLt_bf16_f32) shapeCasts_S1024x5632_S1024x4x1408) transposes_S1024x4x1408_S4x1024x1408_1_0_2

theorem V_h : V m c main_v3 = truncf .bf16 (m ((c.tc : Thread nD τ).loc main_arg0)) bitsLt_bf16_f32 := by
  entry_read
  rfl
theorem V_w : V m c main_v2 = parts (m ((c.tc : Thread nD τ).loc main_arg1)) := by
  entry_read
  rfl

theorem blk0 (a : Fin 1024) (b : Fin 1024) : iblk m c 0 t (ix2 a b) = V m c main_v3 (ix2 (rowAt t.val a) b) := by
  blk_simp [iblk]
  refine congrArg (V m c main_v3) ?_
  blk_ext [at0, rowAt]

theorem blk1 (a : Fin 1024) (b : Fin 1408) : iblk m c 1 t (ix3 (0 : Fin 1) a b) = V m c main_v2 (ix3 (part (t.val / 8)) a b) := by
  have := point_lt t
  blk_simp [iblk]
  refine congrArg (V m c main_v2) ?_
  blk_ext [at1, part]
  all_goals omega

theorem blk2 (a : Fin 1024) (b : Fin 1408) : iblk m c 2 t (ix3 (0 : Fin 1) a b) = V m c main_v2 (ix3 (part (t.val / 8 + 2)) a b) := by
  have := point_lt t
  blk_simp [iblk]
  refine congrArg (V m c main_v2) ?_
  blk_ext [at2, part]
  all_goals omega

end Reads

theorem parts_at (w : FVec Ideal S1024x5632 .f32) (p : Fin 4) (k : Fin 1024) (q : Fin 1408) :
    parts w (ix3 p k q) = w (ix2 k (⟨p.val * 1408 + q.val, by have := p.isLt; have := q.isLt; omega⟩ : Fin 5632)) := by
  pointwise [parts]

end Cert.FfnUp
-- ==== Proof.FfnUpClaim.lean ====
/-
  The claim of the feed-forward's first product (program 7).
-/
module

public import proofs.«01_k».proof.Defs
public import proofs.«01_k».proof.Proof.FfnUp
public import proofs.«01_k».proof.Proof.InProjClaim

@[expose] public section

set_option maxRecDepth 8192

noncomputable section

namespace Cert.FfnUp

open Cert.Kernel7Ideal Cert.Kernel7Ideal.Gen
open Idealize.ShloMosaic Idealize.ShloMosaic.TcCoe Idealize.ShloMosaic.Tactic Idealize.SL.Sem
open Cert.Proof (real_of_all and_one)

/-! ## The kernel's arrays -/

/-- With real numbers, the kernel's product with one factor is the reference's sum of two products. -/
theorem slope_eq (g u : EReal) (hg : ∃ x : ℝ, g = (x : EReal)) (hu : ∃ y : ℝ, u = (y : EReal)) :
    u * (Ref.logistic g * (1 + g * (1 - Ref.logistic g))) = u * Ref.logistic g + g * u * (Ref.logistic g * (1 - Ref.logistic g)) := by
  obtain ⟨x, rfl⟩ := hg
  obtain ⟨y, rfl⟩ := hu
  obtain ⟨s, hs⟩ := Ref.logistic_real x
  rw [hs, show (1 : EReal) = ((1 : ℝ) : EReal) from rfl]
  simp only [← EReal.coe_sub, ← EReal.coe_mul, ← EReal.coe_add]
  exact congrArg _ (by ring)

section Final

variable (m : (ℓ : Loc nD τ sig) → Buf (Elt Ideal) ℓ) (c : Dev nD)

/-- The reference's two halves of the product, of the kernel's arguments. -/
abbrev gate : Vec Ideal S8192x2816 .f32 := Ref.gate (F := Ideal) (m ((c.tc : Thread nD τ).loc main_arg0)) (m ((c.tc : Thread nD τ).loc main_arg1))
abbrev up : Vec Ideal S8192x2816 .f32 := Ref.up (F := Ideal) (m ((c.tc : Thread nD τ).loc main_arg0)) (m ((c.tc : Thread nD τ).loc main_arg1))

variable (t : Fin cfg0.N) (a : Fin 1024) (b : Fin 1408)

/-- The sums a point takes are the reference's. -/
theorem gate_sum : k0_pay2 (F := Ideal) (iblk m c 0 t) (iblk m c 1 t) (ix2 a b) = gate m c (ix2 (rowAt t.val a) (colAt t.val b)) := by
  have := point_lt t
  refine (gate_apply _ _ a b).trans (Eq.trans ?_ (Ref.gate_at _ _ _ _).symm)
  refine Finset.sum_congr rfl fun k _ => ?_
  rw [blk0, blk1, V_h, V_w, parts_at]
  refine congrArg (fun q => (_ : EReal) * m ((c.tc : Thread nD τ).loc main_arg1) (ix2 k q)) (Fin.ext ?_)
  show t.val / 8 % 4 * 1408 + b.val = t.val / 8 % 2 * 1408 + b.val
  omega

theorem up_sum : k0_pay3 (F := Ideal) (iblk m c 0 t) (iblk m c 2 t) (ix2 a b) = up m c (ix2 (rowAt t.val a) (colAt t.val b)) := by
  have := point_lt t
  refine (up_apply _ _ a b).trans (Eq.trans ?_ (Ref.up_at _ _ _ _).symm)
  refine Finset.sum_congr rfl fun k _ => ?_
  rw [blk0, blk2, V_h, V_w, parts_at]
  refine congrArg (fun q => (_ : EReal) * m ((c.tc : Thread nD τ).loc main_arg1) (ix2 k q)) (Fin.ext ?_)
  show (t.val / 8 + 2) % 4 * 1408 + b.val = 2816 + (t.val / 8 % 2 * 1408 + b.val)
  omega

theorem final_act : (dats m 0 c).arrAt 3 cfg0.N = Ref.act (F := Ideal) (gate m c) (up m c) := by
  refine (dats m 0 c).arrAt_eq_of_covers 3 _ (by decide +kernel) fun t hf y => ?_
  have := point_lt t
  blk_simp
  obtain ⟨a, b, rfl⟩ : ∃ (a : Fin 1024) (b : Fin 1408), y = ix2 a b := ⟨y 0, y 1, by funext a; match a with | 0 => rfl | 1 => rfl⟩
  have he : (win0_3.blk t).view.emb (ix2 a b) = ix2 (rowAt t.val a) (colAt t.val b) := by
    blk_ext [at3, rowAt, colAt]
    all_goals omega
  have key : (dats m 0 c).after 3 t (ix2 a b) = Ref.act (F := Ideal) (gate m c) (up m c) (ix2 (rowAt t.val a) (colAt t.val b)) := by
    rw [after0_3, out_3]
    refine (act_apply _ _ _ a b).trans (Eq.trans ?_ (Ref.act_at _ _ _ _).symm)
    rw [gate_sum, up_sum]
  exact key.trans (congrArg _ he.symm)

theorem final_silu : (dats m 0 c).arrAt 4 cfg0.N = Ref.silu (F := Ideal) (gate m c) := by
  refine (dats m 0 c).arrAt_eq_of_covers 4 _ (by decide +kernel) fun t hf y => ?_
  have := point_lt t
  blk_simp
  obtain ⟨a, b, rfl⟩ : ∃ (a : Fin 1024) (b : Fin 1408), y = ix2 a b := ⟨y 0, y 1, by funext a; match a with | 0 => rfl | 1 => rfl⟩
  have he : (win0_4.blk t).view.emb (ix2 a b) = ix2 (rowAt t.val a) (colAt t.val b) := by
    blk_ext [at4, rowAt, colAt]
    all_goals omega
  have key : (dats m 0 c).after 4 t (ix2 a b) = Ref.silu (F := Ideal) (gate m c) (ix2 (rowAt t.val a) (colAt t.val b)) := by
    rw [after0_4, out_4]
    refine (silu_apply _ _ a b).trans (Eq.trans ?_ (Ref.silu_at _ _ _).symm)
    rw [gate_sum]
  exact key.trans (congrArg _ he.symm)

theorem final_slope (hh : ∀ i, (((m ((c.tc : Thread nD τ).loc main_arg0) i : EReal).toReal : ℝ) : EReal) = m ((c.tc : Thread nD τ).loc main_arg0) i)
    (hw : ∀ i, (((m ((c.tc : Thread nD τ).loc main_arg1) i : EReal).toReal : ℝ) : EReal) = m ((c.tc : Thread nD τ).loc main_arg1) i) :
    (dats m 0 c).arrAt 5 cfg0.N = Ref.slope (F := Ideal) (gate m c) (up m c) := by
  refine (dats m 0 c).arrAt_eq_of_covers 5 _ (by decide +kernel) fun t hf y => ?_
  have := point_lt t
  blk_simp
  obtain ⟨a, b, rfl⟩ : ∃ (a : Fin 1024) (b : Fin 1408), y = ix2 a b := ⟨y 0, y 1, by funext a; match a with | 0 => rfl | 1 => rfl⟩
  have he : (win0_5.blk t).view.emb (ix2 a b) = ix2 (rowAt t.val a) (colAt t.val b) := by
    blk_ext [at5, rowAt, colAt]
    all_goals omega
  have key : (dats m 0 c).after 5 t (ix2 a b) = Ref.slope (F := Ideal) (gate m c) (up m c) (ix2 (rowAt t.val a) (colAt t.val b)) := by
    rw [after0_5, out_5]
    refine (slope_apply _ _ _ a b).trans (Eq.trans ?_ (Ref.slope_at _ _ _ _).symm)
    rw [gate_sum, up_sum]
    exact slope_eq _ _ ((Cert.InProj.dot_real _ _ (fun _ => hh _) (fun _ => hw _)).imp fun _ hx => (Ref.gate_at _ _ _ _).trans hx)
      ((Cert.InProj.dot_real _ _ (fun _ => hh _) (fun _ => hw _)).imp fun _ hx => (Ref.up_at _ _ _ _).trans hx)
  exact key.trans (congrArg _ he.symm)

end Final

/-! ## The claim -/

/-- The side conditions the precondition's text states. -/
theorem facts_pre : Cert.Pre_finite7.Facts :=
  { bcast_S_S8192x1024 := by decide
    reducesTo_S8192x1024_S_d0_1 := by decide
    h_S_ := by decide
    bcast_S_S1024x5632 := by decide
    reducesTo_S1024x5632_S_d0_1 := by decide }

section

variable [Cert.Pre_finite7.Facts]

theorem finite_real (h : FVec Ideal Cert.Pre_finite7.S8192x1024 .f32) (w : FVec Ideal Cert.Pre_finite7.S1024x5632 .f32)
    (hf : Cert.Pre_finite7.fn (F := Ideal) h w = fun _ => 1#1) :
    (∀ i, (((h i : EReal).toReal : ℝ) : EReal) = h i) ∧ (∀ i, (((w i : EReal).toReal : ℝ) : EReal) = w i) := by
  obtain ⟨h1, h2⟩ := and_one _ _ (congrFun hf (Shape.Idx.first Cert.Pre_finite7.Facts.h_S_))
  exact ⟨real_of_all h _ _ _ _ h1, real_of_all w _ _ _ _ h2⟩

end

theorem algebraic : Cert.algebraic_Kernel7Ideal_Reference7Ideal_pre_finite7 (hKernel7Ideal := Cert.Kernel7Ideal.Gen.facts)
    (hReference7Ideal := Cert.Reference7Ideal.Gen.facts) (hPre_finite7 := facts_pre) := by
  intro m ρ m' ρ' hpre hargs
  refine ⟨fun c => (dats m 0 c).arrAt 3 cfg0.N, fun c => (dats m 0 c).arrAt 4 cfg0.N, fun c => (dats m 0 c).arrAt 5 cfg0.N, Cert.Kernel7Ideal.Value.run_blocks m ρ, ?_⟩
  refine (θ_run _ _ _).mono (fun r h c => ?_) (Ref.run (F := Ideal) m' ρ')
  obtain ⟨e0, e1, e2, hrest⟩ := h c
  obtain ⟨hh, hw⟩ := @finite_real facts_pre _ _ (hpre c)
  obtain ⟨a0, a1⟩ := hargs c
  refine ⟨e0.trans ?_, e1.trans ?_, e2.trans ?_, hrest⟩
  · rw [a0, a1]; exact (final_act m c).symm
  · rw [a0, a1]; exact (final_silu m c).symm
  · rw [a0, a1]; exact (final_slope m c hh hw).symm

end Cert.FfnUp
-- ==== Proof.Weight.lean ====
/-
  The gradient of the input projection's weight at one section of 512 columns (program 8): what each grid point leaves, and the
  kernel's array is the reference's.
-/
module

public import proofs.«01_k».proof.Defs
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pointwise
public import Idealize.ShloMosaic.Lib.Claim

@[expose] public section

set_option maxRecDepth 8192

noncomputable section

namespace Cert.Weight

open Cert.Kernel8Ideal Cert.Kernel8Ideal.Gen
open Idealize.ShloMosaic Idealize.ShloMosaic.TcCoe Idealize.ShloMosaic.Tactic Idealize.SL.Sem

/-! ## Where the blocks lie -/

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)

/-- The row that is number `k` of the row block of point `n`. -/
def rowAt (n : ℕ) (k : Fin 1024) : Fin 8192 := ⟨n % 8 * 1024 + k.val, by have := k.isLt; omega⟩

theorem point_lt (t : Fin cfg0.N) : t.val < 8 := t.isLt

section Reads

variable {F : FTy → Type} [FloatOps F]
variable (m : (ℓ : Loc nD τ sig) → Buf (Elt F) ℓ) (c : Dev nD) (t : Fin cfg0.N)

theorem V_h : V m c main_v0 = truncf .bf16 (m ((c.tc : Thread nD τ).loc main_arg0)) bitsLt_bf16_f32 := by
  entry_read
  rfl
theorem V_d : V m c main_v1 = truncf .bf16 (m ((c.tc : Thread nD τ).loc main_arg1)) bitsLt_bf16_f32 := by
  entry_read
  rfl

theorem blk0 (a : Fin 1024) (b : Fin 1024) : iblk m c 0 t (ix2 a b) = V m c main_v0 (ix2 (rowAt t.val a) b) := by
  have := point_lt t
  blk_simp [iblk]
  refine congrArg (V m c main_v0) ?_
  blk_ext [at0, rowAt]
  all_goals omega

theorem blk1 (a : Fin 1024) (b : Fin 512) : iblk m c 1 t (ix2 a b) = V m c main_v1 (ix2 (rowAt t.val a) b) := by
  have := point_lt t
  blk_simp [iblk]
  refine congrArg (V m c main_v1) ?_
  blk_ext [at1, rowAt]
  all_goals omega

end Reads

/-! ## The sum over the row blocks -/

theorem sum_apply (x : Vec Ideal S1024x512 .f32) (h : Vec Ideal S1024x1024 .bf16) (d : Vec Ideal S1024x512 .bf16) (a : Fin 1024) (b : Fin 512) :
    k0_pay2 x h d (ix2 a b) = x (ix2 a b) + ∑ k : Fin 1024, h (ix2 k a) * d (ix2 k b) := by
  pointwise [k0_pay2]

section Fold

variable (m : (ℓ : Loc nD τ sig) → Buf (Elt Ideal) ℓ) (c : Dev nD)

/-- The weight's gradient over one row block. -/
def part (h : Vec Ideal S8192x1024 .f32) (d : Vec Ideal S8192x512 .f32) (n : ℕ) (a : Fin 1024) (b : Fin 512) : EReal :=
  ∑ k : Fin 1024, h (ix2 (rowAt n k) a) * d (ix2 (rowAt n k) b)

/-- What a point adds, of the two arguments. -/
abbrev partOf (n : ℕ) (a : Fin 1024) (b : Fin 512) : EReal := part (m ((c.tc : Thread nD τ).loc main_arg0)) (m ((c.tc : Thread nD τ).loc main_arg1)) n a b

theorem step (t : Fin cfg0.N) (x : Vec Ideal S1024x512 .f32) (a : Fin 1024) (b : Fin 512) :
    k0_pay2 x (iblk m c 0 t) (iblk m c 1 t) (ix2 a b) = x (ix2 a b) + partOf m c t.val a b := by
  rw [sum_apply]
  refine congrArg (x (ix2 a b) + ·) (Finset.sum_congr rfl fun k _ => ?_)
  rw [blk0, blk1, V_h, V_d]
  rfl

/-- The array after the row blocks up to a point. -/
theorem after (a : Fin 1024) (b : Fin 512) : ∀ (n : ℕ) (h : n < cfg0.N),
    outsAt0 m c n h (ix2 a b) = ∑ s ∈ Finset.range (n + 1), partOf m c s a b := by
  intro n
  induction n with
  | zero =>
    intro h
    have hz : k0_pay1 (F := Ideal) (ix2 a b) = (0 : EReal) := by pointwise [k0_pay1]
    refine (congrFun (outsAt0_A m c ⟨0, h⟩ rfl) _).trans ?_
    rw [Cert.Kernel8Ideal.Value.out_A_2_eq, step m c ⟨0, h⟩, hz, Finset.sum_range_one]
    exact zero_add _
  | succ n ih =>
    intro h
    have hn := point_lt ⟨n + 1, h⟩
    refine (congrFun (outsAt0_B m c ⟨n + 1, h⟩ (by show ¬(n + 1) % 8 = 0; have : n + 1 < 8 := hn; omega)) _).trans ?_
    rw [Cert.Kernel8Ideal.Value.out_B_2_eq, step m c ⟨n + 1, h⟩, Finset.sum_range_succ _ (n + 1)]
    exact congrArg (· + partOf m c (n + 1) a b) (ih (Nat.lt_of_succ_lt h))

end Fold

/-! ## The kernel's array and the reference's -/

/-- The reference's array. -/
def dWeight {F : FTy → Type} [FloatOps F] (h : FVec F S8192x1024 .f32) (d : FVec F S8192x512 .f32) : FVec F S1024x512 .f32 :=
  transpose S1024x512 [1, 0] (Host.dotGeneral Cert.Reference8Ideal.dot_S8192x512_S8192x1024_S512x1024_0_0_1_1_n_n none d h)
    Cert.Reference8Ideal.Gen.transposes_S512x1024_S1024x512_1_0

theorem dWeight_at (h : FVec Ideal S8192x1024 .f32) (d : FVec Ideal S8192x512 .f32) (a : Fin 1024) (b : Fin 512) :
    dWeight h d (ix2 a b) = ∑ t : Fin 8192, d (ix2 t b) * h (ix2 t a) := by
  pointwise [dWeight]

/-- A sum over the eight row blocks is the sum over all rows. -/
theorem sum_tiles (h : Vec Ideal S8192x1024 .f32) (d : Vec Ideal S8192x512 .f32) (a : Fin 1024) (b : Fin 512) :
    ∑ s ∈ Finset.range (7 + 1), part h d s a b = ∑ t : Fin 8192, d (ix2 t b) * h (ix2 t a) := by
  rw [Finset.sum_range]
  refine Eq.trans ?_ (Fin.sum_univ_tiles 8 1024 (N := 8192) (by norm_num) _).symm
  refine Finset.sum_congr rfl fun s _ => Finset.sum_congr rfl fun k _ => ?_
  have hs := s.isLt
  rw [show rowAt s.val k = ⟨s.val * 1024 + k.val, by have := k.isLt; omega⟩ from Fin.ext (by show s.val % 8 * 1024 + k.val = _; congr 2; omega)]
  exact mul_comm (G := EReal) _ _

theorem final (m : (ℓ : Loc nD τ sig) → Buf (Elt Ideal) ℓ) (c : Dev nD) :
    (dats m 0 c).arrAt 2 cfg0.N = dWeight (F := Ideal) (m ((c.tc : Thread nD τ).loc main_arg0)) (m ((c.tc : Thread nD τ).loc main_arg1)) := by
  refine (dats m 0 c).arrAt_eq_of_covers 2 _ (by decide +kernel) fun t hf y => ?_
  have := point_lt t
  have hl : t.val % 8 = 7 := (flush0_2 _).1 hf
  blk_simp
  obtain ⟨a, b, rfl⟩ : ∃ (a : Fin 1024) (b : Fin 512), y = ix2 a b := ⟨y 0, y 1, by funext a; match a with | 0 => rfl | 1 => rfl⟩
  have he : (win0_2.blk t).view.emb (ix2 a b) = ix2 a b := by
    blk_ext [at2]
  refine Eq.trans (after m c a b t.val t.isLt) ?_
  rw [he, dWeight_at, show t.val = 7 by omega]
  exact sum_tiles _ _ _ _

/-! ## The claim -/

theorem algebraic : Cert.algebraic_Kernel8Ideal_Reference8Ideal (hKernel8Ideal := Cert.Kernel8Ideal.Gen.facts) (hReference8Ideal := Cert.Reference8Ideal.Gen.facts) := by
  intro m ρ m' ρ' _ hargs
  refine ⟨fun c => (dats m 0 c).arrAt 2 cfg0.N, Cert.Kernel8Ideal.Value.run_blocks m ρ, ?_⟩
  refine (θ_run _ _ _).mono (fun r h c => ?_) (Cert.Reference8Ideal.Value.run (F := Ideal) m' ρ')
  obtain ⟨e0, hrest⟩ := h c
  obtain ⟨a0, a1⟩ := hargs c
  refine ⟨e0.trans ?_, hrest⟩
  rw [a0, a1]
  exact (final m c).symm

end Cert.Weight
-- ==== Proof.lean ====
/-
  The proof of the claim. `proof/Proof/Run.lean` runs the kernel's body once for each of the three kinds of grid point;
  `Body.lean` carries the scratch buffers from point to point; `Main.lean` runs the whole program, over any arithmetic, so one
  run gives the frames of both kernel programs.

  The values: `Real.lean` to `Chain.lean` read the body's arithmetic as real numbers, `Grid.lean` what each point leaves,
  `Model.lean` is the gradient over the reals and its form in blocks, `RefReal.lean` reads the reference as that gradient,
  `Results.lean` the kernel's three arrays, and `Finite.lean` puts the two together under the precondition.

  Program 2 is `Swiglu.lean` (what each grid point leaves) and `SwigluClaim.lean` (the three results and the claim); its frames
  are the generated modules'.

  Program 3 likewise: `Norm.lean` (what each grid point leaves), `NormRef.lean` (the reference at an index) and
  `NormClaim.lean` (the four results and the claim).

  Program 4 is `Pair.lean`, all of it. Program 5 is `InProj.lean`, `InProjRef.lean` and `InProjClaim.lean`, in the same parts as
  program 3 and with its rows. Program 6 is `Mix.lean`, `MixRef.lean` and `MixClaim.lean`, in the same parts again.
  Program 7 is `FfnUp.lean` and `FfnUpClaim.lean`. Program 8 is `Weight.lean`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Main
public import proofs.«01_k».proof.Proof.Same
public import proofs.«01_k».proof.Proof.Finite
public import proofs.«01_k».proof.Proof.SwigluClaim
public import proofs.«01_k».proof.Proof.NormClaim
public import proofs.«01_k».proof.Proof.Pair
public import proofs.«01_k».proof.Proof.InProjClaim
public import proofs.«01_k».proof.Proof.MixClaim
public import proofs.«01_k».proof.Proof.FfnUpClaim
public import proofs.«01_k».proof.Proof.Weight
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ => by
  rw [same_defs, same_main]
  exact frame_run (F := Bits) m ρ

theorem frame_ideal : Cert.quiescent_KernelIdeal (hKernelIdeal := Cert.KernelIdeal.Gen.facts) := fun m ρ _ => frame_run (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) := fun m ρ _ => Cert.Kernel2Ideal.Gen.frame m ρ

theorem frame_reference2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_kernel5 : Cert.quiescent_Kernel5 (hKernel5 := Cert.Kernel5.Gen.facts) := fun m ρ _ => Cert.Kernel5.Gen.frame m ρ

theorem frame_ideal5 : Cert.quiescent_Kernel5Ideal (hKernel5Ideal := Cert.Kernel5Ideal.Gen.facts) := fun m ρ _ => Cert.Kernel5Ideal.Gen.frame m ρ

theorem frame_reference5 : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_kernel6 : Cert.quiescent_Kernel6 (hKernel6 := Cert.Kernel6.Gen.facts) := fun m ρ _ => Cert.Kernel6.Gen.frame m ρ

theorem frame_ideal6 : Cert.quiescent_Kernel6Ideal (hKernel6Ideal := Cert.Kernel6Ideal.Gen.facts) := fun m ρ _ => Cert.Kernel6Ideal.Gen.frame m ρ

theorem frame_reference6 : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem frame_kernel7 : Cert.quiescent_Kernel7 (hKernel7 := Cert.Kernel7.Gen.facts) := fun m ρ _ => Cert.Kernel7.Gen.frame m ρ

theorem frame_ideal7 : Cert.quiescent_Kernel7Ideal (hKernel7Ideal := Cert.Kernel7Ideal.Gen.facts) := fun m ρ _ => Cert.Kernel7Ideal.Gen.frame m ρ

theorem frame_reference7 : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_kernel8 : Cert.quiescent_Kernel8 (hKernel8 := Cert.Kernel8.Gen.facts) := fun m ρ _ => Cert.Kernel8.Gen.frame m ρ

theorem frame_ideal8 : Cert.quiescent_Kernel8Ideal (hKernel8Ideal := Cert.Kernel8Ideal.Gen.facts) := fun m ρ _ => Cert.Kernel8Ideal.Gen.frame m ρ

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    facts_pre, Cert.Swiglu.facts_pre, Cert.Norm.facts_pre, Cert.InProj.facts_pre, Cert.FfnUp.facts_pre,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, fun m ρ _ => frame_ideal3 m ρ trivial, frame_reference3, fun m ρ _ => frame_reference3 m ρ trivial,
    frame_kernel4, frame_ideal4, frame_reference4,
    frame_kernel5, frame_ideal5, fun m ρ _ => frame_ideal5 m ρ trivial, frame_reference5, fun m ρ _ => frame_reference5 m ρ trivial,
    frame_kernel6, frame_ideal6, frame_reference6,
    frame_kernel7, frame_ideal7, fun m ρ _ => frame_ideal7 m ρ trivial, frame_reference7, fun m ρ _ => frame_reference7 m ρ trivial,
    frame_kernel8, frame_ideal8, frame_reference8,
    trivial, algebraic, trivial, Cert.Swiglu.algebraic, trivial, Cert.Norm.algebraic,
    trivial, Cert.Pair.algebraic, trivial, Cert.InProj.algebraic, trivial, Cert.Mix.algebraic,
    trivial, Cert.FfnUp.algebraic, trivial, Cert.Weight.algebraic⟩

end Cert.Proof

end
